-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_own_block [hPre_finite_and_own_block : Cert.Pre_finite_and_own_block.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_own_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_and_own_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_and_own_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_and_own_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_own_block [hPre_finite_and_own_block : Cert.Pre_finite_and_own_block.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_own_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_and_own_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_and_own_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_and_own_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_inputs [hPre_finite_inputs : Cert.Pre_finite_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2.2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_inputs [hPre_finite_inputs : Cert.Pre_finite_inputs.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).1 = (fun _ => 1#1)
    ∧ (Cert.Pre_finite_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.1 = (fun _ => 1#1)
    ∧ (Cert.Pre_finite_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.1 = (fun _ => 1#1)
    ∧ (Cert.Pre_finite_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.2.2.2.2.2.1 = (fun _ => 1#1)
    ∧ (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18)) (m ((c.tc : Thread Cert.MergeIdeal.nD Cert.MergeIdeal.τ).loc Cert.MergeIdeal.main_arg19)) (m ((c.tc : Thread Cert.MergeIdeal.nD Cert.MergeIdeal.τ).loc Cert.MergeIdeal.main_arg20))).2.2.2.2.2.2.2.2.2.2.2.2.2.2.2.2.2 = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_finite_merge [hPre_finite_merge : Cert.Pre_finite_merge.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.2.2.2.2.2.1 = (fun _ => 1#1)
    ∧ (Cert.Pre_finite_merge.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9)) (m ((c.tc : Thread Cert.MergeReferenceIdeal.nD Cert.MergeReferenceIdeal.τ).loc Cert.MergeReferenceIdeal.main_arg10)) (m ((c.tc : Thread Cert.MergeReferenceIdeal.nD Cert.MergeReferenceIdeal.τ).loc Cert.MergeReferenceIdeal.main_arg11)) (m ((c.tc : Thread Cert.MergeReferenceIdeal.nD Cert.MergeReferenceIdeal.τ).loc Cert.MergeReferenceIdeal.main_arg12)) (m ((c.tc : Thread Cert.MergeReferenceIdeal.nD Cert.MergeReferenceIdeal.τ).loc Cert.MergeReferenceIdeal.main_arg13)) (m ((c.tc : Thread Cert.MergeReferenceIdeal.nD Cert.MergeReferenceIdeal.τ).loc Cert.MergeReferenceIdeal.main_arg14)) (m ((c.tc : Thread Cert.MergeReferenceIdeal.nD Cert.MergeReferenceIdeal.τ).loc Cert.MergeReferenceIdeal.main_arg15)) (m ((c.tc : Thread Cert.MergeReferenceIdeal.nD Cert.MergeReferenceIdeal.τ).loc Cert.MergeReferenceIdeal.main_arg16)) (m ((c.tc : Thread Cert.MergeReferenceIdeal.nD Cert.MergeReferenceIdeal.τ).loc Cert.MergeReferenceIdeal.main_arg17)) (m ((c.tc : Thread Cert.MergeReferenceIdeal.nD Cert.MergeReferenceIdeal.τ).loc Cert.MergeReferenceIdeal.main_arg18)) (m ((c.tc : Thread Cert.MergeReferenceIdeal.nD Cert.MergeReferenceIdeal.τ).loc Cert.MergeReferenceIdeal.main_arg19)) (m ((c.tc : Thread Cert.MergeReferenceIdeal.nD Cert.MergeReferenceIdeal.τ).loc Cert.MergeReferenceIdeal.main_arg20))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_own_block [hKernelIdeal : Cert.KernelIdeal.Facts] [hPre_finite_and_own_block : Cert.Pre_finite_and_own_block.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_own_block m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_own_block [hReferenceIdeal : Cert.ReferenceIdeal.Facts] [hPre_finite_and_own_block : Cert.Pre_finite_and_own_block.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_own_block m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_finite_inputs [hProjIdeal : Cert.ProjIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjReferenceIdeal_pre_finite_inputs [hProjReferenceIdeal : Cert.ProjReferenceIdeal.Facts] [hPre_finite_inputs : Cert.Pre_finite_inputs.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_inputs m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19)
      ∧ r.2.mem ((c.tc : Thread Cert.Merge.nD Cert.Merge.τ).loc Cert.Merge.main_arg20) = m ((c.tc : Thread Cert.Merge.nD Cert.Merge.τ).loc Cert.Merge.main_arg20))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19)
      ∧ r.2.mem ((c.tc : Thread Cert.MergeReferenceIdeal.nD Cert.MergeReferenceIdeal.τ).loc Cert.MergeReferenceIdeal.main_arg20) = m ((c.tc : Thread Cert.MergeReferenceIdeal.nD Cert.MergeReferenceIdeal.τ).loc Cert.MergeReferenceIdeal.main_arg20))
      ∧ r.2.sem = fun _ => 0)

def quiescent_MergeReferenceIdeal_pre_finite_merge [hMergeReferenceIdeal : Cert.MergeReferenceIdeal.Facts] [hPre_finite_merge : Cert.Pre_finite_merge.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_finite_merge m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15)
      ∧ r.2.mem ((c.tc : Thread Cert.MergeReferenceIdeal.nD Cert.MergeReferenceIdeal.τ).loc Cert.MergeReferenceIdeal.main_arg16) = m ((c.tc : Thread Cert.MergeReferenceIdeal.nD Cert.MergeReferenceIdeal.τ).loc Cert.MergeReferenceIdeal.main_arg16)
      ∧ r.2.mem ((c.tc : Thread Cert.MergeReferenceIdeal.nD Cert.MergeReferenceIdeal.τ).loc Cert.MergeReferenceIdeal.main_arg17) = m ((c.tc : Thread Cert.MergeReferenceIdeal.nD Cert.MergeReferenceIdeal.τ).loc Cert.MergeReferenceIdeal.main_arg17)
      ∧ r.2.mem ((c.tc : Thread Cert.MergeReferenceIdeal.nD Cert.MergeReferenceIdeal.τ).loc Cert.MergeReferenceIdeal.main_arg18) = m ((c.tc : Thread Cert.MergeReferenceIdeal.nD Cert.MergeReferenceIdeal.τ).loc Cert.MergeReferenceIdeal.main_arg18)
      ∧ r.2.mem ((c.tc : Thread Cert.MergeReferenceIdeal.nD Cert.MergeReferenceIdeal.τ).loc Cert.MergeReferenceIdeal.main_arg19) = m ((c.tc : Thread Cert.MergeReferenceIdeal.nD Cert.MergeReferenceIdeal.τ).loc Cert.MergeReferenceIdeal.main_arg19)
      ∧ r.2.mem ((c.tc : Thread Cert.MergeReferenceIdeal.nD Cert.MergeReferenceIdeal.τ).loc Cert.MergeReferenceIdeal.main_arg20) = m ((c.tc : Thread Cert.MergeReferenceIdeal.nD Cert.MergeReferenceIdeal.τ).loc Cert.MergeReferenceIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_own_block [hKernelIdeal : Cert.KernelIdeal.Facts] [hReferenceIdeal : Cert.ReferenceIdeal.Facts] [hPre_finite_and_own_block : Cert.Pre_finite_and_own_block.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_own_block m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  IdealRules.named_const.Statement Cert.ProjIdeal.κ "scale" .f32 0x3E38AA3B#32 (((Real.log 256)⁻¹ : ℝ) : EReal)

def algebraic_ProjIdeal_ProjReferenceIdeal_pre_finite_inputs [hProjIdeal : Cert.ProjIdeal.Facts] [hProjReferenceIdeal : Cert.ProjReferenceIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_finite_inputs m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v59_0)) (v1 : (c : Dev Cert.ProjIdeal.nD) → Buf (Elt Ideal) ((c.tc : Thread Cert.ProjIdeal.nD Cert.ProjIdeal.τ).loc Cert.ProjIdeal.main_v59_1)) (v2 : (c : Dev Cert.ProjIdeal.nD) → Buf (Elt Ideal) ((c.tc : Thread Cert.ProjIdeal.nD Cert.ProjIdeal.τ).loc Cert.ProjIdeal.main_v59_2)) (v3 : (c : Dev Cert.ProjIdeal.nD) → Buf (Elt Ideal) ((c.tc : Thread Cert.ProjIdeal.nD Cert.ProjIdeal.τ).loc Cert.ProjIdeal.main_v59_3)) (v4 : (c : Dev Cert.ProjIdeal.nD) → Buf (Elt Ideal) ((c.tc : Thread Cert.ProjIdeal.nD Cert.ProjIdeal.τ).loc Cert.ProjIdeal.main_v59_4)) (v5 : (c : Dev Cert.ProjIdeal.nD) → Buf (Elt Ideal) ((c.tc : Thread Cert.ProjIdeal.nD Cert.ProjIdeal.τ).loc Cert.ProjIdeal.main_v59_5)) (v6 : (c : Dev Cert.ProjIdeal.nD) → Buf (Elt Ideal) ((c.tc : Thread Cert.ProjIdeal.nD Cert.ProjIdeal.τ).loc Cert.ProjIdeal.main_v59_6)) (v7 : (c : Dev Cert.ProjIdeal.nD) → Buf (Elt Ideal) ((c.tc : Thread Cert.ProjIdeal.nD Cert.ProjIdeal.τ).loc Cert.ProjIdeal.main_v59_7)) (v8 : (c : Dev Cert.ProjIdeal.nD) → Buf (Elt Ideal) ((c.tc : Thread Cert.ProjIdeal.nD Cert.ProjIdeal.τ).loc Cert.ProjIdeal.main_v59_8)) (v9 : (c : Dev Cert.ProjIdeal.nD) → Buf (Elt Ideal) ((c.tc : Thread Cert.ProjIdeal.nD Cert.ProjIdeal.τ).loc Cert.ProjIdeal.main_v59_9)) (v10 : (c : Dev Cert.ProjIdeal.nD) → Buf (Elt Ideal) ((c.tc : Thread Cert.ProjIdeal.nD Cert.ProjIdeal.τ).loc Cert.ProjIdeal.main_v59_10)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v59_0) = v0 c
          ∧ r.2.mem ((c.tc : Thread Cert.ProjIdeal.nD Cert.ProjIdeal.τ).loc Cert.ProjIdeal.main_v59_1) = v1 c
          ∧ r.2.mem ((c.tc : Thread Cert.ProjIdeal.nD Cert.ProjIdeal.τ).loc Cert.ProjIdeal.main_v59_2) = v2 c
          ∧ r.2.mem ((c.tc : Thread Cert.ProjIdeal.nD Cert.ProjIdeal.τ).loc Cert.ProjIdeal.main_v59_3) = v3 c
          ∧ r.2.mem ((c.tc : Thread Cert.ProjIdeal.nD Cert.ProjIdeal.τ).loc Cert.ProjIdeal.main_v59_4) = v4 c
          ∧ r.2.mem ((c.tc : Thread Cert.ProjIdeal.nD Cert.ProjIdeal.τ).loc Cert.ProjIdeal.main_v59_5) = v5 c
          ∧ r.2.mem ((c.tc : Thread Cert.ProjIdeal.nD Cert.ProjIdeal.τ).loc Cert.ProjIdeal.main_v59_6) = v6 c
          ∧ r.2.mem ((c.tc : Thread Cert.ProjIdeal.nD Cert.ProjIdeal.τ).loc Cert.ProjIdeal.main_v59_7) = v7 c
          ∧ r.2.mem ((c.tc : Thread Cert.ProjIdeal.nD Cert.ProjIdeal.τ).loc Cert.ProjIdeal.main_v59_8) = v8 c
          ∧ r.2.mem ((c.tc : Thread Cert.ProjIdeal.nD Cert.ProjIdeal.τ).loc Cert.ProjIdeal.main_v59_9) = v9 c
          ∧ r.2.mem ((c.tc : Thread Cert.ProjIdeal.nD Cert.ProjIdeal.τ).loc Cert.ProjIdeal.main_v59_10) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v91) = v0 c
          ∧ r.2.mem ((c.tc : Thread Cert.ProjReferenceIdeal.nD Cert.ProjReferenceIdeal.τ).loc Cert.ProjReferenceIdeal.main_v92) = v1 c
          ∧ r.2.mem ((c.tc : Thread Cert.ProjReferenceIdeal.nD Cert.ProjReferenceIdeal.τ).loc Cert.ProjReferenceIdeal.main_v93) = v2 c
          ∧ r.2.mem ((c.tc : Thread Cert.ProjReferenceIdeal.nD Cert.ProjReferenceIdeal.τ).loc Cert.ProjReferenceIdeal.main_v97) = v3 c
          ∧ r.2.mem ((c.tc : Thread Cert.ProjReferenceIdeal.nD Cert.ProjReferenceIdeal.τ).loc Cert.ProjReferenceIdeal.main_v101) = v4 c
          ∧ r.2.mem ((c.tc : Thread Cert.ProjReferenceIdeal.nD Cert.ProjReferenceIdeal.τ).loc Cert.ProjReferenceIdeal.main_v104) = v5 c
          ∧ r.2.mem ((c.tc : Thread Cert.ProjReferenceIdeal.nD Cert.ProjReferenceIdeal.τ).loc Cert.ProjReferenceIdeal.main_v107) = v6 c
          ∧ r.2.mem ((c.tc : Thread Cert.ProjReferenceIdeal.nD Cert.ProjReferenceIdeal.τ).loc Cert.ProjReferenceIdeal.main_v108) = v7 c
          ∧ r.2.mem ((c.tc : Thread Cert.ProjReferenceIdeal.nD Cert.ProjReferenceIdeal.τ).loc Cert.ProjReferenceIdeal.main_v109) = v8 c
          ∧ r.2.mem ((c.tc : Thread Cert.ProjReferenceIdeal.nD Cert.ProjReferenceIdeal.τ).loc Cert.ProjReferenceIdeal.main_v117) = v9 c
          ∧ r.2.mem ((c.tc : Thread Cert.ProjReferenceIdeal.nD Cert.ProjReferenceIdeal.τ).loc Cert.ProjReferenceIdeal.main_v125) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Merge_MergeIdeal : Prop :=
  True

def algebraic_MergeIdeal_MergeReferenceIdeal_pre_finite_merge [hMergeIdeal : Cert.MergeIdeal.Facts] [hMergeReferenceIdeal : Cert.MergeReferenceIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal_finite_merge m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)
      ∧ m' ((c.tc : Thread Cert.MergeReferenceIdeal.nD Cert.MergeReferenceIdeal.τ).loc Cert.MergeReferenceIdeal.main_arg16) = m ((c.tc : Thread Cert.MergeIdeal.nD Cert.MergeIdeal.τ).loc Cert.MergeIdeal.main_arg16)
      ∧ m' ((c.tc : Thread Cert.MergeReferenceIdeal.nD Cert.MergeReferenceIdeal.τ).loc Cert.MergeReferenceIdeal.main_arg17) = m ((c.tc : Thread Cert.MergeIdeal.nD Cert.MergeIdeal.τ).loc Cert.MergeIdeal.main_arg17)
      ∧ m' ((c.tc : Thread Cert.MergeReferenceIdeal.nD Cert.MergeReferenceIdeal.τ).loc Cert.MergeReferenceIdeal.main_arg18) = m ((c.tc : Thread Cert.MergeIdeal.nD Cert.MergeIdeal.τ).loc Cert.MergeIdeal.main_arg18)
      ∧ m' ((c.tc : Thread Cert.MergeReferenceIdeal.nD Cert.MergeReferenceIdeal.τ).loc Cert.MergeReferenceIdeal.main_arg19) = m ((c.tc : Thread Cert.MergeIdeal.nD Cert.MergeIdeal.τ).loc Cert.MergeIdeal.main_arg19)
      ∧ m' ((c.tc : Thread Cert.MergeReferenceIdeal.nD Cert.MergeReferenceIdeal.τ).loc Cert.MergeReferenceIdeal.main_arg20) = m ((c.tc : Thread Cert.MergeIdeal.nD Cert.MergeIdeal.τ).loc Cert.MergeIdeal.main_arg20)) →
    ∃ (v0 : (c : Dev Cert.MergeIdeal.nD) → Buf (Elt Ideal) ((c.tc : Thread Cert.MergeIdeal.nD Cert.MergeIdeal.τ).loc Cert.MergeIdeal.main_v48_0)) (v1 : (c : Dev Cert.MergeIdeal.nD) → Buf (Elt Ideal) ((c.tc : Thread Cert.MergeIdeal.nD Cert.MergeIdeal.τ).loc Cert.MergeIdeal.main_v48_1)) (v2 : (c : Dev Cert.MergeIdeal.nD) → Buf (Elt Ideal) ((c.tc : Thread Cert.MergeIdeal.nD Cert.MergeIdeal.τ).loc Cert.MergeIdeal.main_v48_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v48_0) = v0 c
          ∧ r.2.mem ((c.tc : Thread Cert.MergeIdeal.nD Cert.MergeIdeal.τ).loc Cert.MergeIdeal.main_v48_1) = v1 c
          ∧ r.2.mem ((c.tc : Thread Cert.MergeIdeal.nD Cert.MergeIdeal.τ).loc Cert.MergeIdeal.main_v48_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
          ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v89) = v0 c
          ∧ r.2.mem ((c.tc : Thread Cert.MergeReferenceIdeal.nD Cert.MergeReferenceIdeal.τ).loc Cert.MergeReferenceIdeal.main_v90) = v1 c
          ∧ r.2.mem ((c.tc : Thread Cert.MergeReferenceIdeal.nD Cert.MergeReferenceIdeal.τ).loc Cert.MergeReferenceIdeal.main_v92) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15)
          ∧ r.2.mem ((c.tc : Thread Cert.MergeReferenceIdeal.nD Cert.MergeReferenceIdeal.τ).loc Cert.MergeReferenceIdeal.main_arg16) = m' ((c.tc : Thread Cert.MergeReferenceIdeal.nD Cert.MergeReferenceIdeal.τ).loc Cert.MergeReferenceIdeal.main_arg16)
          ∧ r.2.mem ((c.tc : Thread Cert.MergeReferenceIdeal.nD Cert.MergeReferenceIdeal.τ).loc Cert.MergeReferenceIdeal.main_arg17) = m' ((c.tc : Thread Cert.MergeReferenceIdeal.nD Cert.MergeReferenceIdeal.τ).loc Cert.MergeReferenceIdeal.main_arg17)
          ∧ r.2.mem ((c.tc : Thread Cert.MergeReferenceIdeal.nD Cert.MergeReferenceIdeal.τ).loc Cert.MergeReferenceIdeal.main_arg18) = m' ((c.tc : Thread Cert.MergeReferenceIdeal.nD Cert.MergeReferenceIdeal.τ).loc Cert.MergeReferenceIdeal.main_arg18)
          ∧ r.2.mem ((c.tc : Thread Cert.MergeReferenceIdeal.nD Cert.MergeReferenceIdeal.τ).loc Cert.MergeReferenceIdeal.main_arg19) = m' ((c.tc : Thread Cert.MergeReferenceIdeal.nD Cert.MergeReferenceIdeal.τ).loc Cert.MergeReferenceIdeal.main_arg19)
          ∧ r.2.mem ((c.tc : Thread Cert.MergeReferenceIdeal.nD Cert.MergeReferenceIdeal.τ).loc Cert.MergeReferenceIdeal.main_arg20) = m' ((c.tc : Thread Cert.MergeReferenceIdeal.nD Cert.MergeReferenceIdeal.τ).loc Cert.MergeReferenceIdeal.main_arg20))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hPre_finite_and_own_block : Cert.Pre_finite_and_own_block.Facts) (hPre_finite_inputs : Cert.Pre_finite_inputs.Facts) (hPre_finite_merge : Cert.Pre_finite_merge.Facts),
    quiescent_Kernel (hKernel := hKernel)
    ∧ quiescent_KernelIdeal (hKernelIdeal := hKernelIdeal)
    ∧ quiescent_KernelIdeal_pre_finite_and_own_block (hKernelIdeal := hKernelIdeal) (hPre_finite_and_own_block := hPre_finite_and_own_block)
    ∧ quiescent_ReferenceIdeal (hReferenceIdeal := hReferenceIdeal)
    ∧ quiescent_ReferenceIdeal_pre_finite_and_own_block (hReferenceIdeal := hReferenceIdeal) (hPre_finite_and_own_block := hPre_finite_and_own_block)
    ∧ quiescent_Proj (hProj := hProj)
    ∧ quiescent_ProjIdeal (hProjIdeal := hProjIdeal)
    ∧ quiescent_ProjIdeal_pre_finite_inputs (hProjIdeal := hProjIdeal) (hPre_finite_inputs := hPre_finite_inputs)
    ∧ quiescent_ProjReferenceIdeal (hProjReferenceIdeal := hProjReferenceIdeal)
    ∧ quiescent_ProjReferenceIdeal_pre_finite_inputs (hProjReferenceIdeal := hProjReferenceIdeal) (hPre_finite_inputs := hPre_finite_inputs)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeReferenceIdeal (hMergeReferenceIdeal := hMergeReferenceIdeal)
    ∧ quiescent_MergeReferenceIdeal_pre_finite_merge (hMergeReferenceIdeal := hMergeReferenceIdeal) (hPre_finite_merge := hPre_finite_merge)
    ∧ preserves_Kernel_KernelIdeal
    ∧ algebraic_KernelIdeal_ReferenceIdeal_pre_finite_and_own_block (hKernelIdeal := hKernelIdeal) (hReferenceIdeal := hReferenceIdeal) (hPre_finite_and_own_block := hPre_finite_and_own_block)
    ∧ preserves_Proj_ProjIdeal
    ∧ algebraic_ProjIdeal_ProjReferenceIdeal_pre_finite_inputs (hProjIdeal := hProjIdeal) (hProjReferenceIdeal := hProjReferenceIdeal) (hPre_finite_inputs := hPre_finite_inputs)
    ∧ preserves_Merge_MergeIdeal
    ∧ algebraic_MergeIdeal_MergeReferenceIdeal_pre_finite_merge (hMergeIdeal := hMergeIdeal) (hMergeReferenceIdeal := hMergeReferenceIdeal) (hPre_finite_merge := hPre_finite_merge)
-- ==== Pre_finite_and_own_block.lean ====
abbrev S4x4096x2x4x64 : Shape := ⟨5, ![4, 4096, 2, 4, 64]⟩
abbrev S4x4096x2x64 : Shape := ⟨4, ![4, 4096, 2, 64]⟩
abbrev S4x2x4096x64 : Shape := ⟨4, ![4, 2, 4096, 64]⟩
abbrev S_ : Shape := ⟨0, ![]⟩

class Facts : Prop where
  bcast_S_S4x2x4096x64 : S_.BroadcastsInDim S4x2x4096x64 (![] : Fin 0 → Fin S4x2x4096x64.rank)
  bcast_S_S4x4096x2x4x64 : S_.BroadcastsInDim S4x4096x2x4x64 (![] : Fin 0 → Fin S4x4096x2x4x64.rank)
  bcast_S_S4x4096x2x64 : S_.BroadcastsInDim S4x4096x2x64 (![] : Fin 0 → Fin S4x4096x2x64.rank)

variable [Facts]

def fn {F : FTy → Type} [FloatOps F] (main_arg0 : FVec F S4x4096x2x4x64 .f32) (main_arg1 : FVec F S4x4096x2x64 .f32) (main_arg2 : FVec F S4x4096x2x64 .f32) (main_arg3 : FVec F S4x4096x2x64 .f32) (main_arg4 : FVec F S4x4096x2x64 .f32) (main_arg5 : IVec S4x2x4096x64 32) : IVec S4x4096x2x4x64 1 × IVec S4x4096x2x64 1 × IVec S4x4096x2x64 1 × IVec S4x2x4096x64 1 :=
  let main_v0 : IVec S4x2x4096x64 32 := iotaInDim S4x2x4096x64 32 3
  let main_v1 : IVec S4x2x4096x64 32 := iotaInDim S4x2x4096x64 32 2
  let main_c : IVec S_ 32 := constantI S_ 32 64#32
  let main_v2 : IVec S4x2x4096x64 32 := broadcastInDim S4x2x4096x64 ![] bcast_S_S4x2x4096x64 main_c
  let main_v3 : IVec S4x2x4096x64 32 := Host.divsi main_v1 main_v2
  let main_v4 : FVec F S4x4096x2x4x64 .f32 := Host.absf main_arg0
  let main_cst : FVec F S_ .f32 := constant S_ .f32 0x7F800000#32
  let main_v5 : FVec F S4x4096x2x4x64 .f32 := broadcastInDim S4x4096x2x4x64 ![] bcast_S_S4x4096x2x4x64 main_cst
  let main_v6 : IVec S4x4096x2x4x64 1 := cmpf .olt main_v4 main_v5
  let main_v7 : FVec F S4x4096x2x64 .f32 := Host.absf main_arg1
  let main_cst_0 : FVec F S_ .f32 := constant S_ .f32 0x7F800000#32
  let main_v8 : FVec F S4x4096x2x64 .f32 := broadcastInDim S4x4096x2x64 ![] bcast_S_S4x4096x2x64 main_cst_0
  let main_v9 : IVec S4x4096x2x64 1 := cmpf .olt main_v7 main_v8
  let main_v10 : FVec F S4x4096x2x64 .f32 := Host.absf main_arg2
  let main_cst_1 : FVec F S_ .f32 := constant S_ .f32 0x7F800000#32
  let main_v11 : FVec F S4x4096x2x64 .f32 := broadcastInDim S4x4096x2x64 ![] bcast_S_S4x4096x2x64 main_cst_1
  let main_v12 : IVec S4x4096x2x64 1 := cmpf .olt main_v10 main_v11
  let main_v13 : IVec S4x2x4096x64 1 := cmpi .ne main_v0 main_v3
  let main_c_2 : IVec S_ 32 := constantI S_ 32 0#32
  let main_v14 : IVec S4x2x4096x64 32 := broadcastInDim S4x2x4096x64 ![] bcast_S_S4x2x4096x64 main_c_2
  let main_v15 : IVec S4x2x4096x64 1 := cmpi .ne main_arg5 main_v14
  let main_v16 : IVec S4x2x4096x64 1 := ori main_v13 main_v15
  (main_v6, main_v9, main_v12, main_v16)
-- ==== Pre_finite_inputs.lean ====
abbrev S4x4096x1024 : Shape := ⟨3, ![4, 4096, 1024]⟩
abbrev S8x6x1024 : Shape := ⟨3, ![8, 6, 1024]⟩
abbrev S1024 : Shape := ⟨1, ![1024]⟩
abbrev S1024x3864 : Shape := ⟨2, ![1024, 3864]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  bcast_S_S8x6x1024 : S_.BroadcastsInDim S8x6x1024 (![] : Fin 0 → Fin S8x6x1024.rank)
  bcast_S_S1024 : S_.BroadcastsInDim S1024 (![] : Fin 0 → Fin S1024.rank)
  bcast_S_S1024x3864 : S_.BroadcastsInDim S1024x3864 (![] : Fin 0 → Fin S1024x3864.rank)

variable [Facts]

def fn {F : FTy → Type} [FloatOps F] (main_arg0 : FVec F S4x4096x1024 .f32) (main_arg1 : FVec F S8x6x1024 .f32) (main_arg2 : FVec F S1024 .f32) (main_arg3 : FVec F S1024x3864 .f32) (main_arg4 : FVec F S64 .f32) (main_arg5 : FVec F S64 .f32) (main_arg6 : FVec F S64 .f32) : IVec S4x4096x1024 1 × IVec S8x6x1024 1 × IVec S1024 1 × IVec S1024x3864 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S8x6x1024 .f32 := Host.absf main_arg1
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3864 .f32 := Host.absf main_arg3
  let main_cst_2 : FVec F S_ .f32 := constant S_ .f32 0x7F800000#32
  let main_v10 : FVec F S1024x3864 .f32 := broadcastInDim S1024x3864 ![] bcast_S_S1024x3864 main_cst_2
  let main_v11 : IVec S1024x3864 1 := cmpf .olt main_v9 main_v10
  (main_v2, main_v5, main_v8, main_v11)
-- ==== Pre_finite_merge.lean ====
abbrev S4x4096x1024 : Shape := ⟨3, ![4, 4096, 1024]⟩
abbrev S8x6x1024 : Shape := ⟨3, ![8, 6, 1024]⟩
abbrev S4x4096x2x4x64 : Shape := ⟨5, ![4, 4096, 2, 4, 64]⟩
abbrev S4x4096x24 : Shape := ⟨3, ![4, 4096, 24]⟩
abbrev S4x4096x512 : Shape := ⟨3, ![4, 4096, 512]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S_ : Shape := ⟨0, ![]⟩

class Facts : Prop where
  bcast_S_S4x4096x1024 : S_.BroadcastsInDim S4x4096x1024 (![] : Fin 0 → Fin S4x4096x1024.rank)
  bcast_S_S8x6x1024 : S_.BroadcastsInDim S8x6x1024 (![] : Fin 0 → Fin S8x6x1024.rank)
  bcast_S_S4x4096x2x4x64 : S_.BroadcastsInDim S4x4096x2x4x64 (![] : Fin 0 → Fin S4x4096x2x4x64.rank)
  bcast_S_S4x4096x24 : S_.BroadcastsInDim S4x4096x24 (![] : Fin 0 → Fin S4x4096x24.rank)
  bcast_S_S4x4096x512 : S_.BroadcastsInDim S4x4096x512 (![] : Fin 0 → Fin S4x4096x512.rank)
  bcast_S_S512 : S_.BroadcastsInDim S512 (![] : Fin 0 → Fin S512.rank)
  bcast_S_S512x512 : S_.BroadcastsInDim S512x512 (![] : Fin 0 → Fin S512x512.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x256 : S_.BroadcastsInDim S1024x256 (![] : Fin 0 → Fin S1024x256.rank)

variable [Facts]

def fn_part2 {F : FTy → Type} [FloatOps F] (main_arg12 : FVec F S512 .f32) (main_arg13 : FVec F S512x1024 .f32) (main_arg14 : FVec F S512x1024 .f32) (main_arg15 : FVec F S1024x1024 .f32) (main_arg16 : FVec F S1024 .f32) (main_arg17 : FVec F S1024x256 .f32) (main_v2 : IVec S4x4096x1024 1) (main_v5 : IVec S8x6x1024 1) (main_v8 : IVec S4x4096x2x4x64 1) (main_v11 : IVec S4x4096x2x4x64 1) (main_v14 : IVec S4x4096x2x4x64 1) (main_v17 : IVec S4x4096x24 1) (main_v20 : IVec S4x4096x512 1) (main_v23 : IVec S4x4096x512 1) (main_v26 : IVec S4x4096x1024 1) (main_v29 : IVec S4x4096x1024 1) (main_v32 : IVec S512 1) (main_v35 : IVec S512x512 1) : IVec S4x4096x1024 1 × IVec S8x6x1024 1 × IVec S4x4096x2x4x64 1 × IVec S4x4096x2x4x64 1 × IVec S4x4096x2x4x64 1 × IVec S4x4096x24 1 × IVec S4x4096x512 1 × IVec S4x4096x512 1 × IVec S4x4096x1024 1 × IVec S4x4096x1024 1 × IVec S512 1 × IVec S512x512 1 × IVec S512 1 × IVec S512x1024 1 × IVec S512x1024 1 × IVec S1024x1024 1 × IVec S1024 1 × IVec S1024x256 1 :=
  let main_v36 : FVec F S512 .f32 := Host.absf main_arg12
  let main_cst_11 : FVec F S_ .f32 := constant S_ .f32 0x7F800000#32
  let main_v37 : FVec F S512 .f32 := broadcastInDim S512 ![] bcast_S_S512 main_cst_11
  let main_v38 : IVec S512 1 := cmpf .olt main_v36 main_v37
  let main_v39 : FVec F S512x1024 .f32 := Host.absf main_arg13
  let main_cst_12 : FVec F S_ .f32 := constant S_ .f32 0x7F800000#32
  let main_v40 : FVec F S512x1024 .f32 := broadcastInDim S512x1024 ![] bcast_S_S512x1024 main_cst_12
  let main_v41 : IVec S512x1024 1 := cmpf .olt main_v39 main_v40
  let main_v42 : FVec F S512x1024 .f32 := Host.absf main_arg14
  let main_cst_13 : FVec F S_ .f32 := constant S_ .f32 0x7F800000#32
  let main_v43 : FVec F S512x1024 .f32 := broadcastInDim S512x1024 ![] bcast_S_S512x1024 main_cst_13
  let main_v44 : IVec S512x1024 1 := cmpf .olt main_v42 main_v43
  let main_v45 : FVec F S1024x1024 .f32 := Host.absf main_arg15
  let main_cst_14 : FVec F S_ .f32 := constant S_ .f32 0x7F800000#32
  let main_v46 : FVec F S1024x1024 .f32 := broadcastInDim S1024x1024 ![] bcast_S_S1024x1024 main_cst_14
  let main_v47 : IVec S1024x1024 1 := cmpf .olt main_v45 main_v46
  let main_v48 : FVec F S1024 .f32 := Host.absf main_arg16
  let main_cst_15 : FVec F S_ .f32 := constant S_ .f32 0x7F800000#32
  let main_v49 : FVec F S1024 .f32 := broadcastInDim S1024 ![] bcast_S_S1024 main_cst_15
  let main_v50 : IVec S1024 1 := cmpf .olt main_v48 main_v49
  let main_v51 : FVec F S1024x256 .f32 := Host.absf main_arg17
  let main_cst_16 : FVec F S_ .f32 := constant S_ .f32 0x7F800000#32
  let main_v52 : FVec F S1024x256 .f32 := broadcastInDim S1024x256 ![] bcast_S_S1024x256 main_cst_16
  let main_v53 : IVec S1024x256 1 := cmpf .olt main_v51 main_v52
  (main_v2, main_v5, main_v8, main_v11, main_v14, main_v17, main_v20, main_v23, main_v26, main_v29, main_v32, main_v35, main_v38, main_v41, main_v44, main_v47, main_v50, main_v53)

def fn_part1 {F : FTy → Type} [FloatOps F] (main_arg6 : FVec F S4x4096x512 .f32) (main_arg7 : FVec F S4x4096x512 .f32) (main_arg8 : FVec F S4x4096x1024 .f32) (main_arg9 : FVec F S4x4096x1024 .f32) (main_arg10 : FVec F S512 .f32) (main_arg11 : FVec F S512x512 .f32) (main_arg12 : FVec F S512 .f32) (main_arg13 : FVec F S512x1024 .f32) (main_arg14 : FVec F S512x1024 .f32) (main_arg15 : FVec F S1024x1024 .f32) (main_arg16 : FVec F S1024 .f32) (main_arg17 : FVec F S1024x256 .f32) (main_v2 : IVec S4x4096x1024 1) (main_v5 : IVec S8x6x1024 1) (main_v8 : IVec S4x4096x2x4x64 1) (main_v11 : IVec S4x4096x2x4x64 1) (main_v14 : IVec S4x4096x2x4x64 1) (main_v17 : IVec S4x4096x24 1) : IVec S4x4096x1024 1 × IVec S8x6x1024 1 × IVec S4x4096x2x4x64 1 × IVec S4x4096x2x4x64 1 × IVec S4x4096x2x4x64 1 × IVec S4x4096x24 1 × IVec S4x4096x512 1 × IVec S4x4096x512 1 × IVec S4x4096x1024 1 × IVec S4x4096x1024 1 × IVec S512 1 × IVec S512x512 1 × IVec S512 1 × IVec S512x1024 1 × IVec S512x1024 1 × IVec S1024x1024 1 × IVec S1024 1 × IVec S1024x256 1 :=
  let main_v18 : FVec F S4x4096x512 .f32 := Host.absf main_arg6
  let main_cst_5 : FVec F S_ .f32 := constant S_ .f32 0x7F800000#32
  let main_v19 : FVec F S4x4096x512 .f32 := broadcastInDim S4x4096x512 ![] bcast_S_S4x4096x512 main_cst_5
  let main_v20 : IVec S4x4096x512 1 := cmpf .olt main_v18 main_v19
  let main_v21 : FVec F S4x4096x512 .f32 := Host.absf main_arg7
  let main_cst_6 : FVec F S_ .f32 := constant S_ .f32 0x7F800000#32
  let main_v22 : FVec F S4x4096x512 .f32 := broadcastInDim S4x4096x512 ![] bcast_S_S4x4096x512 main_cst_6
  let main_v23 : IVec S4x4096x512 1 := cmpf .olt main_v21 main_v22
  let main_v24 : FVec F S4x4096x1024 .f32 := Host.absf main_arg8
  let main_cst_7 : FVec F S_ .f32 := constant S_ .f32 0x7F800000#32
  let main_v25 : FVec F S4x4096x1024 .f32 := broadcastInDim S4x4096x1024 ![] bcast_S_S4x4096x1024 main_cst_7
  let main_v26 : IVec S4x4096x1024 1 := cmpf .olt main_v24 main_v25
  let main_v27 : FVec F S4x4096x1024 .f32 := Host.absf main_arg9
  let main_cst_8 : FVec F S_ .f32 := constant S_ .f32 0x7F800000#32
  let main_v28 : FVec F S4x4096x1024 .f32 := broadcastInDim S4x4096x1024 ![] bcast_S_S4x4096x1024 main_cst_8
  let main_v29 : IVec S4x4096x1024 1 := cmpf .olt main_v27 main_v28
  let main_v30 : FVec F S512 .f32 := Host.absf main_arg10
  let main_cst_9 : FVec F S_ .f32 := constant S_ .f32 0x7F800000#32
  let main_v31 : FVec F S512 .f32 := broadcastInDim S512 ![] bcast_S_S512 main_cst_9
  let main_v32 : IVec S512 1 := cmpf .olt main_v30 main_v31
  let main_v33 : FVec F S512x512 .f32 := Host.absf main_arg11
  let main_cst_10 : FVec F S_ .f32 := constant S_ .f32 0x7F800000#32
  let main_v34 : FVec F S512x512 .f32 := broadcastInDim S512x512 ![] bcast_S_S512x512 main_cst_10
  let main_v35 : IVec S512x512 1 := cmpf .olt main_v33 main_v34
  fn_part2 (F := F) main_arg12 main_arg13 main_arg14 main_arg15 main_arg16 main_arg17 main_v2 main_v5 main_v8 main_v11 main_v14 main_v17 main_v20 main_v23 main_v26 main_v29 main_v32 main_v35

def fn {F : FTy → Type} [FloatOps F] (main_arg0 : FVec F S4x4096x1024 .f32) (main_arg1 : FVec F S8x6x1024 .f32) (main_arg2 : FVec F S4x4096x2x4x64 .f32) (main_arg3 : FVec F S4x4096x2x4x64 .f32) (main_arg4 : FVec F S4x4096x2x4x64 .f32) (main_arg5 : FVec F S4x4096x24 .f32) (main_arg6 : FVec F S4x4096x512 .f32) (main_arg7 : FVec F S4x4096x512 .f32) (main_arg8 : FVec F S4x4096x1024 .f32) (main_arg9 : FVec F S4x4096x1024 .f32) (main_arg10 : FVec F S512 .f32) (main_arg11 : FVec F S512x512 .f32) (main_arg12 : FVec F S512 .f32) (main_arg13 : FVec F S512x1024 .f32) (main_arg14 : FVec F S512x1024 .f32) (main_arg15 : FVec F S1024x1024 .f32) (main_arg16 : FVec F S1024 .f32) (main_arg17 : FVec F S1024x256 .f32) (main_arg18 : FVec F S1024x256 .f32) (main_arg19 : FVec F S1024x256 .f32) (main_arg20 : FVec F S256x1024 .f32) : IVec S4x4096x1024 1 × IVec S8x6x1024 1 × IVec S4x4096x2x4x64 1 × IVec S4x4096x2x4x64 1 × IVec S4x4096x2x4x64 1 × IVec S4x4096x24 1 × IVec S4x4096x512 1 × IVec S4x4096x512 1 × IVec S4x4096x1024 1 × IVec S4x4096x1024 1 × IVec S512 1 × IVec S512x512 1 × IVec S512 1 × IVec S512x1024 1 × IVec S512x1024 1 × IVec S1024x1024 1 × IVec S1024 1 × IVec S1024x256 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S8x6x1024 .f32 := Host.absf main_arg1
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S4x4096x2x4x64 .f32 := Host.absf main_arg2
  let main_cst_1 : FVec F S_ .f32 := constant S_ .f32 0x7F800000#32
  let main_v7 : FVec F S4x4096x2x4x64 .f32 := broadcastInDim S4x4096x2x4x64 ![] bcast_S_S4x4096x2x4x64 main_cst_1
  let main_v8 : IVec S4x4096x2x4x64 1 := cmpf .olt main_v6 main_v7
  let main_v9 : FVec F S4x4096x2x4x64 .f32 := Host.absf main_arg3
  let main_cst_2 : FVec F S_ .f32 := constant S_ .f32 0x7F800000#32
  let main_v10 : FVec F S4x4096x2x4x64 .f32 := broadcastInDim S4x4096x2x4x64 ![] bcast_S_S4x4096x2x4x64 main_cst_2
  let main_v11 : IVec S4x4096x2x4x64 1 := cmpf .olt main_v9 main_v10
  let main_v12 : FVec F S4x4096x2x4x64 .f32 := Host.absf main_arg4
  let main_cst_3 : FVec F S_ .f32 := constant S_ .f32 0x7F800000#32
  let main_v13 : FVec F S4x4096x2x4x64 .f32 := broadcastInDim S4x4096x2x4x64 ![] bcast_S_S4x4096x2x4x64 main_cst_3
  let main_v14 : IVec S4x4096x2x4x64 1 := cmpf .olt main_v12 main_v13
  let main_v15 : FVec F S4x4096x24 .f32 := Host.absf main_arg5
  let main_cst_4 : FVec F S_ .f32 := constant S_ .f32 0x7F800000#32
  let main_v16 : FVec F S4x4096x24 .f32 := broadcastInDim S4x4096x24 ![] bcast_S_S4x4096x24 main_cst_4
  let main_v17 : IVec S4x4096x24 1 := cmpf .olt main_v15 main_v16
  fn_part1 (F := F) main_arg6 main_arg7 main_arg8 main_arg9 main_arg10 main_arg11 main_arg12 main_arg13 main_arg14 main_arg15 main_arg16 main_arg17 main_v2 main_v5 main_v8 main_v11 main_v14 main_v17
-- ==== Kernel.lean ====
abbrev S4x4096x2x4x64 : Shape := ⟨5, ![4, 4096, 2, 4, 64]⟩
abbrev S4x4096x2x64 : Shape := ⟨4, ![4, 4096, 2, 64]⟩
abbrev S4x2x4096x64 : Shape := ⟨4, ![4, 2, 4096, 64]⟩
abbrev S16384x512 : Shape := ⟨2, ![16384, 512]⟩
abbrev S_ : Shape := ⟨0, ![]⟩
abbrev S16384x128 : Shape := ⟨2, ![16384, 128]⟩
abbrev S16384x64 : Shape := ⟨2, ![16384, 64]⟩
abbrev S16384x256 : Shape := ⟨2, ![16384, 256]⟩
abbrev S128x16384 : Shape := ⟨2, ![128, 16384]⟩
abbrev S2x64x4x4096 : Shape := ⟨4, ![2, 64, 4, 4096]⟩
abbrev S4x4096x256 : Shape := ⟨3, ![4, 4096, 256]⟩
abbrev S512x512 : Shape := ⟨2, ![512, 512]⟩
abbrev S1x4096x256 : Shape := ⟨3, ![1, 4096, 256]⟩
abbrev S128x4096 : Shape := ⟨2, ![128, 4096]⟩
abbrev S128x512 : Shape := ⟨2, ![128, 512]⟩
abbrev S2x1x2048 : Shape := ⟨3, ![2, 1, 2048]⟩
abbrev S2x80x2048 : Shape := ⟨3, ![2, 80, 2048]⟩
abbrev S512x128 : Shape := ⟨2, ![512, 128]⟩
abbrev S2048x128 : Shape := ⟨2, ![2048, 128]⟩
abbrev S1x512 : Shape := ⟨2, ![1, 512]⟩
abbrev S64x512 : Shape := ⟨2, ![64, 512]⟩
abbrev S1x512x128 : Shape := ⟨3, ![1, 512, 128]⟩
abbrev S512x2048 : Shape := ⟨2, ![512, 2048]⟩
abbrev S1x1x2048 : Shape := ⟨3, ![1, 1, 2048]⟩
abbrev S1x2048 : Shape := ⟨2, ![1, 2048]⟩
abbrev S2048 : Shape := ⟨1, ![2048]⟩
abbrev S16x512 : Shape := ⟨2, ![16, 512]⟩
abbrev S80x512 : Shape := ⟨2, ![80, 512]⟩
abbrev S1x80x2048 : Shape := ⟨3, ![1, 80, 2048]⟩
abbrev S80x2048 : Shape := ⟨2, ![80, 2048]⟩
abbrev S1x64x2048 : Shape := ⟨3, ![1, 64, 2048]⟩
abbrev S64x2048 : Shape := ⟨2, ![64, 2048]⟩

abbrev nBuf : Space → Nat
  | .hbm => 48
  | .vmem => 18
  | .smem => 0
  | _ => 0

abbrev bufTy : (tb : Table) → Fin (tcTables nBuf tb) → BufTy
  | .hbm, ⟨0, _⟩ => ⟨S4x4096x2x4x64, .f32⟩
  | .hbm, ⟨1, _⟩ => ⟨S4x4096x2x64, .f32⟩
  | .hbm, ⟨2, _⟩ => ⟨S4x4096x2x64, .f32⟩
  | .hbm, ⟨3, _⟩ => ⟨S4x4096x2x64, .f32⟩
  | .hbm, ⟨4, _⟩ => ⟨S4x4096x2x64, .f32⟩
  | .hbm, ⟨5, _⟩ => ⟨S4x2x4096x64, .i32⟩
  | .hbm, ⟨6, _⟩ => ⟨S16384x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S16384x128, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x256, .f32⟩
  | .hbm, ⟨20, _⟩ => ⟨S16384x256, .bf16⟩
  | .hbm, ⟨21, _⟩ => ⟨S16384x128, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x256, .f32⟩
  | .hbm, ⟨27, _⟩ => ⟨S16384x256, .bf16⟩
  | .hbm, ⟨28, _⟩ => ⟨S16384x128, .f32⟩
  | .hbm, ⟨29, _⟩ => ⟨S128x16384, .f32⟩
  | .hbm, ⟨30, _⟩ => ⟨S128x16384, .bf16⟩
  | .hbm, ⟨31, _⟩ => ⟨S16384x128, .f32⟩
  | .hbm, ⟨32, _⟩ => ⟨S128x16384, .f32⟩
  | .hbm, ⟨33, _⟩ => ⟨S128x16384, .bf16⟩
  | .hbm, ⟨34, _⟩ => ⟨S2x64x4x4096, .i32⟩
  | .hbm, ⟨35, _⟩ => ⟨S128x16384, .i32⟩
  | .hbm, ⟨36, _⟩ => ⟨S_, .i32⟩
  | .hbm, ⟨37, _⟩ => ⟨S128x16384, .i32⟩
  | .hbm, ⟨38, _⟩ => ⟨S128x16384, .i1⟩
  | .hbm, ⟨39, _⟩ => ⟨S_, .f32⟩
  | .hbm, ⟨40, _⟩ => ⟨S_, .f32⟩
  | .hbm, ⟨41, _⟩ => ⟨S128x16384, .f32⟩
  | .hbm, ⟨42, _⟩ => ⟨S128x16384, .f32⟩
  | .hbm, ⟨43, _⟩ => ⟨S128x16384, .f32⟩
  | .hbm, ⟨44, _⟩ => ⟨S4x4096x256, .bf16⟩
  | .hbm, ⟨45, _⟩ => ⟨S4x4096x256, .bf16⟩
  | .hbm, ⟨46, _⟩ => ⟨S16384x512, .bf16⟩
  | .hbm, ⟨47, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S128x4096, .bf16⟩
  | .local _ .vmem, ⟨7, _⟩ => ⟨S128x4096, .bf16⟩
  | .local _ .vmem, ⟨8, _⟩ => ⟨S128x4096, .bf16⟩
  | .local _ .vmem, ⟨9, _⟩ => ⟨S128x4096, .bf16⟩
  | .local _ .vmem, ⟨10, _⟩ => ⟨S128x512, .f32⟩
  | .local _ .vmem, ⟨11, _⟩ => ⟨S128x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S2x1x2048, .f32⟩
  | .local _ .vmem, ⟨17, _⟩ => ⟨S2x80x2048, .f32⟩
  | _, _ => ⟨S4x4096x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_34 : BitVec 32 := 1#32
  ⟨c0_i32_32, v81, c1_i32_34⟩
def k0_off1 (i : grid0.Coords) (k0_t1 : Fin (k0_t1_loop i).trips) (c0_i32_225 : BitVec 32) (c0_i32_226 : BitVec 32) : Fin 2 → Nat :=
  let c0_i32_32 : BitVec 32 := 0#32
  let c1_i32_34 : BitVec 32 := 1#32
  let arg12 : BitVec 32 := Scf.iv c0_i32_32 c1_i32_34 k0_t1
  let c8_i32_224 : BitVec 32 := 8#32
  let v452 : BitVec 32 := Scalar.muli arg12 c8_i32_224
  let v453 : BitVec 32 := Scalar.addi c0_i32_225 v452
  let v454 : BitVec 32 := Scalar.addi v453 c0_i32_226
  let v455 : Index := Scalar.indexCast v454
  let c0_227 : Index := 0#32
  ![v455.toNat, 0]
def k0_mult1 (i : grid0.Coords) (k0_t1 : Fin (k0_t1_loop i).trips) : BitVec 32 :=
  let c0_i32_32 : BitVec 32 := 0#32
  let c1_i32_34 : BitVec 32 := 1#32
  let arg12 : BitVec 32 := Scf.iv c0_i32_32 c1_i32_34 k0_t1
  let c512_i32_256 : BitVec 32 := 512#32
  let v517 : BitVec 32 := Scalar.muli arg12 c512_i32_256
  v517
def k0_off2 (i : grid0.Coords) (k0_t1 : Fin (k0_t1_loop i).trips) : Fin 3 → Nat :=
  let c0_257 : Index := 0#32
  let c0_i32_32 : BitVec 32 := 0#32
  let c1_i32_34 : BitVec 32 := 1#32
  let arg12 : BitVec 32 := Scf.iv c0_i32_32 c1_i32_34 k0_t1
  let c512_i32_256 : BitVec 32 := 512#32
  let v517 : BitVec 32 := Scalar.muli arg12 c512_i32_256
  let v518 : BitVec 32 := v517
  let v519 : Index := Scalar.indexCast v518
  let c0_258 : Index := 0#32
  ![0, v519.toNat, 0]
def k0_off3 (i : grid0.Coords) (k0_t1 : Fin (k0_t1_loop i).trips) : Fin 2 → Nat :=
  let c0_259 : Index := 0#32
  let c0_i32_32 : BitVec 32 := 0#32
  let c1_i32_34 : BitVec 32 := 1#32
  let arg12 : BitVec 32 := Scf.iv c0_i32_32 c1_i32_34 k0_t1
  let c512_i32_256 : BitVec 32 := 512#32
  let v517 : BitVec 32 := Scalar.muli arg12 c512_i32_256
  let v518 : BitVec 32 := v517
  let v522 : Index := Scalar.indexCast v518
  ![0, v522.toNat]
def k0_mult2 (i : grid0.Coords) (k0_t1 : Fin (k0_t1_loop i).trips) : BitVec 32 :=
  let c0_i32_32 : BitVec 32 := 0#32
  let c1_i32_34 : BitVec 32 := 1#32
  let arg12 : BitVec 32 := Scf.iv c0_i32_32 c1_i32_34 k0_t1
  let c512_i32_308 : BitVec 32 := 512#32
  let v618 : BitVec 32 := Scalar.muli arg12 c512_i32_308
  v618
def k0_off4 (i : grid0.Coords) (k0_t1 : Fin (k0_t1_loop i).trips) : Fin 3 → Nat :=
  let c0_309 : Index := 0#32
  let c0_i32_32 : BitVec 32 := 0#32
  let c1_i32_34 : BitVec 32 := 1#32
  let arg12 : BitVec 32 := Scf.iv c0_i32_32 c1_i32_34 k0_t1
  let c512_i32_308 : BitVec 32 := 512#32
  let v618 : BitVec 32 := Scalar.muli arg12 c512_i32_308
  let v619 : BitVec 32 := v618
  let v620 : Index := Scalar.indexCast v619
  let c128_310 : Index := 128#32
  ![0, v620.toNat, 128]
def k0_off5 (i : grid0.Coords) (k0_t1 : Fin (k0_t1_loop i).trips) : Fin 2 → Nat :=
  let c64_311 : Index := 64#32
  let c0_i32_32 : BitVec 32 := 0#32
  let c1_i32_34 : BitVec 32 := 1#32
  let arg12 : BitVec 32 := Scf.iv c0_i32_32 c1_i32_34 k0_t1
  let c512_i32_308 : BitVec 32 := 512#32
  let v618 : BitVec 32 := Scalar.muli arg12 c512_i32_308
  let v619 : BitVec 32 := v618
  let v623 : Index := Scalar.indexCast v619
  ![64, v623.toNat]
@[reducible] def k0_t2_loop (i : grid0.Coords) : Scf.Loop 32 :=
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let v78 : BitVec 32 := Scalar.addi c0_i32_32 v77
  let c1_i32_35 : BitVec 32 := 1#32
  ⟨v81, v78, c1_i32_35⟩
def k0_off6 (i : grid0.Coords) (k0_t2 : Fin (k0_t2_loop i).trips) (c0_i32_225 : BitVec 32) (c0_i32_226 : BitVec 32) : Fin 2 → Nat :=
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c8_i32_224 : BitVec 32 := 8#32
  let v452 : BitVec 32 := Scalar.muli arg12 c8_i32_224
  let v453 : BitVec 32 := Scalar.addi c0_i32_225 v452
  let v454 : BitVec 32 := Scalar.addi v453 c0_i32_226
  let v455 : Index := Scalar.indexCast v454
  let c0_227 : Index := 0#32
  ![v455.toNat, 0]
def k0_mult3 (i : grid0.Coords) (k0_t2 : Fin (k0_t2_loop i).trips) : BitVec 32 :=
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c512_i32_256 : BitVec 32 := 512#32
  let v517 : BitVec 32 := Scalar.muli arg12 c512_i32_256
  v517
def k0_off7 (i : grid0.Coords) (k0_t2 : Fin (k0_t2_loop i).trips) : Fin 3 → Nat :=
  let c0_257 : Index := 0#32
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c512_i32_256 : BitVec 32 := 512#32
  let v517 : BitVec 32 := Scalar.muli arg12 c512_i32_256
  let v518 : BitVec 32 := v517
  let v519 : Index := Scalar.indexCast v518
  let c0_258 : Index := 0#32
  ![0, v519.toNat, 0]
def k0_off8 (i : grid0.Coords) (k0_t2 : Fin (k0_t2_loop i).trips) : Fin 2 → Nat :=
  let c0_259 : Index := 0#32
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c512_i32_256 : BitVec 32 := 512#32
  let v517 : BitVec 32 := Scalar.muli arg12 c512_i32_256
  let v518 : BitVec 32 := v517
  let v522 : Index := Scalar.indexCast v518
  ![0, v522.toNat]
def k0_mult4 (i : grid0.Coords) (k0_t2 : Fin (k0_t2_loop i).trips) : BitVec 32 :=
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c512_i32_308 : BitVec 32 := 512#32
  let v618 : BitVec 32 := Scalar.muli arg12 c512_i32_308
  v618
def k0_off9 (i : grid0.Coords) (k0_t2 : Fin (k0_t2_loop i).trips) : Fin 3 → Nat :=
  let c0_309 : Index := 0#32
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c512_i32_308 : BitVec 32 := 512#32
  let v618 : BitVec 32 := Scalar.muli arg12 c512_i32_308
  let v619 : BitVec 32 := v618
  let v620 : Index := Scalar.indexCast v619
  let c128_310 : Index := 128#32
  ![0, v620.toNat, 128]
def k0_off10 (i : grid0.Coords) (k0_t2 : Fin (k0_t2_loop i).trips) : Fin 2 → Nat :=
  let c64_311 : Index := 64#32
  let c0_i32_32 : BitVec 32 := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let c512_i32_308 : BitVec 32 := 512#32
  let v618 : BitVec 32 := Scalar.muli arg12 c512_i32_308
  let v619 : BitVec 32 := v618
  let v623 : Index := Scalar.indexCast v619
  ![64, v623.toNat]
def k0_off11 (i : grid0.Coords) (c0_i32_39 : BitVec 32) (c0_i32_40 : BitVec 32) : Fin 2 → Nat :=
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c8_i32 : BitVec 32 := 8#32
  let v93 : BitVec 32 := Scalar.muli v76 c8_i32
  let v94 : BitVec 32 := Scalar.addi c0_i32_39 v93
  let v95 : BitVec 32 := Scalar.addi v94 c0_i32_40
  let v96 : Index := Scalar.indexCast v95
  let c0_41 : Index := 0#32
  ![v96.toNat, 0]
def k0_mult5 (i : grid0.Coords) : BitVec 32 :=
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c512_i32_64 : BitVec 32 := 512#32
  let v159 : BitVec 32 := Scalar.muli v76 c512_i32_64
  v159
def k0_off12 (i : grid0.Coords) : Fin 3 → Nat :=
  let c0_65 : Index := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c512_i32_64 : BitVec 32 := 512#32
  let v159 : BitVec 32 := Scalar.muli v76 c512_i32_64
  let v160 : BitVec 32 := v159
  let v161 : Index := Scalar.indexCast v160
  let c0_66 : Index := 0#32
  ![0, v161.toNat, 0]
def k0_off13 (i : grid0.Coords) : Fin 2 → Nat :=
  let c0_67 : Index := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c512_i32_64 : BitVec 32 := 512#32
  let v159 : BitVec 32 := Scalar.muli v76 c512_i32_64
  let v160 : BitVec 32 := v159
  let v164 : Index := Scalar.indexCast v160
  ![0, v164.toNat]
def k0_mult6 (i : grid0.Coords) : BitVec 32 :=
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c512_i32_116 : BitVec 32 := 512#32
  let v261 : BitVec 32 := Scalar.muli v76 c512_i32_116
  v261
def k0_off14 (i : grid0.Coords) : Fin 3 → Nat :=
  let c0_117 : Index := 0#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c512_i32_116 : BitVec 32 := 512#32
  let v261 : BitVec 32 := Scalar.muli v76 c512_i32_116
  let v262 : BitVec 32 := v261
  let v263 : Index := Scalar.indexCast v262
  let c128_118 : Index := 128#32
  ![0, v263.toNat, 128]
def k0_off15 (i : grid0.Coords) : Fin 2 → Nat :=
  let c64 : Index := 64#32
  let arg1 : BitVec 32 := BitVec.ofNat 32 (i 1).val
  let c0_i32 : BitVec 32 := 0#32
  let v61 : BitVec 1 := Scalar.cmpi .sgt arg1 c0_i32
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32 : BitVec 32 := 1#32
  let c0_i32_27 : BitVec 32 := 0#32
  let v66 : BitVec 1 := Scalar.cmpi .sgt c1_i32 c0_i32_27
  let v67 : BitVec 32 := Scalar.extui v66
  let c0_i32_28 : BitVec 32 := 0#32
  let v68 : BitVec 1 := Scalar.cmpi .slt c1_i32 c0_i32_28
  let v69 : BitVec 32 := Scalar.extui v68
  let v70 : BitVec 32 := Scalar.subi v67 v69
  let v71 : BitVec 1 := Scalar.cmpi .ne v65 v70
  let v72 : BitVec 32 := Scalar.remsi arg1 c1_i32
  let c0_i32_29 : BitVec 32 := 0#32
  let v73 : BitVec 1 := Scalar.cmpi .ne v72 c0_i32_29
  let v74 : BitVec 1 := Scalar.andi v71 v73
  let v60 : BitVec 32 := Scalar.divsi arg1 c1_i32
  let c1_i32_30 : BitVec 32 := 1#32
  let v75 : BitVec 32 := Scalar.subi v60 c1_i32_30
  let v76 : BitVec 32 := Scalar.select v74 v75 v60
  let c512_i32_116 : BitVec 32 := 512#32
  let v261 : BitVec 32 := Scalar.muli v76 c512_i32_116
  let v262 : BitVec 32 := v261
  let v266 : Index := Scalar.indexCast v262
  ![64, v266.toNat]
def k0_cond1 (i : grid0.Coords) : BitVec 1 :=
  let arg1 : BitVec 32 := BitVec.ofNat 32 (i 1).val
  let c1_i32_162 : BitVec 32 := 1#32
  let v341 : BitVec 1 := Scalar.cmpi .sge arg1 c1_i32_162
  let v342 : BitVec 32 := Scalar.extui v341
  let c0_i32_163 : BitVec 32 := 0#32
  let v343 : BitVec 1 := Scalar.cmpi .ne v342 c0_i32_163
  v343

def k0_mult7 (i : grid0.Coords) : BitVec 32 :=
  let arg1 : BitVec 32 := BitVec.ofNat 32 (i 1).val
  let c1_i32_224 : BitVec 32 := 1#32
  let v452 : BitVec 32 := Scalar.subi arg1 c1_i32_224
  let c512_i32_225 : BitVec 32 := 512#32
  let v453 : BitVec 32 := Scalar.muli v452 c512_i32_225
  v453
def k0_off16 (i : grid0.Coords) : Fin 3 → Nat :=
  let c0_226 : Index := 0#32
  let arg1 : BitVec 32 := BitVec.ofNat 32 (i 1).val
  let c1_i32_224 : BitVec 32 := 1#32
  let v452 : BitVec 32 := Scalar.subi arg1 c1_i32_224
  let c512_i32_225 : BitVec 32 := 512#32
  let v453 : BitVec 32 := Scalar.muli v452 c512_i32_225
  let v454 : BitVec 32 := v453
  let v455 : Index := Scalar.indexCast v454
  let c0_227 : Index := 0#32
  ![0, v455.toNat, 0]
def k0_off17 (i : grid0.Coords) : Fin 2 → Nat :=
  let c0_228 : Index := 0#32
  let arg1 : BitVec 32 := BitVec.ofNat 32 (i 1).val
  let c1_i32_224 : BitVec 32 := 1#32
  let v452 : BitVec 32 := Scalar.subi arg1 c1_i32_224
  let c512_i32_225 : BitVec 32 := 512#32
  let v453 : BitVec 32 := Scalar.muli v452 c512_i32_225
  let v454 : BitVec 32 := v453
  let v458 : Index := Scalar.indexCast v454
  ![0, v458.toNat]
def k0_mult8 (i : grid0.Coords) : BitVec 32 :=
  let arg1 : BitVec 32 := BitVec.ofNat 32 (i 1).val
  let c1_i32_245 : BitVec 32 := 1#32
  let v489 : BitVec 32 := Scalar.subi arg1 c1_i32_245
  let c512_i32_246 : BitVec 32 := 512#32
  let v490 : BitVec 32 := Scalar.muli v489 c512_i32_246
  v490
def k0_off18 (i : grid0.Coords) : Fin 3 → Nat :=
  let c0_247 : Index := 0#32
  let arg1 : BitVec 32 := BitVec.ofNat 32 (i 1).val
  let c1_i32_245 : BitVec 32 := 1#32
  let v489 : BitVec 32 := Scalar.subi arg1 c1_i32_245
  let c512_i32_246 : BitVec 32 := 512#32
  let v490 : BitVec 32 := Scalar.muli v489 c512_i32_246
  let v491 : BitVec 32 := v490
  let v492 : Index := Scalar.indexCast v491
  let c128_248 : Index := 128#32
  ![0, v492.toNat, 128]
def k0_off19 (i : grid0.Coords) : Fin 2 → Nat :=
  let c64_249 : Index := 64#32
  let arg1 : BitVec 32 := BitVec.ofNat 32 (i 1).val
  let c1_i32_245 : BitVec 32 := 1#32
  let v489 : BitVec 32 := Scalar.subi arg1 c1_i32_245
  let c512_i32_246 : BitVec 32 := 512#32
  let v490 : BitVec 32 := Scalar.muli v489 c512_i32_246
  let v491 : BitVec 32 := v490
  let v495 : Index := Scalar.indexCast v491
  ![64, v495.toNat]
def k0_mult9 (i : grid0.Coords) : BitVec 32 :=
  let arg1 : BitVec 32 := BitVec.ofNat 32 (i 1).val
  let c512_i32_164 : BitVec 32 := 512#32
  let v344 : BitVec 32 := Scalar.muli arg1 c512_i32_164
  v344
def k0_off20 (i : grid0.Coords) : Fin 3 → Nat :=
  let c0_165 : Index := 0#32
  let arg1 : BitVec 32 := BitVec.ofNat 32 (i 1).val
  let c512_i32_164 : BitVec 32 := 512#32
  let v344 : BitVec 32 := Scalar.muli arg1 c512_i32_164
  let v345 : BitVec 32 := v344
  let v346 : Index := Scalar.indexCast v345
  let c0_166 : Index := 0#32
  ![0, v346.toNat, 0]
def k0_off21 (i : grid0.Coords) : Fin 2 → Nat :=
  let c0_167 : Index := 0#32
  let arg1 : BitVec 32 := BitVec.ofNat 32 (i 1).val
  let c512_i32_164 : BitVec 32 := 512#32
  let v344 : BitVec 32 := Scalar.muli arg1 c512_i32_164
  let v345 : BitVec 32 := v344
  let v349 : Index := Scalar.indexCast v345
  ![0, v349.toNat]
def k0_mult10 (i : grid0.Coords) : BitVec 32 :=
  let arg1 : BitVec 32 := BitVec.ofNat 32 (i 1).val
  let c512_i32_184 : BitVec 32 := 512#32
  let v380 : BitVec 32 := Scalar.muli arg1 c512_i32_184
  v380
def k0_off22 (i : grid0.Coords) : Fin 3 → Nat :=
  let c0_185 : Index := 0#32
  let arg1 : BitVec 32 := BitVec.ofNat 32 (i 1).val
  let c512_i32_184 : BitVec 32 := 512#32
  let v380 : BitVec 32 := Scalar.muli arg1 c512_i32_184
  let v381 : BitVec 32 := v380
  let v382 : Index := Scalar.indexCast v381
  let c128_186 : Index := 128#32
  ![0, v382.toNat, 128]
def k0_off23 (i : grid0.Coords) : Fin 2 → Nat :=
  let c64_187 : Index := 64#32
  let arg1 : BitVec 32 := BitVec.ofNat 32 (i 1).val
  let c512_i32_184 : BitVec 32 := 512#32
  let v380 : BitVec 32 := Scalar.muli arg1 c512_i32_184
  let v381 : BitVec 32 := v380
  let v385 : Index := Scalar.indexCast v381
  ![64, v385.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x2x4x64 : Shape := ⟨5, ![4, 4096, 2, 4, 64]⟩
abbrev S4x4096x2x64 : Shape := ⟨4, ![4, 4096, 2, 64]⟩
abbrev S4x2x4096x64 : Shape := ⟨4, ![4, 2, 4096, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x2x4096x64x64 : Shape := ⟨5, ![4, 2, 4096, 64, 64]⟩
abbrev S4x2x4096x4096 : Shape := ⟨4, ![4, 2, 4096, 4096]⟩
abbrev S1x1x4096x4096 : Shape := ⟨4, ![1, 1, 4096, 4096]⟩
abbrev S4x2x4096x4096x4 : Shape := ⟨5, ![4, 2, 4096, 4096, 4]⟩
abbrev S4x2x4x4096x4096 : Shape := ⟨5, ![4, 2, 4, 4096, 4096]⟩
abbrev S4x2x1x4096x4096 : Shape := ⟨5, ![4, 2, 1, 4096, 4096]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩
abbrev S1x1x1x4096x4096 : Shape := ⟨5, ![1, 1, 1, 4096, 4096]⟩
abbrev S16384x512 : Shape := ⟨2, ![16384, 512]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x2x4x64, .f32⟩
  | .hbm, ⟨1, _⟩ => ⟨S4x4096x2x64, .f32⟩
  | .hbm, ⟨2, _⟩ => ⟨S4x4096x2x64, .f32⟩
  | .hbm, ⟨3, _⟩ => ⟨S4x4096x2x64, .f32⟩
  | .hbm, ⟨4, _⟩ => ⟨S4x4096x2x64, .f32⟩
  | .hbm, ⟨5, _⟩ => ⟨S4x2x4096x64, .i32⟩
  | .hbm, ⟨6, _⟩ => ⟨S4096, .i32⟩
  | .hbm, ⟨7, _⟩ => ⟨S1x4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i1⟩
  | .hbm, ⟨12, _⟩ => ⟨S_, .i32⟩
  | .hbm, ⟨13, _⟩ => ⟨S4x2x4096x64, .i32⟩
  | .hbm, ⟨14, _⟩ => ⟨S4x2x4096x64, .i1⟩
  | .hbm, ⟨15, _⟩ => ⟨S4x2x4096x64x64, .i1⟩
  | .hbm, ⟨16, _⟩ => ⟨S4x2x4096x4096, .i1⟩
  | .hbm, ⟨17, _⟩ => ⟨S1x1x4096x4096, .i1⟩
  | .hbm, ⟨18, _⟩ => ⟨S4x2x4096x4096, .i1⟩
  | .hbm, ⟨19, _⟩ => ⟨S4x2x4096x4096, .i1⟩
  | .hbm, ⟨20, _⟩ => ⟨S4x2x4096x4096x4, .f32⟩
  | .hbm, ⟨21, _⟩ => ⟨S4x2x4x4096x4096, .f32⟩
  | .hbm, ⟨22, _⟩ => ⟨S_, .f32⟩
  | .hbm, ⟨23, _⟩ => ⟨S4x2x4x4096x4096, .f32⟩
  | .hbm, ⟨24, _⟩ => ⟨S4x2x4x4096x4096, .f32⟩
  | .hbm, ⟨25, _⟩ => ⟨S4x2x1x4096x4096, .i1⟩
  | .hbm, ⟨26, _⟩ => ⟨S4x2x4x4096x4096, .i1⟩
  | .hbm, ⟨27, _⟩ => ⟨S_, .f32⟩
  | .hbm, ⟨28, _⟩ => ⟨S_, .f32⟩
  | .hbm, ⟨29, _⟩ => ⟨S4x2x4x4096x4096, .f32⟩
  | .hbm, ⟨30, _⟩ => ⟨S4x2x4x4096x4096, .f32⟩
  | .hbm, ⟨31, _⟩ => ⟨S_, .f32⟩
  | .hbm, ⟨32, _⟩ => ⟨S4x2x4x4096, .f32⟩
  | .hbm, ⟨33, _⟩ => ⟨S_, .f32⟩
  | .hbm, ⟨34, _⟩ => ⟨S4x2x4x4096, .f32⟩
  | .hbm, ⟨35, _⟩ => ⟨S4x2x4x4096, .f32⟩
  | .hbm, ⟨36, _⟩ => ⟨S4x2x4x4096x1, .f32⟩
  | .hbm, ⟨37, _⟩ => ⟨S4x2x4x4096x4096, .f32⟩
  | .hbm, ⟨38, _⟩ => ⟨S4x2x4x4096x4096, .f32⟩
  | .hbm, ⟨39, _⟩ => ⟨S4x2x4x4096x4096, .f32⟩
  | .hbm, ⟨40, _⟩ => ⟨S_, .f32⟩
  | .hbm, ⟨41, _⟩ => ⟨S4x2x4x4096, .f32⟩
  | .hbm, ⟨42, _⟩ => ⟨S4x2x4x4096x1, .f32⟩
  | .hbm, ⟨43, _⟩ => ⟨S4x2x4x4096x4096, .f32⟩
  | .hbm, ⟨44, _⟩ => ⟨S4x2x4x4096x4096, .f32⟩
  | .hbm, ⟨45, _⟩ => ⟨S4x2x4x4096x4096, .f32⟩
  | .hbm, ⟨46, _⟩ => ⟨S4x2x4x4096x4096, .f32⟩
  | .hbm, ⟨47, _⟩ => ⟨S4x2x64x4x4096, .f32⟩
  | .hbm, ⟨48, _⟩ => ⟨S4x4096x2x4x64, .f32⟩
  | .hbm, ⟨49, _⟩ => ⟨S4096x1, .i32⟩
  | .hbm, ⟨50, _⟩ => ⟨S1x4096, .i32⟩
  | .hbm, ⟨51, _⟩ => ⟨S4096x4096, .i32⟩
  | .hbm, ⟨52, _⟩ => ⟨S4096x4096, .i32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i1⟩
  | .hbm, ⟨57, _⟩ => ⟨S4096x4096, .i1⟩
  | .hbm, ⟨58, _⟩ => ⟨S1x1x4096x4096, .i1⟩
  | .hbm, ⟨59, _⟩ => ⟨S4x2x4096x4096x4, .f32⟩
  | .hbm, ⟨60, _⟩ => ⟨S4x2x4x4096x4096, .f32⟩
  | .hbm, ⟨61, _⟩ => ⟨S_, .f32⟩
  | .hbm, ⟨62, _⟩ => ⟨S4x2x4x4096x4096, .f32⟩
  | .hbm, ⟨63, _⟩ => ⟨S4x2x4x4096x4096, .f32⟩
  | .hbm, ⟨64, _⟩ => ⟨S1x1x1x4096x4096, .i1⟩
  | .hbm, ⟨65, _⟩ => ⟨S4x2x4x4096x4096, .i1⟩
  | .hbm, ⟨66, _⟩ => ⟨S_, .f32⟩
  | .hbm, ⟨67, _⟩ => ⟨S_, .f32⟩
  | .hbm, ⟨68, _⟩ => ⟨S4x2x4x4096x4096, .f32⟩
  | .hbm, ⟨69, _⟩ => ⟨S4x2x4x4096x4096, .f32⟩
  | .hbm, ⟨70, _⟩ => ⟨S_, .f32⟩
  | .hbm, ⟨71, _⟩ => ⟨S4x2x4x4096, .f32⟩
  | .hbm, ⟨72, _⟩ => ⟨S_, .f32⟩
  | .hbm, ⟨73, _⟩ => ⟨S4x2x4x4096, .f32⟩
  | .hbm, ⟨74, _⟩ => ⟨S4x2x4x4096, .f32⟩
  | .hbm, ⟨75, _⟩ => ⟨S4x2x4x4096x1, .f32⟩
  | .hbm, ⟨76, _⟩ => ⟨S4x2x4x4096x4096, .f32⟩
  | .hbm, ⟨77, _⟩ => ⟨S4x2x4x4096x4096, .f32⟩
  | .hbm, ⟨78, _⟩ => ⟨S4x2x4x4096x4096, .f32⟩
  | .hbm, ⟨79, _⟩ => ⟨S_, .f32⟩
  | .hbm, ⟨80, _⟩ => ⟨S4x2x4x4096, .f32⟩
  | .hbm, ⟨81, _⟩ => ⟨S4x2x4x4096x1, .f32⟩
  | .hbm, ⟨82, _⟩ => ⟨S4x2x4x4096x4096, .f32⟩
  | .hbm, ⟨83, _⟩ => ⟨S4x2x4x4096x4096, .f32⟩
  | .hbm, ⟨84, _⟩ => ⟨S4x2x4x4096x4096, .f32⟩
  | .hbm, ⟨85, _⟩ => ⟨S4x2x4x4096x4096, .f32⟩
  | .hbm, ⟨86, _⟩ => ⟨S4x2x64x4x4096, .f32⟩
  | .hbm, ⟨87, _⟩ => ⟨S4x4096x2x4x64, .f32⟩
  | .hbm, ⟨88, _⟩ => ⟨S16384x512, .f32⟩
  | .hbm, ⟨89, _⟩ => ⟨S16384x512, .bf16⟩
  | .hbm, ⟨90, _⟩ => ⟨S16384x512, .f32⟩
  | .hbm, ⟨91, _⟩ => ⟨S16384x512, .bf16⟩
  | _, _ => ⟨S4x4096x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_call1_v0 : Ref sig .tc := ⟨.hbm, 67, rfl⟩
abbrev main_call1_v1 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Proj.lean ====
abbrev S4x4096x1024 : Shape := ⟨3, ![4, 4096, 1024]⟩
abbrev S8x6x1024 : Shape := ⟨3, ![8, 6, 1024]⟩
abbrev S1024 : Shape := ⟨1, ![1024]⟩
abbrev S1024x3864 : Shape := ⟨2, ![1024, 3864]⟩
abbrev S64 : Shape := ⟨1, ![64]⟩
abbrev S16384x1024 : Shape := ⟨2, ![16384, 1024]⟩
abbrev S1024x512 : Shape := ⟨2, ![1024, 512]⟩
abbrev S1024x128 : Shape := ⟨2, ![1024, 128]⟩
abbrev S1024x24 : Shape := ⟨2, ![1024, 24]⟩
abbrev S1024x1024 : Shape := ⟨2, ![1024, 1024]⟩
abbrev S1024x64 : Shape := ⟨2, ![1024, 64]⟩
abbrev S1024x256 : Shape := ⟨2, ![1024, 256]⟩
abbrev S_ : Shape := ⟨0, ![]⟩
abbrev S1024x3968 : Shape := ⟨2, ![1024, 3968]⟩
abbrev S256x1024 : Shape := ⟨2, ![256, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S16384x512 : Shape := ⟨2, ![16384, 512]⟩
abbrev S16384x128 : Shape := ⟨2, ![16384, 128]⟩
abbrev S16384x256 : Shape := ⟨2, ![16384, 256]⟩
abbrev S128x16384 : Shape := ⟨2, ![128, 16384]⟩
abbrev S512x1024 : Shape := ⟨2, ![512, 1024]⟩
abbrev S1x6x1024 : Shape := ⟨3, ![1, 6, 1024]⟩
abbrev S512x128 : Shape := ⟨2, ![512, 128]⟩
abbrev S512x256 : Shape := ⟨2, ![512, 256]⟩
abbrev S128x512 : Shape := ⟨2, ![128, 512]⟩
abbrev S512x1 : Shape := ⟨2, ![512, 1]⟩
abbrev S6x1024 : Shape := ⟨2, ![6, 1024]⟩
abbrev S256x512 : Shape := ⟨2, ![256, 512]⟩
abbrev S1024x640 : Shape := ⟨2, ![1024, 640]⟩
abbrev S512x640 : Shape := ⟨2, ![512, 640]⟩

abbrev nBuf : Space → Nat
  | .hbm => 93
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S1024, .f32⟩
  | .hbm, ⟨3, _⟩ => ⟨S1024x3864, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S16384x1024, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x24, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x256, .f32⟩
  | .hbm, ⟨24, _⟩ => ⟨S1024x64, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S1024x256, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x3968, .f32⟩
  | .hbm, ⟨33, _⟩ => ⟨S1024x3968, .bf16⟩
  | .hbm, ⟨34, _⟩ => ⟨S1024x256, .f32⟩
  | .hbm, ⟨35, _⟩ => ⟨S256x1024, .f32⟩
  | .hbm, ⟨36, _⟩ => ⟨S256x1024, .bf16⟩
  | .hbm, ⟨37, _⟩ => ⟨S1x1024, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S1x64, .f32⟩
  | .hbm, ⟨43, _⟩ => ⟨S4x64, .f32⟩
  | .hbm, ⟨44, _⟩ => ⟨S256, .f32⟩
  | .hbm, ⟨45, _⟩ => ⟨S1x256, .f32⟩
  | .hbm, ⟨46, _⟩ => ⟨S1x64, .f32⟩
  | .hbm, ⟨47, _⟩ => ⟨S4x64, .f32⟩
  | .hbm, ⟨48, _⟩ => ⟨S256, .f32⟩
  | .hbm, ⟨49, _⟩ => ⟨S1x256, .f32⟩
  | .hbm, ⟨50, _⟩ => ⟨S8x8, .i32⟩
  | .hbm, ⟨51, _⟩ => ⟨S8x8, .i32⟩
  | .hbm, ⟨52, _⟩ => ⟨S_, .i32⟩
  | .hbm, ⟨53, _⟩ => ⟨S8x8, .i32⟩
  | .hbm, ⟨54, _⟩ => ⟨S8x8, .i32⟩
  | .hbm, ⟨55, _⟩ => ⟨S8x8, .i1⟩
  | .hbm, ⟨56, _⟩ => ⟨S8x8, .f32⟩
  | .hbm, ⟨57, _⟩ => ⟨S_, .f32⟩
  | .hbm, ⟨58, _⟩ => ⟨S64x64, .f32⟩
  | .hbm, ⟨59, _⟩ => ⟨S8x1x8x1, .f32⟩
  | .hbm, ⟨60, _⟩ => ⟨S1x64x1x64, .f32⟩
  | .hbm, ⟨61, _⟩ => ⟨S8x64x8x64, .f32⟩
  | .hbm, ⟨62, _⟩ => ⟨S8x64x8x64, .f32⟩
  | .hbm, ⟨63, _⟩ => ⟨S8x64x8x64, .f32⟩
  | .hbm, ⟨64, _⟩ => ⟨S512x512, .f32⟩
  | .hbm, ⟨65, _⟩ => ⟨S512x512, .bf16⟩
  | .hbm, ⟨66, _⟩ => ⟨S4x4, .i32⟩
  | .hbm, ⟨67, _⟩ => ⟨S4x4, .i32⟩
  | .hbm, ⟨68, _⟩ => ⟨S_, .i32⟩
  | .hbm, ⟨69, _⟩ => ⟨S4x4, .i32⟩
  | .hbm, ⟨70, _⟩ => ⟨S4x4, .i32⟩
  | .hbm, ⟨71, _⟩ => ⟨S4x4, .i1⟩
  | .hbm, ⟨72, _⟩ => ⟨S4x4, .f32⟩
  | .hbm, ⟨73, _⟩ => ⟨S_, .f32⟩
  | .hbm, ⟨74, _⟩ => ⟨S64x64, .f32⟩
  | .hbm, ⟨75, _⟩ => ⟨S4x1x4x1, .f32⟩
  | .hbm, ⟨76, _⟩ => ⟨S1x64x1x64, .f32⟩
  | .hbm, ⟨77, _⟩ => ⟨S4x64x4x64, .f32⟩
  | .hbm, ⟨78, _⟩ => ⟨S4x64x4x64, .f32⟩
  | .hbm, ⟨79, _⟩ => ⟨S4x64x4x64, .f32⟩
  | .hbm, ⟨80, _⟩ => ⟨S256x256, .f32⟩
  | .hbm, ⟨81, _⟩ => ⟨S256x256, .bf16⟩
  | .hbm, ⟨82, _⟩ => ⟨S16384x512, .bf16⟩
  | .hbm, ⟨83, _⟩ => ⟨S16384x128, .f32⟩
  | .hbm, ⟨84, _⟩ => ⟨S16384x128, .f32⟩
  | .hbm, ⟨85, _⟩ => ⟨S16384x256, .bf16⟩
  | .hbm, ⟨86, _⟩ => ⟨S16384x256, .bf16⟩
  | .hbm, ⟨87, _⟩ => ⟨S128x16384, .bf16⟩
  | .hbm, ⟨88, _⟩ => ⟨S128x16384, .bf16⟩
  | .hbm, ⟨89, _⟩ => ⟨S16384x128, .f32⟩
  | .hbm, ⟨90, _⟩ => ⟨S16384x512, .f32⟩
  | .hbm, ⟨91, _⟩ => ⟨S16384x1024, .bf16⟩
  | .hbm, ⟨92, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3968, .bf16⟩
  | .local _ .vmem, ⟨6, _⟩ => ⟨S256x1024, .bf16⟩
  | .local _ .vmem, ⟨7, _⟩ => ⟨S1x512, .f32⟩
  | .local _ .vmem, ⟨8, _⟩ => ⟨S1x256, .f32⟩
  | .local _ .vmem, ⟨9, _⟩ => ⟨S1x256, .f32⟩
  | .local _ .vmem, ⟨10, _⟩ => ⟨S512x512, .bf16⟩
  | .local _ .vmem, ⟨11, _⟩ => ⟨S256x256, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S512x128, .f32⟩
  | .local _ .vmem, ⟨27, _⟩ => ⟨S512x128, .f32⟩
  | .local _ .vmem, ⟨28, _⟩ => ⟨S512x512, .f32⟩
  | .local _ .vmem, ⟨29, _⟩ => ⟨S512x512, .f32⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_0 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_1 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v57 : Ref sig .tc := ⟨.hbm, 80, rfl⟩
abbrev main_v58 : Ref sig .tc := ⟨.hbm, 81, rfl⟩
abbrev main_v59_0 : Ref sig .tc := ⟨.hbm, 82, rfl⟩
abbrev main_v59_1 : Ref sig .tc := ⟨.hbm, 83, rfl⟩
abbrev main_v59_2 : Ref sig .tc := ⟨.hbm, 84, rfl⟩
abbrev main_v59_3 : Ref sig .tc := ⟨.hbm, 85, rfl⟩
abbrev main_v59_4 : Ref sig .tc := ⟨.hbm, 86, rfl⟩
abbrev main_v59_5 : Ref sig .tc := ⟨.hbm, 87, rfl⟩
abbrev main_v59_6 : Ref sig .tc := ⟨.hbm, 88, rfl⟩
abbrev main_v59_7 : Ref sig .tc := ⟨.hbm, 89, rfl⟩
abbrev main_v59_8 : Ref sig .tc := ⟨.hbm, 90, rfl⟩
abbrev main_v59_9 : Ref sig .tc := ⟨.hbm, 91, rfl⟩
abbrev main_v59_10 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjIdeal.lean ====
variable {F : FTy → Type} [FloatOps F] [Named F]
def κ : String → Option EReal := fun
  | "scale" => some (((Real.log 256)⁻¹ : ℝ) : EReal)
  | _ => none
-- ==== ProjReferenceIdeal.lean ====
abbrev S4x4096x1024 : Shape := ⟨3, ![4, 4096, 1024]⟩
abbrev S8x6x1024 : Shape := ⟨3, ![8, 6, 1024]⟩
abbrev S1024 : Shape := ⟨1, ![1024]⟩
abbrev S1024x3864 : Shape := ⟨2, ![1024, 3864]⟩
abbrev S64 : Shape := ⟨1, ![64]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3864 : Shape := ⟨3, ![4, 4096, 3864]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S16384x512 : Shape := ⟨2, ![16384, 512]⟩
abbrev S16384x128 : Shape := ⟨2, ![16384, 128]⟩
abbrev S4x4096x2x1x64 : Shape := ⟨5, ![4, 4096, 2, 1, 64]⟩
abbrev S4x4096x2x2x64 : Shape := ⟨5, ![4, 4096, 2, 2, 64]⟩
abbrev S16384x256 : Shape := ⟨2, ![16384, 256]⟩
abbrev S128x16384 : Shape := ⟨2, ![128, 16384]⟩
abbrev S16384x1024 : Shape := ⟨2, ![16384, 1024]⟩

abbrev nBuf : Space → Nat
  | .hbm => 156
  | .vmem => 0
  | .smem => 0
  | _ => 0

abbrev hbmTy0_0 (i : Nat) : BufTy := match i % 128 with
  | 0 => ⟨S4x4096x1024, .f32⟩
  | 1 => ⟨S8x6x1024, .f32⟩
  | 2 => ⟨S1024, .f32⟩
  | 3 => ⟨S1024x3864, .f32⟩
  | 4 => ⟨S64, .f32⟩
  | 5 => ⟨S64, .f32⟩
  | 6 => ⟨S64, .f32⟩
  | 7 => ⟨S4x1x1024, .f32⟩
  | 8 => ⟨S4x1024, .f32⟩
  | 9 => ⟨S4x1x1024, .f32⟩
  | 10 => ⟨S4x1x1024, .f32⟩
  | 11 => ⟨S4x1024, .f32⟩
  | 12 => ⟨S4x1x1024, .f32⟩
  | 13 => ⟨S4x4096x1024, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S_, .f32⟩
  | 21 => ⟨S4x4096x1, .f32⟩
  | 22 => ⟨S4x4096x1, .f32⟩
  | 23 => ⟨S4x4096x1, .f32⟩
  | 24 => ⟨S4x4096x1024, .f32⟩
  | 25 => ⟨S4x4096x1024, .f32⟩
  | 26 => ⟨S1x1x1024, .f32⟩
  | 27 => ⟨S4x4096x1024, .f32⟩
  | 28 => ⟨S4x4096x1024, .f32⟩
  | 29 => ⟨S_, .f32⟩
  | 30 => ⟨S4x1x1024, .f32⟩
  | 31 => ⟨S4x1x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S4x4096x3864, .f32⟩
  | 37 => ⟨S4x4096x512, .f32⟩
  | 38 => ⟨S4x4096x128, .f32⟩
  | 39 => ⟨S4x4096x128, .f32⟩
  | 40 => ⟨S4x4096x128, .f32⟩
  | 41 => ⟨S4x4096x128, .f32⟩
  | 42 => ⟨S4x4096x128, .f32⟩
  | 43 => ⟨S4x4096x128, .f32⟩
  | 44 => ⟨S4x4096x24, .f32⟩
  | 45 => ⟨S4x4096x512, .f32⟩
  | 46 => ⟨S4x4096x1024, .f32⟩
  | 47 => ⟨S4x4096x1024, .f32⟩
  | 48 => ⟨S4x4096x8x64, .f32⟩
  | 49 => ⟨S4x4096x8x64, .f32⟩
  | 50 => ⟨S_, .f32⟩
  | 51 => ⟨S4x4096x8, .f32⟩
  | 52 => ⟨S4x4096x8x1, .f32⟩
  | 53 => ⟨S_, .f32⟩
  | 54 => ⟨S4x4096x8x1, .f32⟩
  | 55 => ⟨S4x4096x8x1, .f32⟩
  | 56 => ⟨S_, .f32⟩
  | 57 => ⟨S4x4096x8x1, .f32⟩
  | 58 => ⟨S4x4096x8x1, .f32⟩
  | 59 => ⟨S4x4096x8x1, .f32⟩
  | 60 => ⟨S4x4096x8x64, .f32⟩
  | 61 => ⟨S4x4096x8x64, .f32⟩
  | 62 => ⟨S1x1x1x64, .f32⟩
  | 63 => ⟨S4x4096x8x64, .f32⟩
  | 64 => ⟨S4x4096x8x64, .f32⟩
  | 65 => ⟨S_, .f32⟩
  | 66 => ⟨S_, .f32⟩
  | 67 => ⟨S_, .f32⟩
  | 68 => ⟨S_, .f32⟩
  | 69 => ⟨S4x4096x8x64, .f32⟩
  | 70 => ⟨S4x4096x8x64, .f32⟩
  | 71 => ⟨S4x4096x2x64, .f32⟩
  | 72 => ⟨S4x4096x2x64, .f32⟩
  | 73 => ⟨S_, .f32⟩
  | 74 => ⟨S4x4096x2, .f32⟩
  | 75 => ⟨S4x4096x2x1, .f32⟩
  | 76 => ⟨S_, .f32⟩
  | 77 => ⟨S4x4096x2x1, .f32⟩
  | 78 => ⟨S4x4096x2x1, .f32⟩
  | 79 => ⟨S_, .f32⟩
  | 80 => ⟨S4x4096x2x1, .f32⟩
  | 81 => ⟨S4x4096x2x1, .f32⟩
  | 82 => ⟨S4x4096x2x1, .f32⟩
  | 83 => ⟨S4x4096x2x64, .f32⟩
  | 84 => ⟨S4x4096x2x64, .f32⟩
  | 85 => ⟨S1x1x1x64, .f32⟩
  | 86 => ⟨S4x4096x2x64, .f32⟩
  | 87 => ⟨S4x4096x2x64, .f32⟩
  | 88 => ⟨S4x4096x2x64, .f32⟩
  | 89 => ⟨S4x4096x2x64, .f32⟩
  | 90 => ⟨S_, .f32⟩
  | 91 => ⟨S4x4096x2, .f32⟩
  | 92 => ⟨S4x4096x2x1, .f32⟩
  | 93 => ⟨S_, .f32⟩
  | 94 => ⟨S4x4096x2x1, .f32⟩
  | 95 => ⟨S4x4096x2x1, .f32⟩
  | 96 => ⟨S_, .f32⟩
  | 97 => ⟨S4x4096x2x1, .f32⟩
  | 98 => ⟨S4x4096x2x1, .f32⟩
  | 99 => ⟨S4x4096x2x1, .f32⟩
  | 100 => ⟨S4x4096x2x64, .f32⟩
  | 101 => ⟨S4x4096x2x64, .f32⟩
  | 102 => ⟨S1x1x1x64, .f32⟩
  | 103 => ⟨S4x4096x2x64, .f32⟩
  | 104 => ⟨S4x4096x2x64, .f32⟩
  | 105 => ⟨S_, .i32⟩
  | 106 => ⟨S_, .f32⟩
  | 107 => ⟨S4x4096x128, .f32⟩
  | 108 => ⟨S4x4096x128, .f32⟩
  | 109 => ⟨S4x4096x128, .f32⟩
  | 110 => ⟨S_, .f32⟩
  | 111 => ⟨S4x4096x128, .f32⟩
  | 112 => ⟨S4x4096x128, .f32⟩
  | 113 => ⟨S_, .f32⟩
  | 114 => ⟨S4x4096x128, .f32⟩
  | 115 => ⟨S4x4096x128, .f32⟩
  | 116 => ⟨S16384x512, .f32⟩
  | 117 => ⟨S16384x512, .bf16⟩
  | 118 => ⟨S16384x128, .f32⟩
  | 119 => ⟨S16384x128, .f32⟩
  | 120 => ⟨S4x4096x2x1x64, .f32⟩
  | 121 => ⟨S4x4096x2x2x64, .f32⟩
  | 122 => ⟨S16384x256, .f32⟩
  | 123 => ⟨S16384x256, .bf16⟩
  | 124 => ⟨S4x4096x2x1x64, .f32⟩
  | 125 => ⟨S4x4096x2x2x64, .f32⟩
  | 126 => ⟨S16384x256, .f32⟩
  | 127 => ⟨S16384x256, .bf16⟩
  | _ => ⟨S4x4096x1024, .f32⟩

abbrev hbmTy0_1 (i : Nat) : BufTy := match i % 128 with
  | 0 => ⟨S16384x128, .f32⟩
  | 1 => ⟨S128x16384, .f32⟩
  | 2 => ⟨S128x16384, .bf16⟩
  | 3 => ⟨S16384x128, .f32⟩
  | 4 => ⟨S128x16384, .f32⟩
  | 5 => ⟨S128x16384, .bf16⟩
  | 6 => ⟨S16384x128, .f32⟩
  | 7 => ⟨S16384x512, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S16384x1024, .f32⟩
  | 17 => ⟨S16384x1024, .bf16⟩
  | 18 => ⟨S4x4096x1024, .f32⟩
  | 19 => ⟨S4x4096x1024, .f32⟩
  | 20 => ⟨S_, .f32⟩
  | 21 => ⟨S4x4096x1024, .f32⟩
  | 22 => ⟨S4x4096x1024, .f32⟩
  | 23 => ⟨S_, .f32⟩
  | 24 => ⟨S4x4096x1024, .f32⟩
  | 25 => ⟨S4x4096x1024, .f32⟩
  | 26 => ⟨S16384x1024, .f32⟩
  | 27 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_c : Ref sig .tc := ⟨.hbm, 105, rfl⟩
abbrev main_call0_v0 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_16 : Ref sig .tc := ⟨.hbm, 138, rfl⟩
abbrev main_v112 : Ref sig .tc := ⟨.hbm, 139, rfl⟩
abbrev main_v113 : Ref sig .tc := ⟨.hbm, 140, rfl⟩
abbrev main_cst_17 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_18 : Ref sig .tc := ⟨.hbm, 148, rfl⟩
abbrev main_v120 : Ref sig .tc := ⟨.hbm, 149, rfl⟩
abbrev main_v121 : Ref sig .tc := ⟨.hbm, 150, rfl⟩
abbrev main_cst_19 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩

abbrev nD : Nat := 1
abbrev τ : Topo := Topo.v7x

variable {F : FTy → Type} [FloatOps F]
-- ==== Merge.lean ====
abbrev S4x4096x1024 : Shape := ⟨3, ![4, 4096, 1024]⟩
abbrev S8x6x1024 : Shape := ⟨3, ![8, 6, 1024]⟩
abbrev S4x4096x2x4x64 : Shape := ⟨5, ![4, 4096, 2, 4, 64]⟩
abbrev S4x4096x24 : Shape := ⟨3, ![4, 4096, 24]⟩
abbrev S4x4096x512 : Shape := ⟨3, ![4, 4096, 512]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S16384x512 : Shape := ⟨2, ![16384, 512]⟩
abbrev S_ : Shape := ⟨0, ![]⟩
abbrev S4x4096x128 : Shape := ⟨3, ![4, 4096, 128]⟩
abbrev S16384x128 : Shape := ⟨2, ![16384, 128]⟩
abbrev S16384x1024 : Shape := ⟨2, ![16384, 1024]⟩
abbrev S8 : Shape := ⟨1, ![8]⟩
abbrev S1x1x8 : Shape := ⟨3, ![1, 1, 8]⟩
abbrev S3 : Shape := ⟨1, ![3]⟩
abbrev S3x1x1 : Shape := ⟨3, ![3, 1, 1]⟩
abbrev S3x1x8 : Shape := ⟨3, ![3, 1, 8]⟩
abbrev S128 : Shape := ⟨1, ![128]⟩
abbrev S1x128x1 : Shape := ⟨3, ![1, 128, 1]⟩
abbrev S3x128x8 : Shape := ⟨3, ![3, 128, 8]⟩
abbrev S3x128x8x1 : Shape := ⟨4, ![3, 128, 8, 1]⟩
abbrev S3x128x8x64 : Shape := ⟨4, ![3, 128, 8, 64]⟩
abbrev S3x128x512 : Shape := ⟨3, ![3, 128, 512]⟩
abbrev S1x512 : Shape := ⟨2, ![1, 512]⟩
abbrev S1x1024 : Shape := ⟨2, ![1, 1024]⟩
abbrev S1024x512 : Shape := ⟨2, ![1024, 512]⟩
abbrev S256x16384 : Shape := ⟨2, ![256, 16384]⟩
abbrev S512x128 : Shape := ⟨2, ![512, 128]⟩
abbrev S1x6x1024 : Shape := ⟨3, ![1, 6, 1024]⟩
abbrev S256x512 : Shape := ⟨2, ![256, 512]⟩
abbrev S6x1024 : Shape := ⟨2, ![6, 1024]⟩
abbrev S1x128x512 : Shape := ⟨3, ![1, 128, 512]⟩
abbrev S128x512 : Shape := ⟨2, ![128, 512]⟩
abbrev S512x1 : Shape := ⟨2, ![512, 1]⟩
abbrev S512x256 : Shape := ⟨2, ![512, 256]⟩

abbrev nBuf : Space → Nat
  | .hbm => 75
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S4x4096x2x4x64, .f32⟩
  | .hbm, ⟨3, _⟩ => ⟨S4x4096x2x4x64, .f32⟩
  | .hbm, ⟨4, _⟩ => ⟨S4x4096x2x4x64, .f32⟩
  | .hbm, ⟨5, _⟩ => ⟨S4x4096x24, .f32⟩
  | .hbm, ⟨6, _⟩ => ⟨S4x4096x512, .f32⟩
  | .hbm, ⟨7, _⟩ => ⟨S4x4096x512, .f32⟩
  | .hbm, ⟨8, _⟩ => ⟨S4x4096x1024, .f32⟩
  | .hbm, ⟨9, _⟩ => ⟨S4x4096x1024, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x1024, .f32⟩
  | .hbm, ⟨14, _⟩ => ⟨S512x1024, .f32⟩
  | .hbm, ⟨15, _⟩ => ⟨S1024x1024, .f32⟩
  | .hbm, ⟨16, _⟩ => ⟨S1024, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S256x1024, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | .hbm, ⟨25, _⟩ => ⟨S16384x512, .f32⟩
  | .hbm, ⟨26, _⟩ => ⟨S16384x512, .bf16⟩
  | .hbm, ⟨27, _⟩ => ⟨S_, .i32⟩
  | .hbm, ⟨28, _⟩ => ⟨S_, .f32⟩
  | .hbm, ⟨29, _⟩ => ⟨S4x4096x128, .f32⟩
  | .hbm, ⟨30, _⟩ => ⟨S16384x128, .f32⟩
  | .hbm, ⟨31, _⟩ => ⟨S16384x512, .f32⟩
  | .hbm, ⟨32, _⟩ => ⟨S16384x512, .f32⟩
  | .hbm, ⟨33, _⟩ => ⟨S16384x1024, .f32⟩
  | .hbm, ⟨34, _⟩ => ⟨S16384x1024, .bf16⟩
  | .hbm, ⟨35, _⟩ => ⟨S16384x1024, .f32⟩
  | .hbm, ⟨36, _⟩ => ⟨S16384x1024, .bf16⟩
  | .hbm, ⟨37, _⟩ => ⟨S16384x1024, .f32⟩
  | .hbm, ⟨38, _⟩ => ⟨S8, .i32⟩
  | .hbm, ⟨39, _⟩ => ⟨S1x1x8, .i32⟩
  | .hbm, ⟨40, _⟩ => ⟨S_, .i32⟩
  | .hbm, ⟨41, _⟩ => ⟨S1x1x8, .i32⟩
  | .hbm, ⟨42, _⟩ => ⟨S1x1x8, .i32⟩
  | .hbm, ⟨43, _⟩ => ⟨S3, .i32⟩
  | .hbm, ⟨44, _⟩ => ⟨S3x1x1, .i32⟩
  | .hbm, ⟨45, _⟩ => ⟨S3x1x8, .i32⟩
  | .hbm, ⟨46, _⟩ => ⟨S3x1x8, .i32⟩
  | .hbm, ⟨47, _⟩ => ⟨S3x1x8, .i32⟩
  | .hbm, ⟨48, _⟩ => ⟨S128, .i32⟩
  | .hbm, ⟨49, _⟩ => ⟨S1x128x1, .i32⟩
  | .hbm, ⟨50, _⟩ => ⟨S3x128x8, .i32⟩
  | .hbm, ⟨51, _⟩ => ⟨S3x128x8, .i32⟩
  | .hbm, ⟨52, _⟩ => ⟨S3x128x8, .i1⟩
  | .hbm, ⟨53, _⟩ => ⟨S3x128x8x1, .i1⟩
  | .hbm, ⟨54, _⟩ => ⟨S3x128x8x64, .i1⟩
  | .hbm, ⟨55, _⟩ => ⟨S3x128x512, .i1⟩
  | .hbm, ⟨56, _⟩ => ⟨S256x1024, .f32⟩
  | .hbm, ⟨57, _⟩ => ⟨S256x1024, .bf16⟩
  | .hbm, ⟨58, _⟩ => ⟨S256x1024, .f32⟩
  | .hbm, ⟨59, _⟩ => ⟨S256x1024, .f32⟩
  | .hbm, ⟨60, _⟩ => ⟨S256x1024, .bf16⟩
  | .hbm, ⟨61, _⟩ => ⟨S3x128x512, .bf16⟩
  | .hbm, ⟨62, _⟩ => ⟨S1x512, .f32⟩
  | .hbm, ⟨63, _⟩ => ⟨S512x512, .bf16⟩
  | .hbm, ⟨64, _⟩ => ⟨S1x512, .f32⟩
  | .hbm, ⟨65, _⟩ => ⟨S512x1024, .bf16⟩
  | .hbm, ⟨66, _⟩ => ⟨S512x1024, .bf16⟩
  | .hbm, ⟨67, _⟩ => ⟨S1024x1024, .bf16⟩
  | .hbm, ⟨68, _⟩ => ⟨S1x1024, .f32⟩
  | .hbm, ⟨69, _⟩ => ⟨S1024x512, .f32⟩
  | .hbm, ⟨70, _⟩ => ⟨S1024x512, .bf16⟩
  | .hbm, ⟨71, _⟩ => ⟨S256x1024, .bf16⟩
  | .hbm, ⟨72, _⟩ => ⟨S16384x1024, .f32⟩
  | .hbm, ⟨73, _⟩ => ⟨S16384x1024, .bf16⟩
  | .hbm, ⟨74, _⟩ => ⟨S256x16384, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x6x1024, .f32⟩
  | .local _ .vmem, ⟨19, _⟩ => ⟨S1x6x1024, .f32⟩
  | .local _ .vmem, ⟨20, _⟩ => ⟨S3x128x512, .bf16⟩
  | .local _ .vmem, ⟨21, _⟩ => ⟨S1x512, .f32⟩
  | .local _ .vmem, ⟨22, _⟩ => ⟨S512x512, .bf16⟩
  | .local _ .vmem, ⟨23, _⟩ => ⟨S1x512, .f32⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S1x1024, .f32⟩
  | .local _ .vmem, ⟨28, _⟩ => ⟨S256x1024, .bf16⟩
  | .local _ .vmem, ⟨29, _⟩ => ⟨S256x1024, .bf16⟩
  | .local _ .vmem, ⟨30, _⟩ => ⟨S1024x512, .bf16⟩
  | .local _ .vmem, ⟨31, _⟩ => ⟨S256x1024, .bf16⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S256x512, .f32⟩
  | .local _ .vmem, ⟨37, _⟩ => ⟨S256x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_call0_v0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev main_v48_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== MergeReferenceIdeal.lean ====
abbrev S4x4096x1024 : Shape := ⟨3, ![4, 4096, 1024]⟩
abbrev S8x6x1024 : Shape := ⟨3, ![8, 6, 1024]⟩
abbrev S4x4096x2x4x64 : Shape := ⟨5, ![4, 4096, 2, 4, 64]⟩
abbrev S4x4096x24 : Shape := ⟨3, ![4, 4096, 24]⟩
abbrev S4x4096x512 : Shape := ⟨3, ![4, 4096, 512]⟩
abbrev S512 : Shape := ⟨1, ![512]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S4x6x1024 : Shape := ⟨3, ![4, 6, 1024]⟩
abbrev S4x6x1x1024 : Shape := ⟨4, ![4, 6, 1, 1024]⟩
abbrev S4x1x1x1024 : Shape := ⟨4, ![4, 1, 1, 1024]⟩
abbrev S4x1x1024 : Shape := ⟨3, ![4, 1, 1024]⟩
abbrev S4x4096x2x4x3 : Shape := ⟨5, ![4, 4096, 2, 4, 3]⟩
abbrev S4x4096x2x4x1 : Shape := ⟨5, ![4, 4096, 2, 4, 1]⟩
abbrev S1x1x512 : Shape := ⟨3, ![1, 1, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x256 : Shape := ⟨2, ![16384, 256]⟩
abbrev S256x16384 : Shape := ⟨2, ![256, 16384]⟩

abbrev nBuf : Space → Nat
  | .hbm => 132
  | .vmem => 0
  | .smem => 0
  | _ => 0

abbrev hbmTy0_0 (i : Nat) : BufTy := match i % 128 with
  | 0 => ⟨S4x4096x1024, .f32⟩
  | 1 => ⟨S8x6x1024, .f32⟩
  | 2 => ⟨S4x4096x2x4x64, .f32⟩
  | 3 => ⟨S4x4096x2x4x64, .f32⟩
  | 4 => ⟨S4x4096x2x4x64, .f32⟩
  | 5 => ⟨S4x4096x24, .f32⟩
  | 6 => ⟨S4x4096x512, .f32⟩
  | 7 => ⟨S4x4096x512, .f32⟩
  | 8 => ⟨S4x4096x1024, .f32⟩
  | 9 => ⟨S4x4096x1024, .f32⟩
  | 10 => ⟨S512, .f32⟩
  | 11 => ⟨S512x512, .f32⟩
  | 12 => ⟨S512, .f32⟩
  | 13 => ⟨S512x1024, .f32⟩
  | 14 => ⟨S512x1024, .f32⟩
  | 15 => ⟨S1024x1024, .f32⟩
  | 16 => ⟨S1024, .f32⟩
  | 17 => ⟨S1024x256, .f32⟩
  | 18 => ⟨S1024x256, .f32⟩
  | 19 => ⟨S1024x256, .f32⟩
  | 20 => ⟨S256x1024, .f32⟩
  | 21 => ⟨S4x6x1024, .f32⟩
  | 22 => ⟨S4x6x1x1024, .f32⟩
  | 23 => ⟨S4x1x1x1024, .f32⟩
  | 24 => ⟨S4x1x1024, .f32⟩
  | 25 => ⟨S4x1x1x1024, .f32⟩
  | 26 => ⟨S4x1x1024, .f32⟩
  | 27 => ⟨S4x1x1x1024, .f32⟩
  | 28 => ⟨S4x1x1024, .f32⟩
  | 29 => ⟨S4x1x1x1024, .f32⟩
  | 30 => ⟨S4x1x1024, .f32⟩
  | 31 => ⟨S4x4096x2x4x3, .f32⟩
  | 32 => ⟨S4x4096x2x4x1, .f32⟩
  | 33 => ⟨S4x4096x2x4x64, .f32⟩
  | 34 => ⟨S4x4096x2x4x64, .f32⟩
  | 35 => ⟨S4x4096x2x4x1, .f32⟩
  | 36 => ⟨S4x4096x2x4x64, .f32⟩
  | 37 => ⟨S4x4096x2x4x64, .f32⟩
  | 38 => ⟨S4x4096x2x4x64, .f32⟩
  | 39 => ⟨S4x4096x2x4x1, .f32⟩
  | 40 => ⟨S4x4096x2x4x64, .f32⟩
  | 41 => ⟨S4x4096x2x4x64, .f32⟩
  | 42 => ⟨S4x4096x2x4x64, .f32⟩
  | 43 => ⟨S4x4096x512, .f32⟩
  | 44 => ⟨S1x1x512, .f32⟩
  | 45 => ⟨S4x4096x512, .f32⟩
  | 46 => ⟨S4x4096x512, .f32⟩
  | 47 => ⟨S4x4096x512, .f32⟩
  | 48 => ⟨S4x4096x512, .f32⟩
  | 49 => ⟨S4x4096x512, .f32⟩
  | 50 => ⟨S_, .f32⟩
  | 51 => ⟨S4x4096x512, .f32⟩
  | 52 => ⟨S4x4096x512, .f32⟩
  | 53 => ⟨S4x4096x512, .f32⟩
  | 54 => ⟨S_, .f32⟩
  | 55 => ⟨S4x4096x512, .f32⟩
  | 56 => ⟨S4x4096x512, .f32⟩
  | 57 => ⟨S4x4096x512, .f32⟩
  | 58 => ⟨S_, .f32⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S4x4096x512, .f32⟩
  | 65 => ⟨S4x4096x512, .f32⟩
  | 66 => ⟨S1x1x512, .f32⟩
  | 67 => ⟨S4x4096x512, .f32⟩
  | 68 => ⟨S4x4096x512, .f32⟩
  | 69 => ⟨S4x4096x512, .f32⟩
  | 70 => ⟨S4x4096x512, .f32⟩
  | 71 => ⟨S_, .f32⟩
  | 72 => ⟨S4x4096x512, .f32⟩
  | 73 => ⟨S4x4096x512, .f32⟩
  | 74 => ⟨S_, .f32⟩
  | 75 => ⟨S4x4096x512, .f32⟩
  | 76 => ⟨S4x4096x512, .f32⟩
  | 77 => ⟨S4x4096x512, .f32⟩
  | 78 => ⟨S4x4096x1024, .f32⟩
  | 79 => ⟨S4x4096x1024, .f32⟩
  | 80 => ⟨S4x4096x1024, .f32⟩
  | 81 => ⟨S4x4096x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S_, .f32⟩
  | 89 => ⟨S4x4096, .f32⟩
  | 90 => ⟨S4x4096x1, .f32⟩
  | 91 => ⟨S_, .f32⟩
  | 92 => ⟨S4x4096x1, .f32⟩
  | 93 => ⟨S4x4096x1, .f32⟩
  | 94 => ⟨S_, .f32⟩
  | 95 => ⟨S4x4096x1, .f32⟩
  | 96 => ⟨S4x4096x1, .f32⟩
  | 97 => ⟨S4x4096x1, .f32⟩
  | 98 => ⟨S4x4096x1024, .f32⟩
  | 99 => ⟨S4x4096x1024, .f32⟩
  | 100 => ⟨S1x1x1024, .f32⟩
  | 101 => ⟨S4x4096x1024, .f32⟩
  | 102 => ⟨S4x4096x1024, .f32⟩
  | 103 => ⟨S_, .f32⟩
  | 104 => ⟨S4x1x1024, .f32⟩
  | 105 => ⟨S4x1x1024, .f32⟩
  | 106 => ⟨S4x4096x1024, .f32⟩
  | 107 => ⟨S4x4096x1024, .f32⟩
  | 108 => ⟨S4x4096x1024, .f32⟩
  | 109 => ⟨S4x4096x1024, .f32⟩
  | 110 => ⟨S16384x1024, .f32⟩
  | 111 => ⟨S16384x256, .f32⟩
  | 112 => ⟨S16384x256, .f32⟩
  | 113 => ⟨S16384x256, .f32⟩
  | 114 => ⟨S_, .f32⟩
  | 115 => ⟨S16384x256, .f32⟩
  | 116 => ⟨S16384x256, .f32⟩
  | 117 => ⟨S_, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x1024, .f32⟩
  | 124 => ⟨S4x4096x1024, .f32⟩
  | 125 => ⟨S4x4096x1024, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S16384x1024, .f32⟩
  | 1 => ⟨S16384x1024, .bf16⟩
  | 2 => ⟨S16384x256, .f32⟩
  | 3 => ⟨S256x16384, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_cst_7 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩

abbrev nD : Nat := 1
abbrev τ : Topo := Topo.v7x

variable {F : FTy → Type} [FloatOps F]
-- ==== Proof.MIdealFrame.lean ====
module

public import proofs.«01_k».proof.Proof.Gen.MergeIdeal.Launch
public import proofs.«01_k».proof.Proof.Gen.MergeIdeal.Skeleton
public import proofs.«01_k».proof.Proof.Gen.MergeIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

/-! The merging call's frame: what it leaves in its results' buffers at each grid point, and the run of the whole
program around it. The generated text, with more room for one proof. -/

namespace Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1500000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).1 9).trans (((dats 0 c).arrAt_in 9 rfl _).trans ((hA c 9).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

abbrev r0_0 : Rect S1x6x1024 := Rect.unit (s := S1x6x1024) ![0, 0, 0] S1x6x1024.size inb_S1x6x1024_S1x6x1024_0_0_0
abbrev r0_1 : Rect S512x128 := Rect.unit (s := S512x128) ![0, 0] S512x128.size inb_S512x128_S512x128_0_0
abbrev r0_2 : Rect S3x128x512 := Rect.unit (s := S3x128x512) ![0, 0, 0] S1x128x512.size inb_S3x128x512_S1x128x512_0_0_0
abbrev r0_3 : Rect S512x512 := Rect.unit (s := S512x512) ![0, 0] S512x512.size inb_S512x512_S512x512_0_0
abbrev r0_4 : Rect S3x128x512 := Rect.unit (s := S3x128x512) ![1, 0, 0] S1x128x512.size inb_S3x128x512_S1x128x512_1_0_0
abbrev r0_5 : Rect S3x128x512 := Rect.unit (s := S3x128x512) ![2, 0, 0] S1x128x512.size inb_S3x128x512_S1x128x512_2_0_0
abbrev r0_6 : Rect S512x1024 := Rect.unit (s := S512x1024) ![0, 0] S512x1024.size inb_S512x1024_S512x1024_0_0
abbrev r0_7 : Rect S1x512 := Rect.unit (s := S1x512) ![0, 0] S1x512.size inb_S1x512_S1x512_0_0
abbrev r0_8 : Rect S1024x1024 := Rect.unit (s := S1024x1024) ![0, 0] S1024x1024.size inb_S1024x1024_S1024x1024_0_0
abbrev r0_9 : Rect S1x1024 := Rect.unit (s := S1x1024) ![0, 0] S1x1024.size inb_S1x1024_S1x1024_0_0
abbrev r0_10 : Rect S256x1024 := Rect.unit (s := S256x1024) ![0, 0] S256x1024.size inb_S256x1024_S256x1024_0_0
abbrev r0_11 : Rect S256x512 := Rect.unit (s := S256x512) ![0, 0] S256x512.size inb_S256x512_S256x512_0_0
abbrev r0_12 : Rect S1024x512 := Rect.unit (s := S1024x512) ![0, 0] S1024x512.size inb_S1024x512_S1024x512_0_0

def k0_pay11 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : FVec F S6x1024 .f32 :=
  k0_pay3 (View.ld x9 r0_0)
def k0_pay12 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : FVec F S512x1024 .f32 :=
  k0_pay5 (View.ld x4 r0_3) (View.ld x11 r0_7) (View.ld x5 r0_3) (View.ld x12 r0_3) (View.ld x13 r0_7) (View.ld x15 r0_6)
def k0_pay13 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : FVec F S512x1024 .f32 :=
  k0_pay6 (k0_pay4 (View.ld x3 r0_1) (View.ld x10 r0_2) (View.ld x0 r0_3) (View.ld x10 r0_4) (View.ld x1 r0_3) (View.ld x10 r0_5) (View.ld x2 r0_3) (View.ld x14 r0_6)) (View.ld x6 r0_6)
def k0_pay14 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : FVec F S512x1024 .bf16 :=
  k0_pay9 (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) (View.ld x7 r0_6) (View.ld x8 r0_6) (View.ld x16 r0_8) (View.ld x17 r0_9)

def out0_22 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : Vec F S512x1024 .f32 :=
  View.canon [⟨r0_6, k0_pay2 (k0_pay11 x0 x1 x2 x3 x4 x5 x6 x7 x8 x9 x10 x11 x12 x13 x14 x15 x16 x17 x18 x19 x20 x21) (k0_pay7 (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) (View.ld x7 r0_6) (View.ld x8 r0_6) (View.ld x16 r0_8)) (k0_pay14 x0 x1 x2 x3 x4 x5 x6 x7 x8 x9 x10 x11 x12 x13 x14 x15 x16 x17 x18 x19 x20 x21) (View.ld x20 r0_12) (View.ld x21 r0_10)⟩]

theorem cover0_22 (p0 : Vec F S512x1024 .f32) (y : S512x1024.Idx) :
    ∃ pc ∈ ([⟨r0_6, p0⟩] : List (View.Piece (Elt F) S512x1024 .f32)), y ∈ pc.1.set :=
  View.cover_of_tiled [⟨r0_6, p0⟩] S512x1024.size (by rfl) y

def out0_23 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : Vec F S512x1024 .bf16 :=
  View.canon [⟨r0_6, k0_pay9 (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) (View.ld x7 r0_6) (View.ld x8 r0_6) (View.ld x16 r0_8) (View.ld x17 r0_9)⟩]

theorem cover0_23 (p0 : Vec F S512x1024 .bf16) (y : S512x1024.Idx) :
    ∃ pc ∈ ([⟨r0_6, p0⟩] : List (View.Piece (Elt F) S512x1024 .bf16)), y ∈ pc.1.set :=
  View.cover_of_tiled [⟨r0_6, p0⟩] S512x1024.size (by rfl) y

def out0_24 (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) : Vec F S256x512 .f32 :=
  View.canon [⟨r0_11, k0_pay1 (k0_pay14 x0 x1 x2 x3 x4 x5 x6 x7 x8 x9 x10 x11 x12 x13 x14 x15 x16 x17 x18 x19 x20 x21) (k0_pay10 (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) (View.ld x7 r0_6) (View.ld x8 r0_6) (View.ld x16 r0_8) (View.ld x17 r0_9)) (View.ld x18 r0_10) (View.ld x18 r0_10) (View.ld x19 r0_10)⟩]

theorem cover0_24 (p0 : Vec F S256x512 .f32) (y : S256x512.Idx) :
    ∃ pc ∈ ([⟨r0_11, p0⟩] : List (View.Piece (Elt F) S256x512 .f32)), y ∈ pc.1.set :=
  View.cover_of_tiled [⟨r0_11, p0⟩] S256x512.size (by rfl) y

set_option maxHeartbeats 1000000 in
theorem sound_kernel (c : Dev nD) (E : Set ℕ) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x128 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .f32) (harg9 : arg9.IsWhole) (arg10 : Memref sig .tc .vmem S1x6x1024 .f32) (harg10 : arg10.IsWhole) (arg11 : Memref sig .tc .vmem S3x128x512 .bf16) (harg11 : arg11.IsWhole) (arg12 : Memref sig .tc .vmem S1x512 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S1024x512 .bf16) (harg21 : arg21.IsWhole) (arg22 : Memref sig .tc .vmem S256x1024 .bf16) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S256x512 .f32) (harg25 : arg25.IsWhole)
    (x0 : Vec F S512x512 .bf16) (x1 : Vec F S512x512 .bf16) (x2 : Vec F S512x512 .bf16) (x3 : Vec F S512x128 .f32) (x4 : Vec F S512x512 .f32) (x5 : Vec F S512x512 .f32) (x6 : Vec F S512x1024 .bf16) (x7 : Vec F S512x1024 .bf16) (x8 : Vec F S512x1024 .f32) (x9 : Vec F S1x6x1024 .f32) (x10 : Vec F S3x128x512 .bf16) (x11 : Vec F S1x512 .f32) (x12 : Vec F S512x512 .bf16) (x13 : Vec F S1x512 .f32) (x14 : Vec F S512x1024 .bf16) (x15 : Vec F S512x1024 .bf16) (x16 : Vec F S1024x1024 .bf16) (x17 : Vec F S1x1024 .f32) (x18 : Vec F S256x1024 .bf16) (x19 : Vec F S256x1024 .bf16) (x20 : Vec F S1024x512 .bf16) (x21 : Vec F S256x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out0_22 x0 x1 x2 x3 x4 x5 x6 x7 x8 x9 x10 x11 x12 x13 x14 x15 x16 x17 x18 x19 x20 x21) ∗ owns (c : Thread nD τ) arg24 fullShare (out0_23 x0 x1 x2 x3 x4 x5 x6 x7 x8 x9 x10 x11 x12 x13 x14 x15 x16 x17 x18 x19 x20 x21) ∗ owns (c : Thread nD τ) arg25 fullShare (out0_24 x0 x1 x2 x3 x4 x5 x6 x7 x8 x9 x10 x11 x12 x13 x14 x15 x16 x17 x18 x19 x20 x21)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_merge_eq_skeleton]; unfold cc0_merge_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.MergeIdeal.Gen

end
-- ==== Proof.MValue.lean ====
module

public import proofs.«01_k».proof.Proof.MIdealFrame
public import Idealize.ShloMosaic.Lib.Pipeline.Value

@[expose] public section

noncomputable section

/-! The merging call's results after its run, block by block. The generated text up to the run. -/

namespace Cert.MergeIdeal.Value

open Cert.MergeIdeal Cert.MergeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  show (cfg0.win 22).cut (grid0.coords t) ((dats m 0 c).after 22 t) = _
  rw [after0_22]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S16384x1024.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  show (cfg0.win 23).cut (grid0.coords t) ((dats m 0 c).after 23 t) = _
  rw [after0_23]

theorem idx_inj23 : ∀ t t' : Fin cfg0.N, win0_23.index t = win0_23.index t' → t = t' :=
  (by decide +kernel : ∀ t t' : Fin grid0.N, win0_23.index t = win0_23.index t' → t = t')

theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

theorem entry23 (c : Dev nD) (i : S16384x1024.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)) := by
  show (cfg0.win 24).cut (grid0.coords t) ((dats m 0 c).after 24 t) = _
  rw [after0_24]

theorem idx_inj24 : ∀ t t' : Fin cfg0.N, win0_24.index t = win0_24.index t' → t = t' :=
  (by decide +kernel : ∀ t t' : Fin grid0.N, win0_24.index t = win0_24.index t' → t = t')

theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

theorem entry24 (c : Dev nD) (i : S256x16384.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

theorem post22 (r : PUnit × MemSt nD τ sig (Elt F)) (h : Pipeline.FramePost cfgs (dats m) 0 (V m) r) (c : Dev nD) :
    r.2.mem ((c : Thread nD τ).loc main_v48_0) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v48_1) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v48_2) = (dats m 0 c).arrAt 24 cfg0.N :=
  (h c).1 24

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 9).trans (((dats m 0 c).arrAt_in 9 rfl _).trans ((A_eq m c 9).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

theorem run_blocks : θ_run defs (onTc (τ := τ) (main (F := F))) ⟨m, fun _ => 0, ρ⟩ fun r => ∀ c : Dev nD,
      r.2.mem ((c : Thread nD τ).loc main_v48_0) = (dats m 0 c).arrAt 22 cfg0.N
      ∧ r.2.mem ((c : Thread nD τ).loc main_v48_1) = (dats m 0 c).arrAt 23 cfg0.N
      ∧ r.2.mem ((c : Thread nD τ).loc main_v48_2) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c⟩)
    (run_main m ρ)

end Cert.MergeIdeal.Value

end
-- ==== Proof.Softmax.lean ====
module

public import Idealize.ShloMosaic.Lib.Pipeline.ValueKit

@[expose] public section

noncomputable section

/-! One query's softmax over a finite set of keys, on extended reals, and the running form of it that a flash kernel
keeps: the largest score so far and a weighted sum of values, taken against that score. -/

namespace Cert.Attn

open Idealize.ShloMosaic

variable {ι : Type} [Fintype ι]

/-- The attention of one query: the values `v` averaged with the weights `e`. -/
def attend (e : ι → ℝ) (v : ι → EReal) : EReal := ∑ k, ((e k / ∑ j, e j : ℝ) : EReal) * v k

/-- A score in base two and the weight it stands for: a hidden key scores `-∞` and weighs nothing. -/
def Scores (s : EReal) (e : ℝ) : Prop := (s = ⊥ ∧ e = 0) ∨ ∃ x : ℝ, s = (x : EReal) ∧ e = Real.rpow 2 x

theorem Scores.ne_top {s : EReal} {e : ℝ} (h : Scores s e) : s ≠ ⊤ := by
  rcases h with ⟨rfl, -⟩ | ⟨x, rfl, -⟩
  · exact bot_ne_top
  · exact EReal.coe_ne_top x

theorem Scores.exp2_sub {s : EReal} {e : ℝ} (h : Scores s e) (m : ℝ) :
    Ideal.exp2 (s - (m : EReal)) = ((e * Real.rpow 2 (-m) : ℝ) : EReal) := by
  rcases h with ⟨rfl, rfl⟩ | ⟨x, rfl, rfl⟩
  · simp
  · rw [← EReal.coe_sub, Ideal.exp2_coe]
    congr 1
    exact Real.rpow_add (by norm_num : (0 : ℝ) < 2) x (-m)

theorem exp2_sub_coe (m n : ℝ) : Ideal.exp2 ((m : EReal) - (n : EReal)) = ((Real.rpow 2 (m - n) : ℝ) : EReal) := by
  rw [← EReal.coe_sub, Ideal.exp2_coe]

/-- A real factor goes into a sum of extended reals when it is not negative. -/
theorem coe_mul_sum {κ : Type} (T : Finset κ) {c : ℝ} (hc : 0 ≤ c) (f : κ → EReal) :
    (c : EReal) * ∑ k ∈ T, f k = ∑ k ∈ T, (c : EReal) * f k := by
  classical
  induction T using Finset.induction_on with
  | empty => simp
  | insert a T ha ih =>
    rw [Finset.sum_insert ha, Finset.sum_insert ha,
      EReal.left_distrib_of_nonneg_of_ne_top (EReal.coe_nonneg.mpr hc) (EReal.coe_ne_top c), ih]

theorem coe_sum {κ : Type} (T : Finset κ) (f : κ → ℝ) : ((∑ k ∈ T, f k : ℝ) : EReal) = ∑ k ∈ T, (f k : EReal) := by
  classical
  induction T using Finset.induction_on with
  | empty => simp
  | insert a T ha ih => rw [Finset.sum_insert ha, Finset.sum_insert ha, EReal.coe_add, ih]

/-- What the running sum `a` of a column is, at running maximum `m`, once the keys in `T` have been seen. -/
def Seen (e : ι → ℝ) (v : ι → EReal) (T : Finset ι) (m : ℝ) (a : EReal) : Prop :=
  a = ∑ k ∈ T, v k * ((e k * Real.rpow 2 (-m) : ℝ) : EReal)

/-- Nothing has been seen at the start. -/
theorem Seen.init (e : ι → ℝ) (v : ι → EReal) (m : ℝ) : Seen e v ∅ m 0 := by simp [Seen]

/-- One tile of keys is taken in: `κ` names its keys, `p k` is key `k`'s probability at the new maximum. -/
theorem Seen.step [DecidableEq ι] {κ : Type} [Fintype κ] (e : ι → ℝ) (v : ι → EReal) {T : Finset ι} {m m' : ℝ}
    {a : EReal} (h : Seen e v T m a) (t : κ ↪ ι) (hd : Disjoint T (Finset.univ.map t)) (s : κ → EReal)
    (hs : ∀ k, Scores (s k) (e (t k))) :
    Seen e v (T ∪ Finset.univ.map t) m'
      (Ideal.exp2 ((m : EReal) - (m' : EReal)) * a + ∑ k, v (t k) * Ideal.exp2 (s k - (m' : EReal))) := by
  unfold Seen at h ⊢
  rw [Finset.sum_union hd, Finset.sum_map, h, exp2_sub_coe,
    coe_mul_sum T (c := Real.rpow 2 (m - m')) (Real.rpow_nonneg (by norm_num) _)]
  congr 1
  · refine Finset.sum_congr rfl fun k _ => ?_
    rw [mul_left_comm, ← EReal.coe_mul]
    have : Real.rpow 2 (-m') = Real.rpow 2 (m - m') * Real.rpow 2 (-m) := by
      have := Real.rpow_add (by norm_num : (0 : ℝ) < 2) (m - m') (-m)
      rw [show m - m' + -m = -m' by ring] at this
      exact this
    rw [this, mul_left_comm]
  · refine Finset.sum_congr rfl fun k _ => ?_
    rw [(hs k).exp2_sub]

/-- The maximum of a column stays a real number. -/
theorem max_real {κ : Type} (T : Finset κ) (m : ℝ) (s : κ → EReal) (hs : ∀ k, s k ≠ ⊤) :
    ∃ m' : ℝ, max (m : EReal) (T.sup s) = (m' : EReal) := by
  have h1 : max (m : EReal) (T.sup s) ≠ ⊤ := by
    have : T.sup s < ⊤ := (Finset.sup_lt_iff bot_lt_top).mpr fun k _ => lt_top_iff_ne_top.mpr (hs k)
    exact (max_lt (EReal.coe_lt_top m) this).ne
  have h2 : max (m : EReal) (T.sup s) ≠ ⊥ := (lt_of_lt_of_le (EReal.bot_lt_coe m) (le_max_left _ _)).ne'
  exact ⟨_, (EReal.coe_toReal h1 h2).symm⟩

/-- The quotient of the running sum by the running sum of the ones is the attention, when every key outside the seen
ones is hidden and some key is not. -/
theorem Seen.finish {e : ι → ℝ} {v : ι → EReal} {T : Finset ι} {m : ℝ} {a l : EReal} (h : Seen e v T m a)
    (hl : Seen e (fun _ => 1) T m l) (he : ∀ k, 0 ≤ e k) (hT : ∀ k, k ∉ T → e k = 0) {k₀ : ι} (h₀ : 0 < e k₀) :
    Ideal.div a l = attend e v := by
  classical
  have hsum : ∑ k ∈ T, e k = ∑ k, e k :=
    Finset.sum_subset (Finset.subset_univ T) fun k _ hk => hT k hk
  have hpos : 0 < ∑ k, e k := Finset.sum_pos' (fun k _ => he k) ⟨k₀, Finset.mem_univ _, h₀⟩
  have hp2 : 0 < Real.rpow 2 (-m) := Real.rpow_pos_of_pos (by norm_num) _
  have hl' : l = (((∑ k, e k) * Real.rpow 2 (-m) : ℝ) : EReal) := by
    rw [hl, ← hsum, Finset.sum_mul, coe_sum]
    exact Finset.sum_congr rfl fun k _ => one_mul _
  rw [hl', Ideal.div_coe (mul_pos hpos hp2).ne', h, mul_comm,
    coe_mul_sum _ (one_div_pos.mpr (mul_pos hpos hp2)).le]
  unfold attend
  rw [← Finset.sum_subset (Finset.subset_univ T) (f := fun k => ((e k / ∑ j, e j : ℝ) : EReal) * v k)]
  · refine Finset.sum_congr rfl fun k _ => ?_
    rw [mul_left_comm, ← EReal.coe_mul, mul_comm]
    congr 2
    field_simp
  · intro k _ hk
    show ((e k / ∑ j, e j : ℝ) : EReal) * v k = 0
    rw [hT k hk, zero_div, EReal.coe_zero, zero_mul]

/-- A score in base `e` and the weight it stands for. -/
def ScoresE (s : EReal) (e : ℝ) : Prop := (s = ⊥ ∧ e = 0) ∨ ∃ x : ℝ, s = (x : EReal) ∧ e = Real.exp x

theorem ScoresE.ne_top {s : EReal} {e : ℝ} (h : ScoresE s e) : s ≠ ⊤ := by
  rcases h with ⟨rfl, -⟩ | ⟨x, rfl, -⟩
  · exact bot_ne_top
  · exact EReal.coe_ne_top x

theorem ScoresE.exp_sub {s : EReal} {e : ℝ} (h : ScoresE s e) (m : ℝ) :
    Ideal.exp (s - (m : EReal)) = ((e * Real.exp (-m) : ℝ) : EReal) := by
  rcases h with ⟨rfl, rfl⟩ | ⟨x, rfl, rfl⟩
  · simp
  · rw [← EReal.coe_sub, Ideal.exp_coe]
    congr 1
    exact Real.exp_add x (-m)

/-- The softmax written whole: scores less their maximum, exponentials over their sum, hidden keys set to zero by the
mask `b`, and the values summed with the result. -/
theorem softmax_attend (e : ι → ℝ) (v s b : ι → EReal) (M : EReal) (hM : M = Finset.univ.sup s)
    (hs : ∀ k, ScoresE (s k) (e k)) (hb : ∀ k, b k = 1 ∨ (b k = 0 ∧ e k = 0)) {k₀ : ι} (h₀ : 0 < e k₀) :
    ∑ k, v k * (Ideal.div (Ideal.exp (s k - M)) (∑ j, Ideal.exp (s j - M)) * b k) = attend e v := by
  have hnn : ∀ k, 0 ≤ e k := fun k => by
    rcases hs k with ⟨-, h⟩ | ⟨x, -, h⟩
    · exact h.ge
    · exact h ▸ (Real.exp_pos x).le
  have hM1 : M ≠ ⊤ := by
    rw [hM]
    exact ((Finset.sup_lt_iff bot_lt_top).mpr fun k _ => lt_top_iff_ne_top.mpr (hs k).ne_top).ne
  have hM2 : M ≠ ⊥ := by
    rcases hs k₀ with ⟨-, h⟩ | ⟨x, h, -⟩
    · exact absurd h h₀.ne'
    · have : (x : EReal) ≤ M := by rw [hM, ← h]; exact Finset.le_sup (Finset.mem_univ k₀)
      exact (lt_of_lt_of_le (EReal.bot_lt_coe x) this).ne'
  obtain ⟨r, rfl⟩ : ∃ r : ℝ, M = r := ⟨_, (EReal.coe_toReal hM1 hM2).symm⟩
  have hpos : 0 < ∑ k, e k := Finset.sum_pos' (fun k _ => hnn k) ⟨k₀, Finset.mem_univ _, h₀⟩
  have hsum : ∑ j, Ideal.exp (s j - (r : EReal)) = (((∑ j, e j) * Real.exp (-r) : ℝ) : EReal) := by
    rw [Finset.sum_mul, coe_sum]
    exact Finset.sum_congr rfl fun k _ => (hs k).exp_sub r
  unfold attend
  refine Finset.sum_congr rfl fun k _ => ?_
  rw [hsum, (hs k).exp_sub, Ideal.div_coe (mul_pos hpos (Real.exp_pos _)).ne', ← EReal.coe_mul, mul_comm]
  have hq : e k * Real.exp (-r) * (1 / ((∑ j, e j) * Real.exp (-r))) = e k / ∑ j, e j := by
    have := Real.exp_pos (-r)
    field_simp
  rw [hq]
  rcases hb k with h | ⟨h, h'⟩
  · rw [h, mul_one]
  · rw [h, h', zero_div, EReal.coe_zero, mul_zero]

end Cert.Attn

end
-- ==== Proof.Tile.lean ====
module

public import proofs.«01_k».proof.Proof.Gen.KernelIdeal.Skeleton
public import proofs.«01_k».proof.Proof.Softmax
public import Idealize.ShloMosaic.Lib.WordCmp

@[expose] public section

set_option maxRecDepth 16384

noncomputable section

/-! What the kernel does with one tile of 512 keys, as functions of vectors, and what these functions are at one index. -/

namespace Cert.KernelIdeal.Tile

open Idealize.ShloMosaic Idealize.ShloMosaic.TcCoe Idealize.SL.Sem
open Cert.KernelIdeal Cert.KernelIdeal.Gen

section General
variable {F : FTy → Type} [FloatOps F] [Named F]

/-- The scores of a tile: keys times queries, plus the bias of each (key, query) pair, the same for the four heads. -/
def scores (K : FVec F S512x128 .bf16) (Q : FVec F S2048x128 .bf16) (B : FVec F S512x512 .f32) : FVec F S512x2048 .f32 :=
  addf (matmul dot_S512x128_S2048x128_S512x2048_1_1_0_0_n_n none K Q (constant S512x2048 .f32 0x00000000#32))
    (concatenate S512x2048 1 [⟨S512x512, B⟩, ⟨S512x512, B⟩, ⟨S512x512, B⟩, ⟨S512x512, B⟩]
      concatenates_S512x512_S512x512_S512x512_S512x512_S512x2048_d1)

/-- The new running maximum of every column. -/
def colMax (s : FVec F S512x2048 .f32) (m : FVec F S1x2048 .f32) : FVec F S1x2048 .f32 :=
  maximumf m (shapeCast S1x2048 (multiReduction .maximumf [0] S2048 s 0xFF800000#32 reduces_S512x2048_S2048 (.inl rfl) rfl)
    shapeCasts_S2048_S1x2048)

/-- The running maximum as the scratch buffer holds it. -/
def newM (s : FVec F S512x2048 .f32) (m : FVec F S1x1x2048 .f32) : FVec F S1x1x2048 .f32 :=
  shapeCast S1x1x2048 (colMax s (shapeCast S1x2048 m shapeCasts_S1x1x2048_S1x2048)) shapeCasts_S1x2048_S1x1x2048

/-- The new running sums as the scratch buffer holds them: rows 0 to 63 weigh the values, rows 64 to 79 count ones. -/
def newA (s : FVec F S512x2048 .f32) (V : FVec F S64x512 .bf16) (m : FVec F S1x1x2048 .f32) (a : FVec F S1x80x2048 .f32) :
    FVec F S1x80x2048 .f32 :=
  shapeCast S1x80x2048
    (addf
      (mulf
        (broadcastTo S80x2048
          (exp2 (subf (shapeCast S1x2048 m shapeCasts_S1x1x2048_S1x2048)
            (colMax s (shapeCast S1x2048 m shapeCasts_S1x1x2048_S1x2048)))) broadcasts_S1x2048_S80x2048)
        (shapeCast S80x2048 a shapeCasts_S1x80x2048_S80x2048))
      (matmul dot_S80x512_S512x2048_S80x2048_1_0_0_1_n_n none
        (concatenate S80x512 0 [⟨S64x512, V⟩, ⟨S16x512, broadcast S16x512 (FloatOps.ofBits .bf16 0x3F80#16 : F .bf16)⟩]
          concatenates_S64x512_S16x512_S80x512_d0)
        (truncf .bf16
          (exp2 (subf s (broadcastTo S512x2048 (colMax s (shapeCast S1x2048 m shapeCasts_S1x1x2048_S1x2048))
            broadcasts_S1x2048_S512x2048))) bitsLt_bf16_f32)
        (constant S80x2048 .f32 0x00000000#32)))
    shapeCasts_S80x2048_S1x80x2048

end General

theorem ofBits_neg_inf : Ideal.ofBits FTy.f32 4286578688#32 = ⊥ := by
  simp [Ideal.ofBits, Ideal.ieee]

theorem scores_apply (K : FVec Ideal S512x128 .bf16) (Q : FVec Ideal S2048x128 .bf16) (B : FVec Ideal S512x512 .f32)
    (k : Fin 512) (c : Fin 2048) :
    scores K Q B (ix2 k c)
      = (∑ j : Fin 128, K (ix2 k j) * Q (ix2 c j)) + B (ix2 k ⟨c.val % 512, Nat.mod_lt _ (by decide)⟩) := by
  unfold scores
  pointwise
  congr 1
  have hc := c.isLt
  split_ifs <;> (congr 2; apply Fin.ext; show _ = c.val % 512; simp only; omega)

theorem newM_apply (s : FVec Ideal S512x2048 .f32) (m : FVec Ideal S1x1x2048 .f32) (c : Fin 2048) :
    newM s m (ix3 0 0 c) = max (m (ix3 0 0 c)) (Finset.univ.sup fun k : Fin 512 => s (ix2 k c)) := by
  unfold newM colMax
  pointwise
  rw [ofBits_neg_inf]
  rfl

theorem newA_apply (s : FVec Ideal S512x2048 .f32) (V : FVec Ideal S64x512 .bf16) (m : FVec Ideal S1x1x2048 .f32)
    (a : FVec Ideal S1x80x2048 .f32) (d : Fin 80) (c : Fin 2048) :
    newA s V m a (ix3 0 d c)
      = Ideal.exp2 (m (ix3 0 0 c) - newM s m (ix3 0 0 c)) * a (ix3 0 d c)
        + ∑ k : Fin 512, (if h : d.val < 64 then V (ix2 ⟨d.val, h⟩ k) else 1)
            * Ideal.exp2 (s (ix2 k c) - newM s m (ix3 0 0 c)) := by
  unfold newA newM
  generalize colMax s (shapeCast S1x2048 m shapeCasts_S1x1x2048_S1x2048) = cm
  pointwise
  rfl

theorem select_ofBool {α : Type} (p : Prop) [Decidable p] (a b : α) :
    Scalar.select (BitVec.ofBool (decide p)) a b = if p then a else b := by
  by_cases h : p <;> simp [h, Scalar.select]

/-- Four blocks of 512 rows set one below the other. -/
theorem rows4_apply (A B C D : FVec Ideal S512x128 .bf16) (c : Fin 2048) (j : Fin 128) :
    concatenate S2048x128 0 [⟨S512x128, A⟩, ⟨S512x128, B⟩, ⟨S512x128, C⟩, ⟨S512x128, D⟩]
        concatenates_S512x128_S512x128_S512x128_S512x128_S2048x128_d0 (ix2 c j)
      = (if c.val / 512 = 0 then A else if c.val / 512 = 1 then B else if c.val / 512 = 2 then C else D)
          (ix2 ⟨c.val % 512, Nat.mod_lt _ (by decide)⟩ j) := by
  have hc := c.isLt
  have h4 : c.val / 512 = 0 ∨ c.val / 512 = 1 ∨ c.val / 512 = 2 ∨ c.val / 512 = 3 := by omega
  have key : ∀ (Z : FVec Idealize.ShloMosaic.Ideal S512x128 .bf16) (n : ℕ) (hn : n < 512), n = c.val % 512 →
      Z (ix2 ⟨n, hn⟩ j) = Z (ix2 ⟨c.val % 512, by omega⟩ j) := by
    intro Z n hn e; subst e; rfl
  rcases h4 with h | h | h | h
  · rw [if_pos h]; pointwise
    rw [dif_pos (by omega)]
    exact key A _ _ (by omega)
  · rw [if_neg (by omega), if_pos h]; pointwise
    rw [dif_neg (by omega), dif_pos (by omega)]
    exact key B _ _ (by omega)
  · rw [if_neg (by omega), if_neg (by omega), if_pos h]; pointwise
    rw [dif_neg (by omega), dif_neg (by omega), dif_pos (by omega)]
    exact key C _ _ (by omega)
  · rw [if_neg (by omega), if_neg (by omega), if_neg (by omega)]; pointwise
    rw [dif_neg (by omega), dif_neg (by omega), dif_neg (by omega)]
    exact key D _ _ (by omega)

/-- A query block with the lanes of one half kept and the others zeroed. -/
theorem half_apply (x : FVec Ideal S512x128 .bf16) (i : Fin 512) (j : Fin 128) :
    (select (cmpi .slt (iota .tc S512x128 32 [1] iota_S512x128_d1_w32) (broadcast S512x128 64#32)) x
        (broadcast S512x128 (Scalar.ofBits .bf16 0x0000#16 : Ideal .bf16)) (ix2 i j) = if j.val < 64 then x (ix2 i j) else 0)
      ∧ (select (cmpi .slt (iota .tc S512x128 32 [1] iota_S512x128_d1_w32) (broadcast S512x128 64#32))
        (broadcast S512x128 (Scalar.ofBits .bf16 0x0000#16 : Ideal .bf16)) x (ix2 i j) = if j.val < 64 then 0 else x (ix2 i j)) := by
  have hj := j.isLt
  have e : IntOp.cmpi .slt (BitVec.ofNat 32 j.val) 64#32 = BitVec.ofBool (decide (j.val < 64)) :=
    WordCmp.cmpi_slt_ofNat (by omega) (by decide)
  constructor
  · pointwise
    rw [e, select_ofBool]
  · pointwise
    rw [e, select_ofBool]

/-- The queries of a group: per column `c` the head `c / 512` of the block row `c % 512`, its 64 lanes placed in the
half of the 128 lanes that the head's parity names, zeros in the other half. -/
theorem queries_apply (x y : FVec Ideal S512x128 .bf16) (c : Fin 2048) (j : Fin 128) :
    k0_pay64 x y (ix2 c j)
      = if (j.val < 64 ↔ c.val / 512 % 2 = 0) then
          (if c.val < 1024 then x else y) (ix2 ⟨c.val % 512, Nat.mod_lt _ (by decide)⟩ j) else 0 := by
  unfold k0_pay64
  rw [shapeCast_id x, shapeCast_id y, rows4_apply]
  have hc := c.isLt
  have h4 : c.val / 512 = 0 ∨ c.val / 512 = 1 ∨ c.val / 512 = 2 ∨ c.val / 512 = 3 := by omega
  rcases h4 with h | h | h | h
  · rw [if_pos h, (half_apply x _ j).1, if_pos (show c.val < 1024 by omega)]
    simp [h]
  · rw [if_neg (by omega), if_pos h, (half_apply x _ j).2, if_pos (show c.val < 1024 by omega)]
    by_cases h64 : j.val < 64 <;> simp [h, h64]
  · rw [if_neg (by omega), if_neg (by omega), if_pos h, (half_apply y _ j).1, if_neg (show ¬ c.val < 1024 by omega)]
    simp [h]
  · rw [if_neg (by omega), if_neg (by omega), if_neg (by omega), (half_apply y _ j).2, if_neg (show ¬ c.val < 1024 by omega)]
    by_cases h64 : j.val < 64 <;> simp [h, h64]

theorem mask_bot : Named.named (F := Ideal) κ "mask" (φ := .f32) 0xF149F2CA#32 = ⊥ := rfl

theorem causal_apply (k i : Fin 512) : k0_pay62 (F := Ideal) (ix2 k i) = if k.val ≤ i.val then 0 else ⊥ := by
  unfold k0_pay62
  pointwise
  rw [WordCmp.cmpi_sle_ofNat (by omega) (by omega), select_ofBool]
  rfl

theorem far_apply (k i : Fin 512) : k0_pay63 (F := Ideal) (ix2 k i) = if i.val < k.val then 0 else ⊥ := by
  unfold k0_pay63
  pointwise
  rw [WordCmp.cmpi_slt_ofNat (by omega) (by omega), select_ofBool]
  rfl

theorem diag_apply (x y : BitVec 32) (k i : Fin 512) (h : Scalar.subi (Scalar.muli x 512#32) (Scalar.muli y 512#32) = 0#32) :
    k0_pay74 (F := Ideal) x y (ix2 k i) = if k.val ≤ i.val then 0 else ⊥ := by
  unfold k0_pay74
  pointwise
  rw [h, show IntOp.addi (BitVec.ofNat 32 i.val) 0#32 = BitVec.ofNat 32 i.val from BitVec.add_zero _,
    WordCmp.cmpi_sle_ofNat (by omega) (by omega), select_ofBool]
  rfl

end Cert.KernelIdeal.Tile

end
-- ==== Proof.State.lean ====
module

public import proofs.«01_k».proof.Proof.Tile

@[expose] public section

set_option maxRecDepth 16384

noncomputable section

/-! The two scratch buffers between tiles: per column a running maximum and 80 running sums, and what one tile does to them. -/

namespace Cert.KernelIdeal.State

open Idealize.ShloMosaic Idealize.ShloMosaic.TcCoe Idealize.SL.Sem
open Cert.KernelIdeal Cert.KernelIdeal.Gen Cert.KernelIdeal.Tile Cert.Attn

/-- The `k`-th key of tile `n`. -/
def keyOf (n : Fin 8) : Fin 512 ↪ Fin 4096 :=
  ⟨fun k => ⟨512 * n.val + k.val, by omega⟩, fun a b h => by
    have := congrArg Fin.val h; simp only at this; exact Fin.ext (by omega)⟩

theorem keyOf_val (n : Fin 8) (k : Fin 512) : (keyOf n k).val = 512 * n.val + k.val := rfl

/-- The keys of the tiles before tile `n`. -/
def before (n : ℕ) : Finset (Fin 4096) := Finset.univ.filter fun k => k.val < 512 * n

theorem before_zero : before 0 = ∅ := by
  simp [before]

theorem before_succ (n : Fin 8) : before n.val ∪ Finset.univ.map (keyOf n) = before (n.val + 1) := by
  ext x
  simp only [before, Finset.mem_union, Finset.mem_filter, Finset.mem_univ, true_and, Finset.mem_map]
  constructor
  · rintro (h | ⟨k, rfl⟩)
    · omega
    · rw [keyOf_val]; omega
  · intro h
    by_cases hx : x.val < 512 * n.val
    · exact Or.inl hx
    · exact Or.inr ⟨⟨x.val - 512 * n.val, by omega⟩, Fin.ext (by rw [keyOf_val]; simp only; omega)⟩

theorem before_disjoint (n : Fin 8) : Disjoint (before n.val) (Finset.univ.map (keyOf n)) := by
  rw [Finset.disjoint_left]
  intro x hx hx'
  simp only [before, Finset.mem_filter, Finset.mem_univ, true_and, Finset.mem_map] at hx hx'
  obtain ⟨k, rfl⟩ := hx'
  rw [keyOf_val] at hx; omega

theorem tile_disjoint (n n' : Fin 8) (h : n ≠ n') : Disjoint (Finset.univ.map (keyOf n)) (Finset.univ.map (keyOf n')) := by
  rw [Finset.disjoint_left]
  intro x hx hx'
  simp only [Finset.mem_univ, true_and, Finset.mem_map] at hx hx'
  obtain ⟨k, rfl⟩ := hx
  obtain ⟨k', e⟩ := hx'
  have := congrArg Fin.val e
  rw [keyOf_val, keyOf_val] at this
  exact h (Fin.ext (by omega))

/-- A column after the keys `T`: its maximum is a real number, and each of its sums is the weighted sum over `T` at it. -/
def Col (e : Fin 4096 → ℝ) (v : Fin 80 → Fin 4096 → EReal) (T : Finset (Fin 4096)) (m : EReal) (a : Fin 80 → EReal) : Prop :=
  ∃ r : ℝ, m = (r : EReal) ∧ ∀ d, Seen e (v d) T r (a d)

theorem Col.init (e : Fin 4096 → ℝ) (v : Fin 80 → Fin 4096 → EReal) {m : EReal} {a : Fin 80 → EReal} (r : ℝ) (hm : m = (r : EReal))
    (ha : ∀ d, a d = 0) : Col e v ∅ m a :=
  ⟨r, hm, fun d => by rw [ha d]; exact Seen.init e (v d) r⟩

/-- One tile: the new maximum and sums are those of the keys seen so far together with the tile's. -/
theorem Col.step {e : Fin 4096 → ℝ} {v : Fin 80 → Fin 4096 → EReal} {T : Finset (Fin 4096)}
    (s : FVec Ideal S512x2048 .f32) (V : FVec Ideal S64x512 .bf16) (m : FVec Ideal S1x1x2048 .f32) (a : FVec Ideal S1x80x2048 .f32)
    (c : Fin 2048) (n : Fin 8) (h : Col e v T (m (ix3 0 0 c)) (fun d => a (ix3 0 d c)))
    (hd : Disjoint T (Finset.univ.map (keyOf n)))
    (hs : ∀ k, Scores (s (ix2 k c)) (e (keyOf n k)))
    (hv : ∀ (d : Fin 80) k, v d (keyOf n k) = if h : d.val < 64 then V (ix2 ⟨d.val, h⟩ k) else 1) :
    Col e v (T ∪ Finset.univ.map (keyOf n)) (newM s m (ix3 0 0 c)) (fun d => newA s V m a (ix3 0 d c)) := by
  obtain ⟨r, hr, hS⟩ := h
  obtain ⟨r', hr'⟩ := max_real Finset.univ r (fun k : Fin 512 => s (ix2 k c)) fun k => (hs k).ne_top
  have hM : newM s m (ix3 0 0 c) = (r' : EReal) := by rw [newM_apply, hr]; exact hr'
  refine ⟨r', hM, fun d => ?_⟩
  have := Seen.step (m' := r') e (v d) (hS d) (keyOf n) hd (fun k => s (ix2 k c)) hs
  simp only [newA_apply, hM, hr, ← hv]
  exact this

/-! What the two buffers hold after a list of writes. -/

section Pieces
variable {Val : EltTy → Type} [∀ e, Nonempty (Val e)] {E : EltTy} {R : ℕ}

/-- Group `g` of a three-dimensional buffer as a rectangle. -/
theorem group_hit {R : ℕ} {g : Fin 2} {off : Fin 3 → ℕ} (ho : off = ![g.val, 0, 0])
    (inb : ∀ a, off a + (⟨3, ![1, R, 2048]⟩ : Shape).size a ≤ (⟨3, ![2, R, 2048]⟩ : Shape).size a)
    (w : (⟨3, ![1, R, 2048]⟩ : Shape).Idx → Val E)
    (L : List (View.Piece Val (⟨3, ![2, R, 2048]⟩ : Shape) E)) (d : Fin R) (c : Fin 2048) :
    View.canon (⟨Rect.unit (s := (⟨3, ![2, R, 2048]⟩ : Shape)) off (⟨3, ![1, R, 2048]⟩ : Shape).size inb, w⟩ :: L) (ix3 g d c) = w (ix3 0 d c) := by
  subst ho
  have : ix3 g d c = (Rect.unit (s := (⟨3, ![2, R, 2048]⟩ : Shape)) ![g.val, 0, 0] (⟨3, ![1, R, 2048]⟩ : Shape).size inb).emb (ix3 0 d c) := by
    funext a
    apply Fin.ext
    fin_cases a <;> simp [Rect.emb, LoadRect.idx, Rect.unit, ix3]
  rw [this, View.canon_cons_emb]

theorem group_miss {R : ℕ} {g g' : Fin 2} (hg : g' ≠ g) {off : Fin 3 → ℕ} (ho : off = ![g.val, 0, 0])
    (inb : ∀ a, off a + (⟨3, ![1, R, 2048]⟩ : Shape).size a ≤ (⟨3, ![2, R, 2048]⟩ : Shape).size a)
    (w : (⟨3, ![1, R, 2048]⟩ : Shape).Idx → Val E)
    (L : List (View.Piece Val (⟨3, ![2, R, 2048]⟩ : Shape) E)) (d : Fin R) (c : Fin 2048) :
    View.canon (⟨Rect.unit (s := (⟨3, ![2, R, 2048]⟩ : Shape)) off (⟨3, ![1, R, 2048]⟩ : Shape).size inb, w⟩ :: L) (ix3 g' d c) = View.canon L (ix3 g' d c) := by
  subst ho
  apply View.canon_cons_of_not_mem
  intro h
  obtain ⟨x, hx⟩ := (Rect.unit (s := (⟨3, ![2, R, 2048]⟩ : Shape)) ![g.val, 0, 0] (⟨3, ![1, R, 2048]⟩ : Shape).size inb).exists_idx_of_mem h
  have h0 := congrArg (fun y => (y 0).val) hx
  have hx0 : (x 0).val < 1 := (x 0).isLt
  change g.val + 1 * (x 0).val = g'.val at h0
  exact hg (Fin.ext (by omega))

/-- The whole buffer written at once. -/
theorem whole_hit {R : ℕ} {off : Fin 3 → ℕ} (ho : off = ![0, 0, 0])
    (inb : ∀ a, off a + (⟨3, ![2, R, 2048]⟩ : Shape).size a ≤ (⟨3, ![2, R, 2048]⟩ : Shape).size a)
    (w : (⟨3, ![2, R, 2048]⟩ : Shape).Idx → Val E)
    (L : List (View.Piece Val (⟨3, ![2, R, 2048]⟩ : Shape) E)) (y : (⟨3, ![2, R, 2048]⟩ : Shape).Idx) :
    View.canon (⟨Rect.unit off (⟨3, ![2, R, 2048]⟩ : Shape).size inb, w⟩ :: L) y = w y := by
  subst ho
  have : y = (Rect.unit (s := (⟨3, ![2, R, 2048]⟩ : Shape)) ![0, 0, 0] (⟨3, ![2, R, 2048]⟩ : Shape).size inb).emb y := by
    funext a
    apply Fin.ext
    fin_cases a <;> simp [Rect.emb, LoadRect.idx, Rect.unit]
  exact (congrArg _ this).trans
    (View.canon_cons_emb (Rect.unit (s := (⟨3, ![2, R, 2048]⟩ : Shape)) ![0, 0, 0] (⟨3, ![2, R, 2048]⟩ : Shape).size inb) w L y)

/-- What a load of some rows of group `g` finds. -/
theorem group_read {R n o : ℕ} {g : Fin 2} {off : Fin 3 → ℕ} (ho : off = ![g.val, o, 0])
    (inb : ∀ a, off a + (⟨3, ![1, n, 2048]⟩ : Shape).size a ≤ (⟨3, ![2, R, 2048]⟩ : Shape).size a)
    (X : (⟨3, ![2, R, 2048]⟩ : Shape).Idx → Val E) (d : Fin n) (c : Fin 2048) (hd : o + d.val < R) :
    X ((Rect.unit (s := (⟨3, ![2, R, 2048]⟩ : Shape)) off (⟨3, ![1, n, 2048]⟩ : Shape).size inb).toLoadRect.idx (ix3 0 d c))
      = X (ix3 g ⟨o + d.val, hd⟩ c) := by
  subst ho
  congr 1
  funext a
  apply Fin.ext
  fin_cases a <;> simp [Rect.toLoadRect, LoadRect.idx, Rect.unit, ix3]

end Pieces

end Cert.KernelIdeal.State

end
-- ==== Proof.Reads.lean ====
module

public import proofs.«01_k».proof.Proof.State

@[expose] public section

set_option maxRecDepth 16384

noncomputable section

/-! What the kernel's loads of its input blocks read, the bias of a selected tile, and the quotient it stores. -/

namespace Cert.KernelIdeal.Reads

open Idealize.ShloMosaic Idealize.ShloMosaic.TcCoe Idealize.SL.Sem
open Cert.KernelIdeal Cert.KernelIdeal.Gen Cert.KernelIdeal.Tile Cert.KernelIdeal.State

theorem cast_keys (X : FVec Ideal S1x512x128 .bf16) (k : Fin 512) (j : Fin 128) :
    shapeCast S512x128 X shapeCasts_S1x512x128_S512x128 (ix2 k j) = X (ix3 0 k j) := by
  pointwise

theorem cast_values (X : FVec Ideal S64x512 .bf16) : shapeCast S64x512 X shapeCasts_S64x512_S64x512 = X := shapeCast_id X _

theorem cast_row (X : FVec Ideal S1x512 .f32) : shapeCast S1x512 X shapeCasts_S1x512_S1x512 = X := shapeCast_id X _

theorem repeat_row (X : FVec Ideal S1x512 .f32) (k : Fin 64) (r : Fin 512) :
    broadcastTo S64x512 X broadcasts_S1x512_S64x512 (ix2 k r) = X (ix2 0 r) := by
  pointwise

/-- A tile of keys: 512 rows from row `o`, 128 lanes from lane `p`. -/
theorem keys_read (M : Memref sig .tc .vmem S1x4096x256 .bf16) (hM : M.IsWhole) (x : S1x4096x256.Idx → Ideal .bf16)
    {off : Fin 3 → ℕ} {o p : ℕ} (ho : off = ![0, o, p]) (inb : ∀ a, off a + S1x512x128.size a ≤ S1x4096x256.size a)
    (k : Fin 512) (j : Fin 128) (h1 : o + k.val < 4096) (h2 : p + j.val < 256) :
    shapeCast S512x128 (View.readAt (Elt Ideal) M.view (Rect.unit (s := S1x4096x256) off S1x512x128.size inb).toLoadRect (hM.unread x))
        shapeCasts_S1x512x128_S512x128 (ix2 k j)
      = x (ix3 0 ⟨o + k.val, h1⟩ ⟨p + j.val, h2⟩) := by
  subst ho
  rw [View.readAt_eq_ld, hM.read_unread]
  refine (cast_keys _ k j).trans ?_
  show x _ = _
  congr 1
  funext a
  apply Fin.ext
  fin_cases a <;> simp [Rect.toLoadRect, LoadRect.idx, Rect.unit, ix3]

/-- A tile of values: 64 rows from row `p`, 512 columns from column `o`. -/
theorem values_read (M : Memref sig .tc .vmem S128x4096 .bf16) (hM : M.IsWhole) (x : S128x4096.Idx → Ideal .bf16)
    {off : Fin 2 → ℕ} {o p : ℕ} (ho : off = ![p, o]) (inb : ∀ a, off a + S64x512.size a ≤ S128x4096.size a)
    (d : Fin 64) (k : Fin 512) (h1 : o + k.val < 4096) (h2 : p + d.val < 128) :
    shapeCast S64x512 (View.readAt (Elt Ideal) M.view (Rect.unit (s := S128x4096) off S64x512.size inb).toLoadRect (hM.unread x))
        shapeCasts_S64x512_S64x512 (ix2 d k)
      = x (ix2 ⟨p + d.val, h2⟩ ⟨o + k.val, h1⟩) := by
  subst ho
  rw [View.readAt_eq_ld, hM.read_unread]
  refine (congrFun (cast_values _) _).trans ?_
  show x _ = _
  congr 1
  funext a
  apply Fin.ext
  fin_cases a <;> simp [Rect.toLoadRect, LoadRect.idx, Rect.unit, ix2]

/-- Two heads' queries: all 512 rows, 128 lanes from lane `p`. -/
theorem queries_read (M : Memref sig .tc .vmem S512x512 .bf16) (hM : M.IsWhole) (x : S512x512.Idx → Ideal .bf16)
    {off : Fin 2 → ℕ} {p : ℕ} (ho : off = ![0, p]) (inb : ∀ a, off a + S512x128.size a ≤ S512x512.size a)
    (r : Fin 512) (j : Fin 128) (h2 : p + j.val < 512) :
    View.readAt (Elt Ideal) M.view (Rect.unit (s := S512x512) off S512x128.size inb).toLoadRect (hM.unread x) (ix2 r j)
      = x (ix2 r ⟨p + j.val, h2⟩) := by
  subst ho
  rw [View.readAt_eq_ld, hM.read_unread]
  show x _ = _
  congr 1
  funext a
  apply Fin.ext
  fin_cases a <;> simp [Rect.toLoadRect, LoadRect.idx, Rect.unit, ix2]

/-- One row of the bias, read and repeated 64 times. -/
def row (M : Memref sig .tc .vmem S128x512 .f32) (hM : M.IsWhole) (x : S128x512.Idx → Ideal .f32) (off : Fin 2 → ℕ)
    (inb : ∀ a, off a + S1x512.size a ≤ S128x512.size a) : FVec Ideal S64x512 .f32 :=
  broadcastTo S64x512 (shapeCast S1x512 (shapeCast S1x512
    (View.readAt (Elt Ideal) M.view (Rect.unit (s := S128x512) off S1x512.size inb).toLoadRect (hM.unread x))
    shapeCasts_S1x512_S1x512) shapeCasts_S1x512_S1x512) broadcasts_S1x512_S64x512

theorem row_apply (M : Memref sig .tc .vmem S128x512 .f32) (hM : M.IsWhole) (x : S128x512.Idx → Ideal .f32) (off : Fin 2 → ℕ)
    (inb : ∀ a, off a + S1x512.size a ≤ S128x512.size a) {o : ℕ} (ho : off = ![o, 0]) (h : o < 128) (k : Fin 64) (r : Fin 512) :
    row M hM x off inb (ix2 k r) = x (ix2 ⟨o, h⟩ r) := by
  subst ho
  unfold row
  rw [View.readAt_eq_ld, hM.read_unread]
  refine (repeat_row _ k r).trans ?_
  rw [cast_row]
  refine (congrFun (cast_row _) _).trans ?_
  show x _ = _
  congr 1
  funext a
  apply Fin.ext
  fin_cases a <;> simp [Rect.toLoadRect, LoadRect.idx, Rect.unit, ix2]

/-- Eight such rows set one below the other. -/
def rows8 (R : Fin 8 → FVec Ideal S64x512 .f32) : FVec Ideal S512x512 .f32 :=
  concatenate S512x512 0 [⟨S64x512, R 0⟩, ⟨S64x512, R 1⟩, ⟨S64x512, R 2⟩, ⟨S64x512, R 3⟩, ⟨S64x512, R 4⟩, ⟨S64x512, R 5⟩,
    ⟨S64x512, R 6⟩, ⟨S64x512, R 7⟩]
    concatenates_S64x512_S64x512_S64x512_S64x512_S64x512_S64x512_S64x512_S64x512_S512x512_d0

theorem rows8_apply (R : Fin 8 → FVec Ideal S64x512 .f32) (k r : Fin 512) :
    rows8 R (ix2 k r) = R ⟨k.val / 64, by omega⟩ (ix2 ⟨k.val % 64, Nat.mod_lt _ (by decide)⟩ r) := by
  have hk := k.isLt
  have key : ∀ (q : Fin 8) (n : ℕ) (hn : n < 64), q.val = k.val / 64 → n = k.val % 64 →
      R q (ix2 ⟨n, hn⟩ r) = R ⟨k.val / 64, by omega⟩ (ix2 ⟨k.val % 64, by omega⟩ r) := by
    intro q n hn e e'; rw [show q = ⟨k.val / 64, by omega⟩ from Fin.ext e]; subst e'; rfl
  unfold rows8
  pointwise
  by_cases h1 : k.val < 64
  · rw [dif_pos (by omega)]; refine key 0 _ _ (show 0 = _ by omega) ?_; omega
  rw [dif_neg (by omega)]
  by_cases h2 : k.val < 128
  · rw [dif_pos (by omega)]; refine key 1 _ _ (show 1 = _ by omega) ?_; omega
  rw [dif_neg (by omega)]
  by_cases h3 : k.val < 192
  · rw [dif_pos (by omega)]; refine key 2 _ _ (show 2 = _ by omega) ?_; omega
  rw [dif_neg (by omega)]
  by_cases h4 : k.val < 256
  · rw [dif_pos (by omega)]; refine key 3 _ _ (show 3 = _ by omega) ?_; omega
  rw [dif_neg (by omega)]
  by_cases h5 : k.val < 320
  · rw [dif_pos (by omega)]; refine key 4 _ _ (show 4 = _ by omega) ?_; omega
  rw [dif_neg (by omega)]
  by_cases h6 : k.val < 384
  · rw [dif_pos (by omega)]; refine key 5 _ _ (show 5 = _ by omega) ?_; omega
  rw [dif_neg (by omega)]
  by_cases h7 : k.val < 448
  · rw [dif_pos (by omega)]; refine key 6 _ _ (show 6 = _ by omega) ?_; omega
  rw [dif_neg (by omega)]
  refine key 7 _ _ (show 7 = _ by omega) ?_; omega

/-- The first pair of heads' quotients, turned so that the rows are queries. -/
theorem pair0_apply (n : FVec Ideal S1x64x2048 .f32) (l : FVec Ideal S1x1x2048 .f32) (r : Fin 512) (j : Fin 128) :
    k0_pay117 (F := Ideal) n l (ix2 r j)
      = Ideal.div (n (ix3 0 ⟨j.val % 64, Nat.mod_lt _ (by decide)⟩ ⟨512 * (j.val / 64) + r.val, by omega⟩))
          (l (ix3 0 0 ⟨512 * (j.val / 64) + r.val, by omega⟩)) := by
  have hj := j.isLt
  have key : ∀ (u v : ℕ) (hu : u < 64) (hv : v < 2048), u = j.val % 64 → v = 512 * (j.val / 64) + r.val →
      Ideal.div (n (ix3 0 ⟨u, hu⟩ ⟨v, hv⟩)) (l (ix3 0 0 ⟨v, hv⟩))
        = Ideal.div (n (ix3 0 ⟨j.val % 64, Nat.mod_lt _ (by decide)⟩ ⟨512 * (j.val / 64) + r.val, by omega⟩))
          (l (ix3 0 0 ⟨512 * (j.val / 64) + r.val, by omega⟩)) := by
    intro u v hu hv e e'; subst e; subst e'; rfl
  unfold k0_pay117 k0_pay116
  pointwise
  by_cases h : j.val < 64
  · rw [dif_pos (by omega)]; exact key _ _ _ _ (by omega) (by omega)
  · rw [dif_neg (by omega)]; exact key _ _ _ _ (by omega) (by omega)

/-- The second pair's. -/
theorem pair1_apply (n : FVec Ideal S1x64x2048 .f32) (l : FVec Ideal S1x1x2048 .f32) (r : Fin 512) (j : Fin 128) :
    k0_pay118 (F := Ideal) n l (ix2 r j)
      = Ideal.div (n (ix3 0 ⟨j.val % 64, Nat.mod_lt _ (by decide)⟩ ⟨1024 + 512 * (j.val / 64) + r.val, by omega⟩))
          (l (ix3 0 0 ⟨1024 + 512 * (j.val / 64) + r.val, by omega⟩)) := by
  have hj := j.isLt
  have key : ∀ (u v : ℕ) (hu : u < 64) (hv : v < 2048), u = j.val % 64 → v = 1024 + 512 * (j.val / 64) + r.val →
      Ideal.div (n (ix3 0 ⟨u, hu⟩ ⟨v, hv⟩)) (l (ix3 0 0 ⟨v, hv⟩))
        = Ideal.div (n (ix3 0 ⟨j.val % 64, Nat.mod_lt _ (by decide)⟩ ⟨1024 + 512 * (j.val / 64) + r.val, by omega⟩))
          (l (ix3 0 0 ⟨1024 + 512 * (j.val / 64) + r.val, by omega⟩)) := by
    intro u v hu hv e e'; subst e; subst e'; rfl
  unfold k0_pay118 k0_pay116
  pointwise
  by_cases h : j.val < 64
  · rw [dif_pos (by omega)]; exact key _ _ _ _ (by omega) (by omega)
  · rw [dif_neg (by omega)]; exact key _ _ _ _ (by omega) (by omega)

end Cert.KernelIdeal.Reads

end
-- ==== Proof.Offsets.lean ====
module

public import proofs.«01_k».proof.Proof.Gen.KernelIdeal.Skeleton
public import Idealize.ShloMosaic.Lib.Pipeline.ValueKit

@[expose] public section

set_option maxRecDepth 16384

noncomputable section

/-! Where the kernel reads: the tile and row offsets at grid point `t`, which is query tile `t % 8` of batch `t / 8`. -/

namespace Cert.KernelIdeal.Off

open Idealize.ShloMosaic Idealize.ShloMosaic.TcCoe Idealize.SL.Sem
open Cert.KernelIdeal Cert.KernelIdeal.Gen

/-- The selected keys' loop runs over the tiles before the query tile. -/
theorem trips1 : ∀ t : Fin grid0.N, (k0_t1_loop (grid0.coords t)).trips = t.val % 8 := by decide +kernel

/-- The second counted loop has no trip. -/
theorem trips2 : ∀ t : Fin grid0.N, (k0_t2_loop (grid0.coords t)).trips = 0 := by decide +kernel

theorem off1_0 : ∀ t : Fin grid0.N, ∀ k : Fin (k0_t1_loop (grid0.coords t)).trips, ∀ r : Fin 8,
    k0_off1 (grid0.coords t) k 0#32 (BitVec.ofNat 32 r.val) = ![8 * k.val + r.val, 0] := by decide +kernel
theorem off1_1 : ∀ t : Fin grid0.N, ∀ k : Fin (k0_t1_loop (grid0.coords t)).trips, ∀ r : Fin 8,
    k0_off1 (grid0.coords t) k 64#32 (BitVec.ofNat 32 r.val) = ![64 + 8 * k.val + r.val, 0] := by decide +kernel
theorem off2 : ∀ t : Fin grid0.N, ∀ k : Fin (k0_t1_loop (grid0.coords t)).trips,
    k0_off2 (grid0.coords t) k = ![0, 512 * k.val, 0] := by decide +kernel
theorem off3 : ∀ t : Fin grid0.N, ∀ k : Fin (k0_t1_loop (grid0.coords t)).trips,
    k0_off3 (grid0.coords t) k = ![0, 512 * k.val] := by decide +kernel
theorem off4 : ∀ t : Fin grid0.N, ∀ k : Fin (k0_t1_loop (grid0.coords t)).trips,
    k0_off4 (grid0.coords t) k = ![0, 512 * k.val, 128] := by decide +kernel
theorem off5 : ∀ t : Fin grid0.N, ∀ k : Fin (k0_t1_loop (grid0.coords t)).trips,
    k0_off5 (grid0.coords t) k = ![64, 512 * k.val] := by decide +kernel
theorem off11_0 : ∀ t : Fin grid0.N, ∀ r : Fin 8,
    k0_off11 (grid0.coords t) 0#32 (BitVec.ofNat 32 r.val) = ![8 * (t.val % 8) + r.val, 0] := by decide +kernel
theorem off11_1 : ∀ t : Fin grid0.N, ∀ r : Fin 8,
    k0_off11 (grid0.coords t) 64#32 (BitVec.ofNat 32 r.val) = ![64 + 8 * (t.val % 8) + r.val, 0] := by decide +kernel
theorem off12 : ∀ t : Fin grid0.N, k0_off12 (grid0.coords t) = ![0, 512 * (t.val % 8), 0] := by decide +kernel
theorem off13 : ∀ t : Fin grid0.N, k0_off13 (grid0.coords t) = ![0, 512 * (t.val % 8)] := by decide +kernel
theorem off14 : ∀ t : Fin grid0.N, k0_off14 (grid0.coords t) = ![0, 512 * (t.val % 8), 128] := by decide +kernel
theorem off15 : ∀ t : Fin grid0.N, k0_off15 (grid0.coords t) = ![64, 512 * (t.val % 8)] := by decide +kernel
theorem off16 : ∀ t : Fin grid0.N, 1 ≤ t.val % 8 → k0_off16 (grid0.coords t) = ![0, 512 * (t.val % 8 - 1), 0] := by decide +kernel
theorem off17 : ∀ t : Fin grid0.N, 1 ≤ t.val % 8 → k0_off17 (grid0.coords t) = ![0, 512 * (t.val % 8 - 1)] := by decide +kernel
theorem off18 : ∀ t : Fin grid0.N, 1 ≤ t.val % 8 → k0_off18 (grid0.coords t) = ![0, 512 * (t.val % 8 - 1), 128] := by decide +kernel
theorem off19 : ∀ t : Fin grid0.N, 1 ≤ t.val % 8 → k0_off19 (grid0.coords t) = ![64, 512 * (t.val % 8 - 1)] := by decide +kernel
theorem off20 : ∀ t : Fin grid0.N, k0_off20 (grid0.coords t) = ![0, 512 * (t.val % 8), 0] := by decide +kernel
theorem off21 : ∀ t : Fin grid0.N, k0_off21 (grid0.coords t) = ![0, 512 * (t.val % 8)] := by decide +kernel
theorem off22 : ∀ t : Fin grid0.N, k0_off22 (grid0.coords t) = ![0, 512 * (t.val % 8), 128] := by decide +kernel
theorem off23 : ∀ t : Fin grid0.N, k0_off23 (grid0.coords t) = ![64, 512 * (t.val % 8)] := by decide +kernel
end Cert.KernelIdeal.Off

end
-- ==== Proof.Visit.lean ====
module

public import proofs.«01_k».proof.Proof.Reads
public import proofs.«01_k».proof.Proof.Offsets

@[expose] public section

set_option maxRecDepth 16384

noncomputable section

/-! One group of four heads visits one tile of keys. -/

namespace Cert.KernelIdeal.Visit

open Idealize.ShloMosaic Idealize.ShloMosaic.TcCoe Idealize.SL.Sem
open Cert.KernelIdeal Cert.KernelIdeal.Gen Cert.KernelIdeal.Tile Cert.KernelIdeal.State Cert.KernelIdeal.Reads Cert.Attn

open Classical in
/-- The weight of key `k` for column `c`: two to its score where `P` lets the column see the key, nothing elsewhere. -/
def wt (P : Fin 2048 → Fin 4096 → Prop) (X : Fin 2048 → Fin 4096 → ℝ) (c : Fin 2048) (k : Fin 4096) : ℝ :=
  if P c k then Real.rpow 2 (X c k) else 0

/-- Lane `j` of group `g`'s keys. -/
def lane (g : Fin 2) (j : Fin 128) : Fin 256 := ⟨128 * g.val + j.val, by omega⟩

/-- The row of the query tile that column `c` belongs to. -/
def rowOf (c : Fin 2048) : Fin 512 := ⟨c.val % 512, Nat.mod_lt _ (by decide)⟩

/-- The 80 rows the sums weigh: 64 value rows of group `g`, then ones. -/
def vals (x : S128x4096.Idx → EReal) (g : Fin 2) (d : Fin 80) (k : Fin 4096) : EReal :=
  if h : d.val < 64 then x (ix2 ⟨64 * g.val + d.val, by omega⟩ k) else 1

/-- The scores of group `g`'s columns are the real numbers `X`. -/
def Real2 (x : S1x4096x256.Idx → EReal) (Q : S2048x128.Idx → EReal) (g : Fin 2) (X : Fin 2048 → Fin 4096 → ℝ) : Prop :=
  ∀ c k, ∑ j : Fin 128, x (ix3 0 k (lane g j)) * Q (ix2 c j) = (X c k : EReal)

open Classical in
/-- The bias of tile `n`: zero where the column sees the key, `-∞` elsewhere. -/
def Bias (B : S512x512.Idx → EReal) (P : Fin 2048 → Fin 4096 → Prop) (n : Fin 8) : Prop :=
  ∀ k c, B (ix2 k (rowOf c)) = if P c (keyOf n k) then 0 else ⊥

theorem scores_tile {P : Fin 2048 → Fin 4096 → Prop} {X : Fin 2048 → Fin 4096 → ℝ} {x : S1x4096x256.Idx → EReal} {g : Fin 2}
    {K : FVec Ideal S512x128 .bf16} {Q : FVec Ideal S2048x128 .bf16} {B : FVec Ideal S512x512 .f32} {n : Fin 8}
    (hK : ∀ k j, K (ix2 k j) = x (ix3 0 (keyOf n k) (lane g j))) (hX : Real2 x Q g X) (hB : Bias B P n) (k : Fin 512) (c : Fin 2048) :
    Scores (scores K Q B (ix2 k c)) (wt P X c (keyOf n k)) := by
  classical
  rw [scores_apply]
  have e : (∑ j : Fin 128, K (ix2 k j) * Q (ix2 c j)) = (X c (keyOf n k) : EReal) := by
    rw [← hX c (keyOf n k)]; exact Finset.sum_congr rfl fun j _ => by rw [hK]
  have b := hB k c
  rw [e, show B (ix2 k ⟨c.val % 512, Nat.mod_lt _ (by decide)⟩) = _ from b]
  by_cases h : P c (keyOf n k)
  · exact Or.inr ⟨X c (keyOf n k), by rw [if_pos h, add_zero], by rw [wt, if_pos h]⟩
  · exact Or.inl ⟨by rw [if_neg h, EReal.add_bot], by rw [wt, if_neg h]⟩

/-- Group `g` after the keys `T`. -/
def Group (P : Fin 2048 → Fin 4096 → Prop) (X : Fin 2048 → Fin 4096 → ℝ) (v : Fin 80 → Fin 4096 → EReal) (T : Finset (Fin 4096))
    (g : Fin 2) (M : S2x1x2048.Idx → EReal) (A : S2x80x2048.Idx → EReal) : Prop :=
  ∀ c, Col (wt P X c) v T (M (ix3 g 0 c)) (fun d => A (ix3 g d c))

abbrev Pieces (s : Shape) := List (View.Piece (Elt Ideal) s EltTy.f32)

section
variable {P : Fin 2048 → Fin 4096 → Prop} {X : Fin 2048 → Fin 4096 → ℝ} {v : Fin 80 → Fin 4096 → EReal} {T : Finset (Fin 4096)} {g : Fin 2}

theorem read_max (M : Memref sig .tc .vmem S2x1x2048 .f32) (L : Pieces S2x1x2048) {off : Fin 3 → ℕ} (ho : off = ![g.val, 0, 0])
    (inb : ∀ a, off a + S1x1x2048.size a ≤ S2x1x2048.size a) (c : Fin 2048) :
    M.view.readCov L (Rect.unit (s := S2x1x2048) off S1x1x2048.size inb).toLoadRect (ix3 0 0 c) = View.canon L (ix3 g 0 c) := by
  rw [View.readCov_eq_canon']
  exact group_read (R := 1) (n := 1) (o := 0) ho inb (View.canon L) 0 c (by decide)

theorem read_sums {n o : ℕ} (M : Memref sig .tc .vmem S2x80x2048 .f32) (L : Pieces S2x80x2048) {off : Fin 3 → ℕ} (ho : off = ![g.val, o, 0])
    (inb : ∀ a, off a + (⟨3, ![1, n, 2048]⟩ : Shape).size a ≤ S2x80x2048.size a) (d : Fin n) (c : Fin 2048) (hd : o + d.val < 80) :
    M.view.readCov L (Rect.unit (s := S2x80x2048) off (⟨3, ![1, n, 2048]⟩ : Shape).size inb).toLoadRect (ix3 0 d c)
      = View.canon L (ix3 g ⟨o + d.val, hd⟩ c) := by
  rw [View.readCov_eq_canon']
  exact group_read (R := 80) ho inb (View.canon L) d c hd

/-- What group `g` holds after visiting tile `n`, whatever was written before to the buffers. -/
theorem Group.visit {L : Pieces S2x1x2048} {L' : Pieces S2x80x2048} (h : Group P X v T g (View.canon L) (View.canon L'))
    (n : Fin 8) (hd : Disjoint T (Finset.univ.map (keyOf n)))
    {x : S1x4096x256.Idx → EReal} {y : S128x4096.Idx → EReal} (hv : v = vals y g)
    {K : FVec Ideal S512x128 .bf16} {Q : FVec Ideal S2048x128 .bf16} {B : FVec Ideal S512x512 .f32} {V : FVec Ideal S64x512 .bf16}
    (hK : ∀ k j, K (ix2 k j) = x (ix3 0 (keyOf n k) (lane g j))) (hX : Real2 x Q g X) (hB : Bias B P n)
    (hV : ∀ (d : Fin 64) k, V (ix2 d k) = y (ix2 ⟨64 * g.val + d.val, by omega⟩ (keyOf n k)))
    {m : FVec Ideal S1x1x2048 .f32} {a : FVec Ideal S1x80x2048 .f32}
    (hm : ∀ c, m (ix3 0 0 c) = View.canon L (ix3 g 0 c)) (ha : ∀ d c, a (ix3 0 d c) = View.canon L' (ix3 g d c))
    {off : Fin 3 → ℕ} (ho : off = ![g.val, 0, 0]) (inb : ∀ a, off a + S1x1x2048.size a ≤ S2x1x2048.size a)
    (inb' : ∀ a, off a + S1x80x2048.size a ≤ S2x80x2048.size a) (N : Pieces S2x1x2048) (N' : Pieces S2x80x2048) :
    Group P X v (T ∪ Finset.univ.map (keyOf n)) g
      (View.canon (⟨Rect.unit (s := S2x1x2048) off S1x1x2048.size inb, newM (scores K Q B) m⟩ :: N))
      (View.canon (⟨Rect.unit (s := S2x80x2048) off S1x80x2048.size inb', newA (scores K Q B) V m a⟩ :: N')) := by
  intro c
  have := Col.step (scores K Q B) V m a c n (e := wt P X c) (v := v) (T := T)
    (by simp only [hm, ha]; exact h c) hd (fun k => scores_tile hK hX hB k c) (fun d k => by
      subst hv; unfold vals
      by_cases hd : d.val < 64
      · rw [dif_pos hd, dif_pos hd, hV]
      · rw [dif_neg hd, dif_neg hd])
  rw [show View.canon (⟨Rect.unit (s := S2x1x2048) off S1x1x2048.size inb, newM (scores K Q B) m⟩ :: N) (ix3 g 0 c) = _ from
    group_hit (R := 1) ho inb _ N 0 c]
  simp only [show ∀ d, View.canon (⟨Rect.unit (s := S2x80x2048) off S1x80x2048.size inb', newA (scores K Q B) V m a⟩ :: N') (ix3 g d c) = _ from
    fun d => group_hit (R := 80) ho inb' _ N' d c]
  exact this

/-- The other group is left as it was. -/
theorem Group.skip {g' : Fin 2} (hg : g ≠ g') {L : Pieces S2x1x2048} {L' : Pieces S2x80x2048}
    (h : Group P X v T g (View.canon L) (View.canon L'))
    {off : Fin 3 → ℕ} (ho : off = ![g'.val, 0, 0]) (inb : ∀ a, off a + S1x1x2048.size a ≤ S2x1x2048.size a)
    (inb' : ∀ a, off a + S1x80x2048.size a ≤ S2x80x2048.size a) (w : S1x1x2048.Idx → EReal) (w' : S1x80x2048.Idx → EReal) :
    Group P X v T g (View.canon (Val := Elt Ideal) (⟨Rect.unit (s := S2x1x2048) off S1x1x2048.size inb, w⟩ :: L))
      (View.canon (Val := Elt Ideal) (⟨Rect.unit (s := S2x80x2048) off S1x80x2048.size inb', w'⟩ :: L')) := by
  intro c
  have e1 := group_miss (Val := Elt Ideal) (E := EltTy.f32) (R := 1) hg ho inb w L 0 c
  have e2 : (fun d => View.canon (Val := Elt Ideal) (⟨Rect.unit (s := S2x80x2048) off S1x80x2048.size inb', w'⟩ :: L') (ix3 g d c))
      = fun d => View.canon L' (ix3 g d c) :=
    funext fun d => group_miss (Val := Elt Ideal) (E := EltTy.f32) (R := 80) hg ho inb' w' L' d c
  have h' := h c
  rw [← e1, ← e2] at h'
  exact h'

/-- The buffers as they are set at the start of a pass. -/
theorem Group.start (L : Pieces S2x1x2048) (L' : Pieces S2x80x2048) {off : Fin 3 → ℕ} (ho : off = ![0, 0, 0])
    (inb : ∀ a, off a + S2x1x2048.size a ≤ S2x1x2048.size a) (inb' : ∀ a, off a + S2x80x2048.size a ≤ S2x80x2048.size a)
    (w : S2x1x2048.Idx → EReal) (w' : S2x80x2048.Idx → EReal) (r : ℝ) (hw : ∀ y, w y = (r : EReal)) (hw' : ∀ y, w' y = 0) :
    Group P X v ∅ g (View.canon (Val := Elt Ideal) (⟨Rect.unit (s := S2x1x2048) off S2x1x2048.size inb, w⟩ :: L))
      (View.canon (Val := Elt Ideal) (⟨Rect.unit (s := S2x80x2048) off S2x80x2048.size inb', w'⟩ :: L')) := by
  intro c
  refine Col.init _ _ r ?_ fun d => ?_
  · exact (whole_hit (Val := Elt Ideal) (E := EltTy.f32) (R := 1) ho inb w L (ix3 g 0 c)).trans (hw _)
  · exact (whole_hit (Val := Elt Ideal) (E := EltTy.f32) (R := 80) ho inb' w' L' (ix3 g d c)).trans (hw' _)

/-- The quotient at the end of a pass. -/
theorem Group.finish {L : Pieces S2x1x2048} {L' : Pieces S2x80x2048} (h : Group P X v T g (View.canon L) (View.canon L'))
    {y : S128x4096.Idx → EReal} (hv : v = vals y g) (hT : ∀ c k, P c k → k ∈ T) (c : Fin 2048) {k₀ : Fin 4096} (h₀ : P c k₀) (d : Fin 64) :
    Ideal.div (View.canon L' (ix3 g ⟨d.val, by omega⟩ c)) (View.canon L' (ix3 g 64 c))
      = attend (wt P X c) (fun k => y (ix2 ⟨64 * g.val + d.val, by omega⟩ k)) := by
  obtain ⟨r, -, hS⟩ := h c
  have h1 := hS ⟨d.val, by omega⟩
  have h2 := hS 64
  subst hv
  have e1 : vals y g ⟨d.val, by omega⟩ = fun k => y (ix2 ⟨64 * g.val + d.val, by omega⟩ k) := by
    funext k; exact dif_pos d.isLt
  have e2 : vals y g 64 = fun _ => 1 := by
    funext k; exact dif_neg (by decide)
  rw [e1] at h1
  rw [e2] at h2
  refine Seen.finish h1 h2 (fun k => ?_) (fun k hk => ?_) (k₀ := k₀) ?_
  · unfold wt; split_ifs
    · exact Real.rpow_nonneg (by norm_num) _
    · exact le_refl _
  · unfold wt; rw [if_neg fun hp => hk (hT c k hp)]
  · unfold wt; rw [if_pos h₀]; exact Real.rpow_pos_of_pos (by norm_num) _

end

end Cert.KernelIdeal.Visit

end
-- ==== Proof.Trip.lean ====
module

public import proofs.«01_k».proof.Proof.Visit
public import proofs.«01_k».proof.Proof.Gen.KernelIdeal.Loops

@[expose] public section

set_option maxRecDepth 16384

noncomputable section

/-! The loop over the selected tiles before the query tile. -/

namespace Cert.KernelIdeal.Trip

open Idealize.ShloMosaic Idealize.ShloMosaic.TcCoe Idealize.SL.Sem
open Cert.KernelIdeal Cert.KernelIdeal.Gen Cert.KernelIdeal.Tile Cert.KernelIdeal.State Cert.KernelIdeal.Reads Cert.KernelIdeal.Visit Cert.Attn

/-- A loaded tile of keys at the keys it stands for. -/
theorem keys_at (M : Memref sig .tc .vmem S1x4096x256 .bf16) (hM : M.IsWhole) (x : S1x4096x256.Idx → Ideal .bf16)
    {off : Fin 3 → ℕ} (n : Fin 8) (g : Fin 2) {p : ℕ} (ho : off = ![0, 512 * n.val, p]) (hp : p = 128 * g.val)
    (inb : ∀ a, off a + S1x512x128.size a ≤ S1x4096x256.size a) (k : Fin 512) (j : Fin 128) :
    shapeCast S512x128 (View.readAt (Elt Ideal) M.view (Rect.unit (s := S1x4096x256) off S1x512x128.size inb).toLoadRect (hM.unread x))
        shapeCasts_S1x512x128_S512x128 (ix2 k j)
      = x (ix3 0 (keyOf n k) (lane g j)) := by
  subst hp
  exact keys_read M hM x ho inb k j (keyOf n k).isLt (lane g j).isLt

/-- A loaded tile of values likewise. -/
theorem values_at (M : Memref sig .tc .vmem S128x4096 .bf16) (hM : M.IsWhole) (x : S128x4096.Idx → Ideal .bf16)
    {off : Fin 2 → ℕ} (n : Fin 8) (g : Fin 2) {p : ℕ} (ho : off = ![p, 512 * n.val]) (hp : p = 64 * g.val)
    (inb : ∀ a, off a + S64x512.size a ≤ S128x4096.size a) (d : Fin 64) (k : Fin 512) :
    shapeCast S64x512 (View.readAt (Elt Ideal) M.view (Rect.unit (s := S128x4096) off S64x512.size inb).toLoadRect (hM.unread x))
        shapeCasts_S64x512_S64x512 (ix2 d k)
      = x (ix2 ⟨64 * g.val + d.val, by omega⟩ (keyOf n k)) := by
  subst hp
  exact values_read M hM x ho inb d k (keyOf n k).isLt (by omega)

/-- All 80 rows of a group's sums. -/
theorem read_all {g : Fin 2} (M : Memref sig .tc .vmem S2x80x2048 .f32) (L : Pieces S2x80x2048) {off : Fin 3 → ℕ} (ho : off = ![g.val, 0, 0])
    (inb : ∀ a, off a + S1x80x2048.size a ≤ S2x80x2048.size a) (d : Fin 80) (c : Fin 2048) :
    M.view.readCov L (Rect.unit (s := S2x80x2048) off S1x80x2048.size inb).toLoadRect (ix3 0 d c) = View.canon L (ix3 g d c) := by
  refine (read_sums (n := 80) M L ho inb d c (by omega)).trans ?_
  congr 2
  exact Fin.ext (Nat.zero_add _)

/-- What a column may see in the selected pass: keys of the selected blocks of 64, none after its own position. -/
def selP (S : Fin 64 → Fin 512 → Prop) (q : ℕ) (c : Fin 2048) (k : Fin 4096) : Prop :=
  S ⟨k.val / 64, by omega⟩ (rowOf c) ∧ k.val ≤ 512 * q + (rowOf c).val

open Classical in
/-- The bias block holds zero at the selected blocks of group `g` and `-∞` at the others. -/
def Chosen (x : S128x512.Idx → EReal) (S : Fin 64 → Fin 512 → Prop) (g : Fin 2) : Prop :=
  ∀ (n : Fin 64) r, x (ix2 ⟨64 * g.val + n.val, by omega⟩ r) = if S n r then 0 else ⊥

theorem rows_bias (M : Memref sig .tc .vmem S128x512 .f32) (hM : M.IsWhole) (x : S128x512.Idx → Ideal .f32) (S : Fin 64 → Fin 512 → Prop)
    (g : Fin 2) (hx : Chosen x S g) (n : Fin 8) (off : Fin 8 → Fin 2 → ℕ) {o : ℕ} (ho : ∀ r, off r = ![o + r.val, 0])
    (ho' : o = 64 * g.val + 8 * n.val) (inb : ∀ r a, off r a + S1x512.size a ≤ S128x512.size a) (k : Fin 512) (c : Fin 2048) :
    rows8 (fun r => row M hM x (off r) (inb r)) (ix2 k (rowOf c))
      = @ite _ (S ⟨(keyOf n k).val / 64, by have := (keyOf n k).isLt; omega⟩ (rowOf c)) (Classical.dec _) 0 ⊥ := by
  subst ho'
  have hn := n.isLt
  have hk := k.isLt
  rw [rows8_apply, row_apply M hM x _ _ (ho _) (by show 64 * g.val + 8 * n.val + k.val / 64 < 128; omega)]
  have h := hx ⟨(keyOf n k).val / 64, by have := (keyOf n k).isLt; omega⟩ (rowOf c)
  refine Eq.trans ?_ h
  congr 2
  apply Fin.ext
  show 64 * g.val + 8 * n.val + k.val / 64 = 64 * g.val + (keyOf n k).val / 64
  rw [keyOf_val]; omega

/-- Tiles before the query tile: only the selection matters. -/
theorem bias_before (M : Memref sig .tc .vmem S128x512 .f32) (hM : M.IsWhole) (x : S128x512.Idx → Ideal .f32) (S : Fin 64 → Fin 512 → Prop)
    (g : Fin 2) (hx : Chosen x S g) (n : Fin 8) (off : Fin 8 → Fin 2 → ℕ) {o : ℕ} (ho : ∀ r, off r = ![o + r.val, 0])
    (ho' : o = 64 * g.val + 8 * n.val) (inb : ∀ r a, off r a + S1x512.size a ≤ S128x512.size a) {q : ℕ} (hq : n.val < q) :
    Bias (rows8 (fun r => row M hM x (off r) (inb r))) (selP S q) n := by
  classical
  intro k c
  rw [rows_bias M hM x S g hx n off ho ho' inb k c]
  have : (keyOf n k).val ≤ 512 * q + (rowOf c).val := by rw [keyOf_val]; have := k.isLt; omega
  unfold selP
  by_cases h : S ⟨(keyOf n k).val / 64, by have := (keyOf n k).isLt; omega⟩ (rowOf c)
  · rw [if_pos h, if_pos ⟨h, this⟩]
  · rw [if_neg h, if_neg fun h' => h h'.1]

/-- The query tile's own keys: the selection, and no key after the query. -/
theorem bias_own (M : Memref sig .tc .vmem S128x512 .f32) (hM : M.IsWhole) (x : S128x512.Idx → Ideal .f32) (S : Fin 64 → Fin 512 → Prop)
    (g : Fin 2) (hx : Chosen x S g) (n : Fin 8) (off : Fin 8 → Fin 2 → ℕ) {o : ℕ} (ho : ∀ r, off r = ![o + r.val, 0])
    (ho' : o = 64 * g.val + 8 * n.val) (inb : ∀ r a, off r a + S1x512.size a ≤ S128x512.size a) (a b : BitVec 32)
    (hab : Scalar.subi (Scalar.muli a 512#32) (Scalar.muli b 512#32) = 0#32) :
    Bias (addf (F := Ideal) (φ := .f32) (rows8 (fun r => row M hM x (off r) (inb r))) (k0_pay74 (F := Ideal) a b)) (selP S n.val) n := by
  classical
  intro k c
  show rows8 (fun r => row M hM x (off r) (inb r)) (ix2 k (rowOf c)) + k0_pay74 (F := Ideal) a b (ix2 k (rowOf c)) = _
  rw [rows_bias M hM x S g hx n off ho ho' inb k c, diag_apply a b k (rowOf c) hab]
  unfold selP
  have e : (keyOf n k).val ≤ 512 * n.val + (rowOf c).val ↔ k.val ≤ (rowOf c).val := by rw [keyOf_val]; omega
  by_cases h : S ⟨(keyOf n k).val / 64, by have := (keyOf n k).isLt; omega⟩ (rowOf c) <;> by_cases h' : k.val ≤ (rowOf c).val
  · rw [if_pos h, if_pos h', if_pos ⟨h, e.mpr h'⟩, add_zero]
  · rw [if_pos h, if_neg h', if_neg fun u => h' (e.mp u.2), EReal.add_bot]
  · rw [if_neg h, EReal.bot_add, if_neg fun u => h u.1]
  · rw [if_neg h, EReal.bot_add, if_neg fun u => h u.1]

section
variable (𝒱 : Variants) (c : Dev nD) (bd : Option 𝒱.V) (t : Fin grid0.N)
  (arg2 : Memref sig .tc .vmem S512x512 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S128x4096 .bf16) (harg5 : arg5.IsWhole)
  (arg6 : Memref sig .tc .vmem S128x4096 .bf16) (harg6 : arg6.IsWhole) (arg7 : Memref sig .tc .vmem S128x512 .f32) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S2x1x2048 .f32) (harg10 : arg10.IsWhole) (arg11 : Memref sig .tc .vmem S2x80x2048 .f32) (harg11 : arg11.IsWhole)
  (arg1 : BitVec 32) (v30 v51 : FVec Ideal S2048x128 .bf16) (v76 : BitVec 32)
  (x1 : S1x4096x256.Idx → Ideal .bf16) (x3 : S128x4096.Idx → Ideal .bf16) (x5 : S128x512.Idx → Ideal .f32)

theorem inb1_0 (k : Fin (k0_t1_loop (grid0.coords t)).trips) (r : Fin 8) (a : Fin 2) :
    k0_off1 (grid0.coords t) k 0#32 (BitVec.ofNat 32 r.val) a + S1x512.size a ≤ S128x512.size a := by
  have hk : k.val < t.val % 8 := Off.trips1 t ▸ k.isLt
  rw [Off.off1_0 t k r]
  fin_cases a
  · show 8 * k.val + r.val + 1 ≤ 128; omega
  · show 0 + 512 ≤ 512; omega

theorem inb1_1 (k : Fin (k0_t1_loop (grid0.coords t)).trips) (r : Fin 8) (a : Fin 2) :
    k0_off1 (grid0.coords t) k 64#32 (BitVec.ofNat 32 r.val) a + S1x512.size a ≤ S128x512.size a := by
  have hk : k.val < t.val % 8 := Off.trips1 t ▸ k.isLt
  rw [Off.off1_1 t k r]
  fin_cases a
  · show 64 + 8 * k.val + r.val + 1 ≤ 128; omega
  · show 0 + 512 ≤ 512; omega

/-- The pieces one trip writes, as the tile functions. -/
theorem trip_eq (k : Fin (k0_t1_loop (grid0.coords t)).trips) (L : Pieces S2x1x2048) (L' : Pieces S2x80x2048) :
    tripL_k0_t1 (F := Ideal) 𝒱 c bd (grid0.coords t) arg2 harg2 arg3 harg3 arg4 harg4 arg5 harg5 arg6 harg6 arg7 harg7 arg8 harg8 arg9 harg9 arg10 harg10 arg11 harg11 arg1 v30 v51 v76
        (harg3.unread x1) (harg5.unread x3) (harg7.unread x5) k (arg10.view.writes (Elt Ideal) arg10.view.junk L)
        (arg11.view.writes (Elt Ideal) arg11.view.junk L')
      = ([⟨Rect.unit (s := S2x1x2048) ![1, 0, 0] S1x1x2048.size inb_S2x1x2048_S1x1x2048_1_0_0,
            newM (scores (shapeCast S512x128 (View.readAt (Elt Ideal) arg3.view (Rect.unit (s := S1x4096x256) (k0_off4 (grid0.coords t) k) S1x512x128.size (k0_off4_inb (grid0.coords t) k)).toLoadRect (harg3.unread x1)) shapeCasts_S1x512x128_S512x128) v51
              (rows8 fun r => row arg7 harg7 x5 (k0_off1 (grid0.coords t) k 64#32 (BitVec.ofNat 32 r.val)) (inb1_1 t k r)))
              (arg10.view.readCov L (Rect.unit (s := S2x1x2048) ![1, 0, 0] S1x1x2048.size inb_S2x1x2048_S1x1x2048_1_0_0).toLoadRect)⟩,
          ⟨Rect.unit (s := S2x1x2048) ![0, 0, 0] S1x1x2048.size inb_S2x1x2048_S1x1x2048_0_0_0,
            newM (scores (shapeCast S512x128 (View.readAt (Elt Ideal) arg3.view (Rect.unit (s := S1x4096x256) (k0_off2 (grid0.coords t) k) S1x512x128.size (k0_off2_inb (grid0.coords t) k)).toLoadRect (harg3.unread x1)) shapeCasts_S1x512x128_S512x128) v30
              (rows8 fun r => row arg7 harg7 x5 (k0_off1 (grid0.coords t) k 0#32 (BitVec.ofNat 32 r.val)) (inb1_0 t k r)))
              (arg10.view.readCov L (Rect.unit (s := S2x1x2048) ![0, 0, 0] S1x1x2048.size inb_S2x1x2048_S1x1x2048_0_0_0).toLoadRect)⟩],
         [⟨Rect.unit (s := S2x80x2048) ![1, 0, 0] S1x80x2048.size inb_S2x80x2048_S1x80x2048_1_0_0,
            newA (scores (shapeCast S512x128 (View.readAt (Elt Ideal) arg3.view (Rect.unit (s := S1x4096x256) (k0_off4 (grid0.coords t) k) S1x512x128.size (k0_off4_inb (grid0.coords t) k)).toLoadRect (harg3.unread x1)) shapeCasts_S1x512x128_S512x128) v51
              (rows8 fun r => row arg7 harg7 x5 (k0_off1 (grid0.coords t) k 64#32 (BitVec.ofNat 32 r.val)) (inb1_1 t k r)))
              (shapeCast S64x512 (View.readAt (Elt Ideal) arg5.view (Rect.unit (s := S128x4096) (k0_off5 (grid0.coords t) k) S64x512.size (k0_off5_inb (grid0.coords t) k)).toLoadRect (harg5.unread x3)) shapeCasts_S64x512_S64x512)
              (arg10.view.readCov L (Rect.unit (s := S2x1x2048) ![1, 0, 0] S1x1x2048.size inb_S2x1x2048_S1x1x2048_1_0_0).toLoadRect)
              (arg11.view.readCov L' (Rect.unit (s := S2x80x2048) ![1, 0, 0] S1x80x2048.size inb_S2x80x2048_S1x80x2048_1_0_0).toLoadRect)⟩,
          ⟨Rect.unit (s := S2x80x2048) ![0, 0, 0] S1x80x2048.size inb_S2x80x2048_S1x80x2048_0_0_0,
            newA (scores (shapeCast S512x128 (View.readAt (Elt Ideal) arg3.view (Rect.unit (s := S1x4096x256) (k0_off2 (grid0.coords t) k) S1x512x128.size (k0_off2_inb (grid0.coords t) k)).toLoadRect (harg3.unread x1)) shapeCasts_S1x512x128_S512x128) v30
              (rows8 fun r => row arg7 harg7 x5 (k0_off1 (grid0.coords t) k 0#32 (BitVec.ofNat 32 r.val)) (inb1_0 t k r)))
              (shapeCast S64x512 (View.readAt (Elt Ideal) arg5.view (Rect.unit (s := S128x4096) (k0_off3 (grid0.coords t) k) S64x512.size (k0_off3_inb (grid0.coords t) k)).toLoadRect (harg5.unread x3)) shapeCasts_S64x512_S64x512)
              (arg10.view.readCov L (Rect.unit (s := S2x1x2048) ![0, 0, 0] S1x1x2048.size inb_S2x1x2048_S1x1x2048_0_0_0).toLoadRect)
              (arg11.view.readCov L' (Rect.unit (s := S2x80x2048) ![0, 0, 0] S1x80x2048.size inb_S2x80x2048_S1x80x2048_0_0_0).toLoadRect)⟩]) := by
  unfold tripL_k0_t1 trip_k0_t1
  dsimp only
  rfl

variable {X0 X1 : Fin 2048 → Fin 4096 → ℝ} {S0 S1 : Fin 64 → Fin 512 → Prop}
  (hX0 : Real2 x1 v30 0 X0) (hX1 : Real2 x1 v51 1 X1) (hS0 : Chosen x5 S0 0) (hS1 : Chosen x5 S1 1)

include hX0 hX1 hS0 hS1 in
/-- After the loop both groups have seen all keys before the query tile. -/
theorem loop (H : Pieces S2x1x2048) (H' : Pieces S2x80x2048)
    (h0 : Group (selP S0 (t.val % 8)) X0 (vals x3 0) ∅ 0 (View.canon H) (View.canon H'))
    (h1 : Group (selP S1 (t.val % 8)) X1 (vals x3 1) ∅ 1 (View.canon H) (View.canon H')) (n : ℕ) (hn : n ≤ t.val % 8) :
    Group (selP S0 (t.val % 8)) X0 (vals x3 0) (before n) 0
      (View.canon ((pb_k0_t1 (F := Ideal) 𝒱 c bd (grid0.coords t) arg2 harg2 arg3 harg3 arg4 harg4 arg5 harg5 arg6 harg6 arg7 harg7 arg8 harg8 arg9 harg9 arg10 harg10 arg11 harg11 arg1 v30 v51 v76
        (harg3.unread x1) (harg5.unread x3) (harg7.unread x5) (arg10.view.writes (Elt Ideal) arg10.view.junk H)
        (arg11.view.writes (Elt Ideal) arg11.view.junk H') n).1 ++ H))
      (View.canon ((pb_k0_t1 (F := Ideal) 𝒱 c bd (grid0.coords t) arg2 harg2 arg3 harg3 arg4 harg4 arg5 harg5 arg6 harg6 arg7 harg7 arg8 harg8 arg9 harg9 arg10 harg10 arg11 harg11 arg1 v30 v51 v76
        (harg3.unread x1) (harg5.unread x3) (harg7.unread x5) (arg10.view.writes (Elt Ideal) arg10.view.junk H)
        (arg11.view.writes (Elt Ideal) arg11.view.junk H') n).2 ++ H'))
    ∧ Group (selP S1 (t.val % 8)) X1 (vals x3 1) (before n) 1
      (View.canon ((pb_k0_t1 (F := Ideal) 𝒱 c bd (grid0.coords t) arg2 harg2 arg3 harg3 arg4 harg4 arg5 harg5 arg6 harg6 arg7 harg7 arg8 harg8 arg9 harg9 arg10 harg10 arg11 harg11 arg1 v30 v51 v76
        (harg3.unread x1) (harg5.unread x3) (harg7.unread x5) (arg10.view.writes (Elt Ideal) arg10.view.junk H)
        (arg11.view.writes (Elt Ideal) arg11.view.junk H') n).1 ++ H))
      (View.canon ((pb_k0_t1 (F := Ideal) 𝒱 c bd (grid0.coords t) arg2 harg2 arg3 harg3 arg4 harg4 arg5 harg5 arg6 harg6 arg7 harg7 arg8 harg8 arg9 harg9 arg10 harg10 arg11 harg11 arg1 v30 v51 v76
        (harg3.unread x1) (harg5.unread x3) (harg7.unread x5) (arg10.view.writes (Elt Ideal) arg10.view.junk H)
        (arg11.view.writes (Elt Ideal) arg11.view.junk H') n).2 ++ H')) := by
  induction n with
  | zero => rw [before_zero]; exact ⟨h0, h1⟩
  | succ n ih =>
    obtain ⟨i0, i1⟩ := ih (by omega)
    have ht : n < (k0_t1_loop (grid0.coords t)).trips := by rw [Off.trips1]; omega
    have hb := before_succ ⟨n, by omega⟩
    have hd := before_disjoint ⟨n, by omega⟩
    simp only at hb hd
    rw [pb_k0_t1_succ 𝒱 c bd (grid0.coords t) arg2 harg2 arg3 harg3 arg4 harg4 arg5 harg5 arg6 harg6 arg7 harg7 arg8 harg8 arg9 harg9 arg10 harg10 arg11 harg11 arg1 v30 v51 v76 _ _ _ _ _ ⟨n, ht⟩]
    rw [← View.writes_append, ← View.writes_append, trip_eq]
    simp only [List.cons_append, List.nil_append, List.append_assoc]
    generalize (pb_k0_t1 (F := Ideal) 𝒱 c bd (grid0.coords t) arg2 harg2 arg3 harg3 arg4 harg4 arg5 harg5 arg6 harg6 arg7 harg7 arg8 harg8 arg9 harg9 arg10 harg10 arg11 harg11 arg1 v30 v51 v76
        (harg3.unread x1) (harg5.unread x3) (harg7.unread x5) (arg10.view.writes (Elt Ideal) arg10.view.junk H)
        (arg11.view.writes (Elt Ideal) arg11.view.junk H') n) = p at i0 i1 ⊢
    rw [← hb]
    have hp0 : ∀ r : Fin 8, k0_off1 (grid0.coords t) ⟨n, ht⟩ 0#32 (BitVec.ofNat 32 r.val) = ![8 * n + r.val, 0] :=
      fun r => Off.off1_0 t ⟨n, ht⟩ r
    have hp1 : ∀ r : Fin 8, k0_off1 (grid0.coords t) ⟨n, ht⟩ 64#32 (BitVec.ofNat 32 r.val) = ![64 + 8 * n + r.val, 0] :=
      fun r => Off.off1_1 t ⟨n, ht⟩ r
    constructor
    · refine Group.skip (g := 0) (g' := 1) (by decide) ?_ rfl _ _ _ _
      exact Group.visit i0 ⟨n, by omega⟩ hd rfl (x := x1) (y := x3)
        (keys_at arg3 harg3 x1 _ 0 (Off.off2 t ⟨n, ht⟩) rfl _) hX0
        (bias_before arg7 harg7 x5 S0 0 hS0 ⟨n, by omega⟩ _ hp0 (by simp) _ hn)
        (values_at arg5 harg5 x3 _ 0 (Off.off3 t ⟨n, ht⟩) rfl _)
        (fun c => read_max arg10 _ rfl _ c) (read_all arg11 _ (g := 0) rfl _) rfl _ _ _ _
    · exact Group.visit i1 ⟨n, by omega⟩ hd rfl (x := x1) (y := x3)
        (keys_at arg3 harg3 x1 _ 1 (Off.off4 t ⟨n, ht⟩) rfl _) hX1
        (bias_before arg7 harg7 x5 S1 1 hS1 ⟨n, by omega⟩ _ hp1 (by simp) _ hn)
        (values_at arg5 harg5 x3 _ 1 (Off.off5 t ⟨n, ht⟩) rfl _)
        (fun c => read_max arg10 _ rfl _ c) (read_all arg11 _ (g := 1) rfl _) rfl _ _ _ _

end

end Cert.KernelIdeal.Trip

end
-- ==== Proof.Pass.lean ====
module

public import proofs.«01_k».proof.Proof.Trip

@[expose] public section

set_option maxRecDepth 16384

noncomputable section

/-! A tile visited by both groups, and the output block of a pass. -/

namespace Cert.KernelIdeal.Pass

open Idealize.ShloMosaic Idealize.ShloMosaic.TcCoe Idealize.SL.Sem
open Cert.KernelIdeal Cert.KernelIdeal.Gen Cert.KernelIdeal.Tile Cert.KernelIdeal.State Cert.KernelIdeal.Reads Cert.KernelIdeal.Visit Cert.KernelIdeal.Trip Cert.Attn

/-- The pieces of the running maxima after both groups visit a tile with scores `s`. -/
def maxes (M : Memref sig .tc .vmem S2x1x2048 .f32) (s : Fin 2 → FVec Ideal S512x2048 .f32) (L : Pieces S2x1x2048) : Pieces S2x1x2048 :=
  ⟨Rect.unit (s := S2x1x2048) ![1, 0, 0] S1x1x2048.size inb_S2x1x2048_S1x1x2048_1_0_0,
    newM (s 1) (M.view.readCov
      (⟨Rect.unit (s := S2x1x2048) ![0, 0, 0] S1x1x2048.size inb_S2x1x2048_S1x1x2048_0_0_0,
        newM (s 0) (M.view.readCov L (Rect.unit (s := S2x1x2048) ![0, 0, 0] S1x1x2048.size inb_S2x1x2048_S1x1x2048_0_0_0).toLoadRect)⟩ :: L)
      (Rect.unit (s := S2x1x2048) ![1, 0, 0] S1x1x2048.size inb_S2x1x2048_S1x1x2048_1_0_0).toLoadRect)⟩
  :: ⟨Rect.unit (s := S2x1x2048) ![0, 0, 0] S1x1x2048.size inb_S2x1x2048_S1x1x2048_0_0_0,
    newM (s 0) (M.view.readCov L (Rect.unit (s := S2x1x2048) ![0, 0, 0] S1x1x2048.size inb_S2x1x2048_S1x1x2048_0_0_0).toLoadRect)⟩ :: L

/-- The pieces of the sums likewise. -/
def sums (M : Memref sig .tc .vmem S2x1x2048 .f32) (M' : Memref sig .tc .vmem S2x80x2048 .f32) (s : Fin 2 → FVec Ideal S512x2048 .f32)
    (V : Fin 2 → FVec Ideal S64x512 .bf16) (L : Pieces S2x1x2048) (L' : Pieces S2x80x2048) : Pieces S2x80x2048 :=
  ⟨Rect.unit (s := S2x80x2048) ![1, 0, 0] S1x80x2048.size inb_S2x80x2048_S1x80x2048_1_0_0,
    newA (s 1) (V 1) (M.view.readCov
      (⟨Rect.unit (s := S2x1x2048) ![0, 0, 0] S1x1x2048.size inb_S2x1x2048_S1x1x2048_0_0_0,
        newM (s 0) (M.view.readCov L (Rect.unit (s := S2x1x2048) ![0, 0, 0] S1x1x2048.size inb_S2x1x2048_S1x1x2048_0_0_0).toLoadRect)⟩ :: L)
      (Rect.unit (s := S2x1x2048) ![1, 0, 0] S1x1x2048.size inb_S2x1x2048_S1x1x2048_1_0_0).toLoadRect)
      (M'.view.readCov
      (⟨Rect.unit (s := S2x80x2048) ![0, 0, 0] S1x80x2048.size inb_S2x80x2048_S1x80x2048_0_0_0,
        newA (s 0) (V 0) (M.view.readCov L (Rect.unit (s := S2x1x2048) ![0, 0, 0] S1x1x2048.size inb_S2x1x2048_S1x1x2048_0_0_0).toLoadRect)
          (M'.view.readCov L' (Rect.unit (s := S2x80x2048) ![0, 0, 0] S1x80x2048.size inb_S2x80x2048_S1x80x2048_0_0_0).toLoadRect)⟩ :: L')
      (Rect.unit (s := S2x80x2048) ![1, 0, 0] S1x80x2048.size inb_S2x80x2048_S1x80x2048_1_0_0).toLoadRect)⟩
  :: ⟨Rect.unit (s := S2x80x2048) ![0, 0, 0] S1x80x2048.size inb_S2x80x2048_S1x80x2048_0_0_0,
    newA (s 0) (V 0) (M.view.readCov L (Rect.unit (s := S2x1x2048) ![0, 0, 0] S1x1x2048.size inb_S2x1x2048_S1x1x2048_0_0_0).toLoadRect)
      (M'.view.readCov L' (Rect.unit (s := S2x80x2048) ![0, 0, 0] S1x80x2048.size inb_S2x80x2048_S1x80x2048_0_0_0).toLoadRect)⟩ :: L'

variable {P : Fin 2 → Fin 2048 → Fin 4096 → Prop} {X : Fin 2 → Fin 2048 → Fin 4096 → ℝ} {T : Finset (Fin 4096)} {y : S128x4096.Idx → EReal}

/-- Both groups after the keys `T`. -/
def Both (P : Fin 2 → Fin 2048 → Fin 4096 → Prop) (X : Fin 2 → Fin 2048 → Fin 4096 → ℝ) (y : S128x4096.Idx → EReal) (T : Finset (Fin 4096))
    (L : Pieces S2x1x2048) (L' : Pieces S2x80x2048) : Prop :=
  ∀ g, Group (P g) (X g) (vals y g) T g (View.canon L) (View.canon L')

/-- Both groups visit tile `n`. -/
theorem Both.push {L : Pieces S2x1x2048} {L' : Pieces S2x80x2048} (h : Both P X y T L L') (n : Fin 8)
    (hd : Disjoint T (Finset.univ.map (keyOf n))) {x : S1x4096x256.Idx → EReal}
    {K : Fin 2 → FVec Ideal S512x128 .bf16} {Q : Fin 2 → FVec Ideal S2048x128 .bf16} {B : Fin 2 → FVec Ideal S512x512 .f32}
    {V : Fin 2 → FVec Ideal S64x512 .bf16}
    (hK : ∀ g k j, K g (ix2 k j) = x (ix3 0 (keyOf n k) (lane g j))) (hX : ∀ g, Real2 x (Q g) g (X g)) (hB : ∀ g, Bias (B g) (P g) n)
    (hV : ∀ g (d : Fin 64) k, V g (ix2 d k) = y (ix2 ⟨64 * g.val + d.val, by omega⟩ (keyOf n k)))
    (M : Memref sig .tc .vmem S2x1x2048 .f32) (M' : Memref sig .tc .vmem S2x80x2048 .f32) :
    Both P X y (T ∪ Finset.univ.map (keyOf n)) (maxes M (fun g => scores (K g) (Q g) (B g)) L)
      (sums M M' (fun g => scores (K g) (Q g) (B g)) V L L') := by
  have s0 := Group.visit (h 0) n hd rfl (hK 0) (hX 0) (hB 0) (hV 0)
    (fun c => read_max M L (g := 0) rfl inb_S2x1x2048_S1x1x2048_0_0_0 c) (read_all M' L' (g := 0) rfl inb_S2x80x2048_S1x80x2048_0_0_0) (off := ![0, 0, 0]) rfl
    inb_S2x1x2048_S1x1x2048_0_0_0 inb_S2x80x2048_S1x80x2048_0_0_0 L L'
  have s1 := Group.skip (g := 1) (g' := 0) (by decide) (h 1) (off := ![0, 0, 0]) rfl
    inb_S2x1x2048_S1x1x2048_0_0_0 inb_S2x80x2048_S1x80x2048_0_0_0
    (newM (scores (K 0) (Q 0) (B 0)) (M.view.readCov L (Rect.unit (s := S2x1x2048) ![0, 0, 0] S1x1x2048.size inb_S2x1x2048_S1x1x2048_0_0_0).toLoadRect))
    (newA (scores (K 0) (Q 0) (B 0)) (V 0) (M.view.readCov L (Rect.unit (s := S2x1x2048) ![0, 0, 0] S1x1x2048.size inb_S2x1x2048_S1x1x2048_0_0_0).toLoadRect)
      (M'.view.readCov L' (Rect.unit (s := S2x80x2048) ![0, 0, 0] S1x80x2048.size inb_S2x80x2048_S1x80x2048_0_0_0).toLoadRect))
  intro g
  fin_cases g
  · exact Group.skip (g := 0) (g' := 1) (by decide) s0 (off := ![1, 0, 0]) rfl inb_S2x1x2048_S1x1x2048_1_0_0 inb_S2x80x2048_S1x80x2048_1_0_0 _ _
  · exact Group.visit s1 n hd rfl (hK 1) (hX 1) (hB 1) (hV 1)
      (fun c => read_max M _ (g := 1) rfl inb_S2x1x2048_S1x1x2048_1_0_0 c) (read_all M' _ (g := 1) rfl inb_S2x80x2048_S1x80x2048_1_0_0) (off := ![1, 0, 0]) rfl
      inb_S2x1x2048_S1x1x2048_1_0_0 inb_S2x80x2048_S1x80x2048_1_0_0 _ _

theorem start_real : ∃ r : ℝ, Ideal.ofBits .f32 4020342536#32 = (r : EReal) := by
  refine ⟨-(10587912 * 2 ^ 73), ?_⟩
  simp [Ideal.ofBits, Ideal.ieee, EReal.coe_neg, EReal.coe_mul, EReal.coe_pow]

/-- Both buffers as they are set at the start of a pass. -/
theorem Both.start (L : Pieces S2x1x2048) (L' : Pieces S2x80x2048) :
    Both P X y ∅
      (⟨Rect.unit (s := S2x1x2048) ![0, 0, 0] S2x1x2048.size inb_S2x1x2048_S2x1x2048_0_0_0,
        shapeCast S2x1x2048 (broadcast S2x1x2048 (FloatOps.ofBits .f32 4020342536#32 : Ideal .f32)) shapeCasts_S2x1x2048_S2x1x2048⟩ :: L)
      (⟨Rect.unit (s := S2x80x2048) ![0, 0, 0] S2x80x2048.size inb_S2x80x2048_S2x80x2048_0_0_0,
        shapeCast S2x80x2048 (broadcast S2x80x2048 (FloatOps.ofBits .f32 0#32 : Ideal .f32)) shapeCasts_S2x80x2048_S2x80x2048⟩ :: L') := by
  obtain ⟨r, hr⟩ := start_real
  intro g
  refine Group.start L L' rfl _ _ _ _ r (fun y => ?_) (fun y => ?_)
  · rw [shapeCast_id]; exact hr
  · rw [shapeCast_id]; exact Ideal.ofBits_zero_f32

/-- A block of 512 columns as its four quarters. -/
theorem quarters (w0 w1 w2 w3 : S512x128.Idx → EReal) (r : Fin 512) (j : Fin 512) :
    View.canon (Val := Elt Ideal) (s := S512x512) (e := EltTy.bf16)
      [⟨Rect.unit (s := S512x512) ![0, 384] S512x128.size inb_S512x512_S512x128_0_384, w3⟩,
       ⟨Rect.unit (s := S512x512) ![0, 256] S512x128.size inb_S512x512_S512x128_0_256, w2⟩,
       ⟨Rect.unit (s := S512x512) ![0, 128] S512x128.size inb_S512x512_S512x128_0_128, w1⟩,
       ⟨Rect.unit (s := S512x512) ![0, 0] S512x128.size inb_S512x512_S512x128_0_0, w0⟩] (ix2 r j)
      = (![w0, w1, w2, w3] : Fin 4 → S512x128.Idx → EReal) ⟨j.val / 128, by omega⟩ (ix2 r ⟨j.val % 128, Nat.mod_lt _ (by decide)⟩) := by
  have hit : ∀ (o : ℕ) (inb : ∀ a, (![0, o] : Fin 2 → ℕ) a + S512x128.size a ≤ S512x512.size a) (v : S512x128.Idx → EReal) L,
      j.val / 128 = o / 128 → o % 128 = 0 →
      View.canon (Val := Elt Ideal) (s := S512x512) (e := EltTy.bf16) (⟨Rect.unit (s := S512x512) ![0, o] S512x128.size inb, v⟩ :: L) (ix2 r j)
        = v (ix2 r ⟨j.val % 128, Nat.mod_lt _ (by decide)⟩) := by
    intro o inb v L h1 h2
    have : ix2 r j = (Rect.unit (s := S512x512) ![0, o] S512x128.size inb).emb (ix2 r ⟨j.val % 128, Nat.mod_lt _ (by decide)⟩) := by
      funext a
      apply Fin.ext
      fin_cases a
      · show r.val = 0 + 1 * r.val; omega
      · show j.val = o + 1 * (j.val % 128); omega
    rw [this, View.canon_cons_emb]
  have miss : ∀ (o : ℕ) (inb : ∀ a, (![0, o] : Fin 2 → ℕ) a + S512x128.size a ≤ S512x512.size a) (v : S512x128.Idx → EReal) L,
      j.val / 128 ≠ o / 128 → o % 128 = 0 →
      View.canon (Val := Elt Ideal) (s := S512x512) (e := EltTy.bf16) (⟨Rect.unit (s := S512x512) ![0, o] S512x128.size inb, v⟩ :: L) (ix2 r j)
        = View.canon L (ix2 r j) := by
    intro o inb v L h1 h2
    apply View.canon_cons_of_not_mem
    intro h
    obtain ⟨x, hx⟩ := (Rect.unit (s := S512x512) ![0, o] S512x128.size inb).exists_idx_of_mem h
    have h0 := congrArg (fun y => (y 1).val) hx
    have hx0 : (x 1).val < 128 := (x 1).isLt
    change o + 1 * (x 1).val = j.val at h0
    omega
  have hj := j.isLt
  have key : ∀ (q : Fin 4), j.val / 128 = q.val → (![w0, w1, w2, w3] : Fin 4 → S512x128.Idx → EReal) q (ix2 r ⟨j.val % 128, Nat.mod_lt _ (by decide)⟩) = (![w0, w1, w2, w3] : Fin 4 → S512x128.Idx → EReal) ⟨j.val / 128, by omega⟩ (ix2 r ⟨j.val % 128, Nat.mod_lt _ (by decide)⟩) := by
    intro q hq
    rw [show (⟨j.val / 128, by omega⟩ : Fin 4) = q from Fin.ext hq]
  rcases (by omega : j.val / 128 = 0 ∨ j.val / 128 = 1 ∨ j.val / 128 = 2 ∨ j.val / 128 = 3) with h | h | h | h
  · rw [miss 384 inb_S512x512_S512x128_0_384 _ _ (by omega) rfl, miss 256 inb_S512x512_S512x128_0_256 _ _ (by omega) rfl, miss 128 inb_S512x512_S512x128_0_128 _ _ (by omega) rfl, hit 0 inb_S512x512_S512x128_0_0 _ _ (by omega) rfl]
    exact key 0 h
  · rw [miss 384 inb_S512x512_S512x128_0_384 _ _ (by omega) rfl, miss 256 inb_S512x512_S512x128_0_256 _ _ (by omega) rfl, hit 128 inb_S512x512_S512x128_0_128 _ _ (by omega) rfl]
    exact key 1 h
  · rw [miss 384 inb_S512x512_S512x128_0_384 _ _ (by omega) rfl, hit 256 inb_S512x512_S512x128_0_256 _ _ (by omega) rfl]
    exact key 2 h
  · rw [hit 384 inb_S512x512_S512x128_0_384 _ _ (by omega) rfl]
    exact key 3 h

/-- The pieces of an output block, from the final sums. -/
def outs (M' : Memref sig .tc .vmem S2x80x2048 .f32) (L' : Pieces S2x80x2048) : List (View.Piece (Elt Ideal) S512x512 .bf16) :=
  [⟨Rect.unit (s := S512x512) ![0, 384] S512x128.size inb_S512x512_S512x128_0_384,
      k0_pay118 (F := Ideal) (M'.view.readCov L' (Rect.unit (s := S2x80x2048) ![1, 0, 0] S1x64x2048.size inb_S2x80x2048_S1x64x2048_1_0_0).toLoadRect)
        (M'.view.readCov L' (Rect.unit (s := S2x80x2048) ![1, 64, 0] S1x1x2048.size inb_S2x80x2048_S1x1x2048_1_64_0).toLoadRect)⟩,
   ⟨Rect.unit (s := S512x512) ![0, 256] S512x128.size inb_S512x512_S512x128_0_256,
      k0_pay117 (F := Ideal) (M'.view.readCov L' (Rect.unit (s := S2x80x2048) ![1, 0, 0] S1x64x2048.size inb_S2x80x2048_S1x64x2048_1_0_0).toLoadRect)
        (M'.view.readCov L' (Rect.unit (s := S2x80x2048) ![1, 64, 0] S1x1x2048.size inb_S2x80x2048_S1x1x2048_1_64_0).toLoadRect)⟩,
   ⟨Rect.unit (s := S512x512) ![0, 128] S512x128.size inb_S512x512_S512x128_0_128,
      k0_pay118 (F := Ideal) (M'.view.readCov L' (Rect.unit (s := S2x80x2048) ![0, 0, 0] S1x64x2048.size inb_S2x80x2048_S1x64x2048_0_0_0).toLoadRect)
        (M'.view.readCov L' (Rect.unit (s := S2x80x2048) ![0, 64, 0] S1x1x2048.size inb_S2x80x2048_S1x1x2048_0_64_0).toLoadRect)⟩,
   ⟨Rect.unit (s := S512x512) ![0, 0] S512x128.size inb_S512x512_S512x128_0_0,
      k0_pay117 (F := Ideal) (M'.view.readCov L' (Rect.unit (s := S2x80x2048) ![0, 0, 0] S1x64x2048.size inb_S2x80x2048_S1x64x2048_0_0_0).toLoadRect)
        (M'.view.readCov L' (Rect.unit (s := S2x80x2048) ![0, 64, 0] S1x1x2048.size inb_S2x80x2048_S1x1x2048_0_64_0).toLoadRect)⟩]

theorem quotient {L : Pieces S2x1x2048} {L' : Pieces S2x80x2048} (h : Both P X y T L L') (hT : ∀ g c k, P g c k → k ∈ T) (hne : ∀ g c, ∃ k, P g c k)
    (M' : Memref sig .tc .vmem S2x80x2048 .f32) (g : Fin 2) {off off' : Fin 3 → ℕ} (ho : off = ![g.val, 0, 0]) (ho' : off' = ![g.val, 64, 0])
    (inb : ∀ a, off a + S1x64x2048.size a ≤ S2x80x2048.size a) (inb' : ∀ a, off' a + S1x1x2048.size a ≤ S2x80x2048.size a) (d : Fin 64) (c : Fin 2048) :
    Ideal.div (M'.view.readCov L' (Rect.unit (s := S2x80x2048) off S1x64x2048.size inb).toLoadRect (ix3 0 d c))
        (M'.view.readCov L' (Rect.unit (s := S2x80x2048) off' S1x1x2048.size inb').toLoadRect (ix3 0 0 c))
      = attend (wt (P g) (X g) c) (fun k => y (ix2 ⟨64 * g.val + d.val, by omega⟩ k)) := by
  obtain ⟨k, hk⟩ := hne g c
  have e1 := read_sums (n := 64) M' L' ho inb d c (by omega)
  have e2 := read_sums (n := 1) M' L' ho' inb' 0 c (by decide)
  rw [← Group.finish (h g) rfl (hT g) c hk d]
  refine congrArg₂ Ideal.div (e1.trans ?_) e2
  congr 2
  exact Fin.ext (Nat.zero_add _)

/-- The output block of a pass: each entry the attention of its query row, head and value column. -/
theorem outs_apply {L : Pieces S2x1x2048} {L' : Pieces S2x80x2048} (h : Both P X y T L L') (hT : ∀ g c k, P g c k → k ∈ T)
    (hne : ∀ g c, ∃ k, P g c k) (M' : Memref sig .tc .vmem S2x80x2048 .f32) (r j : Fin 512) :
    View.canon (outs M' L') (ix2 r j)
      = attend (wt (P ⟨j.val / 256, by omega⟩) (X ⟨j.val / 256, by omega⟩) ⟨512 * (j.val % 256 / 64) + r.val, by omega⟩)
          (fun k => y (ix2 ⟨64 * (j.val / 256) + j.val % 64, by omega⟩ k)) := by
  have hr := r.isLt
  have hj := j.isLt
  have key : ∀ (g : Fin 2) (d : Fin 64) (c : Fin 2048), j.val / 256 = g.val → j.val % 64 = d.val → 512 * (j.val % 256 / 64) + r.val = c.val →
      attend (wt (P g) (X g) c) (fun k => y (ix2 ⟨64 * g.val + d.val, by omega⟩ k))
        = attend (wt (P ⟨j.val / 256, by omega⟩) (X ⟨j.val / 256, by omega⟩) ⟨512 * (j.val % 256 / 64) + r.val, by omega⟩)
          (fun k => y (ix2 ⟨64 * (j.val / 256) + j.val % 64, by omega⟩ k)) := by
    have b1 : j.val / 256 < 2 := by omega
    have b2 : j.val % 64 < 64 := by omega
    have b3 : 512 * (j.val % 256 / 64) + r.val < 2048 := by omega
    intro g d c h1 h2 h3
    obtain rfl : g = ⟨j.val / 256, b1⟩ := Fin.ext h1.symm
    obtain rfl : d = ⟨j.val % 64, b2⟩ := Fin.ext h2.symm
    obtain rfl : c = ⟨512 * (j.val % 256 / 64) + r.val, b3⟩ := Fin.ext h3.symm
    rfl
  refine (quarters _ _ _ _ r j).trans ?_
  rcases (by omega : j.val / 128 = 0 ∨ j.val / 128 = 1 ∨ j.val / 128 = 2 ∨ j.val / 128 = 3) with hq | hq | hq | hq
  · rw [show (⟨j.val / 128, by omega⟩ : Fin 4) = 0 from Fin.ext hq]
    refine (pair0_apply _ _ r _).trans ((quotient h hT hne M' 0 rfl rfl _ _ _ _).trans (key _ _ _ ?_ ?_ ?_))
    all_goals simp only [Fin.val_zero]; omega
  · rw [show (⟨j.val / 128, by omega⟩ : Fin 4) = 1 from Fin.ext hq]
    refine (pair1_apply _ _ r _).trans ((quotient h hT hne M' 0 rfl rfl _ _ _ _).trans (key _ _ _ ?_ ?_ ?_))
    all_goals simp only [Fin.val_zero]; omega
  · rw [show (⟨j.val / 128, by omega⟩ : Fin 4) = 2 from Fin.ext hq]
    refine (pair0_apply _ _ r _).trans ((quotient h hT hne M' 1 rfl rfl _ _ _ _).trans (key _ _ _ ?_ ?_ ?_))
    all_goals simp only [Fin.val_one]; omega
  · rw [show (⟨j.val / 128, by omega⟩ : Fin 4) = 3 from Fin.ext hq]
    refine (pair1_apply _ _ r _).trans ((quotient h hT hne M' 1 rfl rfl _ _ _ _).trans (key _ _ _ ?_ ?_ ?_))
    all_goals simp only [Fin.val_one]; omega

end Cert.KernelIdeal.Pass

end
-- ==== Proof.Block.lean ====
module

public import proofs.«01_k».proof.Proof.Pass
public import proofs.«01_k».proof.Proof.Gen.KernelIdeal.Frame

@[expose] public section

set_option maxRecDepth 16384
set_option maxHeartbeats 1000000

noncomputable section

/-! The two passes of a grid point, from its blocks. -/

namespace Cert.KernelIdeal.Block

open Idealize.ShloMosaic Idealize.ShloMosaic.TcCoe Idealize.SL.Sem
open Cert.KernelIdeal Cert.KernelIdeal.Gen Cert.KernelIdeal.Tile Cert.KernelIdeal.State Cert.KernelIdeal.Reads Cert.KernelIdeal.Visit Cert.KernelIdeal.Trip Cert.KernelIdeal.Pass Cert.Attn

/-- What a column may see in the window pass: its own position and the 511 before it. -/
def winP (q : ℕ) (c : Fin 2048) (k : Fin 4096) : Prop :=
  k.val ≤ 512 * q + (rowOf c).val ∧ 512 * q + (rowOf c).val < k.val + 512

theorem mem_tile (n : Fin 8) (k : Fin 4096) : k ∈ Finset.univ.map (keyOf n) ↔ k.val / 512 = n.val := by
  simp only [Finset.mem_map, Finset.mem_univ, true_and]
  constructor
  · rintro ⟨r, rfl⟩
    have := r.isLt
    rw [keyOf_val]; omega
  · intro h
    refine ⟨⟨k.val % 512, Nat.mod_lt _ (by decide)⟩, Fin.ext ?_⟩
    rw [keyOf_val]
    show 512 * n.val + k.val % 512 = k.val
    omega

theorem bias_near (n : Fin 8) : Bias (k0_pay62 (F := Ideal)) (winP n.val) n := by
  classical
  intro k c
  have := k.isLt
  have := (rowOf c).isLt
  rw [causal_apply]
  unfold winP
  by_cases h : k.val ≤ (rowOf c).val
  · rw [if_pos h, if_pos]; rw [keyOf_val]; omega
  · rw [if_neg h, if_neg]; rw [keyOf_val]; omega

theorem bias_far (n : Fin 8) {q : ℕ} (hq : q = n.val + 1) : Bias (k0_pay63 (F := Ideal)) (winP q) n := by
  classical
  intro k c
  have := k.isLt
  have := (rowOf c).isLt
  rw [far_apply]
  unfold winP
  by_cases h : (rowOf c).val < k.val
  · rw [if_pos h, if_pos]; rw [keyOf_val]; omega
  · rw [if_neg h, if_neg]; rw [keyOf_val]; omega

theorem inb11_0 (t : Fin grid0.N) (r : Fin 8) (a : Fin 2) :
    k0_off11 (grid0.coords t) 0#32 (BitVec.ofNat 32 r.val) a + S1x512.size a ≤ S128x512.size a := by
  rw [Off.off11_0 t r]
  fin_cases a
  · show 8 * (t.val % 8) + r.val + 1 ≤ 128; omega
  · show 0 + 512 ≤ 512; omega

theorem inb11_1 (t : Fin grid0.N) (r : Fin 8) (a : Fin 2) :
    k0_off11 (grid0.coords t) 64#32 (BitVec.ofNat 32 r.val) a + S1x512.size a ≤ S128x512.size a := by
  rw [Off.off11_1 t r]
  fin_cases a
  · show 64 + 8 * (t.val % 8) + r.val + 1 ≤ 128; omega
  · show 0 + 512 ≤ 512; omega

/-- The stacked queries of group `g`, from its two slices of the query block. -/
def qs (M : Memref sig .tc .vmem S512x512 .bf16) (hM : M.IsWhole) (x : S512x512.Idx → Ideal .bf16) : Fin 2 → FVec Ideal S2048x128 .bf16 :=
  ![k0_pay64 (F := Ideal) (View.readAt (Elt Ideal) M.view (Rect.unit (s := S512x512) ![0, 0] S512x128.size inb_S512x512_S512x128_0_0).toLoadRect (hM.unread x))
      (View.readAt (Elt Ideal) M.view (Rect.unit (s := S512x512) ![0, 128] S512x128.size inb_S512x512_S512x128_0_128).toLoadRect (hM.unread x)),
    k0_pay64 (F := Ideal) (View.readAt (Elt Ideal) M.view (Rect.unit (s := S512x512) ![0, 256] S512x128.size inb_S512x512_S512x128_0_256).toLoadRect (hM.unread x))
      (View.readAt (Elt Ideal) M.view (Rect.unit (s := S512x512) ![0, 384] S512x128.size inb_S512x512_S512x128_0_384).toLoadRect (hM.unread x))]

theorem qs_apply (M : Memref sig .tc .vmem S512x512 .bf16) (hM : M.IsWhole) (x : S512x512.Idx → Ideal .bf16) (g : Fin 2) (c : Fin 2048) (j : Fin 128) :
    qs M hM x g (ix2 c j) = if (j.val < 64 ↔ c.val / 512 % 2 = 0) then
      x (ix2 (rowOf c) ⟨256 * g.val + 128 * (c.val / 1024) + j.val, by omega⟩) else 0 := by
  have hc := c.isLt
  have key : ∀ (p : ℕ) (hp : p + j.val < 512), p = 256 * g.val + 128 * (c.val / 1024) →
      x (ix2 ⟨c.val % 512, Nat.mod_lt _ (by decide)⟩ ⟨p + j.val, hp⟩) = x (ix2 (rowOf c) ⟨256 * g.val + 128 * (c.val / 1024) + j.val, by omega⟩) := by
    intro p hp e; subst e; rfl
  fin_cases g
  · refine (queries_apply _ _ c j).trans ?_
    split
    · split
      · rw [queries_read M hM x (p := 0) rfl inb_S512x512_S512x128_0_0 _ j (by omega)]
        refine key _ _ ?_; simp only [Fin.zero_eta, Fin.val_zero]; omega
      · rw [queries_read M hM x (p := 128) rfl inb_S512x512_S512x128_0_128 _ j (by omega)]
        refine key _ _ ?_; simp only [Fin.zero_eta, Fin.val_zero]; omega
    · rfl
  · refine (queries_apply _ _ c j).trans ?_
    split
    · split
      · rw [queries_read M hM x (p := 256) rfl inb_S512x512_S512x128_0_256 _ j (by omega)]
        refine key _ _ ?_; simp only [Fin.mk_one, Fin.val_one]; omega
      · rw [queries_read M hM x (p := 384) rfl inb_S512x512_S512x128_0_384 _ j (by omega)]
        refine key _ _ ?_; simp only [Fin.mk_one, Fin.val_one]; omega
    · rfl

namespace A

theorem own (t : Fin grid0.N) : Scalar.subi (Scalar.muli (BitVec.ofNat 32 ((grid0.coords t) 1).val) 512#32)
    (Scalar.muli (kernelRun0_A.sl.v76 (grid0.coords t)) 512#32) = 0#32 := by
  revert t; decide +kernel

section
variable (c : Dev nD) (t : Fin grid0.N)
  (arg2 : Memref sig .tc .vmem S512x512 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S128x4096 .bf16) (harg5 : arg5.IsWhole)
  (arg6 : Memref sig .tc .vmem S128x4096 .bf16) (harg6 : arg6.IsWhole) (arg7 : Memref sig .tc .vmem S128x512 .f32) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S2x1x2048 .f32) (harg10 : arg10.IsWhole) (arg11 : Memref sig .tc .vmem S2x80x2048 .f32) (harg11 : arg11.IsWhole)
  (x0 : S512x512.Idx → Ideal .bf16) (x1 x2 : S1x4096x256.Idx → Ideal .bf16) (x3 x4 : S128x4096.Idx → Ideal .bf16) (x5 : S128x512.Idx → Ideal .f32)
  {X : Fin 2 → Fin 2048 → Fin 4096 → ℝ} {S : Fin 2 → Fin 64 → Fin 512 → Prop}
  (hX : ∀ g, Real2 x1 (qs arg2 harg2 x0 g) g (X g)) (hS : ∀ g, Chosen x5 (S g) g)

include hX hS in
/-- The selected pass up to the query tile's own keys. -/
theorem selected : ∃ L, Both (fun g => selP (S g) (t.val % 8)) X x3 (before (t.val % 8 + 1)) L
    (kernelRun0_A.sl.HS1_2 (F := Ideal) c (grid0.coords t) arg2 harg2 arg3 harg3 arg4 harg4 arg5 harg5 arg6 harg6 arg7 harg7 arg8 harg8 arg9 harg9 arg10 harg10 arg11 harg11 x0 x1 x3 x5) := by
  have h0 : Both (fun g => selP (S g) (t.val % 8)) X x3 ∅ (kernelRun0_A.sl.HS0_1 (F := Ideal)) (kernelRun0_A.sl.HS1_1 (F := Ideal)) := Both.start [] []
  have hl := loop Variants.none c none t arg2 harg2 arg3 harg3 arg4 harg4 arg5 harg5 arg6 harg6 arg7 harg7 arg8 harg8 arg9 harg9 arg10 harg10 arg11 harg11
    (BitVec.ofNat 32 ((grid0.coords t) 1).val) (kernelRun0_A.sl.r c arg2 harg2 x0) (kernelRun0_A.sl.v51 c arg2 harg2 x0)
    (kernelRun0_A.sl.v76 (grid0.coords t)) x1 x3 x5 (hX 0) (hX 1) (hS 0) (hS 1) (kernelRun0_A.sl.HS0_1 (F := Ideal)) (kernelRun0_A.sl.HS1_1 (F := Ideal))
    (h0 0) (h0 1) (k0_t1_loop (grid0.coords t)).trips (Off.trips1 t).le
  have hb : Both (fun g => selP (S g) (t.val % 8)) X x3 (before (k0_t1_loop (grid0.coords t)).trips)
      ((pb_k0_t2 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
        (kernelRun0_A.sl.r c arg2 harg2 x0) (kernelRun0_A.sl.v51 c arg2 harg2 x0) (kernelRun0_A.sl.v76 (grid0.coords t)) (kernelRun0_A.sl.v81 (grid0.coords t))
        (harg3.unread x1) (harg5.unread x3) (harg7.unread x5)
        (arg10.view.writes (Elt Ideal) arg10.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_A.sl.r c arg2 harg2 x0) (kernelRun0_A.sl.v51 c arg2 harg2 x0) (kernelRun0_A.sl.v76 (grid0.coords t))
          (harg3.unread x1) (harg5.unread x3) (harg7.unread x5) (arg10.view.writes (Elt Ideal) arg10.view.junk (kernelRun0_A.sl.HS0_1 (F := Ideal)))
          (arg11.view.writes (Elt Ideal) arg11.view.junk (kernelRun0_A.sl.HS1_1 (F := Ideal))) (k0_t1_loop (grid0.coords t)).trips).1 ++ kernelRun0_A.sl.HS0_1 (F := Ideal)))
        (arg11.view.writes (Elt Ideal) arg11.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_A.sl.r c arg2 harg2 x0) (kernelRun0_A.sl.v51 c arg2 harg2 x0) (kernelRun0_A.sl.v76 (grid0.coords t))
          (harg3.unread x1) (harg5.unread x3) (harg7.unread x5) (arg10.view.writes (Elt Ideal) arg10.view.junk (kernelRun0_A.sl.HS0_1 (F := Ideal)))
          (arg11.view.writes (Elt Ideal) arg11.view.junk (kernelRun0_A.sl.HS1_1 (F := Ideal))) (k0_t1_loop (grid0.coords t)).trips).2 ++ kernelRun0_A.sl.HS1_1 (F := Ideal)))
        (k0_t2_loop (grid0.coords t)).trips).1 ++ ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_A.sl.r c arg2 harg2 x0) (kernelRun0_A.sl.v51 c arg2 harg2 x0) (kernelRun0_A.sl.v76 (grid0.coords t))
          (harg3.unread x1) (harg5.unread x3) (harg7.unread x5) (arg10.view.writes (Elt Ideal) arg10.view.junk (kernelRun0_A.sl.HS0_1 (F := Ideal)))
          (arg11.view.writes (Elt Ideal) arg11.view.junk (kernelRun0_A.sl.HS1_1 (F := Ideal))) (k0_t1_loop (grid0.coords t)).trips).1 ++ kernelRun0_A.sl.HS0_1 (F := Ideal)))
      ((pb_k0_t2 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
        (kernelRun0_A.sl.r c arg2 harg2 x0) (kernelRun0_A.sl.v51 c arg2 harg2 x0) (kernelRun0_A.sl.v76 (grid0.coords t)) (kernelRun0_A.sl.v81 (grid0.coords t))
        (harg3.unread x1) (harg5.unread x3) (harg7.unread x5)
        (arg10.view.writes (Elt Ideal) arg10.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_A.sl.r c arg2 harg2 x0) (kernelRun0_A.sl.v51 c arg2 harg2 x0) (kernelRun0_A.sl.v76 (grid0.coords t))
          (harg3.unread x1) (harg5.unread x3) (harg7.unread x5) (arg10.view.writes (Elt Ideal) arg10.view.junk (kernelRun0_A.sl.HS0_1 (F := Ideal)))
          (arg11.view.writes (Elt Ideal) arg11.view.junk (kernelRun0_A.sl.HS1_1 (F := Ideal))) (k0_t1_loop (grid0.coords t)).trips).1 ++ kernelRun0_A.sl.HS0_1 (F := Ideal)))
        (arg11.view.writes (Elt Ideal) arg11.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_A.sl.r c arg2 harg2 x0) (kernelRun0_A.sl.v51 c arg2 harg2 x0) (kernelRun0_A.sl.v76 (grid0.coords t))
          (harg3.unread x1) (harg5.unread x3) (harg7.unread x5) (arg10.view.writes (Elt Ideal) arg10.view.junk (kernelRun0_A.sl.HS0_1 (F := Ideal)))
          (arg11.view.writes (Elt Ideal) arg11.view.junk (kernelRun0_A.sl.HS1_1 (F := Ideal))) (k0_t1_loop (grid0.coords t)).trips).2 ++ kernelRun0_A.sl.HS1_1 (F := Ideal)))
        (k0_t2_loop (grid0.coords t)).trips).2 ++ ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_A.sl.r c arg2 harg2 x0) (kernelRun0_A.sl.v51 c arg2 harg2 x0) (kernelRun0_A.sl.v76 (grid0.coords t))
          (harg3.unread x1) (harg5.unread x3) (harg7.unread x5) (arg10.view.writes (Elt Ideal) arg10.view.junk (kernelRun0_A.sl.HS0_1 (F := Ideal)))
          (arg11.view.writes (Elt Ideal) arg11.view.junk (kernelRun0_A.sl.HS1_1 (F := Ideal))) (k0_t1_loop (grid0.coords t)).trips).2 ++ kernelRun0_A.sl.HS1_1 (F := Ideal))) := by
    rw [Off.trips2 t]
    intro g
    fin_cases g
    · exact hl.1
    · exact hl.2
  have hp := Both.push hb ⟨t.val % 8, Nat.mod_lt _ (by decide)⟩ (by rw [Off.trips1 t]; exact before_disjoint ⟨t.val % 8, Nat.mod_lt _ (by decide)⟩)
    (x := x1) (Q := qs arg2 harg2 x0)
    (K := ![shapeCast S512x128 (View.readAt (Elt Ideal) arg3.view (Rect.unit (s := S1x4096x256) (k0_off12 (grid0.coords t)) S1x512x128.size (k0_off12_inb (grid0.coords t))).toLoadRect (harg3.unread x1)) shapeCasts_S1x512x128_S512x128,
      shapeCast S512x128 (View.readAt (Elt Ideal) arg3.view (Rect.unit (s := S1x4096x256) (k0_off14 (grid0.coords t)) S1x512x128.size (k0_off14_inb (grid0.coords t))).toLoadRect (harg3.unread x1)) shapeCasts_S1x512x128_S512x128])
    (B := ![addf (F := Ideal) (φ := .f32) (rows8 fun r => row arg7 harg7 x5 (k0_off11 (grid0.coords t) 0#32 (BitVec.ofNat 32 r.val)) (inb11_0 t r))
        (k0_pay74 (F := Ideal) (BitVec.ofNat 32 ((grid0.coords t) 1).val) (kernelRun0_A.sl.v76 (grid0.coords t))),
      addf (F := Ideal) (φ := .f32) (rows8 fun r => row arg7 harg7 x5 (k0_off11 (grid0.coords t) 64#32 (BitVec.ofNat 32 r.val)) (inb11_1 t r))
        (k0_pay74 (F := Ideal) (BitVec.ofNat 32 ((grid0.coords t) 1).val) (kernelRun0_A.sl.v76 (grid0.coords t)))])
    (V := ![shapeCast S64x512 (View.readAt (Elt Ideal) arg5.view (Rect.unit (s := S128x4096) (k0_off13 (grid0.coords t)) S64x512.size (k0_off13_inb (grid0.coords t))).toLoadRect (harg5.unread x3)) shapeCasts_S64x512_S64x512,
      shapeCast S64x512 (View.readAt (Elt Ideal) arg5.view (Rect.unit (s := S128x4096) (k0_off15 (grid0.coords t)) S64x512.size (k0_off15_inb (grid0.coords t))).toLoadRect (harg5.unread x3)) shapeCasts_S64x512_S64x512])
    (by
      intro g
      fin_cases g
      · exact keys_at arg3 harg3 x1 _ 0 (Off.off12 t) rfl _
      · exact keys_at arg3 harg3 x1 _ 1 (Off.off14 t) rfl _)
    hX
    (by
      intro g
      fin_cases g
      · exact bias_own arg7 harg7 x5 (S 0) 0 (hS 0) ⟨t.val % 8, Nat.mod_lt _ (by decide)⟩ _ (Off.off11_0 t) (by simp) _ _ _ (own t)
      · exact bias_own arg7 harg7 x5 (S 1) 1 (hS 1) ⟨t.val % 8, Nat.mod_lt _ (by decide)⟩ _ (Off.off11_1 t) (by simp) _ _ _ (own t))
    (by
      intro g
      fin_cases g
      · exact values_at arg5 harg5 x3 _ 0 (Off.off13 t) rfl _
      · exact values_at arg5 harg5 x3 _ 1 (Off.off15 t) rfl _)
    arg10 arg11
  have hT : before (k0_t1_loop (grid0.coords t)).trips ∪ Finset.univ.map (keyOf ⟨t.val % 8, Nat.mod_lt _ (by decide)⟩) = before (t.val % 8 + 1) := by
    rw [Off.trips1 t]; exact before_succ ⟨t.val % 8, Nat.mod_lt _ (by decide)⟩
  rw [hT] at hp
  exact ⟨_, hp⟩

include hX hS in
/-- The first output block: attention over the selected blocks. -/
theorem out6 (hc0 : ¬cond0_0 (grid0.coords t)) (hne : ∀ g r, ∃ k, selP (S g) (t.val % 8) r k) (r j : Fin 512) :
    out0_A_6 (F := Ideal) c (grid0.coords t) arg2 harg2 arg3 harg3 arg4 harg4 arg5 harg5 arg6 harg6 arg7 harg7 arg8 harg8 arg9 harg9 arg10 harg10 arg11 harg11 hc0 x0 x1 x2 x3 x4 x5 (ix2 r j)
      = attend (wt (selP (S ⟨j.val / 256, by omega⟩) (t.val % 8)) (X ⟨j.val / 256, by omega⟩) ⟨512 * (j.val % 256 / 64) + r.val, by omega⟩)
          (fun k => x3 (ix2 ⟨64 * (j.val / 256) + j.val % 64, by omega⟩ k)) := by
  obtain ⟨L, h⟩ := selected c t arg2 harg2 arg3 harg3 arg4 harg4 arg5 harg5 arg6 harg6 arg7 harg7 arg8 harg8 arg9 harg9 arg10 harg10 arg11 harg11 x0 x1 x3 x5 hX hS
  have e := outs_apply h (fun g r k hk => by
    have := (rowOf r).isLt
    simp only [before, Finset.mem_filter, Finset.mem_univ, true_and]
    have := hk.2; omega) hne arg11 r j
  refine Eq.trans ?_ e
  unfold out0_A_6
  rw [View.read_writes_junk_eq_canon]
  rfl
end

section
variable (c : Dev nD) (t : Fin grid0.N)
  (arg2 : Memref sig .tc .vmem S512x512 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S128x4096 .bf16) (harg5 : arg5.IsWhole)
  (arg6 : Memref sig .tc .vmem S128x4096 .bf16) (harg6 : arg6.IsWhole) (arg7 : Memref sig .tc .vmem S128x512 .f32) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S2x1x2048 .f32) (harg10 : arg10.IsWhole) (arg11 : Memref sig .tc .vmem S2x80x2048 .f32) (harg11 : arg11.IsWhole)
  (x0 : S512x512.Idx → Ideal .bf16) (x1 x2 : S1x4096x256.Idx → Ideal .bf16) (x3 x4 : S128x4096.Idx → Ideal .bf16) (x5 : S128x512.Idx → Ideal .f32)
  {X : Fin 2 → Fin 2048 → Fin 4096 → ℝ}
  (hX : ∀ g, Real2 x2 (qs arg2 harg2 x0 g) g (X g))

include hX in
/-- The window pass. -/
theorem window (hc0 : ¬cond0_0 (grid0.coords t)) (hq : ¬1 ≤ t.val % 8) : ∃ L, Both (fun _ => winP (t.val % 8)) X x4 (∅ ∪ Finset.univ.map (keyOf ⟨t.val % 8, Nat.mod_lt _ (by decide)⟩)) L
    (kernelRun0_A.sl.HS1_5 (F := Ideal) c (grid0.coords t) arg2 harg2 arg3 harg3 arg4 harg4 arg5 harg5 arg6 harg6 arg7 harg7 arg8 harg8 arg9 harg9 arg10 harg10 arg11 harg11  x0 x1 x2 x3 x4 x5) := by
  have h0 : Both (fun _ => winP (t.val % 8)) X x4 ∅ (kernelRun0_A.sl.HS0_3 (F := Ideal) c (grid0.coords t) arg2 harg2 arg3 harg3 arg4 harg4 arg5 harg5 arg6 harg6 arg7 harg7 arg8 harg8 arg9 harg9 arg10 harg10 arg11 harg11 x0 x1 x3 x5)
    (kernelRun0_A.sl.HS1_3 (F := Ideal) c (grid0.coords t) arg2 harg2 arg3 harg3 arg4 harg4 arg5 harg5 arg6 harg6 arg7 harg7 arg8 harg8 arg9 harg9 arg10 harg10 arg11 harg11 x0 x1 x3 x5) := Both.start _ _
  have hp := Both.push h0 ⟨t.val % 8, Nat.mod_lt _ (by decide)⟩ (Finset.disjoint_empty_left _)
    (x := x2) (Q := qs arg2 harg2 x0)
    (K := ![shapeCast S512x128 (View.readAt (Elt Ideal) arg4.view (Rect.unit (s := S1x4096x256) (k0_off20 (grid0.coords t)) S1x512x128.size (k0_off20_inb (grid0.coords t))).toLoadRect (harg4.unread x2)) shapeCasts_S1x512x128_S512x128,
      shapeCast S512x128 (View.readAt (Elt Ideal) arg4.view (Rect.unit (s := S1x4096x256) (k0_off22 (grid0.coords t)) S1x512x128.size (k0_off22_inb (grid0.coords t))).toLoadRect (harg4.unread x2)) shapeCasts_S1x512x128_S512x128])
    (B := fun _ => k0_pay62 (F := Ideal))
    (V := ![shapeCast S64x512 (View.readAt (Elt Ideal) arg6.view (Rect.unit (s := S128x4096) (k0_off21 (grid0.coords t)) S64x512.size (k0_off21_inb (grid0.coords t))).toLoadRect (harg6.unread x4)) shapeCasts_S64x512_S64x512,
      shapeCast S64x512 (View.readAt (Elt Ideal) arg6.view (Rect.unit (s := S128x4096) (k0_off23 (grid0.coords t)) S64x512.size (k0_off23_inb (grid0.coords t))).toLoadRect (harg6.unread x4)) shapeCasts_S64x512_S64x512])
    (by
      intro g
      fin_cases g
      · exact keys_at arg4 harg4 x2 _ 0 (Off.off20 t) rfl _
      · exact keys_at arg4 harg4 x2 _ 1 (Off.off22 t) rfl _)
    hX
    (fun _ => bias_near ⟨t.val % 8, Nat.mod_lt _ (by decide)⟩)
    (by
      intro g
      fin_cases g
      · exact values_at arg6 harg6 x4 _ 0 (Off.off21 t) rfl _
      · exact values_at arg6 harg6 x4 _ 1 (Off.off23 t) rfl _)
    arg10 arg11
  exact ⟨_, hp⟩

include hX in
/-- The second output block: attention over the window. -/
theorem out7 (hc0 : ¬cond0_0 (grid0.coords t)) (hq : ¬1 ≤ t.val % 8) (r j : Fin 512) :
    out0_A_7 (F := Ideal) c (grid0.coords t) arg2 harg2 arg3 harg3 arg4 harg4 arg5 harg5 arg6 harg6 arg7 harg7 arg8 harg8 arg9 harg9 arg10 harg10 arg11 harg11 hc0 x0 x1 x2 x3 x4 x5 (ix2 r j)
      = attend (wt (winP (t.val % 8)) (X ⟨j.val / 256, by omega⟩) ⟨512 * (j.val % 256 / 64) + r.val, by omega⟩)
          (fun k => x4 (ix2 ⟨64 * (j.val / 256) + j.val % 64, by omega⟩ k)) := by
  obtain ⟨L, h⟩ := window c t arg2 harg2 arg3 harg3 arg4 harg4 arg5 harg5 arg6 harg6 arg7 harg7 arg8 harg8 arg9 harg9 arg10 harg10 arg11 harg11 x0 x1 x2 x3 x4 x5 hX hc0 hq
  have e := outs_apply h (fun g r k hk => by
    have := (rowOf r).isLt
    simp only [Finset.mem_union, mem_tile, Finset.notMem_empty, false_or]
    have := hk.1; have := hk.2; omega) (fun g r => ⟨⟨512 * (t.val % 8) + (rowOf r).val, by have := (rowOf r).isLt; omega⟩, by
      unfold winP; dsimp only; omega⟩) arg11 r j
  refine Eq.trans ?_ e
  unfold out0_A_7
  rw [View.read_writes_junk_eq_canon]
  rfl
end

end A

namespace B

theorem own (t : Fin grid0.N) : Scalar.subi (Scalar.muli (BitVec.ofNat 32 ((grid0.coords t) 1).val) 512#32)
    (Scalar.muli (kernelRun0_B.sl.v76 (grid0.coords t)) 512#32) = 0#32 := by
  revert t; decide +kernel

section
variable (c : Dev nD) (t : Fin grid0.N)
  (arg2 : Memref sig .tc .vmem S512x512 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S128x4096 .bf16) (harg5 : arg5.IsWhole)
  (arg6 : Memref sig .tc .vmem S128x4096 .bf16) (harg6 : arg6.IsWhole) (arg7 : Memref sig .tc .vmem S128x512 .f32) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S2x1x2048 .f32) (harg10 : arg10.IsWhole) (arg11 : Memref sig .tc .vmem S2x80x2048 .f32) (harg11 : arg11.IsWhole)
  (x0 : S512x512.Idx → Ideal .bf16) (x1 x2 : S1x4096x256.Idx → Ideal .bf16) (x3 x4 : S128x4096.Idx → Ideal .bf16) (x5 : S128x512.Idx → Ideal .f32)
  {X : Fin 2 → Fin 2048 → Fin 4096 → ℝ} {S : Fin 2 → Fin 64 → Fin 512 → Prop}
  (hX : ∀ g, Real2 x1 (qs arg2 harg2 x0 g) g (X g)) (hS : ∀ g, Chosen x5 (S g) g)

include hX hS in
/-- The selected pass up to the query tile's own keys. -/
theorem selected : ∃ L, Both (fun g => selP (S g) (t.val % 8)) X x3 (before (t.val % 8 + 1)) L
    (kernelRun0_B.sl.HS1_2 (F := Ideal) c (grid0.coords t) arg2 harg2 arg3 harg3 arg4 harg4 arg5 harg5 arg6 harg6 arg7 harg7 arg8 harg8 arg9 harg9 arg10 harg10 arg11 harg11 x0 x1 x3 x5) := by
  have h0 : Both (fun g => selP (S g) (t.val % 8)) X x3 ∅ (kernelRun0_B.sl.HS0_1 (F := Ideal)) (kernelRun0_B.sl.HS1_1 (F := Ideal)) := Both.start [] []
  have hl := loop Variants.none c none t arg2 harg2 arg3 harg3 arg4 harg4 arg5 harg5 arg6 harg6 arg7 harg7 arg8 harg8 arg9 harg9 arg10 harg10 arg11 harg11
    (BitVec.ofNat 32 ((grid0.coords t) 1).val) (kernelRun0_B.sl.r c arg2 harg2 x0) (kernelRun0_B.sl.v51 c arg2 harg2 x0)
    (kernelRun0_B.sl.v76 (grid0.coords t)) x1 x3 x5 (hX 0) (hX 1) (hS 0) (hS 1) (kernelRun0_B.sl.HS0_1 (F := Ideal)) (kernelRun0_B.sl.HS1_1 (F := Ideal))
    (h0 0) (h0 1) (k0_t1_loop (grid0.coords t)).trips (Off.trips1 t).le
  have hb : Both (fun g => selP (S g) (t.val % 8)) X x3 (before (k0_t1_loop (grid0.coords t)).trips)
      ((pb_k0_t2 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
        (kernelRun0_B.sl.r c arg2 harg2 x0) (kernelRun0_B.sl.v51 c arg2 harg2 x0) (kernelRun0_B.sl.v76 (grid0.coords t)) (kernelRun0_B.sl.v81 (grid0.coords t))
        (harg3.unread x1) (harg5.unread x3) (harg7.unread x5)
        (arg10.view.writes (Elt Ideal) arg10.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_B.sl.r c arg2 harg2 x0) (kernelRun0_B.sl.v51 c arg2 harg2 x0) (kernelRun0_B.sl.v76 (grid0.coords t))
          (harg3.unread x1) (harg5.unread x3) (harg7.unread x5) (arg10.view.writes (Elt Ideal) arg10.view.junk (kernelRun0_B.sl.HS0_1 (F := Ideal)))
          (arg11.view.writes (Elt Ideal) arg11.view.junk (kernelRun0_B.sl.HS1_1 (F := Ideal))) (k0_t1_loop (grid0.coords t)).trips).1 ++ kernelRun0_B.sl.HS0_1 (F := Ideal)))
        (arg11.view.writes (Elt Ideal) arg11.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_B.sl.r c arg2 harg2 x0) (kernelRun0_B.sl.v51 c arg2 harg2 x0) (kernelRun0_B.sl.v76 (grid0.coords t))
          (harg3.unread x1) (harg5.unread x3) (harg7.unread x5) (arg10.view.writes (Elt Ideal) arg10.view.junk (kernelRun0_B.sl.HS0_1 (F := Ideal)))
          (arg11.view.writes (Elt Ideal) arg11.view.junk (kernelRun0_B.sl.HS1_1 (F := Ideal))) (k0_t1_loop (grid0.coords t)).trips).2 ++ kernelRun0_B.sl.HS1_1 (F := Ideal)))
        (k0_t2_loop (grid0.coords t)).trips).1 ++ ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_B.sl.r c arg2 harg2 x0) (kernelRun0_B.sl.v51 c arg2 harg2 x0) (kernelRun0_B.sl.v76 (grid0.coords t))
          (harg3.unread x1) (harg5.unread x3) (harg7.unread x5) (arg10.view.writes (Elt Ideal) arg10.view.junk (kernelRun0_B.sl.HS0_1 (F := Ideal)))
          (arg11.view.writes (Elt Ideal) arg11.view.junk (kernelRun0_B.sl.HS1_1 (F := Ideal))) (k0_t1_loop (grid0.coords t)).trips).1 ++ kernelRun0_B.sl.HS0_1 (F := Ideal)))
      ((pb_k0_t2 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
        (kernelRun0_B.sl.r c arg2 harg2 x0) (kernelRun0_B.sl.v51 c arg2 harg2 x0) (kernelRun0_B.sl.v76 (grid0.coords t)) (kernelRun0_B.sl.v81 (grid0.coords t))
        (harg3.unread x1) (harg5.unread x3) (harg7.unread x5)
        (arg10.view.writes (Elt Ideal) arg10.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_B.sl.r c arg2 harg2 x0) (kernelRun0_B.sl.v51 c arg2 harg2 x0) (kernelRun0_B.sl.v76 (grid0.coords t))
          (harg3.unread x1) (harg5.unread x3) (harg7.unread x5) (arg10.view.writes (Elt Ideal) arg10.view.junk (kernelRun0_B.sl.HS0_1 (F := Ideal)))
          (arg11.view.writes (Elt Ideal) arg11.view.junk (kernelRun0_B.sl.HS1_1 (F := Ideal))) (k0_t1_loop (grid0.coords t)).trips).1 ++ kernelRun0_B.sl.HS0_1 (F := Ideal)))
        (arg11.view.writes (Elt Ideal) arg11.view.junk ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_B.sl.r c arg2 harg2 x0) (kernelRun0_B.sl.v51 c arg2 harg2 x0) (kernelRun0_B.sl.v76 (grid0.coords t))
          (harg3.unread x1) (harg5.unread x3) (harg7.unread x5) (arg10.view.writes (Elt Ideal) arg10.view.junk (kernelRun0_B.sl.HS0_1 (F := Ideal)))
          (arg11.view.writes (Elt Ideal) arg11.view.junk (kernelRun0_B.sl.HS1_1 (F := Ideal))) (k0_t1_loop (grid0.coords t)).trips).2 ++ kernelRun0_B.sl.HS1_1 (F := Ideal)))
        (k0_t2_loop (grid0.coords t)).trips).2 ++ ((pb_k0_t1 (F := Ideal) Variants.none c none (grid0.coords t) arg2 harg2 arg3 harg3 arg4 harg4 arg5 harg5 arg6 harg6 arg7 harg7 arg8 harg8 arg9 harg9 arg10 harg10 arg11 harg11 (BitVec.ofNat 32 ((grid0.coords t) 1).val)
          (kernelRun0_B.sl.r c arg2 harg2 x0) (kernelRun0_B.sl.v51 c arg2 harg2 x0) (kernelRun0_B.sl.v76 (grid0.coords t))
          (harg3.unread x1) (harg5.unread x3) (harg7.unread x5) (arg10.view.writes (Elt Ideal) arg10.view.junk (kernelRun0_B.sl.HS0_1 (F := Ideal)))
          (arg11.view.writes (Elt Ideal) arg11.view.junk (kernelRun0_B.sl.HS1_1 (F := Ideal))) (k0_t1_loop (grid0.coords t)).trips).2 ++ kernelRun0_B.sl.HS1_1 (F := Ideal))) := by
    rw [Off.trips2 t]
    intro g
    fin_cases g
    · exact hl.1
    · exact hl.2
  have hp := Both.push hb ⟨t.val % 8, Nat.mod_lt _ (by decide)⟩ (by rw [Off.trips1 t]; exact before_disjoint ⟨t.val % 8, Nat.mod_lt _ (by decide)⟩)
    (x := x1) (Q := qs arg2 harg2 x0)
    (K := ![shapeCast S512x128 (View.readAt (Elt Ideal) arg3.view (Rect.unit (s := S1x4096x256) (k0_off12 (grid0.coords t)) S1x512x128.size (k0_off12_inb (grid0.coords t))).toLoadRect (harg3.unread x1)) shapeCasts_S1x512x128_S512x128,
      shapeCast S512x128 (View.readAt (Elt Ideal) arg3.view (Rect.unit (s := S1x4096x256) (k0_off14 (grid0.coords t)) S1x512x128.size (k0_off14_inb (grid0.coords t))).toLoadRect (harg3.unread x1)) shapeCasts_S1x512x128_S512x128])
    (B := ![addf (F := Ideal) (φ := .f32) (rows8 fun r => row arg7 harg7 x5 (k0_off11 (grid0.coords t) 0#32 (BitVec.ofNat 32 r.val)) (inb11_0 t r))
        (k0_pay74 (F := Ideal) (BitVec.ofNat 32 ((grid0.coords t) 1).val) (kernelRun0_B.sl.v76 (grid0.coords t))),
      addf (F := Ideal) (φ := .f32) (rows8 fun r => row arg7 harg7 x5 (k0_off11 (grid0.coords t) 64#32 (BitVec.ofNat 32 r.val)) (inb11_1 t r))
        (k0_pay74 (F := Ideal) (BitVec.ofNat 32 ((grid0.coords t) 1).val) (kernelRun0_B.sl.v76 (grid0.coords t)))])
    (V := ![shapeCast S64x512 (View.readAt (Elt Ideal) arg5.view (Rect.unit (s := S128x4096) (k0_off13 (grid0.coords t)) S64x512.size (k0_off13_inb (grid0.coords t))).toLoadRect (harg5.unread x3)) shapeCasts_S64x512_S64x512,
      shapeCast S64x512 (View.readAt (Elt Ideal) arg5.view (Rect.unit (s := S128x4096) (k0_off15 (grid0.coords t)) S64x512.size (k0_off15_inb (grid0.coords t))).toLoadRect (harg5.unread x3)) shapeCasts_S64x512_S64x512])
    (by
      intro g
      fin_cases g
      · exact keys_at arg3 harg3 x1 _ 0 (Off.off12 t) rfl _
      · exact keys_at arg3 harg3 x1 _ 1 (Off.off14 t) rfl _)
    hX
    (by
      intro g
      fin_cases g
      · exact bias_own arg7 harg7 x5 (S 0) 0 (hS 0) ⟨t.val % 8, Nat.mod_lt _ (by decide)⟩ _ (Off.off11_0 t) (by simp) _ _ _ (own t)
      · exact bias_own arg7 harg7 x5 (S 1) 1 (hS 1) ⟨t.val % 8, Nat.mod_lt _ (by decide)⟩ _ (Off.off11_1 t) (by simp) _ _ _ (own t))
    (by
      intro g
      fin_cases g
      · exact values_at arg5 harg5 x3 _ 0 (Off.off13 t) rfl _
      · exact values_at arg5 harg5 x3 _ 1 (Off.off15 t) rfl _)
    arg10 arg11
  have hT : before (k0_t1_loop (grid0.coords t)).trips ∪ Finset.univ.map (keyOf ⟨t.val % 8, Nat.mod_lt _ (by decide)⟩) = before (t.val % 8 + 1) := by
    rw [Off.trips1 t]; exact before_succ ⟨t.val % 8, Nat.mod_lt _ (by decide)⟩
  rw [hT] at hp
  exact ⟨_, hp⟩

include hX hS in
/-- The first output block: attention over the selected blocks. -/
theorem out6 (hc0 : cond0_0 (grid0.coords t)) (hne : ∀ g r, ∃ k, selP (S g) (t.val % 8) r k) (r j : Fin 512) :
    out0_B_6 (F := Ideal) c (grid0.coords t) arg2 harg2 arg3 harg3 arg4 harg4 arg5 harg5 arg6 harg6 arg7 harg7 arg8 harg8 arg9 harg9 arg10 harg10 arg11 harg11 hc0 x0 x1 x2 x3 x4 x5 (ix2 r j)
      = attend (wt (selP (S ⟨j.val / 256, by omega⟩) (t.val % 8)) (X ⟨j.val / 256, by omega⟩) ⟨512 * (j.val % 256 / 64) + r.val, by omega⟩)
          (fun k => x3 (ix2 ⟨64 * (j.val / 256) + j.val % 64, by omega⟩ k)) := by
  obtain ⟨L, h⟩ := selected c t arg2 harg2 arg3 harg3 arg4 harg4 arg5 harg5 arg6 harg6 arg7 harg7 arg8 harg8 arg9 harg9 arg10 harg10 arg11 harg11 x0 x1 x3 x5 hX hS
  have e := outs_apply h (fun g r k hk => by
    have := (rowOf r).isLt
    simp only [before, Finset.mem_filter, Finset.mem_univ, true_and]
    have := hk.2; omega) hne arg11 r j
  refine Eq.trans ?_ e
  unfold out0_B_6
  rw [View.read_writes_junk_eq_canon]
  rfl
end

section
variable (c : Dev nD) (t : Fin grid0.N)
  (arg2 : Memref sig .tc .vmem S512x512 .bf16) (harg2 : arg2.IsWhole) (arg3 : Memref sig .tc .vmem S1x4096x256 .bf16) (harg3 : arg3.IsWhole)
  (arg4 : Memref sig .tc .vmem S1x4096x256 .bf16) (harg4 : arg4.IsWhole) (arg5 : Memref sig .tc .vmem S128x4096 .bf16) (harg5 : arg5.IsWhole)
  (arg6 : Memref sig .tc .vmem S128x4096 .bf16) (harg6 : arg6.IsWhole) (arg7 : Memref sig .tc .vmem S128x512 .f32) (harg7 : arg7.IsWhole)
  (arg8 : Memref sig .tc .vmem S512x512 .bf16) (harg8 : arg8.IsWhole) (arg9 : Memref sig .tc .vmem S512x512 .bf16) (harg9 : arg9.IsWhole)
  (arg10 : Memref sig .tc .vmem S2x1x2048 .f32) (harg10 : arg10.IsWhole) (arg11 : Memref sig .tc .vmem S2x80x2048 .f32) (harg11 : arg11.IsWhole)
  (x0 : S512x512.Idx → Ideal .bf16) (x1 x2 : S1x4096x256.Idx → Ideal .bf16) (x3 x4 : S128x4096.Idx → Ideal .bf16) (x5 : S128x512.Idx → Ideal .f32)
  {X : Fin 2 → Fin 2048 → Fin 4096 → ℝ}
  (hX : ∀ g, Real2 x2 (qs arg2 harg2 x0 g) g (X g))

include hX in
/-- The window pass. -/
theorem window (hc0 : cond0_0 (grid0.coords t)) (hq : 1 ≤ t.val % 8) : ∃ L, Both (fun _ => winP (t.val % 8)) X x4 (∅ ∪ Finset.univ.map (keyOf ⟨t.val % 8 - 1, by omega⟩) ∪ Finset.univ.map (keyOf ⟨t.val % 8, Nat.mod_lt _ (by decide)⟩)) L
    (kernelRun0_B.sl.HS1_7 (F := Ideal) c (grid0.coords t) arg2 harg2 arg3 harg3 arg4 harg4 arg5 harg5 arg6 harg6 arg7 harg7 arg8 harg8 arg9 harg9 arg10 harg10 arg11 harg11 hc0 x0 x1 x2 x3 x4 x5) := by
  have h0 : Both (fun _ => winP (t.val % 8)) X x4 ∅ (kernelRun0_B.sl.HS0_3 (F := Ideal) c (grid0.coords t) arg2 harg2 arg3 harg3 arg4 harg4 arg5 harg5 arg6 harg6 arg7 harg7 arg8 harg8 arg9 harg9 arg10 harg10 arg11 harg11 x0 x1 x3 x5)
    (kernelRun0_B.sl.HS1_3 (F := Ideal) c (grid0.coords t) arg2 harg2 arg3 harg3 arg4 harg4 arg5 harg5 arg6 harg6 arg7 harg7 arg8 harg8 arg9 harg9 arg10 harg10 arg11 harg11 x0 x1 x3 x5) := Both.start _ _
  have h0 := Both.push h0 ⟨t.val % 8 - 1, by omega⟩ (Finset.disjoint_empty_left _)
    (x := x2) (Q := qs arg2 harg2 x0)
    (K := ![shapeCast S512x128 (View.readAt (Elt Ideal) arg4.view (Rect.unit (s := S1x4096x256) (k0_off16 (grid0.coords t)) S1x512x128.size (k0_off16_inb (grid0.coords t) hc0)).toLoadRect (harg4.unread x2)) shapeCasts_S1x512x128_S512x128,
      shapeCast S512x128 (View.readAt (Elt Ideal) arg4.view (Rect.unit (s := S1x4096x256) (k0_off18 (grid0.coords t)) S1x512x128.size (k0_off18_inb (grid0.coords t) hc0)).toLoadRect (harg4.unread x2)) shapeCasts_S1x512x128_S512x128])
    (B := fun _ => k0_pay63 (F := Ideal))
    (V := ![shapeCast S64x512 (View.readAt (Elt Ideal) arg6.view (Rect.unit (s := S128x4096) (k0_off17 (grid0.coords t)) S64x512.size (k0_off17_inb (grid0.coords t) hc0)).toLoadRect (harg6.unread x4)) shapeCasts_S64x512_S64x512,
      shapeCast S64x512 (View.readAt (Elt Ideal) arg6.view (Rect.unit (s := S128x4096) (k0_off19 (grid0.coords t)) S64x512.size (k0_off19_inb (grid0.coords t) hc0)).toLoadRect (harg6.unread x4)) shapeCasts_S64x512_S64x512])
    (by
      intro g
      fin_cases g
      · exact keys_at arg4 harg4 x2 _ 0 (Off.off16 t hq) rfl _
      · exact keys_at arg4 harg4 x2 _ 1 (Off.off18 t hq) rfl _)
    hX
    (fun _ => bias_far ⟨t.val % 8 - 1, by omega⟩ (by dsimp only; omega))
    (by
      intro g
      fin_cases g
      · exact values_at arg6 harg6 x4 _ 0 (Off.off17 t hq) rfl _
      · exact values_at arg6 harg6 x4 _ 1 (Off.off19 t hq) rfl _)
    arg10 arg11
  have hp := Both.push h0 ⟨t.val % 8, Nat.mod_lt _ (by decide)⟩ (by
      rw [Finset.empty_union]; exact tile_disjoint _ _ (fun h => by have := congrArg Fin.val h; dsimp only at this; omega))
    (x := x2) (Q := qs arg2 harg2 x0)
    (K := ![shapeCast S512x128 (View.readAt (Elt Ideal) arg4.view (Rect.unit (s := S1x4096x256) (k0_off20 (grid0.coords t)) S1x512x128.size (k0_off20_inb (grid0.coords t))).toLoadRect (harg4.unread x2)) shapeCasts_S1x512x128_S512x128,
      shapeCast S512x128 (View.readAt (Elt Ideal) arg4.view (Rect.unit (s := S1x4096x256) (k0_off22 (grid0.coords t)) S1x512x128.size (k0_off22_inb (grid0.coords t))).toLoadRect (harg4.unread x2)) shapeCasts_S1x512x128_S512x128])
    (B := fun _ => k0_pay62 (F := Ideal))
    (V := ![shapeCast S64x512 (View.readAt (Elt Ideal) arg6.view (Rect.unit (s := S128x4096) (k0_off21 (grid0.coords t)) S64x512.size (k0_off21_inb (grid0.coords t))).toLoadRect (harg6.unread x4)) shapeCasts_S64x512_S64x512,
      shapeCast S64x512 (View.readAt (Elt Ideal) arg6.view (Rect.unit (s := S128x4096) (k0_off23 (grid0.coords t)) S64x512.size (k0_off23_inb (grid0.coords t))).toLoadRect (harg6.unread x4)) shapeCasts_S64x512_S64x512])
    (by
      intro g
      fin_cases g
      · exact keys_at arg4 harg4 x2 _ 0 (Off.off20 t) rfl _
      · exact keys_at arg4 harg4 x2 _ 1 (Off.off22 t) rfl _)
    hX
    (fun _ => bias_near ⟨t.val % 8, Nat.mod_lt _ (by decide)⟩)
    (by
      intro g
      fin_cases g
      · exact values_at arg6 harg6 x4 _ 0 (Off.off21 t) rfl _
      · exact values_at arg6 harg6 x4 _ 1 (Off.off23 t) rfl _)
    arg10 arg11
  exact ⟨_, hp⟩

include hX in
/-- The second output block: attention over the window. -/
theorem out7 (hc0 : cond0_0 (grid0.coords t)) (hq : 1 ≤ t.val % 8) (r j : Fin 512) :
    out0_B_7 (F := Ideal) c (grid0.coords t) arg2 harg2 arg3 harg3 arg4 harg4 arg5 harg5 arg6 harg6 arg7 harg7 arg8 harg8 arg9 harg9 arg10 harg10 arg11 harg11 hc0 x0 x1 x2 x3 x4 x5 (ix2 r j)
      = attend (wt (winP (t.val % 8)) (X ⟨j.val / 256, by omega⟩) ⟨512 * (j.val % 256 / 64) + r.val, by omega⟩)
          (fun k => x4 (ix2 ⟨64 * (j.val / 256) + j.val % 64, by omega⟩ k)) := by
  obtain ⟨L, h⟩ := window c t arg2 harg2 arg3 harg3 arg4 harg4 arg5 harg5 arg6 harg6 arg7 harg7 arg8 harg8 arg9 harg9 arg10 harg10 arg11 harg11 x0 x1 x2 x3 x4 x5 hX hc0 hq
  have e := outs_apply h (fun g r k hk => by
    have := (rowOf r).isLt
    simp only [Finset.mem_union, mem_tile, Finset.notMem_empty, false_or]
    have := hk.1; have := hk.2; omega) (fun g r => ⟨⟨512 * (t.val % 8) + (rowOf r).val, by have := (rowOf r).isLt; omega⟩, by
      unfold winP; dsimp only; omega⟩) arg11 r j
  refine Eq.trans ?_ e
  unfold out0_B_7
  rw [View.read_writes_junk_eq_canon]
  rfl
end

end B

end Cert.KernelIdeal.Block

end
-- ==== Proof.Entry.lean ====
module

public import proofs.«01_k».proof.Proof.Block
public import proofs.«01_k».proof.Proof.Gen.KernelIdeal.Value
public import Idealize.ShloMosaic.Lib.Pipeline.ValueKit

@[expose] public section

set_option maxRecDepth 16384

noncomputable section

/-! What the call's operands hold, from the arguments. -/

namespace Cert.KernelIdeal.Entry

open Idealize.ShloMosaic Idealize.ShloMosaic.TcCoe Idealize.SL.Sem
open Idealize.ShloMosaic.Pipeline (Dat)
open Cert.KernelIdeal Cert.KernelIdeal.Gen

/-- The queries are a reshape of the argument, scaled. -/
theorem queries_pure (x : FVec Ideal S4x4096x2x4x64 .f32) (n : Fin 16384) (j : Fin 512) :
    (show FVec Ideal S16384x512 .bf16 from truncf .bf16 (mulf (shapeCast S16384x512 x shapeCasts_S4x4096x2x4x64_S16384x512)
        (broadcastInDim S16384x512 ![] bcast_S_S16384x512 (Host.divf (constant S_ .f32 0x3E000000#32) (Host.log (constant S_ .f32 0x40000000#32))))) bitsLt_bf16_f32) (ix2 n j)
      = x (ix5 ⟨n.val / 4096, by omega⟩ ⟨n.val % 4096, by omega⟩ ⟨j.val / 256, by omega⟩ ⟨j.val % 256 / 64, by omega⟩ ⟨j.val % 64, by omega⟩)
        * Ideal.div (Ideal.ofBits .f32 0x3E000000#32) (Ideal.log (Ideal.ofBits .f32 0x40000000#32)) := by
  pointwise
  have h : j.val / 64 % 4 = j.val % 256 / 64 := by omega
  simp only [h]

/-- The keys are each group's 64 lanes written twice, side by side. -/
theorem keys_pure (x : FVec Ideal S4x4096x2x64 .f32) (b : Fin 4) (k : Fin 4096) (l : Fin 256) :
    (show FVec Ideal S4x4096x256 .bf16 from shapeCast S4x4096x256 (truncf .bf16 (concatenate S16384x256 1
        [⟨S16384x64, extractStridedSlice S16384x64 ![0, 0] (shapeCast S16384x128 x shapeCasts_S4x4096x2x64_S16384x128) slices_S16384x128_S16384x64_0_0⟩,
         ⟨S16384x64, extractStridedSlice S16384x64 ![0, 0] (shapeCast S16384x128 x shapeCasts_S4x4096x2x64_S16384x128) slices_S16384x128_S16384x64_0_0⟩,
         ⟨S16384x64, extractStridedSlice S16384x64 ![0, 64] (shapeCast S16384x128 x shapeCasts_S4x4096x2x64_S16384x128) slices_S16384x128_S16384x64_0_64⟩,
         ⟨S16384x64, extractStridedSlice S16384x64 ![0, 64] (shapeCast S16384x128 x shapeCasts_S4x4096x2x64_S16384x128) slices_S16384x128_S16384x64_0_64⟩]
        concatenates_S16384x64_S16384x64_S16384x64_S16384x64_S16384x256_d1) bitsLt_bf16_f32) shapeCasts_S16384x256_S4x4096x256) (ix3 b k l)
      = x (ix4 b k ⟨l.val / 128, by omega⟩ ⟨l.val % 64, by omega⟩) := by
  pointwise
  have key : ∀ (g g' : Fin 2) (d d' : Fin 64), g.val = g'.val → d.val = d'.val → x (ix4 b k g d) = x (ix4 b k g' d') := by
    intro g g' d d' h h'
    rw [Fin.ext h, Fin.ext h']
  have hl := l.isLt
  split_ifs <;> refine key _ _ _ _ ?_ ?_ <;> dsimp only <;> omega

/-- The values are the argument's, keys last. -/
theorem values_pure (x : FVec Ideal S4x4096x2x64 .f32) (p : Fin 128) (n : Fin 16384) :
    (show FVec Ideal S128x16384 .bf16 from truncf .bf16 (transpose S128x16384 [1, 0] (shapeCast S16384x128 x shapeCasts_S4x4096x2x64_S16384x128) transposes_S16384x128_S128x16384_1_0) bitsLt_bf16_f32) (ix2 p n)
      = x (ix4 ⟨n.val / 4096, by omega⟩ ⟨n.val % 4096, by omega⟩ ⟨p.val / 64, by omega⟩ ⟨p.val % 64, by omega⟩) := by
  pointwise

/-- The selection is a bias: nothing where a block is selected, `-∞` elsewhere. -/
theorem sel_pure (x : IVec S4x2x4096x64 32) (p : Fin 128) (n : Fin 16384) :
    (show FVec Ideal S128x16384 .f32 from select (cmpi .ne (shapeCast S128x16384 (transpose S2x64x4x4096 [1, 3, 0, 2] x transposes_S4x2x4096x64_S2x64x4x4096_1_3_0_2) shapeCasts_S2x64x4x4096_S128x16384)
          (broadcastInDim S128x16384 ![] bcast_S_S128x16384 (constantI S_ 32 0#32)))
        (broadcastInDim S128x16384 ![] bcast_S_S128x16384 (constant (F := Ideal) S_ .f32 0x00000000#32))
        (broadcastInDim S128x16384 ![] bcast_S_S128x16384 (constant (F := Ideal) S_ .f32 0xFF800000#32))) (ix2 p n)
      = if x (ix4 ⟨n.val / 4096, by omega⟩ ⟨p.val / 64, by omega⟩ ⟨n.val % 4096, by omega⟩ ⟨p.val % 64, by omega⟩) = 0#32 then ⊥ else 0 := by
  pointwise
  generalize x (ix4 _ _ _ _) = s
  by_cases h : s = 0#32
  · subst h
    rw [if_pos rfl]
    show Scalar.select 0#1 _ _ = _
    simp [Scalar.select, Ideal.ofBits, Ideal.ieee]
  · rw [if_neg h]
    have h' : (s != 0#32) = true := by simpa using h
    simp [Scalar.select, IntOp.cmpi, h']

variable (m : (ℓ : Loc nD τ sig) → Buf (Elt Ideal) ℓ)

theorem queries (c : Dev nD) (n : Fin 16384) (j : Fin 512) :
    (show FVec Ideal S16384x512 .bf16 from V m c main_v5) (ix2 n j)
      = (show FVec Ideal S4x4096x2x4x64 .f32 from m ((c : Thread nD τ).loc main_arg0)) (ix5 ⟨n.val / 4096, by omega⟩ ⟨n.val % 4096, by omega⟩ ⟨j.val / 256, by omega⟩ ⟨j.val % 256 / 64, by omega⟩ ⟨j.val % 64, by omega⟩)
        * Ideal.div (Ideal.ofBits .f32 0x3E000000#32) (Ideal.log (Ideal.ofBits .f32 0x40000000#32)) := by
  simp only [V, hostOps0, hostOps0_1, hostOps0_2, List.flatten_cons, List.flatten_nil, List.append_nil, List.cons_append, List.nil_append]
  after_results
  exact queries_pure _ n j

theorem keysS (c : Dev nD) (b : Fin 4) (k : Fin 4096) (l : Fin 256) :
    (show FVec Ideal S4x4096x256 .bf16 from V m c main_v31) (ix3 b k l)
      = (show FVec Ideal S4x4096x2x64 .f32 from m ((c : Thread nD τ).loc main_arg1)) (ix4 b k ⟨l.val / 128, by omega⟩ ⟨l.val % 64, by omega⟩) := by
  simp only [V, hostOps0, hostOps0_1, hostOps0_2, List.flatten_cons, List.flatten_nil, List.append_nil, List.cons_append, List.nil_append]
  after_results
  exact keys_pure _ b k l

theorem keysW (c : Dev nD) (b : Fin 4) (k : Fin 4096) (l : Fin 256) :
    (show FVec Ideal S4x4096x256 .bf16 from V m c main_v32) (ix3 b k l)
      = (show FVec Ideal S4x4096x2x64 .f32 from m ((c : Thread nD τ).loc main_arg2)) (ix4 b k ⟨l.val / 128, by omega⟩ ⟨l.val % 64, by omega⟩) := by
  simp only [V, hostOps0, hostOps0_1, hostOps0_2, List.flatten_cons, List.flatten_nil, List.append_nil, List.cons_append, List.nil_append]
  after_results
  exact keys_pure _ b k l

theorem valuesS (c : Dev nD) (p : Fin 128) (n : Fin 16384) :
    (show FVec Ideal S128x16384 .bf16 from V m c main_v22) (ix2 p n)
      = (show FVec Ideal S4x4096x2x64 .f32 from m ((c : Thread nD τ).loc main_arg3)) (ix4 ⟨n.val / 4096, by omega⟩ ⟨n.val % 4096, by omega⟩ ⟨p.val / 64, by omega⟩ ⟨p.val % 64, by omega⟩) := by
  simp only [V, hostOps0, hostOps0_1, hostOps0_2, List.flatten_cons, List.flatten_nil, List.append_nil, List.cons_append, List.nil_append]
  after_results
  exact values_pure _ p n

theorem valuesW (c : Dev nD) (p : Fin 128) (n : Fin 16384) :
    (show FVec Ideal S128x16384 .bf16 from V m c main_v25) (ix2 p n)
      = (show FVec Ideal S4x4096x2x64 .f32 from m ((c : Thread nD τ).loc main_arg4)) (ix4 ⟨n.val / 4096, by omega⟩ ⟨n.val % 4096, by omega⟩ ⟨p.val / 64, by omega⟩ ⟨p.val % 64, by omega⟩) := by
  simp only [V, hostOps0, hostOps0_1, hostOps0_2, List.flatten_cons, List.flatten_nil, List.append_nil, List.cons_append, List.nil_append]
  after_results
  exact values_pure _ p n

theorem sel (c : Dev nD) (p : Fin 128) (n : Fin 16384) :
    (show FVec Ideal S128x16384 .f32 from V m c main_v30) (ix2 p n)
      = if (show IVec S4x2x4096x64 32 from m ((c : Thread nD τ).loc main_arg5)) (ix4 ⟨n.val / 4096, by omega⟩ ⟨p.val / 64, by omega⟩ ⟨n.val % 4096, by omega⟩ ⟨p.val % 64, by omega⟩) = 0#32 then ⊥ else 0 := by
  simp only [V, hostOps0, hostOps0_1, hostOps0_2, List.flatten_cons, List.flatten_nil, List.append_nil, List.cons_append, List.nil_append]
  after_results
  exact sel_pure _ p n

end Cert.KernelIdeal.Entry

end
-- ==== Proof.Blocks.lean ====
module

public import proofs.«01_k».proof.Proof.Entry

@[expose] public section

set_option maxRecDepth 16384

noncomputable section

/-! What each grid point's blocks hold: cuts of the operands. -/

namespace Cert.KernelIdeal.Blocks

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block sits, at each grid point. -/
theorem idx : ∀ t : Fin cfg0.N, win0_0.index t = ![t.val, 0] ∧ win0_1.index t = ![t.val / 8, 0, 0] ∧ win0_2.index t = ![t.val / 8, 0, 0]
    ∧ win0_3.index t = ![0, t.val / 8] ∧ win0_4.index t = ![0, t.val / 8] ∧ win0_5.index t = ![0, t.val] ∧ win0_6.index t = ![t.val, 0] ∧ win0_7.index t = ![t.val, 0] :=
  (by decide +kernel : ∀ t : Fin grid0.N, _)

theorem lt (t : Fin cfg0.N) : t.val < 32 := t.isLt

theorem blk0 (c : Dev nD) (t : Fin cfg0.N) (r j : Fin 512) :
    (show FVec Ideal S512x512 .bf16 from iblk m c 0 t) (ix2 r j)
      = (show FVec Ideal S16384x512 .bf16 from V m c main_v5) (ix2 ⟨512 * t.val + r.val, by have := lt t; omega⟩ j) := by
  blk_point [iblk, idx t]

theorem blk1 (c : Dev nD) (t : Fin cfg0.N) (n : Fin 4096) (l : Fin 256) :
    (show FVec Ideal S1x4096x256 .bf16 from iblk m c 1 t) (ix3 0 n l)
      = (show FVec Ideal S4x4096x256 .bf16 from V m c main_v31) (ix3 ⟨t.val / 8, by have := lt t; omega⟩ n l) := by
  blk_point [iblk, idx t]

theorem blk2 (c : Dev nD) (t : Fin cfg0.N) (n : Fin 4096) (l : Fin 256) :
    (show FVec Ideal S1x4096x256 .bf16 from iblk m c 2 t) (ix3 0 n l)
      = (show FVec Ideal S4x4096x256 .bf16 from V m c main_v32) (ix3 ⟨t.val / 8, by have := lt t; omega⟩ n l) := by
  blk_point [iblk, idx t]

theorem blk3 (c : Dev nD) (t : Fin cfg0.N) (p : Fin 128) (k : Fin 4096) :
    (show FVec Ideal S128x4096 .bf16 from iblk m c 3 t) (ix2 p k)
      = (show FVec Ideal S128x16384 .bf16 from V m c main_v22) (ix2 p ⟨4096 * (t.val / 8) + k.val, by have := lt t; omega⟩) := by
  blk_point [iblk, idx t]

theorem blk4 (c : Dev nD) (t : Fin cfg0.N) (p : Fin 128) (k : Fin 4096) :
    (show FVec Ideal S128x4096 .bf16 from iblk m c 4 t) (ix2 p k)
      = (show FVec Ideal S128x16384 .bf16 from V m c main_v25) (ix2 p ⟨4096 * (t.val / 8) + k.val, by have := lt t; omega⟩) := by
  blk_point [iblk, idx t]

theorem blk5 (c : Dev nD) (t : Fin cfg0.N) (p : Fin 128) (r : Fin 512) :
    (show FVec Ideal S128x512 .f32 from iblk m c 5 t) (ix2 p r)
      = (show FVec Ideal S128x16384 .f32 from V m c main_v30) (ix2 p ⟨512 * t.val + r.val, by have := lt t; omega⟩) := by
  blk_point [iblk, idx t]

end Cert.KernelIdeal.Blocks

end
-- ==== Proof.Spec.lean ====
module

public import proofs.«01_k».proof.Proof.Block

@[expose] public section

noncomputable section

/-! Both results, as the attention they are: for batch `b`, position `s`, group `g` and head `u`, the values of the
keys the position sees, averaged with the exponentials of the scaled dot products. -/

namespace Cert.KernelIdeal.Spec

open Idealize.ShloMosaic
open Cert.KernelIdeal Cert.KernelIdeal.Visit Cert.KernelIdeal.Trip Cert.KernelIdeal.Block Cert.Attn

/-- The dot product of a query and a key. -/
def dotR (q : S4x4096x2x4x64.Idx → ℝ) (k : S4x4096x2x64.Idx → ℝ) (b : Fin 4) (s : Fin 4096) (g : Fin 2) (u : Fin 4) (n : Fin 4096) : ℝ :=
  ∑ d : Fin 64, k (ix4 b n g d) * q (ix5 b s g u d)

/-- The weight a key has: the exponential of the scaled dot product if it is seen, nothing if not. -/
def weight (P : Fin 4 → Fin 4096 → Fin 2 → Fin 4096 → Prop) (q : S4x4096x2x4x64.Idx → ℝ) (k : S4x4096x2x64.Idx → ℝ)
    (b : Fin 4) (s : Fin 4096) (g : Fin 2) (u : Fin 4) (n : Fin 4096) : ℝ :=
  open Classical in if P b s g n then Real.exp (dotR q k b s g u n * 0.125) else 0

/-- A key is seen if it is not after the query and its block is selected. -/
def seesS (sel : S4x2x4096x64.Idx → BitVec 32) (b : Fin 4) (s : Fin 4096) (g : Fin 2) (n : Fin 4096) : Prop :=
  n.val ≤ s.val ∧ sel (ix4 b g s ⟨n.val / 64, by omega⟩) ≠ 0#32

/-- A key is seen if it is not after the query and less than 512 before it. -/
def seesW (b : Fin 4) (s : Fin 4096) (g : Fin 2) (n : Fin 4096) : Prop :=
  n.val ≤ s.val ∧ s.val < n.val + 512

/-- A result at row `n`, column `j`. -/
def result (P : Fin 4 → Fin 4096 → Fin 2 → Fin 4096 → Prop) (q : S4x4096x2x4x64.Idx → ℝ) (k : S4x4096x2x64.Idx → ℝ)
    (v : S4x4096x2x64.Idx → EReal) (n : Fin 16384) (j : Fin 512) : EReal :=
  attend (weight P q k ⟨n.val / 4096, by omega⟩ ⟨n.val % 4096, by omega⟩ ⟨j.val / 256, by omega⟩ ⟨j.val % 256 / 64, by omega⟩)
    (fun i => v (ix4 ⟨n.val / 4096, by omega⟩ i ⟨j.val / 256, by omega⟩ ⟨j.val % 64, by omega⟩))

/-- Where half of 128 lanes is cleared, the sum is over the other half. -/
theorem half_sum (P : Prop) [Decidable P] (f : Fin 128 → EReal) :
    ∑ j : Fin 128, (if (j.val < 64 ↔ P) then f j else 0)
      = ∑ d : Fin 64, f ⟨64 * (if P then 0 else 1) + d.val, by split_ifs <;> omega⟩ := by
  have h := Fin.sum_univ_add (a := 64) (b := 64) (fun j : Fin (64 + 64) => if (j.val < 64 ↔ P) then f j else 0)
  refine Eq.trans h ?_
  by_cases hp : P
  · simp only [hp, iff_true, if_true, Fin.val_castAdd, Fin.val_natAdd]
    rw [Finset.sum_eq_zero (s := Finset.univ) (f := fun i : Fin 64 => if 64 + i.val < 64 then f (Fin.natAdd 64 i) else 0) (fun i _ => if_neg (by omega)), add_zero]
    refine Finset.sum_congr rfl fun i _ => ?_
    rw [if_pos i.isLt]
    exact congrArg f (Fin.ext (by simp))
  · simp only [hp, iff_false, if_false, Fin.val_castAdd, Fin.val_natAdd]
    rw [Finset.sum_eq_zero (s := Finset.univ) (f := fun i : Fin 64 => if ¬ i.val < 64 then f (Fin.castAdd 64 i) else 0) (fun i _ => if_neg (by have := i.isLt; omega)), zero_add]
    refine Finset.sum_congr rfl fun i _ => ?_
    rw [if_pos (by omega)]
    exact congrArg f (Fin.ext (by simp [add_comm]))

/-- The score of column `c` (its row, its head) against key `k`, in base two. -/
def score (q : S4x4096x2x4x64.Idx → ℝ) (k : S4x4096x2x64.Idx → ℝ) (b : Fin 4) (t : Fin 8) (g : Fin 2) (c : Fin 2048) (n : Fin 4096) : ℝ :=
  dotR q k b ⟨512 * t.val + (rowOf c).val, by have := (rowOf c).isLt; omega⟩ g ⟨c.val / 512, by omega⟩ n * (0.125 / Real.log 2)

theorem scale_eq : Ideal.div (Ideal.ofBits .f32 0x3E000000#32) (Ideal.log (Ideal.ofBits .f32 0x40000000#32)) = ((0.125 / Real.log 2 : ℝ) : EReal) := by
  have h1 : Ideal.ofBits .f32 0x3E000000#32 = ((0.125 : ℝ) : EReal) := by simp [Ideal.ofBits, Ideal.ieee]; rw [← EReal.coe_mul]; norm_num
  have h2 : Ideal.ofBits .f32 0x40000000#32 = ((2 : ℝ) : EReal) := by simp [Ideal.ofBits, Ideal.ieee]; rw [← EReal.coe_mul]; norm_num
  rw [h1, h2, Ideal.log_coe, if_neg (by norm_num), Ideal.div_coe (Real.log_pos (by norm_num)).ne', ← EReal.coe_mul]
  congr 1; ring

/-- Two to the scaled score is the exponential of the score scaled by an eighth. -/
theorem rpow_score (L : ℝ) : Real.rpow 2 (L * (0.125 / Real.log 2)) = Real.exp (L * 0.125) := by
  show (2 : ℝ) ^ (L * (0.125 / Real.log 2)) = _
  rw [Real.rpow_def_of_pos (by norm_num)]
  have := (Real.log_pos (by norm_num : (1 : ℝ) < 2)).ne'
  congr 1; field_simp

/-- The scores a block of queries and a batch of keys give are real. -/
theorem real2 (q : S4x4096x2x4x64.Idx → ℝ) (k : S4x4096x2x64.Idx → ℝ) (b : Fin 4) (t : Fin 8) (g : Fin 2)
    (x0 : S512x512.Idx → EReal) (x1 : S1x4096x256.Idx → EReal) (Q : S2048x128.Idx → EReal)
    (h0 : ∀ (r j : Fin 512), x0 (ix2 r j) = ((q (ix5 b ⟨512 * t.val + r.val, by omega⟩ ⟨j.val / 256, by omega⟩ ⟨j.val % 256 / 64, by omega⟩ ⟨j.val % 64, by omega⟩) * (0.125 / Real.log 2) : ℝ) : EReal))
    (h1 : ∀ (n : Fin 4096) (l : Fin 256), x1 (ix3 0 n l) = ((k (ix4 b n ⟨l.val / 128, by omega⟩ ⟨l.val % 64, by omega⟩) : ℝ) : EReal))
    (hQ : ∀ (c : Fin 2048) (j : Fin 128), Q (ix2 c j) = if (j.val < 64 ↔ c.val / 512 % 2 = 0) then x0 (ix2 (rowOf c) ⟨256 * g.val + 128 * (c.val / 1024) + j.val, by omega⟩) else 0) :
    Real2 x1 Q g (score q k b t g) := by
  intro c n
  have e : ∀ j : Fin 128, x1 (ix3 0 n (lane g j)) * Q (ix2 c j)
      = if (j.val < 64 ↔ c.val / 512 % 2 = 0) then x1 (ix3 0 n (lane g j)) * x0 (ix2 (rowOf c) ⟨256 * g.val + 128 * (c.val / 1024) + j.val, by omega⟩) else 0 := by
    intro j
    rw [hQ]
    split_ifs
    · rfl
    · exact mul_zero _
  rw [Finset.sum_congr rfl fun j _ => e j, half_sum]
  unfold score dotR
  rw [Finset.sum_mul, coe_sum]
  refine Finset.sum_congr rfl fun d _ => ?_
  rw [h0, h1, ← EReal.coe_mul]
  have hg := g.isLt
  have hc := c.isLt
  have hd := d.isLt
  have key : ∀ (j : ℕ) (hj : j < 128), j = 64 * (if c.val / 512 % 2 = 0 then 0 else 1) + d.val →
      (k (ix4 b n ⟨(lane g ⟨j, hj⟩).val / 128, by have := (lane g ⟨j, hj⟩).isLt; omega⟩ ⟨(lane g ⟨j, hj⟩).val % 64, by omega⟩)
        * (q (ix5 b ⟨512 * t.val + (rowOf c).val, by have := (rowOf c).isLt; omega⟩ ⟨(256 * g.val + 128 * (c.val / 1024) + j) / 256, by omega⟩ ⟨(256 * g.val + 128 * (c.val / 1024) + j) % 256 / 64, by omega⟩ ⟨(256 * g.val + 128 * (c.val / 1024) + j) % 64, by omega⟩) * (0.125 / Real.log 2)))
      = k (ix4 b n g d) * q (ix5 b ⟨512 * t.val + (rowOf c).val, by have := (rowOf c).isLt; omega⟩ g ⟨c.val / 512, by omega⟩ d) * (0.125 / Real.log 2) := by
    intro j hj hj'
    have hl : (lane g ⟨j, hj⟩).val = 128 * g.val + j := rfl
    have a1 : (⟨(lane g ⟨j, hj⟩).val / 128, by have := (lane g ⟨j, hj⟩).isLt; omega⟩ : Fin 2) = g := Fin.ext (by show (lane g ⟨j, hj⟩).val / 128 = g.val; omega)
    have a2 : (⟨(lane g ⟨j, hj⟩).val % 64, by omega⟩ : Fin 64) = d := Fin.ext (by
      show (lane g ⟨j, hj⟩).val % 64 = d.val
      split_ifs at hj' <;> omega)
    have a3 : (⟨(256 * g.val + 128 * (c.val / 1024) + j) / 256, by omega⟩ : Fin 2) = g := Fin.ext (by show (256 * g.val + 128 * (c.val / 1024) + j) / 256 = g.val; omega)
    have a4 : (⟨(256 * g.val + 128 * (c.val / 1024) + j) % 256 / 64, by omega⟩ : Fin 4) = ⟨c.val / 512, by omega⟩ := Fin.ext (by
      show (256 * g.val + 128 * (c.val / 1024) + j) % 256 / 64 = c.val / 512
      split_ifs at hj' <;> omega)
    have a5 : (⟨(256 * g.val + 128 * (c.val / 1024) + j) % 64, by omega⟩ : Fin 64) = d := Fin.ext (by
      show (256 * g.val + 128 * (c.val / 1024) + j) % 64 = d.val
      split_ifs at hj' <;> omega)
    rw [a1, a2, a3, a4, a5, mul_assoc]
  exact congrArg _ (key _ _ rfl)

/-- A block's weights are the attention's. -/
theorem wt_eq (P : Fin 4 → Fin 4096 → Fin 2 → Fin 4096 → Prop) (P' : Fin 2048 → Fin 4096 → Prop)
    (q : S4x4096x2x4x64.Idx → ℝ) (k : S4x4096x2x64.Idx → ℝ) (b : Fin 4) (t : Fin 8) (g : Fin 2) (u : Fin 4) (r : Fin 512) (c : Fin 2048)
    (hc : c.val = 512 * u.val + r.val) (s : Fin 4096) (hs : s.val = 512 * t.val + r.val) (hP : ∀ n, P' c n ↔ P b s g n) :
    wt P' (score q k b t g) c = weight P q k b s g u := by
  funext n
  have hr := r.isLt
  have h1 : (⟨512 * t.val + (rowOf c).val, by have := (rowOf c).isLt; omega⟩ : Fin 4096) = s := Fin.ext (by
    show 512 * t.val + c.val % 512 = s.val; omega)
  have h2 : (⟨c.val / 512, by have := c.isLt; omega⟩ : Fin 4) = u := Fin.ext (by show c.val / 512 = u.val; omega)
  unfold wt weight score
  rw [h1, h2, rpow_score]
  by_cases h : P b s g n
  · rw [if_pos h, if_pos ((hP n).mpr h)]
  · rw [if_neg h, if_neg fun h' => h ((hP n).mp h')]

end Cert.KernelIdeal.Spec

end
-- ==== Proof.Arrays.lean ====
module

public import proofs.«01_k».proof.Proof.Blocks
public import proofs.«01_k».proof.Proof.Spec

@[expose] public section

set_option maxRecDepth 16384
set_option maxHeartbeats 1000000

noncomputable section

/-! The two results of the call, whole: every grid point's blocks put together. -/

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Visit Cert.KernelIdeal.Trip Cert.KernelIdeal.Block Cert.KernelIdeal.Spec Cert.Attn

variable (m : (ℓ : Loc nD τ sig) → Buf (Elt Ideal) ℓ) (c : Dev nD)

/-- The arguments at their types. -/
def argQ : FVec Ideal S4x4096x2x4x64 .f32 := m ((c : Thread nD τ).loc main_arg0)
def argKS : FVec Ideal S4x4096x2x64 .f32 := m ((c : Thread nD τ).loc main_arg1)
def argKW : FVec Ideal S4x4096x2x64 .f32 := m ((c : Thread nD τ).loc main_arg2)
def argVS : FVec Ideal S4x4096x2x64 .f32 := m ((c : Thread nD τ).loc main_arg3)
def argVW : FVec Ideal S4x4096x2x64 .f32 := m ((c : Thread nD τ).loc main_arg4)
def argSel : IVec S4x2x4096x64 32 := m ((c : Thread nD τ).loc main_arg5)

/-- The batch a grid point works in, and its place among the batch's query tiles. -/
def bt (t : Fin cfg0.N) : Fin 4 := ⟨t.val / 8, by have := Blocks.lt t; omega⟩
def qt (t : Fin cfg0.N) : Fin 8 := ⟨t.val % 8, Nat.mod_lt _ (by decide)⟩

variable {q : S4x4096x2x4x64.Idx → ℝ} {ks kw : S4x4096x2x64.Idx → ℝ}

theorem block_queries (hq : ∀ i, argQ m c i = ((q i : ℝ) : EReal)) (t : Fin cfg0.N) (r j : Fin 512) :
    (show FVec Ideal S512x512 .bf16 from iblk m c 0 t) (ix2 r j)
      = ((q (ix5 (bt t) ⟨512 * (qt t).val + r.val, by have := (qt t).isLt; omega⟩ ⟨j.val / 256, by omega⟩ ⟨j.val % 256 / 64, by omega⟩ ⟨j.val % 64, by omega⟩) * (0.125 / Real.log 2) : ℝ) : EReal) := by
  have ht := Blocks.lt t
  rw [Blocks.blk0, Entry.queries, scale_eq, EReal.coe_mul, ← hq]
  congr 2
  have a1 : (⟨(512 * t.val + r.val) / 4096, by omega⟩ : Fin 4) = bt t := Fin.ext (by show (512 * t.val + r.val) / 4096 = t.val / 8; omega)
  have a2 : (⟨(512 * t.val + r.val) % 4096, by omega⟩ : Fin 4096) = ⟨512 * (qt t).val + r.val, by have := (qt t).isLt; omega⟩ :=
    Fin.ext (by show (512 * t.val + r.val) % 4096 = 512 * (t.val % 8) + r.val; omega)
  rw [a1, a2]

theorem block_keysS (hk : ∀ i, argKS m c i = ((ks i : ℝ) : EReal)) (t : Fin cfg0.N) (n : Fin 4096) (l : Fin 256) :
    (show FVec Ideal S1x4096x256 .bf16 from iblk m c 1 t) (ix3 0 n l) = ((ks (ix4 (bt t) n ⟨l.val / 128, by omega⟩ ⟨l.val % 64, by omega⟩) : ℝ) : EReal) := by
  rw [Blocks.blk1, Entry.keysS, ← hk]
  rfl

theorem block_keysW (hk : ∀ i, argKW m c i = ((kw i : ℝ) : EReal)) (t : Fin cfg0.N) (n : Fin 4096) (l : Fin 256) :
    (show FVec Ideal S1x4096x256 .bf16 from iblk m c 2 t) (ix3 0 n l) = ((kw (ix4 (bt t) n ⟨l.val / 128, by omega⟩ ⟨l.val % 64, by omega⟩) : ℝ) : EReal) := by
  rw [Blocks.blk2, Entry.keysW, ← hk]
  rfl

theorem block_valuesS (t : Fin cfg0.N) (p : Fin 128) (n : Fin 4096) :
    (show FVec Ideal S128x4096 .bf16 from iblk m c 3 t) (ix2 p n) = argVS m c (ix4 (bt t) n ⟨p.val / 64, by omega⟩ ⟨p.val % 64, by omega⟩) := by
  have ht := Blocks.lt t
  rw [Blocks.blk3, Entry.valuesS]
  have a1 : (⟨(4096 * (t.val / 8) + n.val) / 4096, by omega⟩ : Fin 4) = bt t := Fin.ext (by show (4096 * (t.val / 8) + n.val) / 4096 = t.val / 8; omega)
  have a2 : (⟨(4096 * (t.val / 8) + n.val) % 4096, by omega⟩ : Fin 4096) = n := Fin.ext (by show (4096 * (t.val / 8) + n.val) % 4096 = n.val; omega)
  rw [a1, a2]
  rfl

theorem block_valuesW (t : Fin cfg0.N) (p : Fin 128) (n : Fin 4096) :
    (show FVec Ideal S128x4096 .bf16 from iblk m c 4 t) (ix2 p n) = argVW m c (ix4 (bt t) n ⟨p.val / 64, by omega⟩ ⟨p.val % 64, by omega⟩) := by
  have ht := Blocks.lt t
  rw [Blocks.blk4, Entry.valuesW]
  have a1 : (⟨(4096 * (t.val / 8) + n.val) / 4096, by omega⟩ : Fin 4) = bt t := Fin.ext (by show (4096 * (t.val / 8) + n.val) / 4096 = t.val / 8; omega)
  have a2 : (⟨(4096 * (t.val / 8) + n.val) % 4096, by omega⟩ : Fin 4096) = n := Fin.ext (by show (4096 * (t.val / 8) + n.val) % 4096 = n.val; omega)
  rw [a1, a2]
  rfl

/-- Whether key block `n` of group `g` is selected for row `r` of the tile. -/
def chosen (t : Fin cfg0.N) (g : Fin 2) (n : Fin 64) (r : Fin 512) : Prop :=
  argSel m c (ix4 (bt t) g ⟨512 * (qt t).val + r.val, by have := (qt t).isLt; omega⟩ n) ≠ 0#32

theorem block_sel (t : Fin cfg0.N) (g : Fin 2) :
    Chosen (show FVec Ideal S128x512 .f32 from iblk m c 5 t) (chosen m c t g) g := by
  intro n r
  have ht := Blocks.lt t
  have hg := g.isLt
  have hn := n.isLt
  rw [Blocks.blk5, Entry.sel]
  have a1 : (⟨(512 * t.val + r.val) / 4096, by omega⟩ : Fin 4) = bt t := Fin.ext (by show (512 * t.val + r.val) / 4096 = t.val / 8; omega)
  have a2 : (⟨(512 * t.val + r.val) % 4096, by omega⟩ : Fin 4096) = ⟨512 * (qt t).val + r.val, by have := (qt t).isLt; omega⟩ :=
    Fin.ext (by show (512 * t.val + r.val) % 4096 = 512 * (t.val % 8) + r.val; omega)
  have a3 : (⟨(64 * g.val + n.val) / 64, by omega⟩ : Fin 2) = g := Fin.ext (by show (64 * g.val + n.val) / 64 = g.val; omega)
  have a4 : (⟨(64 * g.val + n.val) % 64, by omega⟩ : Fin 64) = n := Fin.ext (by show (64 * g.val + n.val) % 64 = n.val; omega)
  rw [a1, a2, a3, a4]
  unfold chosen argSel
  by_cases h : (show IVec S4x2x4096x64 32 from m ((c : Thread nD τ).loc main_arg5)) (ix4 (bt t) g ⟨512 * (qt t).val + r.val, by have := (qt t).isLt; omega⟩ n) = 0#32
  · rw [if_pos h, if_neg (fun h' => h' h)]
  · rw [if_neg h, if_pos h]

/-- Row `r`, column `j` of what point `t` writes, against the whole result. -/
theorem at_point {P : Fin 4 → Fin 4096 → Fin 2 → Fin 4096 → Prop} {P' : Fin 2 → Fin 2048 → Fin 4096 → Prop} {k : S4x4096x2x64.Idx → ℝ}
    {v : S4x4096x2x64.Idx → EReal} {x : S128x4096.Idx → EReal} (t : Fin cfg0.N) (r j : Fin 512)
    (hv : ∀ (p : Fin 128) (n : Fin 4096), x (ix2 p n) = v (ix4 (bt t) n ⟨p.val / 64, by omega⟩ ⟨p.val % 64, by omega⟩))
    (hP : ∀ g (cc : Fin 2048) n, P' g cc n ↔ P (bt t) ⟨512 * (qt t).val + (rowOf cc).val, by have := (qt t).isLt; have := (rowOf cc).isLt; omega⟩ g n) :
    attend (wt (P' ⟨j.val / 256, by omega⟩) (score q k (bt t) (qt t) ⟨j.val / 256, by omega⟩) ⟨512 * (j.val % 256 / 64) + r.val, by omega⟩)
        (fun n => x (ix2 ⟨64 * (j.val / 256) + j.val % 64, by omega⟩ n))
      = result P q k v ⟨512 * t.val + r.val, by have := Blocks.lt t; omega⟩ j := by
  have ht := Blocks.lt t
  have hj := j.isLt
  unfold result
  have a1 : (⟨(512 * t.val + r.val) / 4096, by omega⟩ : Fin 4) = bt t := Fin.ext (by show (512 * t.val + r.val) / 4096 = t.val / 8; omega)
  have a2 : (⟨(512 * t.val + r.val) % 4096, by omega⟩ : Fin 4096) = ⟨512 * (qt t).val + r.val, by have := (qt t).isLt; omega⟩ :=
    Fin.ext (by show (512 * t.val + r.val) % 4096 = 512 * (t.val % 8) + r.val; omega)
  have a3 : rowOf ⟨512 * (j.val % 256 / 64) + r.val, by omega⟩ = r := Fin.ext (by
    have := r.isLt
    show (512 * (j.val % 256 / 64) + r.val) % 512 = r.val; omega)
  have a4 : (⟨(64 * (j.val / 256) + j.val % 64) / 64, by omega⟩ : Fin 2) = ⟨j.val / 256, by omega⟩ := Fin.ext (by
    show (64 * (j.val / 256) + j.val % 64) / 64 = j.val / 256; omega)
  have a5 : (⟨(64 * (j.val / 256) + j.val % 64) % 64, by omega⟩ : Fin 64) = ⟨j.val % 64, by omega⟩ := Fin.ext (by
    show (64 * (j.val / 256) + j.val % 64) % 64 = j.val % 64; omega)
  rw [a1, a2]
  have hw := wt_eq P (P' ⟨j.val / 256, by omega⟩) q k (bt t) (qt t) ⟨j.val / 256, by omega⟩ ⟨j.val % 256 / 64, by omega⟩ r
    ⟨512 * (j.val % 256 / 64) + r.val, by omega⟩ rfl ⟨512 * (qt t).val + r.val, by have := (qt t).isLt; omega⟩ rfl
    (fun n => by have h := hP ⟨j.val / 256, by omega⟩ ⟨512 * (j.val % 256 / 64) + r.val, by omega⟩ n; simp only [a3] at h; exact h)
  rw [hw]
  congr 1
  funext n
  rw [hv, a4, a5]

theorem point6_A (hq : ∀ i, argQ m c i = ((q i : ℝ) : EReal)) (hk : ∀ i, argKS m c i = ((ks i : ℝ) : EReal)) (hown : ∀ (b : Fin 4) (g : Fin 2) (s : Fin 4096), argSel m c (ix4 b g s ⟨s.val / 64, by omega⟩) ≠ 0#32) (t : Fin cfg0.N) (h0 : ¬1 ≤ t.val % 8) (r j : Fin 512) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (ix2 r j)
      = result (seesS (argSel m c)) q ks (argVS m c) ⟨512 * t.val + r.val, by have := Blocks.lt t; omega⟩ j := by
  have hX : ∀ g, Real2 (show FVec Ideal S1x4096x256 .bf16 from iblk m c 1 t) (qs (ms0_0 t) (hs0_0 t) (show FVec Ideal S512x512 .bf16 from iblk m c 0 t) g) g (score q ks (bt t) (qt t) g) := fun g =>
    real2 q ks (bt t) (qt t) g _ _ _ (block_queries m c hq t) (block_keysS m c hk t) (qs_apply _ _ _ g)
  refine (Block.A.out6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) hX (block_sel m c t) (fun h => h0 ((hcond0_0 t).mp h)) (fun g r => ⟨⟨512 * (qt t).val + r.val % 512, by have := (qt t).isLt; omega⟩, ?_⟩) r j).trans ?_
  · exact ⟨hown (bt t) g ⟨512 * (qt t).val + (rowOf r).val, by have := (qt t).isLt; have := (rowOf r).isLt; omega⟩, le_refl _⟩
  · exact at_point (P' := fun g => selP (chosen m c t g) (t.val % 8)) t r j (block_valuesS m c t) (fun g cc n => and_comm)

theorem point6_B (hq : ∀ i, argQ m c i = ((q i : ℝ) : EReal)) (hk : ∀ i, argKS m c i = ((ks i : ℝ) : EReal)) (hown : ∀ (b : Fin 4) (g : Fin 2) (s : Fin 4096), argSel m c (ix4 b g s ⟨s.val / 64, by omega⟩) ≠ 0#32) (t : Fin cfg0.N) (h0 : 1 ≤ t.val % 8) (r j : Fin 512) :
    out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (ix2 r j)
      = result (seesS (argSel m c)) q ks (argVS m c) ⟨512 * t.val + r.val, by have := Blocks.lt t; omega⟩ j := by
  have hX : ∀ g, Real2 (show FVec Ideal S1x4096x256 .bf16 from iblk m c 1 t) (qs (ms0_0 t) (hs0_0 t) (show FVec Ideal S512x512 .bf16 from iblk m c 0 t) g) g (score q ks (bt t) (qt t) g) := fun g =>
    real2 q ks (bt t) (qt t) g _ _ _ (block_queries m c hq t) (block_keysS m c hk t) (qs_apply _ _ _ g)
  refine (Block.B.out6 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) hX (block_sel m c t) ((hcond0_0 t).mpr h0) (fun g r => ⟨⟨512 * (qt t).val + r.val % 512, by have := (qt t).isLt; omega⟩, ?_⟩) r j).trans ?_
  · exact ⟨hown (bt t) g ⟨512 * (qt t).val + (rowOf r).val, by have := (qt t).isLt; have := (rowOf r).isLt; omega⟩, le_refl _⟩
  · exact at_point (P' := fun g => selP (chosen m c t g) (t.val % 8)) t r j (block_valuesS m c t) (fun g cc n => and_comm)

/-- What any point writes back. -/
theorem point6 (hq : ∀ i, argQ m c i = ((q i : ℝ) : EReal)) (hk : ∀ i, argKS m c i = ((ks i : ℝ) : EReal)) (hown : ∀ (b : Fin 4) (g : Fin 2) (s : Fin 4096), argSel m c (ix4 b g s ⟨s.val / 64, by omega⟩) ≠ 0#32) (t : Fin cfg0.N) (r j : Fin 512) :
    (show FVec Ideal S512x512 .bf16 from (outsAt0 m c t.val t.isLt).1) (ix2 r j) = result (seesS (argSel m c)) q ks (argVS m c) ⟨512 * t.val + r.val, by have := Blocks.lt t; omega⟩ j := by
  by_cases h0 : 1 ≤ t.val % 8
  · rw [outsAt0_B m c t h0]
    exact point6_B m c hq hk hown t h0 r j
  · rw [outsAt0_A m c t h0]
    exact point6_A m c hq hk hown t h0 r j

/-- Result 6 of the call, whole. -/
theorem array6 (hq : ∀ i, argQ m c i = ((q i : ℝ) : EReal)) (hk : ∀ i, argKS m c i = ((ks i : ℝ) : EReal)) (hown : ∀ (b : Fin 4) (g : Fin 2) (s : Fin 4096), argSel m c (ix4 b g s ⟨s.val / 64, by omega⟩) ≠ 0#32) :
    (dats m 0 c).arrAt 6 cfg0.N = (show FVec Ideal S16384x512 .bf16 from fun i => result (seesS (argSel m c)) q ks (argVS m c) (i 0) (i 1)) := by
  refine (dats m 0 c).arrAt_eq_of_covers 6 _ (by decide +kernel) fun t hf y => ?_
  blk_simp
  rw [after0_6]
  have hix : ∀ y : S512x512.Idx, (show FVec Ideal S16384x512 .bf16 from fun i => result (seesS (argSel m c)) q ks (argVS m c) (i 0) (i 1)) ((win0_6.blk t).view.emb y)
      = result (seesS (argSel m c)) q ks (argVS m c) ⟨512 * t.val + (y 0).val, by have := Blocks.lt t; have : (y 0).val < 512 := (y 0).isLt; omega⟩ ⟨(y 1).val, (y 1).isLt⟩ := by
    intro y
    show result _ _ _ _ _ _ = _
    congr 1 <;> apply Fin.ext
    · have e := (Blocks.idx t).2.2.2.2.2.2.1
      blk_simp [e]
      simp [mul_comm]
    · have e := (Blocks.idx t).2.2.2.2.2.2.1
      blk_simp [e]
  exact Eq.trans (point6 m c hq hk hown t (y 0) (y 1) ▸ congrArg _ (funext fun a => by fin_cases a <;> rfl)) (hix y).symm

theorem point7_A (hq : ∀ i, argQ m c i = ((q i : ℝ) : EReal)) (hk : ∀ i, argKW m c i = ((kw i : ℝ) : EReal)) (t : Fin cfg0.N) (h0 : ¬1 ≤ t.val % 8) (r j : Fin 512) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (ix2 r j)
      = result seesW q kw (argVW m c) ⟨512 * t.val + r.val, by have := Blocks.lt t; omega⟩ j := by
  have hX : ∀ g, Real2 (show FVec Ideal S1x4096x256 .bf16 from iblk m c 2 t) (qs (ms0_0 t) (hs0_0 t) (show FVec Ideal S512x512 .bf16 from iblk m c 0 t) g) g (score q kw (bt t) (qt t) g) := fun g =>
    real2 q kw (bt t) (qt t) g _ _ _ (block_queries m c hq t) (block_keysW m c hk t) (qs_apply _ _ _ g)
  refine (Block.A.out7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) hX (fun h => h0 ((hcond0_0 t).mp h)) h0 r j).trans ?_
  exact at_point (P' := fun g => winP (t.val % 8)) t r j (block_valuesW m c t) (fun g cc n => Iff.rfl)

theorem point7_B (hq : ∀ i, argQ m c i = ((q i : ℝ) : EReal)) (hk : ∀ i, argKW m c i = ((kw i : ℝ) : EReal)) (t : Fin cfg0.N) (h0 : 1 ≤ t.val % 8) (r j : Fin 512) :
    out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (ix2 r j)
      = result seesW q kw (argVW m c) ⟨512 * t.val + r.val, by have := Blocks.lt t; omega⟩ j := by
  have hX : ∀ g, Real2 (show FVec Ideal S1x4096x256 .bf16 from iblk m c 2 t) (qs (ms0_0 t) (hs0_0 t) (show FVec Ideal S512x512 .bf16 from iblk m c 0 t) g) g (score q kw (bt t) (qt t) g) := fun g =>
    real2 q kw (bt t) (qt t) g _ _ _ (block_queries m c hq t) (block_keysW m c hk t) (qs_apply _ _ _ g)
  refine (Block.B.out7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) hX ((hcond0_0 t).mpr h0) h0 r j).trans ?_
  exact at_point (P' := fun g => winP (t.val % 8)) t r j (block_valuesW m c t) (fun g cc n => Iff.rfl)

/-- What any point writes back. -/
theorem point7 (hq : ∀ i, argQ m c i = ((q i : ℝ) : EReal)) (hk : ∀ i, argKW m c i = ((kw i : ℝ) : EReal)) (t : Fin cfg0.N) (r j : Fin 512) :
    (show FVec Ideal S512x512 .bf16 from (outsAt0 m c t.val t.isLt).2) (ix2 r j) = result seesW q kw (argVW m c) ⟨512 * t.val + r.val, by have := Blocks.lt t; omega⟩ j := by
  by_cases h0 : 1 ≤ t.val % 8
  · rw [outsAt0_B m c t h0]
    exact point7_B m c hq hk t h0 r j
  · rw [outsAt0_A m c t h0]
    exact point7_A m c hq hk t h0 r j

/-- Result 7 of the call, whole. -/
theorem array7 (hq : ∀ i, argQ m c i = ((q i : ℝ) : EReal)) (hk : ∀ i, argKW m c i = ((kw i : ℝ) : EReal)) :
    (dats m 0 c).arrAt 7 cfg0.N = (show FVec Ideal S16384x512 .bf16 from fun i => result seesW q kw (argVW m c) (i 0) (i 1)) := by
  refine (dats m 0 c).arrAt_eq_of_covers 7 _ (by decide +kernel) fun t hf y => ?_
  blk_simp
  rw [after0_7]
  have hix : ∀ y : S512x512.Idx, (show FVec Ideal S16384x512 .bf16 from fun i => result seesW q kw (argVW m c) (i 0) (i 1)) ((win0_7.blk t).view.emb y)
      = result seesW q kw (argVW m c) ⟨512 * t.val + (y 0).val, by have := Blocks.lt t; have : (y 0).val < 512 := (y 0).isLt; omega⟩ ⟨(y 1).val, (y 1).isLt⟩ := by
    intro y
    show result _ _ _ _ _ _ = _
    congr 1 <;> apply Fin.ext
    · have e := (Blocks.idx t).2.2.2.2.2.2.2
      blk_simp [e]
      simp [mul_comm]
    · have e := (Blocks.idx t).2.2.2.2.2.2.2
      blk_simp [e]
  exact Eq.trans (point7 m c hq hk t (y 0) (y 1) ▸ congrArg _ (funext fun a => by fin_cases a <;> rfl)) (hix y).symm

end Cert.KernelIdeal.Arrays

end
-- ==== Proof.Ref.lean ====
module

public import proofs.«01_k».proof.Proof.Spec
public import proofs.«01_k».proof.Proof.Gen.ReferenceIdeal.Read
public import Idealize.ShloMosaic.Lib.Pipeline.ValueKit

@[expose] public section

set_option maxRecDepth 16384

noncomputable section

/-! The reference's two results, as the attention they are. -/

namespace Cert.ReferenceIdeal.Spec

open Idealize.ShloMosaic Idealize.ShloMosaic.TcCoe Idealize.SL.Sem
open Cert.ReferenceIdeal Cert.ReferenceIdeal.Gen Cert.ReferenceIdeal.Read Cert.Attn
open Cert.KernelIdeal.Spec (dotR weight seesS seesW result)

theorem max_last (y : FVec Ideal S4x2x4x4096x4096 .f32) (z : FVec Ideal S_ .f32) (b : Fin 4) (g : Fin 2) (u : Fin 4) (s : Fin 4096) :
    Host.reduce FloatOps.maximumf y z reducesTo_S4x2x4x4096x4096_S4x2x4x4096_d4 h_S_ (ix4 b g u s)
      = Finset.univ.fold max (z (Shape.Idx.first h_S_)) (fun n : Fin 4096 => y (ix5 b g u s n)) := by
  pointwise

/-- A maximum folded from `-∞` is a supremum. -/
theorem fold_sup {ι : Type} (T : Finset ι) (f : ι → EReal) : T.fold max ⊥ f = T.sup f := rfl

/-- The reduction of the scores over the keys, from `-∞`, is the supremum of a row. -/
theorem reduce_sup (y : FVec Ideal S4x2x4x4096x4096 .f32) (z : FVec Ideal S_ .f32) (hz : z (Shape.Idx.first h_S_) = ⊥) (b : Fin 4) (g : Fin 2) (u : Fin 4) (s : Fin 4096) :
    Host.reduce FloatOps.maximumf y z reducesTo_S4x2x4x4096x4096_S4x2x4x4096_d4 h_S_ (ix4 b g u s)
      = Finset.univ.sup (fun n : Fin 4096 => y (ix5 b g u s n)) := by
  rw [max_last, hz]
  exact fold_sup _ _

theorem bot_lit : Ideal.ofBits .f32 0xFF800000#32 = ⊥ := by simp [Ideal.ofBits, Ideal.ieee]

theorem eighth : Ideal.ofBits .f32 0x3E000000#32 = ((0.125 : ℝ) : EReal) := by
  simp [Ideal.ofBits, Ideal.ieee]; rw [← EReal.coe_mul]; norm_num

theorem select_bit (p : Bool) (a b : EReal) : Scalar.select (BitVec.ofBool p) a b = if p then a else b := by
  cases p <;> rfl

theorem and_bit (p p' : Bool) : IntOp.andi (BitVec.ofBool p) (BitVec.ofBool p') = BitVec.ofBool (p && p') := by
  cases p <;> cases p' <;> rfl

theorem mask_num (p : Bool) : FloatOps.uitofp (F := Ideal) .f32 (BitVec.ofBool p) = if p then (1 : EReal) else 0 := by
  cases p
  · show ((((BitVec.ofBool false).toNat : ℕ) : ℝ) : EReal) = 0
    simp
  · show ((((BitVec.ofBool true).toNat : ℕ) : ℝ) : EReal) = 1
    simp

open Classical in
/-- The mask of the first result. -/
theorem mask_S (x5 : IVec S4x2x4096x64 32) (b : Fin 4) (g : Fin 2) (u : Fin 4) (s n : Fin 4096) :
    val_main_v18 (F := Ideal) x5 (ix5 b g u s n) = BitVec.ofBool (decide (seesS x5 b s g n)) := by
  pointwise [val_main_v18, val_main_v17, val_main_v12, val_main_v11, val_main_v10, val_main_v9, val_main_v8, val_main_v7, val_main_v6, val_main_c, val_main_v5, val_main_v4, val_main_v3, val_main_v2, val_main_v1, val_main_v0]
  rw [WordCmp.cmpi_sle_ofNat (by omega) (by omega), show ∀ w : BitVec 32, IntOp.cmpi .ne w 0#32 = BitVec.ofBool (w != 0#32) from fun _ => rfl, and_bit]
  congr 1
  unfold seesS
  by_cases h : x5 (ix4 b g s ⟨n.val / 64, by omega⟩) = 0#32
  · simp [h]
  · simp [h]

open Classical in
/-- The mask of the second result. -/
theorem mask_W (b : Fin 4) (g : Fin 2) (u : Fin 4) (s n : Fin 4096) :
    val_main_v49 (F := Ideal) (ix5 b g u s n) = BitVec.ofBool (decide (seesW b s g n)) := by
  pointwise [val_main_v49, val_main_v48, val_main_v43, val_main_v42, val_main_v41, val_main_v40, val_main_c_4, val_main_v39, val_main_v38, val_main_v37, val_main_v36, val_main_v35, val_main_v5, val_main_v4, val_main_v3, val_main_v2, val_main_v1, val_main_v0]
  have hs := s.isLt
  have hn := n.isLt
  rw [WordCmp.cmpi_sle_ofNat (by omega) (by omega)]
  unfold seesW
  by_cases h : n.val ≤ s.val
  · have e : IntOp.subi (BitVec.ofNat 32 s.val) (BitVec.ofNat 32 n.val) = BitVec.ofNat 32 (s.val - n.val) := by
      apply BitVec.eq_of_toNat_eq
      show (BitVec.ofNat 32 s.val - BitVec.ofNat 32 n.val).toNat = _
      rw [BitVec.toNat_sub, BitVec.toNat_ofNat, BitVec.toNat_ofNat, BitVec.toNat_ofNat]
      omega
    rw [e, WordCmp.cmpi_slt_ofNat (b := 512) (by omega) (by decide), and_bit]
    congr 1
    rw [Bool.eq_iff_iff]
    simp only [Bool.and_eq_true, decide_eq_true_eq]
    omega
  · rw [show decide (n.val ≤ s.val) = false from decide_eq_false h]
    refine (show ∀ w : BitVec 1, IntOp.andi (BitVec.ofBool false) w = BitVec.ofBool false from fun w => BitVec.zero_and) _ |>.trans ?_
    congr 1
    rw [Bool.eq_iff_iff]
    simp only [decide_eq_true_eq, Bool.false_eq_true, false_iff]
    exact fun h' => h h'.1

section
variable {q : S4x4096x2x4x64.Idx → ℝ} {K : S4x4096x2x64.Idx → ℝ} (x0 : FVec Ideal S4x4096x2x4x64 .f32) (x1 x3 : FVec Ideal S4x4096x2x64 .f32) (x5 : IVec S4x2x4096x64 32)
  (hq : ∀ i, x0 i = ((q i : ℝ) : EReal)) (hk : ∀ i, x1 i = ((K i : ℝ) : EReal))

include hq hk in
theorem dot_S (b : Fin 4) (g : Fin 2) (u : Fin 4) (s n : Fin 4096) :
    val_main_v16 (F := Ideal) x0 x1 (ix5 b g u s n) = ((dotR q K b s g u n * 0.125 : ℝ) : EReal) := by
  pointwise [val_main_v16, val_main_v15, val_main_v14, val_main_v13, val_main_cst]
  rw [eighth, EReal.coe_mul]
  congr 1
  unfold dotR
  rw [coe_sum]
  refine Finset.sum_congr rfl fun d _ => ?_
  rw [hq, hk, EReal.coe_mul]

include hq hk in
theorem scores_S (b : Fin 4) (g : Fin 2) (u : Fin 4) (s n : Fin 4096) :
    ScoresE (val_main_v19 (F := Ideal) x0 x1 x5 (ix5 b g u s n)) (weight (seesS x5) q K b s g u n) := by
  classical
  have h1 := dot_S x0 x1 hq hk b g u s n
  have h2 := mask_S x5 b g u s n
  have h3 : val_main_v19 (F := Ideal) x0 x1 x5 (ix5 b g u s n) = Scalar.select (val_main_v18 (F := Ideal) x5 (ix5 b g u s n)) (val_main_v16 (F := Ideal) x0 x1 (ix5 b g u s n)) ⊥ := by
    rw [← bot_lit]
    pointwise [val_main_v19, val_main_call0_v1, val_main_call0_v0, val_main_cst_0]
    rfl
  rw [h3, h1, h2, select_bit]
  unfold weight
  by_cases h : (seesS x5) b s g n
  · exact Or.inr ⟨dotR q K b s g u n * 0.125, by simp [h], by rw [if_pos h]⟩
  · exact Or.inl ⟨by simp [h], by rw [if_neg h]⟩

omit hq hk in
theorem top_S (b : Fin 4) (g : Fin 2) (u : Fin 4) (s : Fin 4096) :
    val_main_v22 (F := Ideal) x0 x1 x5 (ix4 b g u s) = Finset.univ.sup (fun n : Fin 4096 => val_main_v19 (F := Ideal) x0 x1 x5 (ix5 b g u s n)) := by
  have h : val_main_v20 (F := Ideal) x0 x1 x5 (ix4 b g u s) = Finset.univ.sup (fun n : Fin 4096 => val_main_v19 (F := Ideal) x0 x1 x5 (ix5 b g u s n)) := by
    unfold val_main_v20
    exact reduce_sup _ _ bot_lit b g u s
  have h' : val_main_v22 (F := Ideal) x0 x1 x5 (ix4 b g u s) = max (Ideal.ofBits .f32 0xFF800000#32) (val_main_v20 (F := Ideal) x0 x1 x5 (ix4 b g u s)) := by
    rw [val_main_v22_apply, val_main_v21_apply]
    rfl
  rw [h', bot_lit, h]
  exact max_eq_right bot_le

omit hq hk in
theorem prob_S (b : Fin 4) (g : Fin 2) (u : Fin 4) (s n : Fin 4096) :
    val_main_v32 (F := Ideal) x0 x1 x5 (ix5 b g u s n)
      = Ideal.div (Ideal.exp (val_main_v19 (F := Ideal) x0 x1 x5 (ix5 b g u s n) - val_main_v22 (F := Ideal) x0 x1 x5 (ix4 b g u s)))
          (∑ i, Ideal.exp (val_main_v19 (F := Ideal) x0 x1 x5 (ix5 b g u s i) - val_main_v22 (F := Ideal) x0 x1 x5 (ix4 b g u s)))
        * FloatOps.uitofp (F := Ideal) .f32 (val_main_v18 (F := Ideal) x5 (ix5 b g u s n)) := by
  pointwise [val_main_v32, val_main_v31, val_main_v30, val_main_v29, val_main_v28, val_main_v27, val_main_v26, val_main_v25, val_main_v24, val_main_v23, val_main_cst_3]

include hq hk in
theorem value_S (n : Fin 16384) (j : Fin 512)
    (hne : ∃ k, (seesS x5) ⟨n.val / 4096, by omega⟩ ⟨n.val % 4096, by omega⟩ ⟨j.val / 256, by omega⟩ k) :
    val_main_v67 (F := Ideal) x0 x1 x3 x5 (ix2 n j) = result (seesS x5) q K x3 n j := by
  classical
  have h : val_main_v67 (F := Ideal) x0 x1 x3 x5 (ix2 n j) = ∑ k : Fin 4096, x3 (ix4 ⟨n.val / 4096, by omega⟩ k ⟨j.val / 256, by omega⟩ ⟨j.val % 64, by omega⟩)
      * val_main_v32 (F := Ideal) x0 x1 x5 (ix5 ⟨n.val / 4096, by omega⟩ ⟨j.val / 256, by omega⟩ ⟨j.val / 64 % 4, by omega⟩ ⟨n.val % 4096, by omega⟩ k) := by
    pointwise [val_main_v67, val_main_v66, val_main_v34, val_main_v33]
  have hu : (⟨j.val / 64 % 4, by omega⟩ : Fin 4) = ⟨j.val % 256 / 64, by omega⟩ := Fin.ext (by show j.val / 64 % 4 = j.val % 256 / 64; omega)
  rw [h, hu]
  unfold result
  obtain ⟨k₀, hk₀⟩ := hne
  refine (Finset.sum_congr rfl fun k _ => by rw [prob_S]).trans ?_
  refine softmax_attend _ _ (fun k => val_main_v19 (F := Ideal) x0 x1 x5 (ix5 ⟨n.val / 4096, by omega⟩ ⟨j.val / 256, by omega⟩ ⟨j.val % 256 / 64, by omega⟩ ⟨n.val % 4096, by omega⟩ k))
    (fun k => FloatOps.uitofp (F := Ideal) .f32 (val_main_v18 (F := Ideal) x5 (ix5 ⟨n.val / 4096, by omega⟩ ⟨j.val / 256, by omega⟩ ⟨j.val % 256 / 64, by omega⟩ ⟨n.val % 4096, by omega⟩ k)))
    _ (top_S x0 x1 x5 _ _ _ _) (fun k => scores_S x0 x1 x5 hq hk _ _ _ _ k) (fun k => ?_) (k₀ := k₀) ?_
  · rw [mask_S x5, mask_num]
    unfold weight
    by_cases h : (seesS x5) ⟨n.val / 4096, by omega⟩ ⟨n.val % 4096, by omega⟩ ⟨j.val / 256, by omega⟩ k
    · exact Or.inl (by simp [h])
    · exact Or.inr ⟨by simp [h], if_neg h⟩
  · unfold weight
    rw [if_pos hk₀]
    exact Real.exp_pos _
end

section
variable {q : S4x4096x2x4x64.Idx → ℝ} {K : S4x4096x2x64.Idx → ℝ} (x0 : FVec Ideal S4x4096x2x4x64 .f32) (x2 x4 : FVec Ideal S4x4096x2x64 .f32)
  (hq : ∀ i, x0 i = ((q i : ℝ) : EReal)) (hk : ∀ i, x2 i = ((K i : ℝ) : EReal))

include hq hk in
theorem dot_W (b : Fin 4) (g : Fin 2) (u : Fin 4) (s n : Fin 4096) :
    val_main_v47 (F := Ideal) x0 x2 (ix5 b g u s n) = ((dotR q K b s g u n * 0.125 : ℝ) : EReal) := by
  pointwise [val_main_v47, val_main_v46, val_main_v45, val_main_v44, val_main_cst_5]
  rw [eighth, EReal.coe_mul]
  congr 1
  unfold dotR
  rw [coe_sum]
  refine Finset.sum_congr rfl fun d _ => ?_
  rw [hq, hk, EReal.coe_mul]

include hq hk in
theorem scores_W (b : Fin 4) (g : Fin 2) (u : Fin 4) (s n : Fin 4096) :
    ScoresE (val_main_v50 (F := Ideal) x0 x2 (ix5 b g u s n)) (weight seesW q K b s g u n) := by
  classical
  have h1 := dot_W x0 x2 hq hk b g u s n
  have h2 := mask_W  b g u s n
  have h3 : val_main_v50 (F := Ideal) x0 x2 (ix5 b g u s n) = Scalar.select (val_main_v49 (F := Ideal) (ix5 b g u s n)) (val_main_v47 (F := Ideal) x0 x2 (ix5 b g u s n)) ⊥ := by
    rw [← bot_lit]
    pointwise [val_main_v50, val_main_call1_v1, val_main_call1_v0, val_main_cst_6]
    rfl
  rw [h3, h1, h2, select_bit]
  unfold weight
  by_cases h : seesW b s g n
  · exact Or.inr ⟨dotR q K b s g u n * 0.125, by simp [h], by rw [if_pos h]⟩
  · exact Or.inl ⟨by simp [h], by rw [if_neg h]⟩

omit hq hk in
theorem top_W (b : Fin 4) (g : Fin 2) (u : Fin 4) (s : Fin 4096) :
    val_main_v53 (F := Ideal) x0 x2 (ix4 b g u s) = Finset.univ.sup (fun n : Fin 4096 => val_main_v50 (F := Ideal) x0 x2 (ix5 b g u s n)) := by
  have h : val_main_v51 (F := Ideal) x0 x2 (ix4 b g u s) = Finset.univ.sup (fun n : Fin 4096 => val_main_v50 (F := Ideal) x0 x2 (ix5 b g u s n)) := by
    unfold val_main_v51
    exact reduce_sup _ _ bot_lit b g u s
  have h' : val_main_v53 (F := Ideal) x0 x2 (ix4 b g u s) = max (Ideal.ofBits .f32 0xFF800000#32) (val_main_v51 (F := Ideal) x0 x2 (ix4 b g u s)) := by
    rw [val_main_v53_apply, val_main_v52_apply]
    rfl
  rw [h', bot_lit, h]
  exact max_eq_right bot_le

omit hq hk in
theorem prob_W (b : Fin 4) (g : Fin 2) (u : Fin 4) (s n : Fin 4096) :
    val_main_v63 (F := Ideal) x0 x2 (ix5 b g u s n)
      = Ideal.div (Ideal.exp (val_main_v50 (F := Ideal) x0 x2 (ix5 b g u s n) - val_main_v53 (F := Ideal) x0 x2 (ix4 b g u s)))
          (∑ i, Ideal.exp (val_main_v50 (F := Ideal) x0 x2 (ix5 b g u s i) - val_main_v53 (F := Ideal) x0 x2 (ix4 b g u s)))
        * FloatOps.uitofp (F := Ideal) .f32 (val_main_v49 (F := Ideal) (ix5 b g u s n)) := by
  pointwise [val_main_v63, val_main_v62, val_main_v61, val_main_v60, val_main_v59, val_main_v58, val_main_v57, val_main_v56, val_main_v55, val_main_v54, val_main_cst_9]

include hq hk in
theorem value_W (n : Fin 16384) (j : Fin 512)
    (hne : ∃ k, seesW ⟨n.val / 4096, by omega⟩ ⟨n.val % 4096, by omega⟩ ⟨j.val / 256, by omega⟩ k) :
    val_main_v69 (F := Ideal) x0 x2 x4 (ix2 n j) = result seesW q K x4 n j := by
  classical
  have h : val_main_v69 (F := Ideal) x0 x2 x4 (ix2 n j) = ∑ k : Fin 4096, x4 (ix4 ⟨n.val / 4096, by omega⟩ k ⟨j.val / 256, by omega⟩ ⟨j.val % 64, by omega⟩)
      * val_main_v63 (F := Ideal) x0 x2 (ix5 ⟨n.val / 4096, by omega⟩ ⟨j.val / 256, by omega⟩ ⟨j.val / 64 % 4, by omega⟩ ⟨n.val % 4096, by omega⟩ k) := by
    pointwise [val_main_v69, val_main_v68, val_main_v65, val_main_v64]
  have hu : (⟨j.val / 64 % 4, by omega⟩ : Fin 4) = ⟨j.val % 256 / 64, by omega⟩ := Fin.ext (by show j.val / 64 % 4 = j.val % 256 / 64; omega)
  rw [h, hu]
  unfold result
  obtain ⟨k₀, hk₀⟩ := hne
  refine (Finset.sum_congr rfl fun k _ => by rw [prob_W]).trans ?_
  refine softmax_attend _ _ (fun k => val_main_v50 (F := Ideal) x0 x2 (ix5 ⟨n.val / 4096, by omega⟩ ⟨j.val / 256, by omega⟩ ⟨j.val % 256 / 64, by omega⟩ ⟨n.val % 4096, by omega⟩ k))
    (fun k => FloatOps.uitofp (F := Ideal) .f32 (val_main_v49 (F := Ideal) (ix5 ⟨n.val / 4096, by omega⟩ ⟨j.val / 256, by omega⟩ ⟨j.val % 256 / 64, by omega⟩ ⟨n.val % 4096, by omega⟩ k)))
    _ (top_W x0 x2 _ _ _ _) (fun k => scores_W x0 x2 hq hk _ _ _ _ k) (fun k => ?_) (k₀ := k₀) ?_
  · rw [mask_W , mask_num]
    unfold weight
    by_cases h : seesW ⟨n.val / 4096, by omega⟩ ⟨n.val % 4096, by omega⟩ ⟨j.val / 256, by omega⟩ k
    · exact Or.inl (by simp [h])
    · exact Or.inr ⟨by simp [h], if_neg h⟩
  · unfold weight
    rw [if_pos hk₀]
    exact Real.exp_pos _
end

end Cert.ReferenceIdeal.Spec

end
-- ==== Proof.PreFacts.lean ====
module

public import proofs.«01_k».proof.Defs
public import Idealize.ShloMosaic.Lib.Pipeline.ValueKit
public import Idealize.ShloMosaic.Lib.Affine

@[expose] public section

set_option maxRecDepth 16384

noncomputable section

/-! What the precondition says, entry by entry: the queries and keys are real numbers, and every query selects the
block it stands in. -/

namespace Cert.Pre_finite_and_own_block

open Idealize.ShloMosaic Idealize.ShloMosaic.TcCoe Idealize.SL.Sem

theorem facts : Facts where
  bcast_S_S4x2x4096x64 := by decide
  bcast_S_S4x4096x2x4x64 := by decide
  bcast_S_S4x4096x2x64 := by decide

theorem top_lit : Ideal.ofBits .f32 0x7F800000#32 = ⊤ := by simp [Ideal.ofBits, Ideal.ieee]

/-- An extended real whose absolute value is below `∞` is a real number. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [top_lit] at h
  have h' : max x (-x) < ⊤ := by
    by_contra hn
    exact absurd h (by show ¬ BitVec.ofBool (decide (max x (-x) < ⊤)) = 1#1; rw [decide_eq_false hn]; decide)
  refine (EReal.coe_toReal ?_ ?_).symm
  · rintro rfl; simp at h'
  · rintro rfl; simp at h'

variable [Facts]
variable (a0 : FVec Ideal S4x4096x2x4x64 .f32) (a1 a2 a3 a4 : FVec Ideal S4x4096x2x64 .f32) (a5 : IVec S4x2x4096x64 32)

theorem real0 (h : (fn (F := Ideal) a0 a1 a2 a3 a4 a5).1 = fun _ => 1#1) (i) : a0 i = (((a0 i).toReal : ℝ) : EReal) :=
  real_of_lt _ (congrFun h i)

theorem real1 (h : (fn (F := Ideal) a0 a1 a2 a3 a4 a5).2.1 = fun _ => 1#1) (i) : a1 i = (((a1 i).toReal : ℝ) : EReal) :=
  real_of_lt _ (congrFun h i)

theorem real2 (h : (fn (F := Ideal) a0 a1 a2 a3 a4 a5).2.2.1 = fun _ => 1#1) (i) : a2 i = (((a2 i).toReal : ℝ) : EReal) :=
  real_of_lt _ (congrFun h i)

theorem div_block (s : Fin 4096) : IntOp.divsi ArithUnit.host (BitVec.ofNat 32 s.val) 64#32 = BitVec.ofNat 32 (s.val / 64) := by
  have hs := s.isLt
  have h := Affine.divsi (a := BitVec.ofNat 32 s.val) (b := 64#32) (e := ((s.val / 64 : ℕ) : Int)) (Affine.ofNat s.val ⟨rfl, by omega⟩) (Affine.ofNat 64 ⟨rfl, by decide⟩) ⟨by omega, by omega, by omega⟩
  have h2 := Affine.eq_of h (s.val / 64) rfl
  have h3 : IntOp.divsi ArithUnit.host (BitVec.ofNat 32 s.val) 64#32 = Scalar.divsi (BitVec.ofNat 32 s.val) 64#32 := by
    unfold Scalar.divsi IntOp.divsi
    rw [if_neg, if_neg]
    all_goals
      rintro (h | ⟨-, h⟩)
      · exact absurd h (by decide)
      · exact absurd h (by decide)
  rw [h3, h2]

/-- Every query selects the block it stands in. -/
theorem own (h : (fn (F := Ideal) a0 a1 a2 a3 a4 a5).2.2.2 = fun _ => 1#1) (b : Fin 4) (g : Fin 2) (s : Fin 4096) :
    a5 (ix4 b g s ⟨s.val / 64, by omega⟩) ≠ 0#32 := by
  intro h0
  have h1 := congrFun h (ix4 b g s ⟨s.val / 64, by omega⟩)
  revert h1
  unfold fn
  dsimp only
  pointwise
  rw [h0, div_block]
  rw [show ∀ w : BitVec 32, IntOp.cmpi .ne w w = 0#1 from fun w => by show BitVec.ofBool (w != w) = 0#1; simp]
  decide

end Cert.Pre_finite_and_own_block

end
-- ==== Proof.PSpec.lean ====
module

public import Idealize.ShloMosaic.Lib.Pipeline.ValueKit
public import proofs.«01_k».proof.Proof.Softmax
public import proofs.«01_k».proof.ProjIdeal

@[expose] public section

noncomputable section

/-! What the projection call computes, entry by entry, on extended reals: a row is normalised and modulated, multiplied
into a column of the weight, and, for queries and keys, normalised again over 64 lanes. -/

namespace Cert.Project

open Idealize.ShloMosaic

/-- The literals of both programs: 1024, 64, a sixty-fourth, one, the norms' epsilon. -/
def c1024 : EReal := Ideal.ofBits .f32 0x44800000#32
def c64 : EReal := Ideal.ofBits .f32 0x42800000#32
def c64th : EReal := Ideal.ofBits .f32 0x3C800000#32
def cOne : EReal := Ideal.ofBits .f32 0x3F800000#32
def eps : EReal := Ideal.ofBits .f32 0x358637BD#32

theorem c1024_eq : c1024 = ((1024 : ℝ) : EReal) := by
  unfold c1024; simp [Ideal.ofBits, Ideal.ieee]; rw [← EReal.coe_mul]; norm_num
theorem c64_eq : c64 = ((64 : ℝ) : EReal) := by
  unfold c64; simp [Ideal.ofBits, Ideal.ieee]; rw [← EReal.coe_mul]; norm_num
theorem c64th_eq : c64th = ((1 / 64 : ℝ) : EReal) := by
  unfold c64th; simp [Ideal.ofBits, Ideal.ieee]; rw [← EReal.coe_mul]; norm_num
theorem cOne_eq : cOne = ((1 : ℝ) : EReal) := by
  unfold cOne; simp [Ideal.ofBits, Ideal.ieee]; rw [← EReal.coe_one, ← EReal.coe_mul]; norm_num
theorem eps_pos : ∃ r : ℝ, 0 < r ∧ eps = (r : EReal) := by
  refine ⟨8796093 * 2 ^ (-43 : ℤ), by positivity, ?_⟩
  unfold eps; simp [Ideal.ofBits, Ideal.ieee]

/-- The mean over 64 is a product with a sixty-fourth. -/
theorem div_c64 (x : EReal) : Ideal.div x c64 = x * c64th := by
  rw [c64_eq, c64th_eq, Ideal.div_coe (by norm_num)]

/-- One entry of a row `x`, normalised with gain `g`, scaled by one plus `sc` and shifted by `sh`. -/
def hid (x g sc sh : Fin 1024 → EReal) (k : Fin 1024) : EReal :=
  x k * Ideal.rsqrt (Ideal.div (∑ j, x j * x j) c1024 + eps) * g k * (cOne + sc k) + sh k

/-- The inverse root mean square of 64 lanes. -/
def inv64 (v : Fin 64 → EReal) : EReal := Ideal.rsqrt ((∑ d, v d * v d) * c64th + eps)

/-- An extended real that is a real. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sum {ι : Type} [Fintype ι] {f : ι → EReal} (h : ∀ i, IsReal (f i)) : IsReal (∑ i, f i) := by
  choose g hg using h
  exact ⟨∑ i, g i, by simp only [hg]; exact (Attn.coe_sum _ g).symm⟩
theorem IsReal.sub_self {a : EReal} (h : IsReal a) : a - a = 0 := by
  obtain ⟨r, rfl⟩ := h; rw [← EReal.coe_sub, _root_.sub_self, EReal.coe_zero]

/-- A row of reals, normalised and modulated by reals, is a row of reals. -/
theorem isReal_hid {x g sc sh : Fin 1024 → EReal} (hx : ∀ k, IsReal (x k)) (hg : ∀ k, IsReal (g k))
    (hs : ∀ k, IsReal (sc k)) (hh : ∀ k, IsReal (sh k)) (k : Fin 1024) : IsReal (hid x g sc sh k) := by
  refine ((((hx k).mul ?_).mul (hg k)).mul (IsReal.add ⟨1, cOne_eq⟩ (hs k))).add (hh k)
  choose y hy using hx
  obtain ⟨e, he, he'⟩ := eps_pos
  have h1 : (∑ j, x j * x j) = ((∑ j, y j * y j : ℝ) : EReal) := by
    rw [Attn.coe_sum]; exact Finset.sum_congr rfl fun j _ => by rw [hy j, EReal.coe_mul]
  have h2 : 0 < (1024 : ℝ)⁻¹ * (∑ j, y j * y j) + e :=
    add_pos_of_nonneg_of_pos (mul_nonneg (by norm_num) (Finset.sum_nonneg fun j _ => mul_self_nonneg _)) he
  rw [h1, c1024_eq, he', Ideal.div_coe (by norm_num), ← EReal.coe_mul, ← EReal.coe_add]
  have h3 : 0 < (∑ j, y j * y j) * (1 / 1024 : ℝ) + e := by rw [mul_comm, one_div]; exact h2
  refine ⟨(Real.sqrt ((∑ j, y j * y j) * (1 / 1024 : ℝ) + e))⁻¹, ?_⟩
  show (if _ < (0 : ℝ) then (⊥ : EReal) else if _ = (0 : ℝ) then ⊤ else _) = _
  rw [if_neg (not_lt.mpr h3.le), if_neg h3.ne']

/-- A block of ones: summing against its column `j` sums the 64 lanes of `j`'s group. -/
theorem sum_ones {D : Nat} (hD : D % 64 = 0) (f : Fin D → EReal) (o : Fin D → EReal) (j : Fin D)
    (ho : ∀ i : Fin D, o i = if i.val / 64 = j.val / 64 then 1 else 0) :
    ∑ i, f i * o i = ∑ d : Fin 64, f ⟨j.val / 64 * 64 + d.val, by omega⟩ := by
  have h1 : ∀ i, f i * o i = if i.val / 64 = j.val / 64 then f i else 0 := fun i => by
    rw [ho]; split_ifs <;> simp
  simp only [h1]
  rw [← Finset.sum_filter]
  symm
  refine Finset.sum_bij (fun d _ => (⟨j.val / 64 * 64 + d.val, by omega⟩ : Fin D)) ?_ ?_ ?_ ?_
  · intro d _; simp only [Finset.mem_filter, Finset.mem_univ, true_and]; omega
  · intro a _ b _ h; exact Fin.ext (by have := congrArg Fin.val h; dsimp only at this; omega)
  · intro i hi
    simp only [Finset.mem_filter, Finset.mem_univ, true_and] at hi
    exact ⟨⟨i.val % 64, Nat.mod_lt _ (by decide)⟩, Finset.mem_univ _, Fin.ext (by dsimp only; omega)⟩
  · intro d _; rfl

/-- The two parts of a split product, summed against a block of ones, are the sum of the squares: the second part of
    a real is nothing. -/
theorem sum_split {D : Nat} (hD : D % 64 = 0) (v o : Fin D → EReal) (j : Fin D) (hv : ∀ i, IsReal (v i))
    (ho : ∀ i : Fin D, o i = if i.val / 64 = j.val / 64 then 1 else 0) :
    Ideal.rsqrt ((∑ i, v i * v i * o i + ∑ i, (v i * v i - v i * v i) * o i) * c64th + eps)
      = inv64 (fun d => v ⟨j.val / 64 * 64 + d.val, by omega⟩) := by
  have h0 : ∑ i, (v i * v i - v i * v i) * o i = 0 := by
    refine Finset.sum_eq_zero fun i _ => ?_
    rw [((hv i).mul (hv i)).sub_self, zero_mul]
  rw [h0, add_zero, sum_ones hD (fun i => v i * v i) o j ho]
  rfl

/-- The scale of base-two scores: an eighth over the logarithm of two is one over the logarithm of 256. -/
theorem scale_eq : (((Real.log 256)⁻¹ : ℝ) : EReal)
    = Ideal.div (Ideal.ofBits .f32 0x3E000000#32) (Ideal.log (Ideal.ofBits .f32 0x40000000#32)) := by
  have h1 : Ideal.ofBits .f32 0x3E000000#32 = ((0.125 : ℝ) : EReal) := by simp [Ideal.ofBits, Ideal.ieee]; rw [← EReal.coe_mul]; norm_num
  have h2 : Ideal.ofBits .f32 0x40000000#32 = ((2 : ℝ) : EReal) := by simp [Ideal.ofBits, Ideal.ieee]; rw [← EReal.coe_mul]; norm_num
  have hl : (0 : ℝ) < Real.log 2 := Real.log_pos (by norm_num)
  have h256 : Real.log 256 = 8 * Real.log 2 := by
    rw [show (256 : ℝ) = 2 ^ 8 by norm_num, Real.log_pow]; norm_num
  rw [h1, h2, Ideal.log_coe, if_neg (by norm_num), Ideal.div_coe hl.ne', ← EReal.coe_mul, h256]
  congr 1; field_simp; norm_num

/-- Row `n` of the activations, normalised and modulated: `n` counts the tokens of all four batches. -/
def hiddenAt (x : FVec Ideal ProjIdeal.S4x4096x1024 .f32) (md : FVec Ideal ProjIdeal.S8x6x1024 .f32) (g : FVec Ideal ProjIdeal.S1024 .f32)
    (n : Fin 16384) : Fin 1024 → EReal :=
  hid (fun k => x (ix3 ⟨n.val / 4096, by omega⟩ ⟨n.val % 4096, by omega⟩ k)) (fun k => g (ix1 k))
    (fun k => md (ix3 ⟨n.val / 4096, by omega⟩ 1 k)) (fun k => md (ix3 ⟨n.val / 4096, by omega⟩ 0 k))

/-- Row `n` times column `j` of the weight. -/
def proj (x : FVec Ideal ProjIdeal.S4x4096x1024 .f32) (md : FVec Ideal ProjIdeal.S8x6x1024 .f32) (g : FVec Ideal ProjIdeal.S1024 .f32)
    (w : FVec Ideal ProjIdeal.S1024x3864 .f32) (n : Fin 16384) (j : Fin 3864) : EReal :=
  ∑ k, hiddenAt x md g n k * w (ix2 k j)

/-- The call's results, from the products `p` of the rows with the columns: the queries, each head's 64 lanes
    normalised with gain `g` and scaled for base-two scores; -/
def queries (p : Fin 16384 → Fin 3864 → EReal) (g : FVec Ideal ProjIdeal.S64 .f32) (n : Fin 16384) (j : Fin 512) : EReal :=
  p n ⟨j.val, by omega⟩ * inv64 (fun d => p n ⟨j.val / 64 * 64 + d.val, by omega⟩) * g (ix1 ⟨j.val % 64, by omega⟩)
    * Ideal.div (Ideal.ofBits .f32 0x3E000000#32) (Ideal.log (Ideal.ofBits .f32 0x40000000#32))

/-- the keys whose columns start at `o`, each group's 64 lanes normalised with gain `g` and written twice; -/
def keys (o : Nat) (ho : o + 128 ≤ 3864) (p : Fin 16384 → Fin 3864 → EReal) (g : FVec Ideal ProjIdeal.S64 .f32) (n : Fin 16384) (l : Fin 256) : EReal :=
  p n ⟨o + (l.val / 128 * 64 + l.val % 64), by omega⟩ * inv64 (fun d => p n ⟨o + (l.val / 128 * 64 + d.val), by omega⟩)
    * g (ix1 ⟨l.val % 64, by omega⟩)

/-- the gates of the three attentions, 24 of them among 128 lanes. -/
def gates (p : Fin 16384 → Fin 3864 → EReal) (n : Fin 16384) (l : Fin 128) : EReal :=
  Ideal.logistic (if h : l.val < 24 then p n ⟨1280 + l.val, by omega⟩ else 0)

end Cert.Project

end
-- ==== Proof.PEntry.lean ====
module

public import proofs.«01_k».proof.Proof.PSpec
public import proofs.«01_k».proof.Proof.Gen.ProjIdeal.Value
public import Idealize.ShloMosaic.Lib.Pipeline.ValueKit

@[expose] public section

set_option maxRecDepth 16384

noncomputable section

/-! What the projection call's operands hold, from the arguments. -/

namespace Cert.ProjIdeal.Entry

open Idealize.ShloMosaic Idealize.ShloMosaic.TcCoe Idealize.SL.Sem
open Idealize.ShloMosaic.Pipeline (Dat)
open Cert.ProjIdeal Cert.ProjIdeal.Gen

/-- A column of a group of keys, and its column once each group stands twice. -/
theorem twice_pure (x : FVec Ideal S1024x128 .f32) (k : Fin 1024) (l : Fin 256) :
    concatenate S1024x256 1
        [⟨S1024x64, extractStridedSlice S1024x64 ![0, 0] x slices_S1024x128_S1024x64_0_0⟩,
         ⟨S1024x64, extractStridedSlice S1024x64 ![0, 0] x slices_S1024x128_S1024x64_0_0⟩,
         ⟨S1024x64, extractStridedSlice S1024x64 ![0, 64] x slices_S1024x128_S1024x64_0_64⟩,
         ⟨S1024x64, extractStridedSlice S1024x64 ![0, 64] x slices_S1024x128_S1024x64_0_64⟩]
        concatenates_S1024x64_S1024x64_S1024x64_S1024x64_S1024x256_d1 (ix2 k l)
      = x (ix2 k ⟨l.val / 128 * 64 + l.val % 64, by omega⟩) := by
  pointwise
  have key : ∀ (g g' : Fin 128), g.val = g'.val → x (ix2 k g) = x (ix2 k g') := by
    intro g g' h
    rw [Fin.ext h]
  have hl := l.isLt
  split_ifs <;> refine key _ _ ?_ <;> dsimp only <;> omega

/-- Which part of the assembled weight a column lies in, and where. -/
theorem parts_pure (a : FVec Ideal S1024x512 .f32) (b c : FVec Ideal S1024x128 .f32) (d e : FVec Ideal S1024x256 .f32) (f : FVec Ideal S1024x128 .f32)
    (g : FVec Ideal S1024x512 .f32) (h i : FVec Ideal S1024x1024 .f32) (k : Fin 1024) (W : FVec Ideal S1024x3968 .f32)
    (hW : W = concatenate S1024x3968 1 [⟨S1024x512, a⟩, ⟨S1024x128, b⟩, ⟨S1024x128, c⟩, ⟨S1024x256, d⟩, ⟨S1024x256, e⟩, ⟨S1024x128, f⟩, ⟨S1024x512, g⟩, ⟨S1024x1024, h⟩, ⟨S1024x1024, i⟩]
      concatenates_S1024x512_S1024x128_S1024x128_S1024x256_S1024x256_S1024x128_S1024x512_S1024x1024_S1024x1024_S1024x3968_d1) :
    (∀ j : Fin 512, W (ix2 k ⟨j.val, by omega⟩) = a (ix2 k j))
      ∧ (∀ j : Fin 128, W (ix2 k ⟨512 + j.val, by omega⟩) = b (ix2 k j))
      ∧ (∀ j : Fin 128, W (ix2 k ⟨512 + (128 + j.val), by omega⟩) = c (ix2 k j))
      ∧ (∀ j : Fin 256, W (ix2 k ⟨768 + j.val, by omega⟩) = d (ix2 k j))
      ∧ (∀ j : Fin 256, W (ix2 k ⟨1024 + j.val, by omega⟩) = e (ix2 k j))
      ∧ (∀ j : Fin 128, W (ix2 k ⟨1280 + j.val, by omega⟩) = f (ix2 k j))
      ∧ (∀ j : Fin 512, W (ix2 k ⟨1280 + (128 + j.val), by omega⟩) = g (ix2 k j))
      ∧ (∀ j : Fin 1024, W (ix2 k ⟨1920 + j.val, by omega⟩) = h (ix2 k j))
      ∧ (∀ j : Fin 1024, W (ix2 k ⟨2944 + j.val, by omega⟩) = i (ix2 k j)) := by
  subst hW
  refine ⟨fun j => ?_, fun j => ?_, fun j => ?_, fun j => ?_, fun j => ?_, fun j => ?_, fun j => ?_, fun j => ?_, fun j => ?_⟩ <;> pointwise <;> have hj := j.isLt
  · rw [dif_neg (by omega), dif_neg (by omega), dif_neg (by omega), dif_pos (by omega)]
    exact congrArg (fun q => d (ix2 k q)) (Fin.ext (by dsimp only; omega))
  · rw [dif_neg (by omega), dif_neg (by omega), dif_neg (by omega), dif_neg (by omega), dif_pos (by omega)]
    exact congrArg (fun q => e (ix2 k q)) (Fin.ext (by dsimp only; omega))
  · rw [dif_neg (by omega), dif_neg (by omega), dif_neg (by omega), dif_neg (by omega), dif_neg (by omega), dif_pos (by omega)]
    exact congrArg (fun q => f (ix2 k q)) (Fin.ext (by dsimp only; omega))
  · rw [dif_neg (by omega), dif_neg (by omega), dif_neg (by omega), dif_neg (by omega), dif_neg (by omega), dif_neg (by omega), dif_pos (by omega)]
    exact congrArg (fun q => g (ix2 k q)) (Fin.ext (by dsimp only; omega))
  · rw [dif_neg (by omega), dif_neg (by omega), dif_neg (by omega), dif_neg (by omega), dif_neg (by omega), dif_neg (by omega), dif_neg (by omega), dif_pos (by omega)]
    exact congrArg (fun q => h (ix2 k q)) (Fin.ext (by dsimp only; omega))
  · rw [dif_neg (by omega), dif_neg (by omega), dif_neg (by omega), dif_neg (by omega), dif_neg (by omega), dif_neg (by omega), dif_neg (by omega), dif_neg (by omega)]
    exact congrArg (fun q => i (ix2 k q)) (Fin.ext (by dsimp only; omega))

/-- The weight as the call reads it: the queries' columns, the compressed keys' and values', both groups of keys each
    standing twice, the gates' among zeros, and the rest. -/
def wide (w : FVec Ideal S1024x3864 .f32) : FVec Ideal S1024x3968 .f32 :=
  concatenate S1024x3968 1
    [⟨S1024x512, extractStridedSlice S1024x512 ![0, 0] w slices_S1024x3864_S1024x512_0_0⟩,
     ⟨S1024x128, extractStridedSlice S1024x128 ![0, 512] w slices_S1024x3864_S1024x128_0_512⟩,
     ⟨S1024x128, extractStridedSlice S1024x128 ![0, 640] w slices_S1024x3864_S1024x128_0_640⟩,
     ⟨S1024x256, concatenate S1024x256 1
        [⟨S1024x64, extractStridedSlice S1024x64 ![0, 0] (extractStridedSlice S1024x128 ![0, 768] w slices_S1024x3864_S1024x128_0_768) slices_S1024x128_S1024x64_0_0⟩,
         ⟨S1024x64, extractStridedSlice S1024x64 ![0, 0] (extractStridedSlice S1024x128 ![0, 768] w slices_S1024x3864_S1024x128_0_768) slices_S1024x128_S1024x64_0_0⟩,
         ⟨S1024x64, extractStridedSlice S1024x64 ![0, 64] (extractStridedSlice S1024x128 ![0, 768] w slices_S1024x3864_S1024x128_0_768) slices_S1024x128_S1024x64_0_64⟩,
         ⟨S1024x64, extractStridedSlice S1024x64 ![0, 64] (extractStridedSlice S1024x128 ![0, 768] w slices_S1024x3864_S1024x128_0_768) slices_S1024x128_S1024x64_0_64⟩]
        concatenates_S1024x64_S1024x64_S1024x64_S1024x64_S1024x256_d1⟩,
     ⟨S1024x256, concatenate S1024x256 1
        [⟨S1024x64, extractStridedSlice S1024x64 ![0, 0] (extractStridedSlice S1024x128 ![0, 1024] w slices_S1024x3864_S1024x128_0_1024) slices_S1024x128_S1024x64_0_0⟩,
         ⟨S1024x64, extractStridedSlice S1024x64 ![0, 0] (extractStridedSlice S1024x128 ![0, 1024] w slices_S1024x3864_S1024x128_0_1024) slices_S1024x128_S1024x64_0_0⟩,
         ⟨S1024x64, extractStridedSlice S1024x64 ![0, 64] (extractStridedSlice S1024x128 ![0, 1024] w slices_S1024x3864_S1024x128_0_1024) slices_S1024x128_S1024x64_0_64⟩,
         ⟨S1024x64, extractStridedSlice S1024x64 ![0, 64] (extractStridedSlice S1024x128 ![0, 1024] w slices_S1024x3864_S1024x128_0_1024) slices_S1024x128_S1024x64_0_64⟩]
        concatenates_S1024x64_S1024x64_S1024x64_S1024x64_S1024x256_d1⟩,
     ⟨S1024x128, pad S1024x128 ![0, 0] ![0, 104] ![0, 0] (extractStridedSlice S1024x24 ![0, 1280] w slices_S1024x3864_S1024x24_0_1280) (sitofp .f32 (constantI S_ 32 0#32)) pads_S1024x24_S1024x128_000_01040 h_S_⟩,
     ⟨S1024x512, extractStridedSlice S1024x512 ![0, 1304] w slices_S1024x3864_S1024x512_0_1304⟩,
     ⟨S1024x1024, extractStridedSlice S1024x1024 ![0, 1816] w slices_S1024x3864_S1024x1024_0_1816⟩,
     ⟨S1024x1024, extractStridedSlice S1024x1024 ![0, 2840] w slices_S1024x3864_S1024x1024_0_2840⟩]
    concatenates_S1024x512_S1024x128_S1024x128_S1024x256_S1024x256_S1024x128_S1024x512_S1024x1024_S1024x1024_S1024x3968_d1

/-- The columns of the wide weight, from the weight's. -/
theorem wide_cols (w : FVec Ideal S1024x3864 .f32) (k : Fin 1024) :
    (∀ j : Fin 512, wide w (ix2 k ⟨j.val, by omega⟩) = w (ix2 k ⟨j.val, by omega⟩))
      ∧ (∀ j : Fin 128, wide w (ix2 k ⟨512 + j.val, by omega⟩) = w (ix2 k ⟨512 + j.val, by omega⟩))
      ∧ (∀ j : Fin 128, wide w (ix2 k ⟨512 + (128 + j.val), by omega⟩) = w (ix2 k ⟨640 + j.val, by omega⟩))
      ∧ (∀ j : Fin 256, wide w (ix2 k ⟨768 + j.val, by omega⟩) = w (ix2 k ⟨768 + (j.val / 128 * 64 + j.val % 64), by omega⟩))
      ∧ (∀ j : Fin 256, wide w (ix2 k ⟨1024 + j.val, by omega⟩) = w (ix2 k ⟨1024 + (j.val / 128 * 64 + j.val % 64), by omega⟩))
      ∧ (∀ j : Fin 128, wide w (ix2 k ⟨1280 + j.val, by omega⟩) = if h : j.val < 24 then w (ix2 k ⟨1280 + j.val, by omega⟩) else 0)
      ∧ (∀ j : Fin 512, wide w (ix2 k ⟨1280 + (128 + j.val), by omega⟩) = w (ix2 k ⟨1304 + j.val, by omega⟩))
      ∧ (∀ j : Fin 1024, wide w (ix2 k ⟨1920 + j.val, by omega⟩) = w (ix2 k ⟨1816 + j.val, by omega⟩))
      ∧ (∀ j : Fin 1024, wide w (ix2 k ⟨2944 + j.val, by omega⟩) = w (ix2 k ⟨2840 + j.val, by omega⟩)) := by
  obtain ⟨h1, h2, h3, h4, h5, h6, h7, h8, h9⟩ := parts_pure _ _ _ _ _ _ _ _ _ k (wide w) rfl
  refine ⟨fun j => (h1 j).trans ?_, fun j => (h2 j).trans ?_, fun j => (h3 j).trans ?_, fun j => (h4 j).trans ((twice_pure _ k j).trans ?_),
    fun j => (h5 j).trans ((twice_pure _ k j).trans ?_), fun j => (h6 j).trans ?_, fun j => (h7 j).trans ?_, fun j => (h8 j).trans ?_, fun j => (h9 j).trans ?_⟩
  · pointwise
  · pointwise
  · pointwise
  · pointwise
  · pointwise
  · have h0 : FloatOps.sitofp (F := Ideal) .f32 0#32 = (0 : EReal) := by
      show (((0#32 : BitVec 32).toInt : ℝ) : EReal) = 0
      simp
    pointwise
    by_cases h : j.val < 24
    · rw [dif_pos h, dif_pos h]
    · rw [dif_neg h, dif_neg h, h0]
  · pointwise
  · pointwise
  · pointwise

theorem values_pure (w : FVec Ideal S1024x3864 .f32) (k : Fin 1024) (T : FVec Ideal S256x1024 .bf16)
    (hT : T = truncf .bf16 (transpose S256x1024 [1, 0] (concatenate S1024x256 1
        [⟨S1024x128, extractStridedSlice S1024x128 ![0, 896] w slices_S1024x3864_S1024x128_0_896⟩,
         ⟨S1024x128, extractStridedSlice S1024x128 ![0, 1152] w slices_S1024x3864_S1024x128_0_1152⟩]
        concatenates_S1024x128_S1024x128_S1024x256_d1) transposes_S1024x256_S256x1024_1_0) bitsLt_bf16_f32) :
    (∀ p : Fin 128, T (ix2 ⟨p.val, by omega⟩ k) = w (ix2 k ⟨896 + p.val, by omega⟩))
      ∧ (∀ p : Fin 128, T (ix2 ⟨128 + p.val, by omega⟩ k) = w (ix2 k ⟨1152 + p.val, by omega⟩)) := by
  subst hT
  refine ⟨fun p => ?_, fun p => ?_⟩ <;> pointwise <;> have hp := p.isLt <;>
    split_ifs <;> first | (exfalso; omega) | exact congrArg (fun q => w (ix2 k q)) (Fin.ext (by dsimp only; omega))

theorem gain_pure (g : FVec Ideal S1024 .f32) (k : Fin 1024) : shapeCast S1x1024 g shapeCasts_S1024_S1x1024 (ix2 0 k) = g (ix1 k) := by
  pointwise

theorem gain512_pure (g : FVec Ideal S64 .f32) (j : Fin 512) :
    shapeCast S1x512 (shapeCast S512 (broadcastInDim S8x64 ![0, 1] bcast_S1x64_S8x64_0_1 (shapeCast S1x64 g shapeCasts_S64_S1x64)) shapeCasts_S8x64_S512) shapeCasts_S512_S1x512 (ix2 0 j)
      = g (ix1 ⟨j.val % 64, by omega⟩) := by
  pointwise

theorem gain256_pure (g : FVec Ideal S64 .f32) (j : Fin 256) :
    shapeCast S1x256 (shapeCast S256 (broadcastInDim S4x64 ![0, 1] bcast_S1x64_S4x64_0_1 (shapeCast S1x64 g shapeCasts_S64_S1x64)) shapeCasts_S4x64_S256) shapeCasts_S256_S1x256 (ix2 0 j)
      = g (ix1 ⟨j.val % 64, by omega⟩) := by
  pointwise

/-- The identity matrix's entries. -/
theorem eye (a b : Nat) (ha : a < 8) (hb : b < 8) :
    FloatOps.uitofp (F := Ideal) .f32 (IntOp.cmpi .eq (IntOp.addi (BitVec.ofNat 32 a) 0#32) (BitVec.ofNat 32 b)) = if a = b then (1 : EReal) else 0 := by
  have h : IntOp.cmpi .eq (IntOp.addi (BitVec.ofNat 32 a) 0#32) (BitVec.ofNat 32 b) = BitVec.ofBool (decide (a = b)) := by
    interval_cases a <;> interval_cases b <;> rfl
  rw [h]
  by_cases hab : a = b
  · rw [if_pos hab, decide_eq_true hab]
    show ((((BitVec.ofBool true).toNat : ℕ) : ℝ) : EReal) = 1
    simp
  · rw [if_neg hab, decide_eq_false hab]
    show ((((BitVec.ofBool false).toNat : ℕ) : ℝ) : EReal) = 0
    simp

theorem ones512_pure (i j : Fin 512) :
    (show FVec Ideal S512x512 .bf16 from truncf .bf16 (shapeCast S512x512 (mulf
        (broadcastInDim S8x64x8x64 ![0, 1, 2, 3] bcast_S8x1x8x1_S8x64x8x64_0_1_2_3 (broadcastInDim S8x1x8x1 ![0, 2] bcast_S8x8_S8x1x8x1_0_2
          (uitofp .f32 (cmpi .eq (addi (iotaInDim S8x8 32 0) (broadcastInDim S8x8 ![] bcast_S_S8x8 (constantI S_ 32 0#32))) (iotaInDim S8x8 32 1)))))
        (broadcastInDim S8x64x8x64 ![0, 1, 2, 3] bcast_S1x64x1x64_S8x64x8x64_0_1_2_3 (broadcastInDim S1x64x1x64 ![1, 3] bcast_S64x64_S1x64x1x64_1_3
          (broadcastInDim S64x64 ![] bcast_S_S64x64 (constant S_ .f32 0x3F800000#32)))))
        shapeCasts_S8x64x8x64_S512x512) bitsLt_bf16_f32) (ix2 i j)
      = if i.val / 64 = j.val / 64 then 1 else 0 := by
  pointwise
  exact eye _ _ (by omega) (by omega)

theorem ones256_pure (i j : Fin 256) :
    (show FVec Ideal S256x256 .bf16 from truncf .bf16 (shapeCast S256x256 (mulf
        (broadcastInDim S4x64x4x64 ![0, 1, 2, 3] bcast_S4x1x4x1_S4x64x4x64_0_1_2_3 (broadcastInDim S4x1x4x1 ![0, 2] bcast_S4x4_S4x1x4x1_0_2
          (uitofp .f32 (cmpi .eq (addi (iotaInDim S4x4 32 0) (broadcastInDim S4x4 ![] bcast_S_S4x4 (constantI S_ 32 0#32))) (iotaInDim S4x4 32 1)))))
        (broadcastInDim S4x64x4x64 ![0, 1, 2, 3] bcast_S1x64x1x64_S4x64x4x64_0_1_2_3 (broadcastInDim S1x64x1x64 ![1, 3] bcast_S64x64_S1x64x1x64_1_3
          (broadcastInDim S64x64 ![] bcast_S_S64x64 (constant S_ .f32 0x3F800000#32)))))
        shapeCasts_S4x64x4x64_S256x256) bitsLt_bf16_f32) (ix2 i j)
      = if i.val / 64 = j.val / 64 then 1 else 0 := by
  pointwise
  exact eye _ _ (by omega) (by omega)

theorem rows_pure (x : FVec Ideal S4x4096x1024 .f32) (n : Fin 16384) (k : Fin 1024) :
    shapeCast S16384x1024 x shapeCasts_S4x4096x1024_S16384x1024 (ix2 n k) = x (ix3 ⟨n.val / 4096, by omega⟩ ⟨n.val % 4096, by omega⟩ k) := by
  pointwise

variable (m : (ℓ : Loc nD τ sig) → Buf (Elt Ideal) ℓ)

theorem rows (c : Dev nD) (n : Fin 16384) (k : Fin 1024) :
    (show FVec Ideal S16384x1024 .f32 from V m c main_v0) (ix2 n k) = (show FVec Ideal S4x4096x1024 .f32 from m ((c : Thread nD τ).loc main_arg0)) (ix3 ⟨n.val / 4096, by omega⟩ ⟨n.val % 4096, by omega⟩ k) := by
  simp only [V, hostOps0, hostOps0_1, hostOps0_2, hostOps0_3, hostOps0_4, hostOps0_5, hostOps0_6, List.flatten_cons, List.flatten_nil, List.append_nil, List.cons_append, List.nil_append]
  after_results
  exact rows_pure _ n k

theorem weight (c : Dev nD) (k : Fin 1024) (j : Fin 3968) :
    (show FVec Ideal S1024x3968 .bf16 from V m c main_v24) (ix2 k j) = wide (show FVec Ideal S1024x3864 .f32 from m ((c : Thread nD τ).loc main_arg3)) (ix2 k j) := by
  simp only [V, hostOps0, hostOps0_1, hostOps0_2, hostOps0_3, hostOps0_4, hostOps0_5, hostOps0_6, List.flatten_cons, List.flatten_nil, List.append_nil, List.cons_append, List.nil_append]
  after_results
  rfl

theorem values (c : Dev nD) (k : Fin 1024) :
    (∀ p : Fin 128, (show FVec Ideal S256x1024 .bf16 from V m c main_v27) (ix2 ⟨p.val, by omega⟩ k) = (show FVec Ideal S1024x3864 .f32 from m ((c : Thread nD τ).loc main_arg3)) (ix2 k ⟨896 + p.val, by omega⟩))
      ∧ (∀ p : Fin 128, (show FVec Ideal S256x1024 .bf16 from V m c main_v27) (ix2 ⟨128 + p.val, by omega⟩ k) = (show FVec Ideal S1024x3864 .f32 from m ((c : Thread nD τ).loc main_arg3)) (ix2 k ⟨1152 + p.val, by omega⟩)) := by
  simp only [V, hostOps0, hostOps0_1, hostOps0_2, hostOps0_3, hostOps0_4, hostOps0_5, hostOps0_6, List.flatten_cons, List.flatten_nil, List.append_nil, List.cons_append, List.nil_append]
  after_results
  exact values_pure _ k _ rfl

theorem gain (c : Dev nD) (k : Fin 1024) :
    (show FVec Ideal S1x1024 .f32 from V m c main_v28) (ix2 0 k) = (show FVec Ideal S1024 .f32 from m ((c : Thread nD τ).loc main_arg2)) (ix1 k) := by
  simp only [V, hostOps0, hostOps0_1, hostOps0_2, hostOps0_3, hostOps0_4, hostOps0_5, hostOps0_6, List.flatten_cons, List.flatten_nil, List.append_nil, List.cons_append, List.nil_append]
  after_results
  exact gain_pure _ k

theorem gainQ (c : Dev nD) (j : Fin 512) :
    (show FVec Ideal S1x512 .f32 from V m c main_v32) (ix2 0 j) = (show FVec Ideal S64 .f32 from m ((c : Thread nD τ).loc main_arg4)) (ix1 ⟨j.val % 64, by omega⟩) := by
  simp only [V, hostOps0, hostOps0_1, hostOps0_2, hostOps0_3, hostOps0_4, hostOps0_5, hostOps0_6, List.flatten_cons, List.flatten_nil, List.append_nil, List.cons_append, List.nil_append]
  after_results
  exact gain512_pure _ j

theorem gainKS (c : Dev nD) (j : Fin 256) :
    (show FVec Ideal S1x256 .f32 from V m c main_v36) (ix2 0 j) = (show FVec Ideal S64 .f32 from m ((c : Thread nD τ).loc main_arg5)) (ix1 ⟨j.val % 64, by omega⟩) := by
  simp only [V, hostOps0, hostOps0_1, hostOps0_2, hostOps0_3, hostOps0_4, hostOps0_5, hostOps0_6, List.flatten_cons, List.flatten_nil, List.append_nil, List.cons_append, List.nil_append]
  after_results
  exact gain256_pure _ j

theorem gainKW (c : Dev nD) (j : Fin 256) :
    (show FVec Ideal S1x256 .f32 from V m c main_v40) (ix2 0 j) = (show FVec Ideal S64 .f32 from m ((c : Thread nD τ).loc main_arg6)) (ix1 ⟨j.val % 64, by omega⟩) := by
  simp only [V, hostOps0, hostOps0_1, hostOps0_2, hostOps0_3, hostOps0_4, hostOps0_5, hostOps0_6, List.flatten_cons, List.flatten_nil, List.append_nil, List.cons_append, List.nil_append]
  after_results
  exact gain256_pure _ j

theorem ones512 (c : Dev nD) (i j : Fin 512) :
    (show FVec Ideal S512x512 .bf16 from V m c main_v49) (ix2 i j) = if i.val / 64 = j.val / 64 then 1 else 0 := by
  simp only [V, hostOps0, hostOps0_1, hostOps0_2, hostOps0_3, hostOps0_4, hostOps0_5, hostOps0_6, List.flatten_cons, List.flatten_nil, List.append_nil, List.cons_append, List.nil_append]
  after_results
  exact ones512_pure i j

theorem ones256 (c : Dev nD) (i j : Fin 256) :
    (show FVec Ideal S256x256 .bf16 from V m c main_v58) (ix2 i j) = if i.val / 64 = j.val / 64 then 1 else 0 := by
  simp only [V, hostOps0, hostOps0_1, hostOps0_2, hostOps0_3, hostOps0_4, hostOps0_5, hostOps0_6, List.flatten_cons, List.flatten_nil, List.append_nil, List.cons_append, List.nil_append]
  after_results
  exact ones256_pure i j

end Cert.ProjIdeal.Entry

end
-- ==== Proof.PBody.lean ====
module

public import proofs.«01_k».proof.Proof.PSpec
public import proofs.«01_k».proof.Proof.Gen.ProjIdeal.Value
public import Idealize.ShloMosaic.Lib.Pipeline.ValueKit

@[expose] public section

set_option maxRecDepth 16384

noncomputable section

/-! One grid point of the projection call: what each of its results holds, from its operands' blocks. -/

namespace Cert.ProjIdeal.Body

open Idealize.ShloMosaic Idealize.ShloMosaic.TcCoe Idealize.SL.Sem
open Cert.ProjIdeal Cert.ProjIdeal.Gen Cert.Project

theorem pay9 (v0 : FVec Ideal S512x1024 .f32) (v7 : FVec Ideal S1x6x1024 .f32) (v14 : FVec Ideal S1x1024 .f32) (r : Fin 512) (k : Fin 1024) :
    k0_pay9 (F := Ideal) v0 v7 v14 (ix2 r k)
      = hid (fun k => v0 (ix2 r k)) (fun k => v14 (ix2 0 k)) (fun k => v7 (ix3 0 1 k)) (fun k => v7 (ix3 0 0 k)) k := by
  unfold hid c1024 eps cOne
  pointwise [k0_pay9]

theorem pay1 (h : FVec Ideal S512x1024 .bf16) (w : FVec Ideal S256x1024 .bf16) (p : Fin 256) (r : Fin 512) :
    k0_pay1 (F := Ideal) h (k0_pay29 w) (constant (F := Ideal) S256x512 .f32 0x00000000#32) (ix2 p r) = ∑ k : Fin 1024, w (ix2 p k) * h (ix2 r k) := by
  pointwise [k0_pay1, k0_pay29]

theorem pay2 (h : FVec Ideal S512x1024 .bf16) (w : FVec Ideal S256x1024 .bf16) (p : Fin 128) (r : Fin 512) :
    k0_pay2 (F := Ideal) h (k0_pay29 w) (constant (F := Ideal) S256x512 .f32 0x00000000#32) (ix2 p r) = ∑ k : Fin 1024, w (ix2 ⟨p.val, by omega⟩ k) * h (ix2 r k) := by
  rw [← pay1]
  pointwise [k0_pay2]

theorem pay3 (h : FVec Ideal S512x1024 .bf16) (w : FVec Ideal S256x1024 .bf16) (p : Fin 128) (r : Fin 512) :
    k0_pay3 (F := Ideal) h (k0_pay29 w) (constant (F := Ideal) S256x512 .f32 0x00000000#32) (ix2 p r) = ∑ k : Fin 1024, w (ix2 ⟨128 + p.val, by omega⟩ k) * h (ix2 r k) := by
  rw [← pay1]
  pointwise [k0_pay3]

theorem pay4 (h : FVec Ideal S512x1024 .bf16) (w : FVec Ideal S1024x640 .bf16) (r : Fin 512) (j : Fin 640) :
    k0_pay4 (F := Ideal) h w (ix2 r j) = ∑ k : Fin 1024, h (ix2 r k) * w (ix2 k j) := by
  pointwise [k0_pay4]

theorem pay5 (h : FVec Ideal S512x1024 .bf16) (w : FVec Ideal S1024x640 .bf16) (r : Fin 512) (j : Fin 128) :
    k0_pay5 (F := Ideal) h w (ix2 r j) = Ideal.logistic (∑ k : Fin 1024, h (ix2 r k) * w (ix2 k ⟨j.val, by omega⟩)) := by
  rw [← pay4]
  pointwise [k0_pay5]

theorem pay6 (h : FVec Ideal S512x1024 .bf16) (w : FVec Ideal S1024x640 .bf16) (r : Fin 512) (j : Fin 512) :
    k0_pay6 (F := Ideal) h w (ix2 r j) = ∑ k : Fin 1024, h (ix2 r k) * w (ix2 k ⟨128 + j.val, by omega⟩) := by
  rw [← pay4]
  pointwise [k0_pay6]

theorem pay7 (h : FVec Ideal S512x1024 .bf16) (w : FVec Ideal S1024x1024 .bf16) (r : Fin 512) (j : Fin 1024) :
    k0_pay7 (F := Ideal) h w (ix2 r j) = Ideal.logistic (∑ k : Fin 1024, h (ix2 r k) * w (ix2 k j)) := by
  pointwise [k0_pay7]

theorem pay8 (h : FVec Ideal S512x1024 .bf16) (w : FVec Ideal S1024x1024 .bf16) (r : Fin 512) (j : Fin 1024) :
    k0_pay8 (F := Ideal) h w (ix2 r j) = Ideal.logistic (∑ k : Fin 1024, h (ix2 r k) * w (ix2 k j)) := by
  pointwise [k0_pay8]

theorem pay17 (h : FVec Ideal S512x1024 .bf16) (w : FVec Ideal S1024x256 .bf16) (r : Fin 512) (j : Fin 256) :
    k0_pay17 (F := Ideal) h w (ix2 r j) = ∑ k : Fin 1024, h (ix2 r k) * w (ix2 k j) := by
  pointwise [k0_pay17]

theorem pay18 (h : FVec Ideal S512x1024 .bf16) (w : FVec Ideal S1024x256 .bf16) (r : Fin 512) (j : Fin 128) :
    k0_pay18 (F := Ideal) h w (ix2 r j) = ∑ k : Fin 1024, h (ix2 r k) * w (ix2 k ⟨j.val, by omega⟩) := by
  rw [← pay17]
  pointwise [k0_pay18]

theorem pay19 (h : FVec Ideal S512x1024 .bf16) (w : FVec Ideal S1024x256 .bf16) (r : Fin 512) (j : Fin 128) :
    k0_pay19 (F := Ideal) h w (ix2 r j) = ∑ k : Fin 1024, h (ix2 r k) * w (ix2 k ⟨128 + j.val, by omega⟩) := by
  rw [← pay17]
  pointwise [k0_pay19]

theorem pay10 (v0 : FVec Ideal S512x1024 .f32) (v7 : FVec Ideal S1x6x1024 .f32) (v14 : FVec Ideal S1x1024 .f32) (w : FVec Ideal S1024x512 .bf16)
    (r j : Fin 512) :
    k0_pay10 (F := Ideal) v0 v7 v14 w (ix2 r j) = ∑ k : Fin 1024, k0_pay9 (F := Ideal) v0 v7 v14 (ix2 r k) * w (ix2 k j) := by
  pointwise [k0_pay10]

theorem pay16 (v : FVec Ideal S512x512 .f32) (o : FVec Ideal S512x512 .bf16) (g : FVec Ideal S1x512 .f32) (a : FVec Ideal S512x512 .bf16)
    (b : FVec Ideal S512x512 .f32) (r j : Fin 512) :
    k0_pay16 (F := Ideal) v o g a b (ix2 r j)
      = v (ix2 r j) * Ideal.rsqrt ((∑ i : Fin 512, a (ix2 r i) * o (ix2 i j) + ∑ i : Fin 512, b (ix2 r i) * o (ix2 i j)) * c64th + eps) * g (ix2 0 j) := by
  unfold c64th eps
  pointwise [k0_pay16]

theorem pay12 (g : FVec Ideal S1x512 .f32) (j : Fin 512) :
    k0_pay12 (F := Ideal) g (ix2 0 j) = g (ix2 0 j) * Named.named κ "scale" 0x3E38AA3B#32 := by
  pointwise [k0_pay12]

theorem pay14 (v0 : FVec Ideal S512x1024 .f32) (v7 : FVec Ideal S1x6x1024 .f32) (v14 : FVec Ideal S1x1024 .f32) (w : FVec Ideal S1024x512 .bf16)
    (r j : Fin 512) :
    k0_pay14 (F := Ideal) v0 v7 v14 w (ix2 r j)
      = k0_pay10 (F := Ideal) v0 v7 v14 w (ix2 r j) * k0_pay10 (F := Ideal) v0 v7 v14 w (ix2 r j) := by
  pointwise [k0_pay14, k0_pay13]

theorem pay15 (v0 : FVec Ideal S512x1024 .f32) (v7 : FVec Ideal S1x6x1024 .f32) (v14 : FVec Ideal S1x1024 .f32) (w : FVec Ideal S1024x512 .bf16)
    (r j : Fin 512) :
    k0_pay15 (F := Ideal) v0 v7 v14 w (ix2 r j)
      = k0_pay10 (F := Ideal) v0 v7 v14 w (ix2 r j) * k0_pay10 (F := Ideal) v0 v7 v14 w (ix2 r j)
        - k0_pay10 (F := Ideal) v0 v7 v14 w (ix2 r j) * k0_pay10 (F := Ideal) v0 v7 v14 w (ix2 r j) := by
  pointwise [k0_pay15, k0_pay14, k0_pay13]

/-- Normalised products: 256 of them a row, in groups of 64. -/
def norm256 (p : Fin 256 → EReal) (o : Fin 256 → EReal) (g : EReal) (j : Fin 256) : EReal :=
  p j * Ideal.rsqrt ((∑ i, p i * p i * o i + ∑ i, (p i * p i - p i * p i) * o i) * c64th + eps) * g

theorem pay20 (h : FVec Ideal S512x1024 .bf16) (w : FVec Ideal S1024x256 .bf16) (r : Fin 512) (j : Fin 256) :
    k0_pay20 (F := Ideal) h w (ix2 r j) = ∑ k : Fin 1024, h (ix2 r k) * w (ix2 k j) := by
  pointwise [k0_pay20]

theorem pay27 (h : FVec Ideal S512x1024 .bf16) (w : FVec Ideal S1024x256 .bf16) (o : FVec Ideal S256x256 .bf16) (g : FVec Ideal S1x256 .f32)
    (r : Fin 512) (j : Fin 256) :
    k0_pay27 (F := Ideal) (k0_pay20 h w) (k0_pay22 g) (k0_pay25 h w o) (k0_pay26 h w o) (ix2 r j)
      = norm256 (fun j => k0_pay20 (F := Ideal) h w (ix2 r j)) (fun i => o (ix2 i j)) (g (ix2 0 j)) j := by
  unfold norm256 c64th eps
  pointwise [k0_pay27, k0_pay22, k0_pay25, k0_pay26, k0_pay21, k0_pay23, k0_pay24]

theorem pay28 (h : FVec Ideal S512x1024 .bf16) (w : FVec Ideal S1024x256 .bf16) (o : FVec Ideal S256x256 .bf16) (g : FVec Ideal S1x256 .f32)
    (r : Fin 512) (j : Fin 256) :
    k0_pay28 (F := Ideal) h w o g (ix2 r j)
      = norm256 (fun j => ∑ k : Fin 1024, h (ix2 r k) * w (ix2 k j)) (fun i => o (ix2 i j)) (g (ix2 0 j)) j := by
  unfold norm256 c64th eps
  pointwise [k0_pay28]

/-- A load of columns of the weight. -/
theorem ld_col {D o : Nat} (x : FVec Ideal S1024x3968 .bf16) (inb : ∀ a, (![0, o] : Fin 2 → Nat) a + (⟨2, ![1024, D]⟩ : Shape).size a ≤ S1024x3968.size a)
    (ho : o + D ≤ 3968) (k : Fin 1024) (j : Fin D) :
    View.ld (Val := Elt Ideal) (e' := .bf16) x (Rect.unit (s := S1024x3968) ![0, o] (⟨2, ![1024, D]⟩ : Shape).size inb) (ix2 k j) = x (ix2 k ⟨o + j.val, by omega⟩) := by
  refine congrArg x (funext fun a => Fin.ext ?_)
  match a with
  | ⟨0, _⟩ => show 0 + 1 * k.val = k.val; omega
  | ⟨1, _⟩ => show o + 1 * j.val = o + j.val; omega

section Point

variable (x0 : FVec Ideal S512x1024 .f32) (x1 : FVec Ideal S1x6x1024 .f32) (x2 : FVec Ideal S1x1024 .f32) (x3 : FVec Ideal S1024x3968 .bf16)
  (x4 : FVec Ideal S256x1024 .bf16) (x5 : FVec Ideal S1x512 .f32) (x6 x7 : FVec Ideal S1x256 .f32) (x8 : FVec Ideal S512x512 .bf16)
  (x9 : FVec Ideal S256x256 .bf16)

/-! A load of a whole block reads the block. -/

theorem ld0 : View.ld (Val := Elt Ideal) (e' := .f32) x0 r0_0 = x0 := View.ld_unit_lit _ _ (by decide)
theorem ld1 : View.ld (Val := Elt Ideal) (e' := .f32) x1 r0_1 = x1 := View.ld_unit_lit _ _ (by decide)
theorem ld2 : View.ld (Val := Elt Ideal) (e' := .f32) x2 r0_2 = x2 := View.ld_unit_lit _ _ (by decide)
theorem ld4 : View.ld (Val := Elt Ideal) (e' := .bf16) x4 r0_13 = x4 := View.ld_unit_lit _ _ (by decide)
theorem ld5 : View.ld (Val := Elt Ideal) (e' := .f32) x5 r0_5 = x5 := View.ld_unit_lit _ _ (by decide)
theorem ld6 : View.ld (Val := Elt Ideal) (e' := .f32) x6 r0_10 = x6 := View.ld_unit_lit _ _ (by decide)
theorem ld7 : View.ld (Val := Elt Ideal) (e' := .f32) x7 r0_10 = x7 := View.ld_unit_lit _ _ (by decide)
theorem ld8 : View.ld (Val := Elt Ideal) (e' := .bf16) x8 r0_4 = x8 := View.ld_unit_lit _ _ (by decide)
theorem ld9 : View.ld (Val := Elt Ideal) (e' := .bf16) x9 r0_9 = x9 := View.ld_unit_lit _ _ (by decide)

/-- Row `r` of the tile, normalised and modulated. -/
def row (r : Fin 512) : Fin 1024 → EReal :=
  hid (fun k => x0 (ix2 r k)) (fun k => x2 (ix2 0 k)) (fun k => x1 (ix3 0 1 k)) (fun k => x1 (ix3 0 0 k))

/-- Its product with column `c` of the assembled weight. -/
def prod (r : Fin 512) (c : Fin 3968) : EReal := ∑ k, row x0 x1 x2 r k * x3 (ix2 k c)

theorem pay9_ld (r : Fin 512) (k : Fin 1024) :
    k0_pay9 (F := Ideal) (View.ld (Val := Elt Ideal) (e' := .f32) x0 r0_0) (View.ld (Val := Elt Ideal) (e' := .f32) x1 r0_1) (View.ld (Val := Elt Ideal) (e' := .f32) x2 r0_2) (ix2 r k) = row x0 x1 x2 r k := by
  rw [ld0 x0, ld1 x1, ld2 x2, pay9]
  rfl

theorem pay30 (r : Fin 512) (k : Fin 1024) : k0_pay30 (F := Ideal) x0 x1 x2 x3 x4 x5 x6 x7 x8 x9 (ix2 r k) = row x0 x1 x2 r k :=
  pay9_ld x0 x1 x2 r k

theorem out_kc (r : Fin 512) (j : Fin 128) :
    out0_11 (F := Ideal) x0 x1 x2 x3 x4 x5 x6 x7 x8 x9 (ix2 r j) = prod x0 x1 x2 x3 r ⟨512 + j.val, by omega⟩ := by
  unfold out0_11
  rw [View.canon_cons_unit_lit _ _ _ (by decide), pay18]
  exact Finset.sum_congr rfl fun k _ => congrArg₂ _ (pay30 x0 x1 x2 x3 x4 x5 x6 x7 x8 x9 r k) (ld_col x3 _ (by norm_num) k _)

theorem out_vc (r : Fin 512) (j : Fin 128) :
    out0_12 (F := Ideal) x0 x1 x2 x3 x4 x5 x6 x7 x8 x9 (ix2 r j) = prod x0 x1 x2 x3 r ⟨512 + (128 + j.val), by omega⟩ := by
  unfold out0_12
  rw [View.canon_cons_unit_lit _ _ _ (by decide), pay19]
  exact Finset.sum_congr rfl fun k _ => congrArg₂ _ (pay30 x0 x1 x2 x3 x4 x5 x6 x7 x8 x9 r k) (ld_col x3 _ (by norm_num) k _)

theorem out_gates (r : Fin 512) (j : Fin 128) :
    out0_17 (F := Ideal) x0 x1 x2 x3 x4 x5 x6 x7 x8 x9 (ix2 r j) = Ideal.logistic (prod x0 x1 x2 x3 r ⟨1280 + j.val, by omega⟩) := by
  unfold out0_17
  rw [View.canon_cons_unit_lit _ _ _ (by decide), pay5]
  exact congrArg _ (Finset.sum_congr rfl fun k _ => congrArg₂ _ (pay30 x0 x1 x2 x3 x4 x5 x6 x7 x8 x9 r k) (ld_col x3 _ (by norm_num) k _))

theorem out_u (r : Fin 512) (j : Fin 512) :
    out0_18 (F := Ideal) x0 x1 x2 x3 x4 x5 x6 x7 x8 x9 (ix2 r j) = prod x0 x1 x2 x3 r ⟨1280 + (128 + j.val), by omega⟩ := by
  unfold out0_18
  rw [View.canon_cons_unit_lit _ _ _ (by decide), pay6]
  exact Finset.sum_congr rfl fun k _ => congrArg₂ _ (pay30 x0 x1 x2 x3 x4 x5 x6 x7 x8 x9 r k) (ld_col x3 _ (by norm_num) k _)

theorem out_ga (r : Fin 512) (j : Fin 1024) :
    out0_19 (F := Ideal) x0 x1 x2 x3 x4 x5 x6 x7 x8 x9 (ix2 r j) = Ideal.logistic (prod x0 x1 x2 x3 r ⟨1920 + j.val, by omega⟩) := by
  unfold out0_19
  rw [View.canon_cons_unit_lit _ _ _ (by decide), pay7]
  exact congrArg _ (Finset.sum_congr rfl fun k _ => congrArg₂ _ (pay30 x0 x1 x2 x3 x4 x5 x6 x7 x8 x9 r k) (ld_col x3 _ (by norm_num) k _))

theorem out_gs (r : Fin 512) (j : Fin 1024) :
    out0_20 (F := Ideal) x0 x1 x2 x3 x4 x5 x6 x7 x8 x9 (ix2 r j) = Ideal.logistic (prod x0 x1 x2 x3 r ⟨2944 + j.val, by omega⟩) := by
  unfold out0_20
  rw [View.canon_cons_unit_lit _ _ _ (by decide), pay8]
  exact congrArg _ (Finset.sum_congr rfl fun k _ => congrArg₂ _ (pay30 x0 x1 x2 x3 x4 x5 x6 x7 x8 x9 r k) (ld_col x3 _ (by norm_num) k _))

theorem out_vs (p : Fin 128) (r : Fin 512) :
    out0_15 (F := Ideal) x0 x1 x2 x3 x4 x5 x6 x7 x8 x9 (ix2 p r) = ∑ k, row x0 x1 x2 r k * x4 (ix2 ⟨p.val, by omega⟩ k) := by
  unfold out0_15 k0_pay31 k0_pay32
  rw [View.canon_cons_unit_lit _ _ _ (by decide), ld4 x4, pay2]
  exact Finset.sum_congr rfl fun k _ => by rw [pay30, mul_comm]

theorem out_vw (p : Fin 128) (r : Fin 512) :
    out0_16 (F := Ideal) x0 x1 x2 x3 x4 x5 x6 x7 x8 x9 (ix2 p r) = ∑ k, row x0 x1 x2 r k * x4 (ix2 ⟨128 + p.val, by omega⟩ k) := by
  unfold out0_16 k0_pay31 k0_pay32
  rw [View.canon_cons_unit_lit _ _ _ (by decide), ld4 x4, pay3]
  exact Finset.sum_congr rfl fun k _ => by rw [pay30, mul_comm]

theorem out_ks (r : Fin 512) (j : Fin 256) :
    out0_13 (F := Ideal) x0 x1 x2 x3 x4 x5 x6 x7 x8 x9 (ix2 r j)
      = norm256 (fun j => prod x0 x1 x2 x3 r ⟨768 + j.val, by omega⟩) (fun i => x9 (ix2 i j)) (x6 (ix2 0 j)) j := by
  have h : ∀ j, k0_pay20 (F := Ideal) (k0_pay30 x0 x1 x2 x3 x4 x5 x6 x7 x8 x9) (View.ld (Val := Elt Ideal) (e' := .bf16) x3 r0_8) (ix2 r j) = prod x0 x1 x2 x3 r ⟨768 + j.val, by omega⟩ := fun j => by
    rw [pay20]
    exact Finset.sum_congr rfl fun k _ => congrArg₂ _ (pay30 x0 x1 x2 x3 x4 x5 x6 x7 x8 x9 r k) (ld_col x3 _ (by norm_num) k _)
  unfold out0_13
  rw [View.canon_cons_unit_lit _ _ _ (by decide), ld9 x9, ld6 x6, pay27]
  simp only [h]

theorem out_kw (r : Fin 512) (j : Fin 256) :
    out0_14 (F := Ideal) x0 x1 x2 x3 x4 x5 x6 x7 x8 x9 (ix2 r j)
      = norm256 (fun j => prod x0 x1 x2 x3 r ⟨1024 + j.val, by omega⟩) (fun i => x9 (ix2 i j)) (x7 (ix2 0 j)) j := by
  have h : ∀ j : Fin 256, ∑ k, k0_pay30 (F := Ideal) x0 x1 x2 x3 x4 x5 x6 x7 x8 x9 (ix2 r k) * View.ld (Val := Elt Ideal) (e' := .bf16) x3 r0_12 (ix2 k j) = prod x0 x1 x2 x3 r ⟨1024 + j.val, by omega⟩ := fun j =>
    Finset.sum_congr rfl fun k _ => congrArg₂ _ (pay30 x0 x1 x2 x3 x4 x5 x6 x7 x8 x9 r k) (ld_col x3 _ (by norm_num) k _)
  unfold out0_14
  rw [View.canon_cons_unit_lit _ _ _ (by decide), ld9 x9, ld7 x7, pay28]
  exact congrArg (fun f => norm256 f _ _ j) (funext h)

theorem out_q (r j : Fin 512) :
    out0_10 (F := Ideal) x0 x1 x2 x3 x4 x5 x6 x7 x8 x9 (ix2 r j)
      = prod x0 x1 x2 x3 r ⟨j.val, by omega⟩
        * Ideal.rsqrt ((∑ i : Fin 512, prod x0 x1 x2 x3 r ⟨i.val, by omega⟩ * prod x0 x1 x2 x3 r ⟨i.val, by omega⟩ * x8 (ix2 i j)
            + ∑ i : Fin 512, (prod x0 x1 x2 x3 r ⟨i.val, by omega⟩ * prod x0 x1 x2 x3 r ⟨i.val, by omega⟩
                - prod x0 x1 x2 x3 r ⟨i.val, by omega⟩ * prod x0 x1 x2 x3 r ⟨i.val, by omega⟩) * x8 (ix2 i j)) * c64th + eps)
        * (x5 (ix2 0 j) * Named.named (F := Ideal) (φ := .f32) κ "scale" 0x3E38AA3B#32) := by
  have h : ∀ j : Fin 512, k0_pay10 (F := Ideal) (View.ld (Val := Elt Ideal) (e' := .f32) x0 r0_0) (View.ld (Val := Elt Ideal) (e' := .f32) x1 r0_1) (View.ld (Val := Elt Ideal) (e' := .f32) x2 r0_2) (View.ld (Val := Elt Ideal) (e' := .bf16) x3 r0_3) (ix2 r j)
      = prod x0 x1 x2 x3 r ⟨j.val, by omega⟩ := fun j => by
    rw [pay10]
    exact Finset.sum_congr rfl fun k _ => congrArg₂ _ (pay9_ld x0 x1 x2 r k) ((ld_col x3 _ (by norm_num) k _).trans (congrArg (fun c => x3 (ix2 k c)) (Fin.ext (Nat.zero_add _))))
  have h8 : ∀ i, k0_pay11 (F := Ideal) x8 (ix2 i j) = x8 (ix2 i j) := fun i => by pointwise [k0_pay11]
  unfold out0_10
  rw [View.canon_cons_unit_lit _ _ _ (by decide), ld8 x8, ld5 x5, pay16, pay12]
  simp only [pay14, pay15, h, h8]

end Point

end Cert.ProjIdeal.Body

end
-- ==== Proof.PBlocks.lean ====
module

public import proofs.«01_k».proof.Proof.PEntry
public import proofs.«01_k».proof.Proof.PBody

@[expose] public section

set_option maxRecDepth 16384

noncomputable section

/-! What each grid point's blocks hold: 512 rows of the activations, and the other operands whole. -/

namespace Cert.ProjIdeal.Blocks

open Idealize.ShloMosaic Idealize.ShloMosaic.TcCoe Idealize.SL.Sem
open Idealize.ShloMosaic.Pipeline (Dat)
open Cert.ProjIdeal Cert.ProjIdeal.Gen Cert.ProjIdeal.Body Cert.Project

variable (m : (ℓ : Loc nD τ sig) → Buf (Elt Ideal) ℓ)

/-- Where each operand's block sits, at each grid point. -/
theorem idx : ∀ t : Fin cfg0.N, win0_0.index t = ![t.val, 0] ∧ win0_1.index t = ![t.val / 8, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- Where each result's block sits. -/
theorem odx : ∀ t : Fin cfg0.N, win0_10.index t = ![t.val, 0] ∧ win0_11.index t = ![t.val, 0] ∧ win0_12.index t = ![t.val, 0] ∧ win0_13.index t = ![t.val, 0]
    ∧ win0_14.index t = ![t.val, 0] ∧ win0_15.index t = ![0, t.val] ∧ win0_16.index t = ![0, t.val] ∧ win0_17.index t = ![t.val, 0]
    ∧ win0_18.index t = ![t.val, 0] ∧ win0_19.index t = ![t.val, 0] ∧ win0_20.index t = ![t.val, 0] :=
  (by decide +kernel : ∀ t : Fin grid0.N, _)

theorem lt (t : Fin cfg0.N) : t.val < 32 := t.isLt

theorem blk0 (c : Dev nD) (t : Fin cfg0.N) (r : Fin 512) (k : Fin 1024) :
    (show FVec Ideal S512x1024 .f32 from iblk m c 0 t) (ix2 r k)
      = (show FVec Ideal S16384x1024 .f32 from V m c main_v0) (ix2 ⟨512 * t.val + r.val, by have := lt t; omega⟩ k) := by
  blk_point [iblk, idx t]

theorem blk1 (c : Dev nD) (t : Fin cfg0.N) (p : Fin 6) (k : Fin 1024) :
    (show FVec Ideal S1x6x1024 .f32 from iblk m c 1 t) (ix3 0 p k)
      = (show FVec Ideal S8x6x1024 .f32 from V m c main_arg1) (ix3 ⟨t.val / 8, by have := lt t; omega⟩ p k) := by
  blk_point [iblk, idx t]

theorem blk2 (c : Dev nD) (t : Fin cfg0.N) (k : Fin 1024) :
    (show FVec Ideal S1x1024 .f32 from iblk m c 2 t) (ix2 0 k) = (show FVec Ideal S1x1024 .f32 from V m c main_v28) (ix2 0 k) := by
  blk_point [iblk, idx t]

theorem blk3 (c : Dev nD) (t : Fin cfg0.N) (k : Fin 1024) (j : Fin 3968) :
    (show FVec Ideal S1024x3968 .bf16 from iblk m c 3 t) (ix2 k j) = (show FVec Ideal S1024x3968 .bf16 from V m c main_v24) (ix2 k j) := by
  blk_point [iblk, idx t]

theorem blk4 (c : Dev nD) (t : Fin cfg0.N) (p : Fin 256) (k : Fin 1024) :
    (show FVec Ideal S256x1024 .bf16 from iblk m c 4 t) (ix2 p k) = (show FVec Ideal S256x1024 .bf16 from V m c main_v27) (ix2 p k) := by
  blk_point [iblk, idx t]

theorem blk5 (c : Dev nD) (t : Fin cfg0.N) (j : Fin 512) :
    (show FVec Ideal S1x512 .f32 from iblk m c 5 t) (ix2 0 j) = (show FVec Ideal S1x512 .f32 from V m c main_v32) (ix2 0 j) := by
  blk_point [iblk, idx t]

theorem blk6 (c : Dev nD) (t : Fin cfg0.N) (j : Fin 256) :
    (show FVec Ideal S1x256 .f32 from iblk m c 6 t) (ix2 0 j) = (show FVec Ideal S1x256 .f32 from V m c main_v36) (ix2 0 j) := by
  blk_point [iblk, idx t]

theorem blk7 (c : Dev nD) (t : Fin cfg0.N) (j : Fin 256) :
    (show FVec Ideal S1x256 .f32 from iblk m c 7 t) (ix2 0 j) = (show FVec Ideal S1x256 .f32 from V m c main_v40) (ix2 0 j) := by
  blk_point [iblk, idx t]

theorem blk8 (c : Dev nD) (t : Fin cfg0.N) (i j : Fin 512) :
    (show FVec Ideal S512x512 .bf16 from iblk m c 8 t) (ix2 i j) = (show FVec Ideal S512x512 .bf16 from V m c main_v49) (ix2 i j) := by
  blk_point [iblk, idx t]

theorem blk9 (c : Dev nD) (t : Fin cfg0.N) (i j : Fin 256) :
    (show FVec Ideal S256x256 .bf16 from iblk m c 9 t) (ix2 i j) = (show FVec Ideal S256x256 .bf16 from V m c main_v58) (ix2 i j) := by
  blk_point [iblk, idx t]

end Cert.ProjIdeal.Blocks

end
-- ==== Proof.PPoint.lean ====
module

public import proofs.«01_k».proof.Proof.PBlocks

@[expose] public section

set_option maxRecDepth 16384

noncomputable section

/-! What one grid point computes, in terms of the arguments of the call. -/

namespace Cert.ProjIdeal.Point

open Idealize.ShloMosaic Idealize.ShloMosaic.TcCoe Idealize.SL.Sem
open Idealize.ShloMosaic.Pipeline (Dat)
open Cert.ProjIdeal Cert.ProjIdeal.Gen Cert.ProjIdeal.Body Cert.Project

variable (m : (ℓ : Loc nD τ sig) → Buf (Elt Ideal) ℓ)

/-- The arguments: activations, modulation, gain of the first norm, weight, gains of queries and keys. -/
def aX (c : Dev nD) : FVec Ideal S4x4096x1024 .f32 := m ((c : Thread nD τ).loc main_arg0)
def aM (c : Dev nD) : FVec Ideal S8x6x1024 .f32 := m ((c : Thread nD τ).loc main_arg1)
def aG (c : Dev nD) : FVec Ideal S1024 .f32 := m ((c : Thread nD τ).loc main_arg2)
def aW (c : Dev nD) : FVec Ideal S1024x3864 .f32 := m ((c : Thread nD τ).loc main_arg3)
def aQ (c : Dev nD) : FVec Ideal S64 .f32 := m ((c : Thread nD τ).loc main_arg4)
def aKS (c : Dev nD) : FVec Ideal S64 .f32 := m ((c : Thread nD τ).loc main_arg5)
def aKW (c : Dev nD) : FVec Ideal S64 .f32 := m ((c : Thread nD τ).loc main_arg6)

/-- The rows of the call times the columns of the weight. -/
def P (c : Dev nD) : Fin 16384 → Fin 3864 → EReal := proj (aX m c) (aM m c) (aG m c) (aW m c)

/-- Row `r` of grid point `t`. -/
def at_ (t : Fin cfg0.N) (r : Fin 512) : Fin 16384 := ⟨512 * t.val + r.val, by have := Blocks.lt t; omega⟩

/-- A product of rows and columns that are real is real. -/
theorem isReal_P {c : Dev nD} (h0 : ∀ i, IsReal (aX m c i)) (h1 : ∀ i, IsReal (aM m c i)) (h2 : ∀ i, IsReal (aG m c i)) (h3 : ∀ i, IsReal (aW m c i))
    (n : Fin 16384) (j : Fin 3864) : IsReal (P m c n j) := by
  unfold P proj hiddenAt
  generalize aX m c = x at *
  generalize aM m c = d at *
  generalize aG m c = g at *
  generalize aW m c = w at *
  refine IsReal.sum fun k => IsReal.mul ?_ (h3 _)
  exact isReal_hid (fun _ => h0 _) (fun _ => h2 _) (fun _ => h1 _) (fun _ => h1 _) k

variable (c : Dev nD) (t : Fin cfg0.N) (r : Fin 512)

theorem row_eq (k : Fin 1024) : row (iblk m c 0 t) (iblk m c 1 t) (iblk m c 2 t) r k = hiddenAt (aX m c) (aM m c) (aG m c) (at_ t r) k := by
  have hb : (⟨t.val / 8, by have := Blocks.lt t; omega⟩ : Fin 8) = ⟨(at_ t r).val / 4096, by omega⟩ := Fin.ext (by
    show t.val / 8 = (512 * t.val + r.val) / 4096
    omega)
  have h0 : ∀ k, (show FVec Ideal S512x1024 .f32 from iblk m c 0 t) (ix2 r k) = aX m c (ix3 ⟨(at_ t r).val / 4096, by omega⟩ ⟨(at_ t r).val % 4096, by omega⟩ k) := fun k =>
    (Blocks.blk0 m c t r k).trans (Entry.rows m c (at_ t r) k)
  have h1 : ∀ p k, (show FVec Ideal S1x6x1024 .f32 from iblk m c 1 t) (ix3 0 p k) = aM m c (ix3 ⟨(at_ t r).val / 4096, by omega⟩ p k) := fun p k => by
    rw [Blocks.blk1 m c t p k, ← hb]
    exact congrFun (V_main_arg1 m c) _
  have h2 : ∀ k, (show FVec Ideal S1x1024 .f32 from iblk m c 2 t) (ix2 0 k) = aG m c (ix1 k) := fun k =>
    (Blocks.blk2 m c t k).trans (Entry.gain m c k)
  unfold row hiddenAt
  simp only [h0, h1, h2]

theorem prod_eq (j : Fin 3968) : prod (iblk m c 0 t) (iblk m c 1 t) (iblk m c 2 t) (iblk m c 3 t) r j
    = ∑ k, hiddenAt (aX m c) (aM m c) (aG m c) (at_ t r) k * Entry.wide (aW m c) (ix2 k j) := by
  unfold prod
  refine Finset.sum_congr rfl fun k _ => ?_
  rw [row_eq m c t r k]
  exact congrArg _ ((Blocks.blk3 m c t k j).trans (Entry.weight m c k j))

/-- A column of the assembled weight that is a column of the weight. -/
theorem prod_col (j : Fin 3968) (j' : Fin 3864) (h : ∀ k, Entry.wide (aW m c) (ix2 k j) = aW m c (ix2 k j')) :
    prod (iblk m c 0 t) (iblk m c 1 t) (iblk m c 2 t) (iblk m c 3 t) r j = P m c (at_ t r) j' := by
  rw [prod_eq]
  unfold P proj
  exact Finset.sum_congr rfl fun k _ => congrArg _ (h k)

theorem prod_q (j : Fin 512) : prod (iblk m c 0 t) (iblk m c 1 t) (iblk m c 2 t) (iblk m c 3 t) r ⟨j.val, by omega⟩ = P m c (at_ t r) ⟨j.val, by omega⟩ :=
  prod_col m c t r _ _ fun k => (Entry.wide_cols _ k).1 j

theorem prod_ks (j : Fin 256) : prod (iblk m c 0 t) (iblk m c 1 t) (iblk m c 2 t) (iblk m c 3 t) r ⟨768 + j.val, by omega⟩ = P m c (at_ t r) ⟨768 + (j.val / 128 * 64 + j.val % 64), by omega⟩ :=
  prod_col m c t r _ _ fun k => (Entry.wide_cols _ k).2.2.2.1 j

theorem prod_kw (j : Fin 256) : prod (iblk m c 0 t) (iblk m c 1 t) (iblk m c 2 t) (iblk m c 3 t) r ⟨1024 + j.val, by omega⟩ = P m c (at_ t r) ⟨1024 + (j.val / 128 * 64 + j.val % 64), by omega⟩ :=
  prod_col m c t r _ _ fun k => (Entry.wide_cols _ k).2.2.2.2.1 j

theorem prod_gates (j : Fin 128) : prod (iblk m c 0 t) (iblk m c 1 t) (iblk m c 2 t) (iblk m c 3 t) r ⟨1280 + j.val, by omega⟩
    = if h : j.val < 24 then P m c (at_ t r) ⟨1280 + j.val, by omega⟩ else 0 := by
  by_cases h : j.val < 24
  · rw [dif_pos h]
    exact prod_col m c t r _ _ fun k => ((Entry.wide_cols _ k).2.2.2.2.2.1 j).trans (dif_pos h)
  · rw [dif_neg h, prod_eq]
    refine Finset.sum_eq_zero fun k _ => ?_
    rw [(Entry.wide_cols _ k).2.2.2.2.2.1 j, dif_neg h, mul_zero]

/-- Two groups of keys, each written twice: the mean over a copy's 64 lanes is the group's. -/
theorem norm_keys (o : Nat) (ho : o + 128 ≤ 3864) (p : Fin 16384 → Fin 3864 → EReal) (hp : ∀ n j, IsReal (p n j)) (g : FVec Ideal S64 .f32) (n : Fin 16384) (j : Fin 256)
    (q ones : Fin 256 → EReal) (gj : EReal) (hq : ∀ i : Fin 256, q i = p n ⟨o + (i.val / 128 * 64 + i.val % 64), by omega⟩)
    (h1 : ∀ i : Fin 256, ones i = if i.val / 64 = j.val / 64 then 1 else 0) (hg : gj = g (ix1 ⟨j.val % 64, by omega⟩)) :
    norm256 q ones gj j = keys o ho p g n j := by
  unfold norm256 keys
  rw [sum_split (by decide) q ones j (fun i => by rw [hq i]; exact hp _ _) h1, hg, hq j]
  congr 3
  funext d
  rw [hq]
  congr 1
  apply Fin.ext
  dsimp only
  omega

theorem at_q (h : ∀ n j, IsReal (P m c n j)) (j : Fin 512) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = queries (P m c) (aQ m c) (at_ t r) j := by
  rw [out_q]
  have hs := sum_split (by decide) (fun i : Fin 512 => prod (iblk m c 0 t) (iblk m c 1 t) (iblk m c 2 t) (iblk m c 3 t) r ⟨i.val, by omega⟩)
    (fun i => (show FVec Ideal S512x512 .bf16 from iblk m c 8 t) (ix2 i j)) j (fun i => by rw [prod_q]; exact h _ _)
    (fun i => (Blocks.blk8 m c t i j).trans (Entry.ones512 m c i j))
  have hg : (show FVec Ideal S1x512 .f32 from iblk m c 5 t) (ix2 0 j) = aQ m c (ix1 ⟨j.val % 64, by omega⟩) := (Blocks.blk5 m c t j).trans (Entry.gainQ m c j)
  unfold queries
  rw [← scale_eq]
  have hd : ∀ d : Fin 64, prod (iblk m c 0 t) (iblk m c 1 t) (iblk m c 2 t) (iblk m c 3 t) r ⟨j.val / 64 * 64 + d.val, by omega⟩ = P m c (at_ t r) ⟨j.val / 64 * 64 + d.val, by omega⟩ :=
    fun d => prod_q m c t r ⟨j.val / 64 * 64 + d.val, by omega⟩
  have hn := prod_q m c t r j
  have alg : ∀ a a' b b' e e' s : EReal, a = a' → b = b' → e = e' → a * b * (e * s) = a' * b' * e' * s := by
    rintro a _ b _ e _ s rfl rfl rfl
    exact (mul_assoc _ _ _).symm
  exact alg _ _ _ _ _ _ _ hn (hs.trans (congrArg inv64 (funext hd))) hg

theorem at_ks (h : ∀ n j, IsReal (P m c n j)) (j : Fin 256) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = keys 768 (by norm_num) (P m c) (aKS m c) (at_ t r) j := by
  rw [out_ks]
  exact norm_keys 768 (by norm_num) (P m c) h (aKS m c) (at_ t r) j _ _ _ (fun i => prod_ks m c t r i)
    (fun i => (Blocks.blk9 m c t i j).trans (Entry.ones256 m c i j)) ((Blocks.blk6 m c t j).trans (Entry.gainKS m c j))

theorem at_kw (h : ∀ n j, IsReal (P m c n j)) (j : Fin 256) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = keys 1024 (by norm_num) (P m c) (aKW m c) (at_ t r) j := by
  rw [out_kw]
  exact norm_keys 1024 (by norm_num) (P m c) h (aKW m c) (at_ t r) j _ _ _ (fun i => prod_kw m c t r i)
    (fun i => (Blocks.blk9 m c t i j).trans (Entry.ones256 m c i j)) ((Blocks.blk7 m c t j).trans (Entry.gainKW m c j))

theorem at_kc (j : Fin 128) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = P m c (at_ t r) ⟨512 + j.val, by omega⟩ := by
  rw [out_kc]
  exact prod_col m c t r _ _ fun k => (Entry.wide_cols _ k).2.1 j

theorem at_vc (j : Fin 128) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = P m c (at_ t r) ⟨640 + j.val, by omega⟩ := by
  rw [out_vc]
  exact prod_col m c t r _ _ fun k => (Entry.wide_cols _ k).2.2.1 j

theorem at_vs (p : Fin 128) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p r)
      = P m c (at_ t r) ⟨896 + p.val, by omega⟩ := by
  rw [out_vs]
  unfold P proj
  refine Finset.sum_congr rfl fun k _ => ?_
  rw [row_eq m c t r k]
  exact congrArg _ ((Blocks.blk4 m c t _ k).trans ((Entry.values m c k).1 p))

theorem at_vw (p : Fin 128) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p r)
      = P m c (at_ t r) ⟨1152 + p.val, by omega⟩ := by
  rw [out_vw]
  unfold P proj
  refine Finset.sum_congr rfl fun k _ => ?_
  rw [row_eq m c t r k]
  exact congrArg _ ((Blocks.blk4 m c t _ k).trans ((Entry.values m c k).2 p))

theorem at_gates (j : Fin 128) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = gates (P m c) (at_ t r) j := by
  rw [out_gates]
  exact congrArg _ (prod_gates m c t r j)

theorem at_u (j : Fin 512) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = P m c (at_ t r) ⟨1304 + j.val, by omega⟩ := by
  rw [out_u]
  exact prod_col m c t r _ _ fun k => (Entry.wide_cols _ k).2.2.2.2.2.2.1 j

theorem at_ga (j : Fin 1024) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = Ideal.logistic (P m c (at_ t r) ⟨1816 + j.val, by omega⟩) := by
  rw [out_ga]
  exact congrArg _ (prod_col m c t r _ _ fun k => (Entry.wide_cols _ k).2.2.2.2.2.2.2.1 j)

theorem at_gs (j : Fin 1024) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = Ideal.logistic (P m c (at_ t r) ⟨2840 + j.val, by omega⟩) := by
  rw [out_gs]
  exact congrArg _ (prod_col m c t r _ _ fun k => (Entry.wide_cols _ k).2.2.2.2.2.2.2.2 j)

end Cert.ProjIdeal.Point

end
-- ==== Proof.PArrays.lean ====
module

public import proofs.«01_k».proof.Proof.PPoint

@[expose] public section

set_option maxRecDepth 16384

noncomputable section

/-! The call's results, whole: each point writes its own 512 rows, and together they cover the array. -/

namespace Cert.ProjIdeal.Arrays

open Idealize.ShloMosaic Idealize.ShloMosaic.TcCoe Idealize.SL.Sem
open Idealize.ShloMosaic.Pipeline (Dat)
open Cert.ProjIdeal Cert.ProjIdeal.Gen Cert.ProjIdeal.Body Cert.ProjIdeal.Point Cert.Project

variable (m : (ℓ : Loc nD τ sig) → Buf (Elt Ideal) ℓ) (c : Dev nD)

def res_q (n : Fin 16384) (j : Fin 512) : EReal := queries (P m c) (aQ m c) n j

theorem array10 (h : ∀ n j, IsReal (P m c n j)) :
    (dats m 0 c).arrAt 10 cfg0.N = (show FVec Ideal S16384x512 .bf16 from fun i => res_q m c (i 0) (i 1)) := by
  refine (dats m 0 c).arrAt_eq_of_covers 10 _ (by decide +kernel) fun t hf y => ?_
  blk_simp
  rw [after0_10]
  have hix : ∀ y : S512x512.Idx, (show FVec Ideal S16384x512 .bf16 from fun i => res_q m c (i 0) (i 1)) ((win0_10.blk t).view.emb y)
      = res_q m c (at_ t ⟨(y 0).val, (y 0).isLt⟩) ⟨(y 1).val, (y 1).isLt⟩ := by
    intro y
    show res_q _ _ _ _ = _
    have e := (Blocks.odx t).1
    congr 1 <;> apply Fin.ext
    · show _ = 512 * t.val + _
      blk_simp [e]
      simp [mul_comm]
    · blk_simp [e]
  have hat := fun r j => at_q m c t r h j
  generalize out0_10 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_kc (n : Fin 16384) (j : Fin 128) : EReal := P m c n ⟨512 + j.val, by omega⟩

theorem array11 :
    (dats m 0 c).arrAt 11 cfg0.N = (show FVec Ideal S16384x128 .f32 from fun i => res_kc m c (i 0) (i 1)) := by
  refine (dats m 0 c).arrAt_eq_of_covers 11 _ (by decide +kernel) fun t hf y => ?_
  blk_simp
  rw [after0_11]
  have hix : ∀ y : S512x128.Idx, (show FVec Ideal S16384x128 .f32 from fun i => res_kc m c (i 0) (i 1)) ((win0_11.blk t).view.emb y)
      = res_kc m c (at_ t ⟨(y 0).val, (y 0).isLt⟩) ⟨(y 1).val, (y 1).isLt⟩ := by
    intro y
    show res_kc _ _ _ _ = _
    have e := (Blocks.odx t).2.1
    congr 1 <;> apply Fin.ext
    · show _ = 512 * t.val + _
      blk_simp [e]
      simp [mul_comm]
    · blk_simp [e]
  have hat := fun r j => at_kc m c t r j
  generalize out0_11 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_vc (n : Fin 16384) (j : Fin 128) : EReal := P m c n ⟨640 + j.val, by omega⟩

theorem array12 :
    (dats m 0 c).arrAt 12 cfg0.N = (show FVec Ideal S16384x128 .f32 from fun i => res_vc m c (i 0) (i 1)) := by
  refine (dats m 0 c).arrAt_eq_of_covers 12 _ (by decide +kernel) fun t hf y => ?_
  blk_simp
  rw [after0_12]
  have hix : ∀ y : S512x128.Idx, (show FVec Ideal S16384x128 .f32 from fun i => res_vc m c (i 0) (i 1)) ((win0_12.blk t).view.emb y)
      = res_vc m c (at_ t ⟨(y 0).val, (y 0).isLt⟩) ⟨(y 1).val, (y 1).isLt⟩ := by
    intro y
    show res_vc _ _ _ _ = _
    have e := (Blocks.odx t).2.2.1
    congr 1 <;> apply Fin.ext
    · show _ = 512 * t.val + _
      blk_simp [e]
      simp [mul_comm]
    · blk_simp [e]
  have hat := fun r j => at_vc m c t r j
  generalize out0_12 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_ks (n : Fin 16384) (j : Fin 256) : EReal := keys 768 (by norm_num) (P m c) (aKS m c) n j

theorem array13 (h : ∀ n j, IsReal (P m c n j)) :
    (dats m 0 c).arrAt 13 cfg0.N = (show FVec Ideal S16384x256 .bf16 from fun i => res_ks m c (i 0) (i 1)) := by
  refine (dats m 0 c).arrAt_eq_of_covers 13 _ (by decide +kernel) fun t hf y => ?_
  blk_simp
  rw [after0_13]
  have hix : ∀ y : S512x256.Idx, (show FVec Ideal S16384x256 .bf16 from fun i => res_ks m c (i 0) (i 1)) ((win0_13.blk t).view.emb y)
      = res_ks m c (at_ t ⟨(y 0).val, (y 0).isLt⟩) ⟨(y 1).val, (y 1).isLt⟩ := by
    intro y
    show res_ks _ _ _ _ = _
    have e := (Blocks.odx t).2.2.2.1
    congr 1 <;> apply Fin.ext
    · show _ = 512 * t.val + _
      blk_simp [e]
      simp [mul_comm]
    · blk_simp [e]
  have hat := fun r j => at_ks m c t r h j
  generalize out0_13 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_kw (n : Fin 16384) (j : Fin 256) : EReal := keys 1024 (by norm_num) (P m c) (aKW m c) n j

theorem array14 (h : ∀ n j, IsReal (P m c n j)) :
    (dats m 0 c).arrAt 14 cfg0.N = (show FVec Ideal S16384x256 .bf16 from fun i => res_kw m c (i 0) (i 1)) := by
  refine (dats m 0 c).arrAt_eq_of_covers 14 _ (by decide +kernel) fun t hf y => ?_
  blk_simp
  rw [after0_14]
  have hix : ∀ y : S512x256.Idx, (show FVec Ideal S16384x256 .bf16 from fun i => res_kw m c (i 0) (i 1)) ((win0_14.blk t).view.emb y)
      = res_kw m c (at_ t ⟨(y 0).val, (y 0).isLt⟩) ⟨(y 1).val, (y 1).isLt⟩ := by
    intro y
    show res_kw _ _ _ _ = _
    have e := (Blocks.odx t).2.2.2.2.1
    congr 1 <;> apply Fin.ext
    · show _ = 512 * t.val + _
      blk_simp [e]
      simp [mul_comm]
    · blk_simp [e]
  have hat := fun r j => at_kw m c t r h j
  generalize out0_14 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_vs (n : Fin 16384) (j : Fin 128) : EReal := P m c n ⟨896 + j.val, by omega⟩

theorem array15 :
    (dats m 0 c).arrAt 15 cfg0.N = (show FVec Ideal S128x16384 .bf16 from fun i => res_vs m c (i 1) (i 0)) := by
  refine (dats m 0 c).arrAt_eq_of_covers 15 _ (by decide +kernel) fun t hf y => ?_
  blk_simp
  rw [after0_15]
  have hix : ∀ y : S128x512.Idx, (show FVec Ideal S128x16384 .bf16 from fun i => res_vs m c (i 1) (i 0)) ((win0_15.blk t).view.emb y)
      = res_vs m c (at_ t ⟨(y 1).val, (y 1).isLt⟩) ⟨(y 0).val, (y 0).isLt⟩ := by
    intro y
    show res_vs _ _ _ _ = _
    have e := (Blocks.odx t).2.2.2.2.2.1
    congr 1 <;> apply Fin.ext
    · show _ = 512 * t.val + _
      blk_simp [e]
      simp [mul_comm]
    · blk_simp [e]
  have hat := fun r j => at_vs m c t r j
  generalize out0_15 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 1).val, (y 1).isLt⟩ ⟨(y 0).val, (y 0).isLt⟩).trans (hix y).symm)
  exact congrArg o (funext fun a => by fin_cases a <;> rfl)

def res_vw (n : Fin 16384) (j : Fin 128) : EReal := P m c n ⟨1152 + j.val, by omega⟩

theorem array16 :
    (dats m 0 c).arrAt 16 cfg0.N = (show FVec Ideal S128x16384 .bf16 from fun i => res_vw m c (i 1) (i 0)) := by
  refine (dats m 0 c).arrAt_eq_of_covers 16 _ (by decide +kernel) fun t hf y => ?_
  blk_simp
  rw [after0_16]
  have hix : ∀ y : S128x512.Idx, (show FVec Ideal S128x16384 .bf16 from fun i => res_vw m c (i 1) (i 0)) ((win0_16.blk t).view.emb y)
      = res_vw m c (at_ t ⟨(y 1).val, (y 1).isLt⟩) ⟨(y 0).val, (y 0).isLt⟩ := by
    intro y
    show res_vw _ _ _ _ = _
    have e := (Blocks.odx t).2.2.2.2.2.2.1
    congr 1 <;> apply Fin.ext
    · show _ = 512 * t.val + _
      blk_simp [e]
      simp [mul_comm]
    · blk_simp [e]
  have hat := fun r j => at_vw m c t r j
  generalize out0_16 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 1).val, (y 1).isLt⟩ ⟨(y 0).val, (y 0).isLt⟩).trans (hix y).symm)
  exact congrArg o (funext fun a => by fin_cases a <;> rfl)

def res_gates (n : Fin 16384) (j : Fin 128) : EReal := gates (P m c) n j

theorem array17 :
    (dats m 0 c).arrAt 17 cfg0.N = (show FVec Ideal S16384x128 .f32 from fun i => res_gates m c (i 0) (i 1)) := by
  refine (dats m 0 c).arrAt_eq_of_covers 17 _ (by decide +kernel) fun t hf y => ?_
  blk_simp
  rw [after0_17]
  have hix : ∀ y : S512x128.Idx, (show FVec Ideal S16384x128 .f32 from fun i => res_gates m c (i 0) (i 1)) ((win0_17.blk t).view.emb y)
      = res_gates m c (at_ t ⟨(y 0).val, (y 0).isLt⟩) ⟨(y 1).val, (y 1).isLt⟩ := by
    intro y
    show res_gates _ _ _ _ = _
    have e := (Blocks.odx t).2.2.2.2.2.2.2.1
    congr 1 <;> apply Fin.ext
    · show _ = 512 * t.val + _
      blk_simp [e]
      simp [mul_comm]
    · blk_simp [e]
  have hat := fun r j => at_gates m c t r j
  generalize out0_17 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_u (n : Fin 16384) (j : Fin 512) : EReal := P m c n ⟨1304 + j.val, by omega⟩

theorem array18 :
    (dats m 0 c).arrAt 18 cfg0.N = (show FVec Ideal S16384x512 .f32 from fun i => res_u m c (i 0) (i 1)) := by
  refine (dats m 0 c).arrAt_eq_of_covers 18 _ (by decide +kernel) fun t hf y => ?_
  blk_simp
  rw [after0_18]
  have hix : ∀ y : S512x512.Idx, (show FVec Ideal S16384x512 .f32 from fun i => res_u m c (i 0) (i 1)) ((win0_18.blk t).view.emb y)
      = res_u m c (at_ t ⟨(y 0).val, (y 0).isLt⟩) ⟨(y 1).val, (y 1).isLt⟩ := by
    intro y
    show res_u _ _ _ _ = _
    have e := (Blocks.odx t).2.2.2.2.2.2.2.2.1
    congr 1 <;> apply Fin.ext
    · show _ = 512 * t.val + _
      blk_simp [e]
      simp [mul_comm]
    · blk_simp [e]
  have hat := fun r j => at_u m c t r j
  generalize out0_18 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_ga (n : Fin 16384) (j : Fin 1024) : EReal := Ideal.logistic (P m c n ⟨1816 + j.val, by omega⟩)

theorem array19 :
    (dats m 0 c).arrAt 19 cfg0.N = (show FVec Ideal S16384x1024 .bf16 from fun i => res_ga m c (i 0) (i 1)) := by
  refine (dats m 0 c).arrAt_eq_of_covers 19 _ (by decide +kernel) fun t hf y => ?_
  blk_simp
  rw [after0_19]
  have hix : ∀ y : S512x1024.Idx, (show FVec Ideal S16384x1024 .bf16 from fun i => res_ga m c (i 0) (i 1)) ((win0_19.blk t).view.emb y)
      = res_ga m c (at_ t ⟨(y 0).val, (y 0).isLt⟩) ⟨(y 1).val, (y 1).isLt⟩ := by
    intro y
    show res_ga _ _ _ _ = _
    have e := (Blocks.odx t).2.2.2.2.2.2.2.2.2.1
    congr 1 <;> apply Fin.ext
    · show _ = 512 * t.val + _
      blk_simp [e]
      simp [mul_comm]
    · blk_simp [e]
  have hat := fun r j => at_ga m c t r j
  generalize out0_19 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

def res_gs (n : Fin 16384) (j : Fin 1024) : EReal := Ideal.logistic (P m c n ⟨2840 + j.val, by omega⟩)

theorem array20 :
    (dats m 0 c).arrAt 20 cfg0.N = (show FVec Ideal S16384x1024 .bf16 from fun i => res_gs m c (i 0) (i 1)) := by
  refine (dats m 0 c).arrAt_eq_of_covers 20 _ (by decide +kernel) fun t hf y => ?_
  blk_simp
  rw [after0_20]
  have hix : ∀ y : S512x1024.Idx, (show FVec Ideal S16384x1024 .bf16 from fun i => res_gs m c (i 0) (i 1)) ((win0_20.blk t).view.emb y)
      = res_gs m c (at_ t ⟨(y 0).val, (y 0).isLt⟩) ⟨(y 1).val, (y 1).isLt⟩ := by
    intro y
    show res_gs _ _ _ _ = _
    have e := (Blocks.odx t).2.2.2.2.2.2.2.2.2.2
    congr 1 <;> apply Fin.ext
    · show _ = 512 * t.val + _
      blk_simp [e]
      simp [mul_comm]
    · blk_simp [e]
  have hat := fun r j => at_gs m c t r j
  generalize out0_20 (F := Ideal) (iblk m c 0 t) (iblk m c 1 t) (iblk m c 2 t) (iblk m c 3 t) (iblk m c 4 t) (iblk m c 5 t) (iblk m c 6 t) (iblk m c 7 t) (iblk m c 8 t) (iblk m c 9 t) = o at hat ⊢
  refine Eq.trans ?_ ((hat ⟨(y 0).val, (y 0).isLt⟩ ⟨(y 1).val, (y 1).isLt⟩).trans (hix y).symm)
  exact congrArg o (funext fun a => by fin_cases a <;> rfl)

end Cert.ProjIdeal.Arrays

end
-- ==== Proof.PRef.lean ====
module

public import proofs.«01_k».proof.Proof.PSpec
public import proofs.«01_k».proof.Proof.Gen.ProjReferenceIdeal.Read
public import Idealize.ShloMosaic.Lib.Pipeline.ValueKit

@[expose] public section

set_option maxRecDepth 16384

noncomputable section

/-! The reference's eleven results, as the projections they are. -/

namespace Cert.ProjReferenceIdeal.Spec

open Idealize.ShloMosaic Idealize.ShloMosaic.TcCoe Idealize.SL.Sem
open Cert.ProjReferenceIdeal Cert.ProjReferenceIdeal.Gen Cert.ProjReferenceIdeal.Read Cert.Project

variable (x0 : FVec Ideal S4x4096x1024 .f32) (x1 : FVec Ideal S8x6x1024 .f32) (x2 : FVec Ideal S1024 .f32)
  (x3 : FVec Ideal S1024x3864 .f32)

/-- The token that row `s` of batch `b` is. -/
def tok (b : Fin 4) (s : Fin 4096) : Fin 16384 := ⟨4096 * b.val + s.val, by omega⟩

theorem hidden (b : Fin 4) (s : Fin 4096) (k : Fin 1024) :
    val_main_v24 (F := Ideal) x0 x1 x2 (ix3 b s k)
      = hid (fun k => x0 (ix3 b s k)) (fun k => x2 (ix1 k)) (fun k => x1 (ix3 ⟨b.val, by omega⟩ 1 k)) (fun k => x1 (ix3 ⟨b.val, by omega⟩ 0 k)) k := by
  unfold hid c1024 eps cOne
  pointwise [val_main_v24, val_main_v23, val_main_v22, val_main_v21, val_main_v20, val_main_v19, val_main_cst_2, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2, val_main_v1, val_main_v0]

theorem hidden_tok (b : Fin 4) (s : Fin 4096) (k : Fin 1024) :
    val_main_v24 (F := Ideal) x0 x1 x2 (ix3 b s k) = hiddenAt x0 x1 x2 (tok b s) k := by
  rw [hidden]
  have h1 : (tok b s).val / 4096 = b.val := by show (4096 * b.val + s.val) / 4096 = _; omega
  have h2 : (tok b s).val % 4096 = s.val := by show (4096 * b.val + s.val) % 4096 = _; omega
  unfold hiddenAt
  simp only [h1, h2]

theorem product (b : Fin 4) (s : Fin 4096) (j : Fin 3864) :
    val_main_v25 (F := Ideal) x0 x1 x2 x3 (ix3 b s j) = proj x0 x1 x2 x3 (tok b s) j := by
  have h : ∀ y : FVec Ideal S4x4096x1024 .f32,
      Host.dotGeneral dot_S4x4096x1024_S1024x3864_S4x4096x3864_2_0_01_1_n_n none y x3 (ix3 b s j) = ∑ k : Fin 1024, y (ix3 b s k) * x3 (ix2 k j) := by
    intro y; pointwise
  unfold val_main_v25 proj
  rw [h]
  exact Finset.sum_congr rfl fun k _ => by rw [hidden_tok]

theorem tok_split (n : Fin 16384) : tok ⟨n.val / 4096, by omega⟩ ⟨n.val % 4096, by omega⟩ = n :=
  Fin.ext (by show 4096 * (n.val / 4096) + n.val % 4096 = n.val; omega)

/-- The products of row `n`. -/
theorem product_row (n : Fin 16384) (j : Fin 3864) :
    val_main_v25 (F := Ideal) x0 x1 x2 x3 (ix3 ⟨n.val / 4096, by omega⟩ ⟨n.val % 4096, by omega⟩ j) = proj x0 x1 x2 x3 n j := by
  rw [product, tok_split]

theorem res_kc (n : Fin 16384) (j : Fin 128) :
    val_main_v92 (F := Ideal) x0 x1 x2 x3 (ix2 n j) = proj x0 x1 x2 x3 n ⟨512 + j.val, by omega⟩ := by
  pointwise [val_main_v92, val_main_v27]
  exact product_row x0 x1 x2 x3 n _

theorem res_vc (n : Fin 16384) (j : Fin 128) :
    val_main_v93 (F := Ideal) x0 x1 x2 x3 (ix2 n j) = proj x0 x1 x2 x3 n ⟨640 + j.val, by omega⟩ := by
  pointwise [val_main_v93, val_main_v28]
  exact product_row x0 x1 x2 x3 n _

theorem res_vs (p : Fin 128) (n : Fin 16384) :
    val_main_v104 (F := Ideal) x0 x1 x2 x3 (ix2 p n) = proj x0 x1 x2 x3 n ⟨896 + p.val, by omega⟩ := by
  pointwise [val_main_v104, val_main_v103, val_main_v102, val_main_v30]
  exact product_row x0 x1 x2 x3 n _

theorem res_vw (p : Fin 128) (n : Fin 16384) :
    val_main_v107 (F := Ideal) x0 x1 x2 x3 (ix2 p n) = proj x0 x1 x2 x3 n ⟨1152 + p.val, by omega⟩ := by
  pointwise [val_main_v107, val_main_v106, val_main_v105, val_main_v32]
  exact product_row x0 x1 x2 x3 n _

theorem res_u (n : Fin 16384) (j : Fin 512) :
    val_main_v109 (F := Ideal) x0 x1 x2 x3 (ix2 n j) = proj x0 x1 x2 x3 n ⟨1304 + j.val, by omega⟩ := by
  pointwise [val_main_v109, val_main_v34]
  exact product_row x0 x1 x2 x3 n _

theorem res_ga (n : Fin 16384) (j : Fin 1024) :
    val_main_v117 (F := Ideal) x0 x1 x2 x3 (ix2 n j) = Ideal.logistic (proj x0 x1 x2 x3 n ⟨1816 + j.val, by omega⟩) := by
  rw [← product_row]
  unfold Ideal.logistic
  pointwise [val_main_v117, val_main_v116, val_main_v115, val_main_v114, val_main_v113, val_main_v112, val_main_v111, val_main_v110, val_main_cst_16, val_main_cst_17, val_main_v35]

theorem res_gs (n : Fin 16384) (j : Fin 1024) :
    val_main_v125 (F := Ideal) x0 x1 x2 x3 (ix2 n j) = Ideal.logistic (proj x0 x1 x2 x3 n ⟨2840 + j.val, by omega⟩) := by
  rw [← product_row]
  unfold Ideal.logistic
  pointwise [val_main_v125, val_main_v124, val_main_v123, val_main_v122, val_main_v121, val_main_v120, val_main_v119, val_main_v118, val_main_cst_18, val_main_cst_19, val_main_v36]

/-- Gates, padded with zeros to 128 lanes. -/
theorem pad_gates (y : FVec Ideal S4x4096x24 .f32) (b : Fin 4) (s : Fin 4096) (l : Fin 128) :
    pad S4x4096x128 ![0, 0, 0] ![0, 0, 104] ![0, 0, 0] y (val_main_call0_v0 (F := Ideal)) pads_S4x4096x24_S4x4096x128_000_000_01040 h_S_ (ix3 b s l)
      = if h : l.val < 24 then y (ix3 b s ⟨l.val, h⟩) else 0 := by
  have h0 : FloatOps.sitofp (F := Ideal) .f32 0#32 = (0 : EReal) := by
    show (((0#32 : BitVec 32).toInt : ℝ) : EReal) = 0
    simp
  pointwise [val_main_c, val_main_call0_v0]
  by_cases h : l.val < 24
  · rw [dif_pos h, dif_pos h]
  · rw [dif_neg h, dif_neg h, h0]

theorem gate (n : Fin 16384) (j : Fin 24) :
    val_main_v33 (F := Ideal) x0 x1 x2 x3 (ix3 ⟨n.val / 4096, by omega⟩ ⟨n.val % 4096, by omega⟩ j) = proj x0 x1 x2 x3 n ⟨1280 + j.val, by omega⟩ := by
  pointwise [val_main_v33]
  exact product_row x0 x1 x2 x3 n _

theorem res_gates (n : Fin 16384) (l : Fin 128) :
    val_main_v108 (F := Ideal) x0 x1 x2 x3 (ix2 n l) = gates (proj x0 x1 x2 x3) n l := by
  have h : val_main_v83 (F := Ideal) x0 x1 x2 x3 (ix3 ⟨n.val / 4096, by omega⟩ ⟨n.val % 4096, by omega⟩ l)
      = if h : l.val < 24 then proj x0 x1 x2 x3 n ⟨1280 + l.val, by omega⟩ else 0 := by
    unfold val_main_v83
    rw [pad_gates]
    by_cases hl : l.val < 24
    · rw [dif_pos hl, dif_pos hl, gate]
    · rw [dif_neg hl, dif_neg hl]
  unfold gates
  rw [← h]
  unfold Ideal.logistic
  generalize hy : val_main_v83 (F := Ideal) x0 x1 x2 x3 = y
  pointwise [val_main_v108, val_main_v89, val_main_v88, val_main_v87, val_main_v86, val_main_v85, val_main_v84, val_main_cst_14, val_main_cst_15]
  rw [hy]

variable (x4 : FVec Ideal S64 .f32)

theorem res_q (n : Fin 16384) (j : Fin 512) :
    val_main_v91 (F := Ideal) x0 x1 x2 x3 x4 (ix2 n j) = queries (proj x0 x1 x2 x3) x4 n j := by
  unfold queries inv64
  rw [← div_c64]
  simp only [← product_row]
  unfold c64 eps
  pointwise [val_main_v91, val_main_v90, val_main_v54, val_main_v53, val_main_v52, val_main_cst_7, val_main_v51, val_main_cst_6, val_main_v50, val_main_v49, val_main_v48, val_main_v47, val_main_v46, val_main_v45, val_main_v44, val_main_v43, val_main_cst_5, val_main_v42, val_main_v41, val_main_cst_4, val_main_v40, val_main_v39, val_main_cst_3, val_main_v38, val_main_v37, val_main_v26]

theorem res_ks (n : Fin 16384) (l : Fin 256) :
    val_main_v97 (F := Ideal) x0 x1 x2 x3 x4 (ix2 n l) = keys 768 (by norm_num) (proj x0 x1 x2 x3) x4 n l := by
  unfold keys inv64
  rw [← div_c64]
  simp only [← product_row]
  unfold c64 eps
  pointwise [val_main_v97, val_main_v96, val_main_v95, val_main_v94, val_main_v68, val_main_v67, val_main_v66, val_main_v65, val_main_v64, val_main_v63, val_main_v62, val_main_v61, val_main_cst_10, val_main_v60, val_main_v59, val_main_cst_9, val_main_v58, val_main_v57, val_main_cst_8, val_main_v56, val_main_v55, val_main_v29]

theorem res_kw (n : Fin 16384) (l : Fin 256) :
    val_main_v101 (F := Ideal) x0 x1 x2 x3 x4 (ix2 n l) = keys 1024 (by norm_num) (proj x0 x1 x2 x3) x4 n l := by
  unfold keys inv64
  rw [← div_c64]
  simp only [← product_row]
  unfold c64 eps
  pointwise [val_main_v101, val_main_v100, val_main_v99, val_main_v98, val_main_v82, val_main_v81, val_main_v80, val_main_v79, val_main_v78, val_main_v77, val_main_v76, val_main_v75, val_main_cst_13, val_main_v74, val_main_v73, val_main_cst_12, val_main_v72, val_main_v71, val_main_cst_11, val_main_v70, val_main_v69, val_main_v31]

end Cert.ProjReferenceIdeal.Spec

end
-- ==== Proof.PSame.lean ====
module

public import proofs.«01_k».proof.Proof.PArrays
public import proofs.«01_k».proof.Proof.PRef

@[expose] public section

set_option maxRecDepth 16384

noncomputable section

/-! Each result of the call is the reference's, as an array. -/

namespace Cert.ProjIdeal.Same

open Idealize.ShloMosaic Idealize.ShloMosaic.TcCoe Idealize.SL.Sem
open Cert.ProjIdeal Cert.ProjIdeal.Gen Cert.ProjIdeal.Point Cert.Project
open Cert.ProjReferenceIdeal.Read

variable (m : (ℓ : Loc nD τ sig) → Buf (Elt Ideal) ℓ) (c : Dev nD)

theorem same_q (h : ∀ n j, IsReal (P m c n j)) : val_main_v91 (F := Ideal) (aX m c) (aM m c) (aG m c) (aW m c) (aQ m c) = (dats m 0 c).arrAt 10 cfg0.N := by
  refine Eq.trans ?_ (Arrays.array10 m c h).symm
  refine funext fun i => ?_
  rw [show i = ix2 (i 0) (i 1) from eq_ix2 i]
  exact Cert.ProjReferenceIdeal.Spec.res_q (aX m c) (aM m c) (aG m c) (aW m c) (aQ m c) (i 0) (i 1)

theorem same_kc : val_main_v92 (F := Ideal) (aX m c) (aM m c) (aG m c) (aW m c) = (dats m 0 c).arrAt 11 cfg0.N := by
  refine Eq.trans ?_ (Arrays.array11 m c).symm
  refine funext fun i => ?_
  rw [show i = ix2 (i 0) (i 1) from eq_ix2 i]
  exact Cert.ProjReferenceIdeal.Spec.res_kc (aX m c) (aM m c) (aG m c) (aW m c) (i 0) (i 1)

theorem same_vc : val_main_v93 (F := Ideal) (aX m c) (aM m c) (aG m c) (aW m c) = (dats m 0 c).arrAt 12 cfg0.N := by
  refine Eq.trans ?_ (Arrays.array12 m c).symm
  refine funext fun i => ?_
  rw [show i = ix2 (i 0) (i 1) from eq_ix2 i]
  exact Cert.ProjReferenceIdeal.Spec.res_vc (aX m c) (aM m c) (aG m c) (aW m c) (i 0) (i 1)

theorem same_ks (h : ∀ n j, IsReal (P m c n j)) : val_main_v97 (F := Ideal) (aX m c) (aM m c) (aG m c) (aW m c) (aKS m c) = (dats m 0 c).arrAt 13 cfg0.N := by
  refine Eq.trans ?_ (Arrays.array13 m c h).symm
  refine funext fun i => ?_
  rw [show i = ix2 (i 0) (i 1) from eq_ix2 i]
  exact Cert.ProjReferenceIdeal.Spec.res_ks (aX m c) (aM m c) (aG m c) (aW m c) (aKS m c) (i 0) (i 1)

theorem same_kw (h : ∀ n j, IsReal (P m c n j)) : val_main_v101 (F := Ideal) (aX m c) (aM m c) (aG m c) (aW m c) (aKW m c) = (dats m 0 c).arrAt 14 cfg0.N := by
  refine Eq.trans ?_ (Arrays.array14 m c h).symm
  refine funext fun i => ?_
  rw [show i = ix2 (i 0) (i 1) from eq_ix2 i]
  exact Cert.ProjReferenceIdeal.Spec.res_kw (aX m c) (aM m c) (aG m c) (aW m c) (aKW m c) (i 0) (i 1)

theorem same_vs : val_main_v104 (F := Ideal) (aX m c) (aM m c) (aG m c) (aW m c) = (dats m 0 c).arrAt 15 cfg0.N := by
  refine Eq.trans ?_ (Arrays.array15 m c).symm
  refine funext fun i => ?_
  rw [show i = ix2 (i 0) (i 1) from eq_ix2 i]
  exact Cert.ProjReferenceIdeal.Spec.res_vs (aX m c) (aM m c) (aG m c) (aW m c) (i 0) (i 1)

theorem same_vw : val_main_v107 (F := Ideal) (aX m c) (aM m c) (aG m c) (aW m c) = (dats m 0 c).arrAt 16 cfg0.N := by
  refine Eq.trans ?_ (Arrays.array16 m c).symm
  refine funext fun i => ?_
  rw [show i = ix2 (i 0) (i 1) from eq_ix2 i]
  exact Cert.ProjReferenceIdeal.Spec.res_vw (aX m c) (aM m c) (aG m c) (aW m c) (i 0) (i 1)

theorem same_gates : val_main_v108 (F := Ideal) (aX m c) (aM m c) (aG m c) (aW m c) = (dats m 0 c).arrAt 17 cfg0.N := by
  refine Eq.trans ?_ (Arrays.array17 m c).symm
  refine funext fun i => ?_
  rw [show i = ix2 (i 0) (i 1) from eq_ix2 i]
  exact Cert.ProjReferenceIdeal.Spec.res_gates (aX m c) (aM m c) (aG m c) (aW m c) (i 0) (i 1)

theorem same_u : val_main_v109 (F := Ideal) (aX m c) (aM m c) (aG m c) (aW m c) = (dats m 0 c).arrAt 18 cfg0.N := by
  refine Eq.trans ?_ (Arrays.array18 m c).symm
  refine funext fun i => ?_
  rw [show i = ix2 (i 0) (i 1) from eq_ix2 i]
  exact Cert.ProjReferenceIdeal.Spec.res_u (aX m c) (aM m c) (aG m c) (aW m c) (i 0) (i 1)

theorem same_ga : val_main_v117 (F := Ideal) (aX m c) (aM m c) (aG m c) (aW m c) = (dats m 0 c).arrAt 19 cfg0.N := by
  refine Eq.trans ?_ (Arrays.array19 m c).symm
  refine funext fun i => ?_
  rw [show i = ix2 (i 0) (i 1) from eq_ix2 i]
  exact Cert.ProjReferenceIdeal.Spec.res_ga (aX m c) (aM m c) (aG m c) (aW m c) (i 0) (i 1)

theorem same_gs : val_main_v125 (F := Ideal) (aX m c) (aM m c) (aG m c) (aW m c) = (dats m 0 c).arrAt 20 cfg0.N := by
  refine Eq.trans ?_ (Arrays.array20 m c).symm
  refine funext fun i => ?_
  rw [show i = ix2 (i 0) (i 1) from eq_ix2 i]
  exact Cert.ProjReferenceIdeal.Spec.res_gs (aX m c) (aM m c) (aG m c) (aW m c) (i 0) (i 1)

end Cert.ProjIdeal.Same

end
-- ==== Proof.PPre.lean ====
module

public import proofs.«01_k».proof.Proof.PreFacts
public import proofs.«01_k».proof.Proof.PSpec

@[expose] public section

set_option maxRecDepth 16384

noncomputable section

/-! What the projection's precondition says, entry by entry: the activations, the modulation, the gain of the first
norm and the projection's weight are real numbers. -/

namespace Cert.Pre_finite_inputs

open Idealize.ShloMosaic Idealize.ShloMosaic.TcCoe Idealize.SL.Sem Cert.Project
open Cert.Pre_finite_and_own_block (real_of_lt)

theorem facts : Facts where
  bcast_S_S4x4096x1024 := by decide
  bcast_S_S8x6x1024 := by decide
  bcast_S_S1024 := by decide
  bcast_S_S1024x3864 := by decide

variable [Facts]
variable (a0 : FVec Ideal S4x4096x1024 .f32) (a1 : FVec Ideal S8x6x1024 .f32) (a2 : FVec Ideal S1024 .f32) (a3 : FVec Ideal S1024x3864 .f32) (a4 a5 a6 : FVec Ideal S64 .f32)

theorem real0 (h : (fn (F := Ideal) a0 a1 a2 a3 a4 a5 a6).1 = fun _ => 1#1) (i) : IsReal (a0 i) := ⟨_, real_of_lt _ (congrFun h i)⟩

theorem real1 (h : (fn (F := Ideal) a0 a1 a2 a3 a4 a5 a6).2.1 = fun _ => 1#1) (i) : IsReal (a1 i) := ⟨_, real_of_lt _ (congrFun h i)⟩

theorem real2 (h : (fn (F := Ideal) a0 a1 a2 a3 a4 a5 a6).2.2.1 = fun _ => 1#1) (i) : IsReal (a2 i) := ⟨_, real_of_lt _ (congrFun h i)⟩

theorem real3 (h : (fn (F := Ideal) a0 a1 a2 a3 a4 a5 a6).2.2.2 = fun _ => 1#1) (i) : IsReal (a3 i) := ⟨_, real_of_lt _ (congrFun h i)⟩

end Cert.Pre_finite_inputs

end
-- ==== Proof.MSpec.lean ====
module

public import proofs.«01_k».proof.Proof.PSpec
public import proofs.«01_k».proof.MergeIdeal

@[expose] public section

noncomputable section

/-! What the merging call computes of one token, on extended reals: the three attentions are mixed by their gates and
raised, the state-space branch gets its skip, gelu and gated linear unit, both are merged into the residual, and the
second norm's result goes to the router and to the shared expert. -/

namespace Cert.Merging

open Idealize.ShloMosaic Cert.Project

/-- The literals of the gelu: a half, its cubic coefficient, its scale. -/
def cHalf : EReal := Ideal.ofBits .f32 0x3F000000#32
def cCubic : EReal := Ideal.ofBits .f32 0x3D372713#32
def cScale : EReal := Ideal.ofBits .f32 0x3F4C422A#32

theorem isReal_cHalf : IsReal cHalf := by
  unfold cHalf IsReal; simp [Ideal.ofBits, Ideal.ieee]; exact ⟨_, (EReal.coe_mul _ _).symm⟩
theorem isReal_cCubic : IsReal cCubic := by
  unfold cCubic IsReal; simp [Ideal.ofBits, Ideal.ieee]; exact ⟨_, (EReal.coe_mul _ _).symm⟩
theorem isReal_cScale : IsReal cScale := by
  unfold cScale IsReal; simp [Ideal.ofBits, Ideal.ieee]; exact ⟨_, (EReal.coe_mul _ _).symm⟩

/-- The gelu's tanh form. -/
def gelu (z : EReal) : EReal := cHalf * z * (cOne + Ideal.tanh (cScale * (z + cCubic * (z * z * z))))

theorem gelu_eq (z : EReal) : z * (cHalf * (cOne + Ideal.tanh (cScale * (z + cCubic * (z * z * z))))) = gelu z := by
  unfold gelu
  rw [← mul_assoc, mul_comm z cHalf]

/-- What one token's merge reads: the gates laid out over the lanes, the three attentions, the state-space branch,
    its input, the gates of the two branches, the residual, and the weights. -/
structure Row where
  g0 : Fin 512 → EReal
  g1 : Fin 512 → EReal
  g2 : Fin 512 → EReal
  o0 : Fin 512 → EReal
  o1 : Fin 512 → EReal
  o2 : Fin 512 → EReal
  y : Fin 512 → EReal
  u : Fin 512 → EReal
  d : Fin 512 → EReal
  wg : Fin 512 → Fin 512 → EReal
  bg : Fin 512 → EReal
  ga : Fin 1024 → EReal
  gs : Fin 1024 → EReal
  x : Fin 1024 → EReal
  wa : Fin 512 → Fin 1024 → EReal
  ws : Fin 512 → Fin 1024 → EReal
  wo : Fin 1024 → Fin 1024 → EReal
  mod : Fin 6 → Fin 1024 → EReal
  gn : Fin 1024 → EReal

theorem Row.same {R S : Row} (h_g0 : ∀ i, R.g0 i = S.g0 i) (h_g1 : ∀ i, R.g1 i = S.g1 i) (h_g2 : ∀ i, R.g2 i = S.g2 i) (h_o0 : ∀ i, R.o0 i = S.o0 i) (h_o1 : ∀ i, R.o1 i = S.o1 i) (h_o2 : ∀ i, R.o2 i = S.o2 i) (h_y : ∀ i, R.y i = S.y i) (h_u : ∀ i, R.u i = S.u i) (h_d : ∀ i, R.d i = S.d i) (h_wg : ∀ i j, R.wg i j = S.wg i j) (h_bg : ∀ i, R.bg i = S.bg i) (h_ga : ∀ i, R.ga i = S.ga i) (h_gs : ∀ i, R.gs i = S.gs i) (h_x : ∀ i, R.x i = S.x i) (h_wa : ∀ i j, R.wa i j = S.wa i j) (h_ws : ∀ i j, R.ws i j = S.ws i j) (h_wo : ∀ i j, R.wo i j = S.wo i j) (h_mod : ∀ i j, R.mod i j = S.mod i j) (h_gn : ∀ i, R.gn i = S.gn i) : R = S := by
  cases R; cases S
  congr 1 <;> first | exact funext fun i => funext fun j => by solve_by_elim | exact funext fun i => by solve_by_elim

/-- The attention branch: the gated sum of three attentions, raised to the model's width. -/
def Row.attn (R : Row) (k : Fin 1024) : EReal := ∑ l, (R.g0 l * R.o0 l + R.g1 l * R.o1 l + R.g2 l * R.o2 l) * R.wa l k

/-- The skip and the gelu. -/
def Row.z (R : Row) (l : Fin 512) : EReal := gelu (R.y l + R.d l * R.u l)

/-- The state-space branch: the gated linear unit, raised to the model's width. -/
def Row.ssm (R : Row) (k : Fin 1024) : EReal := ∑ l, R.z l * Ideal.logistic (∑ i, R.z i * R.wg i l + R.bg l) * R.ws l k

/-- The residual after the merge. -/
def Row.x1 (R : Row) (k : Fin 1024) : EReal := R.x k + R.mod 2 k * ∑ j, (R.ga j * R.attn j + R.gs j * R.ssm j) * R.wo j k

/-- The second norm's result. -/
def Row.h2 (R : Row) (k : Fin 1024) : EReal := hid R.x1 R.gn (R.mod 4) (R.mod 3) k

/-- The shared expert: a product, gated by the silu of another, taken back to the model's width. -/
def shared (h : Fin 1024 → EReal) (wg wu : Fin 1024 → Fin 256 → EReal) (wd : Fin 256 → Fin 1024 → EReal) (k : Fin 1024) : EReal :=
  ∑ c, (∑ i, h i * wg i c) * Ideal.logistic (∑ i, h i * wg i c) * (∑ i, h i * wu i c) * wd c k

/-- The residual with the shared expert's part. -/
def Row.xpart (R : Row) (wg wu : Fin 1024 → Fin 256 → EReal) (wd : Fin 256 → Fin 1024 → EReal) (k : Fin 1024) : EReal :=
  R.x1 k + R.mod 5 k * shared R.h2 wg wu wd k

/-- One expert's logit. -/
def Row.logit (R : Row) (w : Fin 1024 → EReal) : EReal := ∑ k, R.h2 k * w k

theorem isReal_logistic {a : EReal} (h : IsReal a) : IsReal (Ideal.logistic a) := by
  obtain ⟨r, rfl⟩ := h
  have h1 : (1 : ℝ) + Real.exp (-r) ≠ 0 := (by positivity : (0 : ℝ) < 1 + Real.exp (-r)).ne'
  unfold Ideal.logistic
  refine ⟨1 / (1 + Real.exp (-r)), ?_⟩
  rw [← EReal.coe_neg, show Ideal.exp ((-r : ℝ) : EReal) = ((Real.exp (-r) : ℝ) : EReal) from rfl, ← EReal.coe_one, ← EReal.coe_add, Ideal.div_coe h1, EReal.coe_one, one_mul]

theorem isReal_tanh {a : EReal} (h : IsReal a) : IsReal (Ideal.tanh a) := by
  obtain ⟨r, rfl⟩ := h
  exact ⟨Real.tanh r, rfl⟩

theorem isReal_gelu {a : EReal} (h : IsReal a) : IsReal (gelu a) :=
  (isReal_cHalf.mul h).mul (IsReal.add ⟨1, cOne_eq⟩ (isReal_tanh (isReal_cScale.mul (h.add (isReal_cCubic.mul ((h.mul h).mul h))))))

/-- The second norm's result is real where all that goes into it is. -/
theorem Row.isReal_h2 (R : Row) (h0 : ∀ l, IsReal (R.g0 l)) (h1 : ∀ l, IsReal (R.g1 l)) (h2 : ∀ l, IsReal (R.g2 l)) (h3 : ∀ l, IsReal (R.o0 l))
    (h4 : ∀ l, IsReal (R.o1 l)) (h5 : ∀ l, IsReal (R.o2 l)) (h6 : ∀ l, IsReal (R.y l)) (h7 : ∀ l, IsReal (R.u l)) (h8 : ∀ l, IsReal (R.d l))
    (h9 : ∀ l i, IsReal (R.wg l i)) (h10 : ∀ l, IsReal (R.bg l)) (h11 : ∀ l, IsReal (R.ga l)) (h12 : ∀ l, IsReal (R.gs l)) (h13 : ∀ l, IsReal (R.x l))
    (h14 : ∀ l i, IsReal (R.wa l i)) (h15 : ∀ l i, IsReal (R.ws l i)) (h16 : ∀ l i, IsReal (R.wo l i)) (h17 : ∀ p i, IsReal (R.mod p i))
    (h18 : ∀ l, IsReal (R.gn l)) (k : Fin 1024) : IsReal (R.h2 k) := by
  have ha : ∀ k, IsReal (R.attn k) := fun k => IsReal.sum fun l =>
    ((((h0 l).mul (h3 l)).add ((h1 l).mul (h4 l))).add ((h2 l).mul (h5 l))).mul (h14 l k)
  have hz : ∀ l, IsReal (R.z l) := fun l => isReal_gelu ((h6 l).add ((h8 l).mul (h7 l)))
  have hs : ∀ k, IsReal (R.ssm k) := fun k => IsReal.sum fun l =>
    ((hz l).mul (isReal_logistic ((IsReal.sum fun i => (hz i).mul (h9 i l)).add (h10 l)))).mul (h15 l k)
  have hx : ∀ k, IsReal (R.x1 k) := fun k => (h13 k).add ((h17 2 k).mul (IsReal.sum fun j =>
    (((h11 j).mul (ha j)).add ((h12 j).mul (hs j))).mul (h16 j k)))
  exact isReal_hid hx h18 (h17 4) (h17 3) k

/-- The logit the call forms, from the product split in two parts: with reals the second parts are zero. -/
theorem split_logit (h w : Fin 1024 → EReal) (hh : ∀ k, IsReal (h k)) (hw : ∀ k, IsReal (w k)) :
    (∑ k, w k * h k) + (∑ k, w k * (h k - h k)) + (∑ k, (w k - w k) * h k) = ∑ k, h k * w k := by
  have h1 : ∀ k, h k - h k = 0 := fun k => (hh k).sub_self
  have h2 : ∀ k, w k - w k = 0 := fun k => (hw k).sub_self
  simp only [h1, h2, mul_zero, zero_mul, Finset.sum_const_zero, add_zero]
  exact Finset.sum_congr rfl fun k _ => mul_comm _ _

/-- A column of zeros but for one one picks the entry it stands at. -/
theorem sum_pick (f o : Fin 128 → EReal) (p : Fin 128) (ho : ∀ i, o i = if i.val = p.val then 1 else 0) : ∑ i, f i * o i = f p := by
  rw [Finset.sum_eq_single p]
  · rw [ho p, if_pos rfl, mul_one]
  · intro i _ hi
    rw [ho i, if_neg (fun h => hi (Fin.ext h)), mul_zero]
  · intro h; exact absurd (Finset.mem_univ p) h

/-- The lane that gate `j` of column `l` stands in. -/
def lane (j : Fin 3) (l : Fin 512) : Fin 24 := ⟨3 * (l.val / 64) + j.val, by omega⟩

section Args

open Cert.MergeIdeal

variable (x0 : FVec Ideal S4x4096x1024 .f32) (x1 : FVec Ideal S8x6x1024 .f32) (x2 x3 x4 : FVec Ideal S4x4096x2x4x64 .f32)
  (x5 : FVec Ideal S4x4096x24 .f32) (x6 x7 : FVec Ideal S4x4096x512 .f32) (x8 x9 : FVec Ideal S4x4096x1024 .f32)
  (x10 : FVec Ideal S512 .f32) (x11 : FVec Ideal S512x512 .f32) (x12 : FVec Ideal S512 .f32) (x13 x14 : FVec Ideal S512x1024 .f32)
  (x15 : FVec Ideal S1024x1024 .f32) (x16 : FVec Ideal S1024 .f32)

/-- A column of an attention's result, by group, head and lane. -/
def headAt (x : FVec Ideal S4x4096x2x4x64 .f32) (b : Fin 4) (s : Fin 4096) (l : Fin 512) : EReal :=
  x (ix5 b s ⟨l.val / 256, by omega⟩ ⟨l.val / 64 % 4, by omega⟩ ⟨l.val % 64, by omega⟩)

/-- The token that stands at row `s` of batch `b`. -/
def rowOf (b : Fin 4) (s : Fin 4096) : Row where
  g0 l := x5 (ix3 b s (lane 0 l))
  g1 l := x5 (ix3 b s (lane 1 l))
  g2 l := x5 (ix3 b s (lane 2 l))
  o0 l := headAt x2 b s l
  o1 l := headAt x3 b s l
  o2 l := headAt x4 b s l
  y l := x6 (ix3 b s l)
  u l := x7 (ix3 b s l)
  d l := x10 (ix1 l)
  wg i l := x11 (ix2 i l)
  bg l := x12 (ix1 l)
  ga k := x8 (ix3 b s k)
  gs k := x9 (ix3 b s k)
  x k := x0 (ix3 b s k)
  wa l k := x13 (ix2 l k)
  ws l k := x14 (ix2 l k)
  wo l k := x15 (ix2 l k)
  mod p k := x1 (ix3 ⟨b.val, by omega⟩ p k)
  gn k := x16 (ix1 k)

/-- Token `n` of all. -/
def rowAt (n : Fin 16384) : Row :=
  rowOf x0 x1 x2 x3 x4 x5 x6 x7 x8 x9 x10 x11 x12 x13 x14 x15 x16 ⟨n.val / 4096, by omega⟩ ⟨n.val % 4096, by omega⟩

end Args

end Cert.Merging

end
-- ==== Proof.MBody.lean ====
module

public import proofs.«01_k».proof.Proof.MSpec
public import proofs.«01_k».proof.Proof.MValue
public import Idealize.ShloMosaic.Lib.Pipeline.ValueKit

@[expose] public section

set_option maxRecDepth 16384

noncomputable section

/-! One grid point of the merging call: what each of its results holds, from its operands' blocks. -/

namespace Cert.MergeIdeal.Body

open Idealize.ShloMosaic Idealize.ShloMosaic.TcCoe Idealize.SL.Sem
open Cert.MergeIdeal Cert.MergeIdeal.Gen Cert.Project Cert.Merging

theorem pay3 (x : FVec Ideal S1x6x1024 .f32) (p : Fin 6) (k : Fin 1024) : k0_pay3 (F := Ideal) x (ix2 p k) = x (ix3 0 p k) := by
  pointwise [k0_pay3]

theorem pay4 (g : FVec Ideal S512x128 .f32) (e0 : FVec Ideal S1x128x512 .bf16) (o0 : FVec Ideal S512x512 .bf16) (e1 : FVec Ideal S1x128x512 .bf16)
    (o1 : FVec Ideal S512x512 .bf16) (e2 : FVec Ideal S1x128x512 .bf16) (o2 : FVec Ideal S512x512 .bf16) (w : FVec Ideal S512x1024 .bf16) (r : Fin 512) (k : Fin 1024) :
    k0_pay4 (F := Ideal) g e0 o0 e1 o1 e2 o2 w (ix2 r k)
      = ∑ l : Fin 512, ((∑ i : Fin 128, g (ix2 r i) * e0 (ix3 0 i l)) * o0 (ix2 r l) + (∑ i : Fin 128, g (ix2 r i) * e1 (ix3 0 i l)) * o1 (ix2 r l)
          + (∑ i : Fin 128, g (ix2 r i) * e2 (ix3 0 i l)) * o2 (ix2 r l)) * w (ix2 l k) := by
  pointwise [k0_pay4]

theorem pay5 (y : FVec Ideal S512x512 .f32) (d : FVec Ideal S1x512 .f32) (u : FVec Ideal S512x512 .f32) (wg : FVec Ideal S512x512 .bf16)
    (bg : FVec Ideal S1x512 .f32) (ws : FVec Ideal S512x1024 .bf16) (r : Fin 512) (k : Fin 1024) :
    k0_pay5 (F := Ideal) y d u wg bg ws (ix2 r k)
      = ∑ l : Fin 512, gelu (y (ix2 r l) + d (ix2 0 l) * u (ix2 r l))
          * Ideal.logistic (∑ i : Fin 512, gelu (y (ix2 r i) + d (ix2 0 i) * u (ix2 r i)) * wg (ix2 i l) + bg (ix2 0 l)) * ws (ix2 l k) := by
  unfold gelu cHalf cOne cScale cCubic
  pointwise [k0_pay5]

theorem pay6 (a : FVec Ideal S512x1024 .f32) (g : FVec Ideal S512x1024 .bf16) (r : Fin 512) (k : Fin 1024) :
    k0_pay6 (F := Ideal) a g (ix2 r k) = g (ix2 r k) * a (ix2 r k) := by
  pointwise [k0_pay6]

theorem pay7 (v1 : FVec Ideal S6x1024 .f32) (s a : FVec Ideal S512x1024 .f32) (g : FVec Ideal S512x1024 .bf16) (x : FVec Ideal S512x1024 .f32)
    (w : FVec Ideal S1024x1024 .bf16) (r : Fin 512) (k : Fin 1024) :
    k0_pay7 (F := Ideal) v1 s a g x w (ix2 r k)
      = x (ix2 r k) + v1 (ix2 2 k) * ∑ j : Fin 1024, (a (ix2 r j) + g (ix2 r j) * s (ix2 r j)) * w (ix2 j k) := by
  pointwise [k0_pay7]

theorem pay8 (v1 : FVec Ideal S6x1024 .f32) (s a : FVec Ideal S512x1024 .f32) (g : FVec Ideal S512x1024 .bf16) (x : FVec Ideal S512x1024 .f32)
    (w : FVec Ideal S1024x1024 .bf16) (n : FVec Ideal S1x1024 .f32) (r : Fin 512) (k : Fin 1024) :
    k0_pay8 (F := Ideal) v1 s a g x w n (ix2 r k)
      = hid (fun k => k0_pay7 (F := Ideal) v1 s a g x w (ix2 r k)) (fun k => n (ix2 0 k)) (fun k => v1 (ix2 4 k)) (fun k => v1 (ix2 3 k)) k := by
  unfold hid c1024 eps cOne k0_pay8
  generalize k0_pay7 (F := Ideal) v1 s a g x w = Y
  pointwise

theorem pay1 (h l : FVec Ideal S512x1024 .bf16) (w w' v : FVec Ideal S256x1024 .bf16) (e : Fin 256) (r : Fin 512) :
    k0_pay1 (F := Ideal) h l w w' v (ix2 e r)
      = ∑ k : Fin 1024, w (ix2 e k) * h (ix2 r k) + ∑ k : Fin 1024, w' (ix2 e k) * l (ix2 r k) + ∑ k : Fin 1024, v (ix2 e k) * h (ix2 r k) := by
  pointwise [k0_pay1]

theorem pay2 (v1 : FVec Ideal S6x1024 .f32) (y : FVec Ideal S512x1024 .f32) (h : FVec Ideal S512x1024 .bf16) (w : FVec Ideal S1024x512 .bf16)
    (d : FVec Ideal S256x1024 .bf16) (r : Fin 512) (k : Fin 1024) :
    k0_pay2 (F := Ideal) v1 y h w d (ix2 r k)
      = y (ix2 r k) + v1 (ix2 5 k) * shared (fun i => h (ix2 r i)) (fun i c => w (ix2 i ⟨c.val, by omega⟩)) (fun i c => w (ix2 i ⟨256 + c.val, by omega⟩)) (fun c k => d (ix2 c k)) k := by
  unfold shared
  pointwise [k0_pay2]

/-- A load of one of the three tables that lay out the gates. -/
theorem ld_table {j : Nat} (x : FVec Ideal S3x128x512 .bf16) (inb : ∀ a, (![j, 0, 0] : Fin 3 → Nat) a + S1x128x512.size a ≤ S3x128x512.size a)
    (hj : j < 3) (i : Fin 128) (l : Fin 512) :
    View.ld (Val := Elt Ideal) (e' := .bf16) x (Rect.unit (s := S3x128x512) ![j, 0, 0] S1x128x512.size inb) (ix3 0 i l) = x (ix3 ⟨j, hj⟩ i l) := by
  refine congrArg x (funext fun a => Fin.ext ?_)
  match a with
  | ⟨0, _⟩ => show j + 1 * 0 = j; omega
  | ⟨1, _⟩ => show 0 + 1 * i.val = i.val; omega
  | ⟨2, _⟩ => show 0 + 1 * l.val = l.val; omega

section Point

variable (x0 x1 x2 : FVec Ideal S512x512 .bf16) (x3 : FVec Ideal S512x128 .f32) (x4 x5 : FVec Ideal S512x512 .f32) (x6 x7 : FVec Ideal S512x1024 .bf16)
  (x8 : FVec Ideal S512x1024 .f32) (x9 : FVec Ideal S1x6x1024 .f32) (x10 : FVec Ideal S3x128x512 .bf16) (x11 : FVec Ideal S1x512 .f32)
  (x12 : FVec Ideal S512x512 .bf16) (x13 : FVec Ideal S1x512 .f32) (x14 x15 : FVec Ideal S512x1024 .bf16) (x16 : FVec Ideal S1024x1024 .bf16)
  (x17 : FVec Ideal S1x1024 .f32) (x18 x19 : FVec Ideal S256x1024 .bf16) (x20 : FVec Ideal S1024x512 .bf16) (x21 : FVec Ideal S256x1024 .bf16)

/-! A load of a whole block reads the block. -/

theorem ldA (x : FVec Ideal S512x512 .bf16) : View.ld (Val := Elt Ideal) (e' := .bf16) x r0_3 = x := View.ld_unit_lit _ _ (by decide)
theorem ldB (x : FVec Ideal S512x512 .f32) : View.ld (Val := Elt Ideal) (e' := .f32) x r0_3 = x := View.ld_unit_lit _ _ (by decide)
theorem ldC (x : FVec Ideal S512x128 .f32) : View.ld (Val := Elt Ideal) (e' := .f32) x r0_1 = x := View.ld_unit_lit _ _ (by decide)
theorem ldD (x : FVec Ideal S512x1024 .bf16) : View.ld (Val := Elt Ideal) (e' := .bf16) x r0_6 = x := View.ld_unit_lit _ _ (by decide)
theorem ldE (x : FVec Ideal S512x1024 .f32) : View.ld (Val := Elt Ideal) (e' := .f32) x r0_6 = x := View.ld_unit_lit _ _ (by decide)
theorem ldF (x : FVec Ideal S1x6x1024 .f32) : View.ld (Val := Elt Ideal) (e' := .f32) x r0_0 = x := View.ld_unit_lit _ _ (by decide)
theorem ldG (x : FVec Ideal S1x512 .f32) : View.ld (Val := Elt Ideal) (e' := .f32) x r0_7 = x := View.ld_unit_lit _ _ (by decide)
theorem ldH (x : FVec Ideal S1024x1024 .bf16) : View.ld (Val := Elt Ideal) (e' := .bf16) x r0_8 = x := View.ld_unit_lit _ _ (by decide)
theorem ldI (x : FVec Ideal S1x1024 .f32) : View.ld (Val := Elt Ideal) (e' := .f32) x r0_9 = x := View.ld_unit_lit _ _ (by decide)
theorem ldJ (x : FVec Ideal S256x1024 .bf16) : View.ld (Val := Elt Ideal) (e' := .bf16) x r0_10 = x := View.ld_unit_lit _ _ (by decide)
theorem ldK (x : FVec Ideal S1024x512 .bf16) : View.ld (Val := Elt Ideal) (e' := .bf16) x r0_12 = x := View.ld_unit_lit _ _ (by decide)

/-- Row `r` of the tile, as the token it is. -/
def row (r : Fin 512) : Row where
  g0 l := ∑ i : Fin 128, x3 (ix2 r i) * x10 (ix3 0 i l)
  g1 l := ∑ i : Fin 128, x3 (ix2 r i) * x10 (ix3 1 i l)
  g2 l := ∑ i : Fin 128, x3 (ix2 r i) * x10 (ix3 2 i l)
  o0 l := x0 (ix2 r l)
  o1 l := x1 (ix2 r l)
  o2 l := x2 (ix2 r l)
  y l := x4 (ix2 r l)
  u l := x5 (ix2 r l)
  d l := x11 (ix2 0 l)
  wg i l := x12 (ix2 i l)
  bg l := x13 (ix2 0 l)
  ga k := x6 (ix2 r k)
  gs k := x7 (ix2 r k)
  x k := x8 (ix2 r k)
  wa l k := x14 (ix2 l k)
  ws l k := x15 (ix2 l k)
  wo l k := x16 (ix2 l k)
  mod p k := x9 (ix3 0 p k)
  gn k := x17 (ix2 0 k)

theorem attn (r : Fin 512) (k : Fin 1024) :
    k0_pay4 (F := Ideal) x3 (View.ld (Val := Elt Ideal) (e' := .bf16) x10 r0_2) x0 (View.ld (Val := Elt Ideal) (e' := .bf16) x10 r0_4) x1
      (View.ld (Val := Elt Ideal) (e' := .bf16) x10 r0_5) x2 x14 (ix2 r k) = (row x0 x1 x2 x3 x4 x5 x6 x7 x8 x9 x10 x11 x12 x13 x14 x15 x16 x17 r).attn k := by
  have h0 : ∀ i l, View.ld (Val := Elt Ideal) (e' := .bf16) x10 r0_2 (ix3 0 i l) = x10 (ix3 0 i l) := fun i l => ld_table x10 _ (by norm_num) i l
  have h1 : ∀ i l, View.ld (Val := Elt Ideal) (e' := .bf16) x10 r0_4 (ix3 0 i l) = x10 (ix3 1 i l) := fun i l => ld_table x10 _ (by norm_num) i l
  have h2 : ∀ i l, View.ld (Val := Elt Ideal) (e' := .bf16) x10 r0_5 (ix3 0 i l) = x10 (ix3 2 i l) := fun i l => ld_table x10 _ (by norm_num) i l
  rw [pay4]
  simp only [h0, h1, h2]
  rfl

theorem p13 (r : Fin 512) (k : Fin 1024) : k0_pay13 (F := Ideal) x0 x1 x2 x3 x4 x5 x6 x7 x8 x9 x10 x11 x12 x13 x14 x15 x16 x17 x18 x19 x20 x21 (ix2 r k) = x6 (ix2 r k) * (row x0 x1 x2 x3 x4 x5 x6 x7 x8 x9 x10 x11 x12 x13 x14 x15 x16 x17 r).attn k := by
  unfold k0_pay13
  rw [ldA x0, ldA x1, ldA x2, ldC x3, ldD x14, ldD x6, pay6, attn]

theorem p12 (r : Fin 512) (k : Fin 1024) : k0_pay12 (F := Ideal) x0 x1 x2 x3 x4 x5 x6 x7 x8 x9 x10 x11 x12 x13 x14 x15 x16 x17 x18 x19 x20 x21 (ix2 r k) = (row x0 x1 x2 x3 x4 x5 x6 x7 x8 x9 x10 x11 x12 x13 x14 x15 x16 x17 r).ssm k := by
  unfold k0_pay12
  rw [ldB x4, ldB x5, ldG x11, ldG x13, ldA x12, ldD x15, pay5]
  rfl

theorem p11 (p : Fin 6) (k : Fin 1024) : k0_pay11 (F := Ideal) x0 x1 x2 x3 x4 x5 x6 x7 x8 x9 x10 x11 x12 x13 x14 x15 x16 x17 x18 x19 x20 x21 (ix2 p k) = x9 (ix3 0 p k) := by
  unfold k0_pay11
  rw [ldF x9, pay3]

theorem p7 (r : Fin 512) (k : Fin 1024) :
    k0_pay7 (F := Ideal) (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) x7 x8 x16 (ix2 r k) = (row x0 x1 x2 x3 x4 x5 x6 x7 x8 x9 x10 x11 x12 x13 x14 x15 x16 x17 r).x1 k := by
  rw [pay7]
  simp only [p11, p12, p13]
  rfl

theorem p8 (r : Fin 512) (k : Fin 1024) :
    k0_pay8 (F := Ideal) (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) x7 x8 x16 x17 (ix2 r k) = (row x0 x1 x2 x3 x4 x5 x6 x7 x8 x9 x10 x11 x12 x13 x14 x15 x16 x17 r).h2 k := by
  rw [pay8]
  simp only [p11, p7]
  rfl

theorem p14 (r : Fin 512) (k : Fin 1024) : k0_pay14 (F := Ideal) x0 x1 x2 x3 x4 x5 x6 x7 x8 x9 x10 x11 x12 x13 x14 x15 x16 x17 x18 x19 x20 x21 (ix2 r k) = (row x0 x1 x2 x3 x4 x5 x6 x7 x8 x9 x10 x11 x12 x13 x14 x15 x16 x17 r).h2 k := by
  unfold k0_pay14
  rw [ldD x7, ldE x8, ldH x16, ldI x17]
  exact p8 x0 x1 x2 x3 x4 x5 x6 x7 x8 x9 x10 x11 x12 x13 x14 x15 x16 x17 x18 x19 x20 x21 r k

theorem p10 (r : Fin 512) (k : Fin 1024) :
    k0_pay10 (F := Ideal) (k0_pay11 x0 x1 x2 x3 x4 x5 x6 x7 x8 x9 x10 x11 x12 x13 x14 x15 x16 x17 x18 x19 x20 x21) (k0_pay12 x0 x1 x2 x3 x4 x5 x6 x7 x8 x9 x10 x11 x12 x13 x14 x15 x16 x17 x18 x19 x20 x21) (k0_pay13 x0 x1 x2 x3 x4 x5 x6 x7 x8 x9 x10 x11 x12 x13 x14 x15 x16 x17 x18 x19 x20 x21) x7 x8 x16 x17 (ix2 r k) = (row x0 x1 x2 x3 x4 x5 x6 x7 x8 x9 x10 x11 x12 x13 x14 x15 x16 x17 r).h2 k - (row x0 x1 x2 x3 x4 x5 x6 x7 x8 x9 x10 x11 x12 x13 x14 x15 x16 x17 r).h2 k :=
  congrArg₂ (fun a b : EReal => a - b) (p8 x0 x1 x2 x3 x4 x5 x6 x7 x8 x9 x10 x11 x12 x13 x14 x15 x16 x17 x18 x19 x20 x21 r k) (p8 x0 x1 x2 x3 x4 x5 x6 x7 x8 x9 x10 x11 x12 x13 x14 x15 x16 x17 x18 x19 x20 x21 r k)

theorem out_h2 (r : Fin 512) (k : Fin 1024) : out0_23 (F := Ideal) x0 x1 x2 x3 x4 x5 x6 x7 x8 x9 x10 x11 x12 x13 x14 x15 x16 x17 x18 x19 x20 x21 (ix2 r k) = (row x0 x1 x2 x3 x4 x5 x6 x7 x8 x9 x10 x11 x12 x13 x14 x15 x16 x17 r).h2 k := by
  unfold out0_23
  rw [View.canon_cons_unit_lit _ _ _ (by decide), ldD x7, ldE x8, ldH x16, ldI x17]
  exact p8 x0 x1 x2 x3 x4 x5 x6 x7 x8 x9 x10 x11 x12 x13 x14 x15 x16 x17 x18 x19 x20 x21 r k

theorem out_logit (e : Fin 256) (r : Fin 512) :
    out0_24 (F := Ideal) x0 x1 x2 x3 x4 x5 x6 x7 x8 x9 x10 x11 x12 x13 x14 x15 x16 x17 x18 x19 x20 x21 (ix2 e r)
      = ∑ k, x18 (ix2 e k) * (row x0 x1 x2 x3 x4 x5 x6 x7 x8 x9 x10 x11 x12 x13 x14 x15 x16 x17 r).h2 k + ∑ k, x18 (ix2 e k) * ((row x0 x1 x2 x3 x4 x5 x6 x7 x8 x9 x10 x11 x12 x13 x14 x15 x16 x17 r).h2 k - (row x0 x1 x2 x3 x4 x5 x6 x7 x8 x9 x10 x11 x12 x13 x14 x15 x16 x17 r).h2 k) + ∑ k, x19 (ix2 e k) * (row x0 x1 x2 x3 x4 x5 x6 x7 x8 x9 x10 x11 x12 x13 x14 x15 x16 x17 r).h2 k := by
  unfold out0_24
  rw [View.canon_cons_unit_lit _ _ _ (by decide), ldD x7, ldE x8, ldH x16, ldI x17, ldJ x18, ldJ x19, pay1]
  simp only [p14, p10]

theorem out_xpart (r : Fin 512) (k : Fin 1024) :
    out0_22 (F := Ideal) x0 x1 x2 x3 x4 x5 x6 x7 x8 x9 x10 x11 x12 x13 x14 x15 x16 x17 x18 x19 x20 x21 (ix2 r k)
      = (row x0 x1 x2 x3 x4 x5 x6 x7 x8 x9 x10 x11 x12 x13 x14 x15 x16 x17 r).xpart (fun i c => x20 (ix2 i ⟨c.val, by omega⟩)) (fun i c => x20 (ix2 i ⟨256 + c.val, by omega⟩)) (fun c k => x21 (ix2 c k)) k := by
  unfold out0_22
  rw [View.canon_cons_unit_lit _ _ _ (by decide), ldD x7, ldE x8, ldH x16, ldK x20, ldJ x21, pay2]
  simp only [p14, p11, p7]
  rfl

end Point

end Cert.MergeIdeal.Body

end
-- ==== Proof.MEntry.lean ====
module

public import proofs.«01_k».proof.Proof.MBody

@[expose] public section

set_option maxRecDepth 16384

noncomputable section

/-! What the merging call's operands hold, from the arguments. -/

namespace Cert.MergeIdeal.Entry

open Idealize.ShloMosaic Idealize.ShloMosaic.TcCoe Idealize.SL.Sem
open Idealize.ShloMosaic.Pipeline (Dat)
open Cert.MergeIdeal Cert.MergeIdeal.Gen Cert.Merging

theorem heads_pure (x : FVec Ideal S4x4096x2x4x64 .f32) (n : Fin 16384) (l : Fin 512) :
    (show FVec Ideal S16384x512 .bf16 from truncf .bf16 (shapeCast S16384x512 x shapeCasts_S4x4096x2x4x64_S16384x512) bitsLt_bf16_f32) (ix2 n l)
      = headAt x ⟨n.val / 4096, by omega⟩ ⟨n.val % 4096, by omega⟩ l := by
  unfold headAt
  pointwise

theorem gates_pure (x : FVec Ideal S4x4096x24 .f32) (v : FVec Ideal S_ .f32) (n : Fin 16384) (i : Fin 128) (hi : i.val < 24) :
    shapeCast S16384x128 (pad S4x4096x128 ![0, 0, 0] ![0, 0, 104] ![0, 0, 0] x v pads_S4x4096x24_S4x4096x128_000_000_01040 h_S_) shapeCasts_S4x4096x128_S16384x128 (ix2 n i)
      = x (ix3 ⟨n.val / 4096, by omega⟩ ⟨n.val % 4096, by omega⟩ ⟨i.val, hi⟩) := by
  pointwise
  rw [dif_pos ⟨by omega, by omega, hi⟩]

theorem rows512_pure (x : FVec Ideal S4x4096x512 .f32) (n : Fin 16384) (k : Fin 512) :
    shapeCast S16384x512 x shapeCasts_S4x4096x512_S16384x512 (ix2 n k) = x (ix3 ⟨n.val / 4096, by omega⟩ ⟨n.val % 4096, by omega⟩ k) := by
  pointwise

theorem rows1024_pure (x : FVec Ideal S4x4096x1024 .f32) (n : Fin 16384) (k : Fin 1024) :
    shapeCast S16384x1024 x shapeCasts_S4x4096x1024_S16384x1024 (ix2 n k) = x (ix3 ⟨n.val / 4096, by omega⟩ ⟨n.val % 4096, by omega⟩ k) := by
  pointwise

theorem vec512_pure (g : FVec Ideal S512 .f32) (k : Fin 512) : shapeCast S1x512 g shapeCasts_S512_S1x512 (ix2 0 k) = g (ix1 k) := by
  pointwise

theorem vec1024_pure (g : FVec Ideal S1024 .f32) (k : Fin 1024) : shapeCast S1x1024 g shapeCasts_S1024_S1x1024 (ix2 0 k) = g (ix1 k) := by
  pointwise

theorem gateup_pure (a b : FVec Ideal S1024x256 .f32) (i : Fin 1024) (W : FVec Ideal S1024x512 .f32)
    (hW : W = concatenate S1024x512 1 [⟨S1024x256, a⟩, ⟨S1024x256, b⟩] concatenates_S1024x256_S1024x256_S1024x512_d1) :
    (∀ c : Fin 256, W (ix2 i ⟨c.val, by omega⟩) = a (ix2 i c)) ∧ (∀ c : Fin 256, W (ix2 i ⟨256 + c.val, by omega⟩) = b (ix2 i c)) := by
  subst hW
  refine ⟨fun c => ?_, fun c => ?_⟩ <;> pointwise <;> have hc := c.isLt

/-- The lane compared with the gate's own: one where they agree. -/
theorem same (a h j : Nat) (ha : a < 128) (hh : h < 8) (hj : j < 3) :
    FloatOps.uitofp (F := Ideal) .bf16 (IntOp.cmpi .eq (BitVec.ofNat 32 a) (IntOp.addi (IntOp.muli 3#32 (BitVec.ofNat 32 h)) (BitVec.ofNat 32 j)))
      = if a = 3 * h + j then (1 : EReal) else 0 := by
  have e : IntOp.addi (IntOp.muli 3#32 (BitVec.ofNat 32 h)) (BitVec.ofNat 32 j) = BitVec.ofNat 32 (3 * h + j) := by
    interval_cases h <;> interval_cases j <;> rfl
  have q : IntOp.cmpi .eq (BitVec.ofNat 32 a) (BitVec.ofNat 32 (3 * h + j)) = BitVec.ofBool (decide (a = 3 * h + j)) := by
    show BitVec.ofBool (BitVec.ofNat 32 a == BitVec.ofNat 32 (3 * h + j)) = _
    congr 1
    rw [Bool.eq_iff_iff, beq_iff_eq, decide_eq_true_iff]
    constructor
    · intro q
      have := congrArg BitVec.toNat q
      simp only [BitVec.toNat_ofNat] at this
      omega
    · intro q; rw [q]
  rw [e, q]
  by_cases hab : a = 3 * h + j
  · rw [if_pos hab, decide_eq_true hab]
    show ((((BitVec.ofBool true).toNat : ℕ) : ℝ) : EReal) = 1
    simp
  · rw [if_neg hab, decide_eq_false hab]
    show ((((BitVec.ofBool false).toNat : ℕ) : ℝ) : EReal) = 0
    simp

theorem table_pure (j : Fin 3) (i : Fin 128) (l : Fin 512) :
    (show FVec Ideal S3x128x512 .bf16 from uitofp .bf16 (shapeCast S3x128x512 (broadcastInDim S3x128x8x64 ![0, 1, 2, 3] bcast_S3x128x8x1_S3x128x8x64_0_1_2_3
        (broadcastInDim S3x128x8x1 ![0, 1, 2] bcast_S3x128x8_S3x128x8x1_0_1_2 (cmpi .eq
          (broadcastInDim S3x128x8 ![0, 1, 2] bcast_S1x128x1_S3x128x8_0_1_2 (broadcastInDim S1x128x1 ![1] bcast_S128_S1x128x1_1 (iotaInDim S128 32 0)))
          (broadcastInDim S3x128x8 ![0, 1, 2] bcast_S3x1x8_S3x128x8_0_1_2 (addi
            (broadcastInDim S3x1x8 ![0, 1, 2] bcast_S1x1x8_S3x1x8_0_1_2 (muli (broadcastInDim S1x1x8 ![] bcast_S_S1x1x8 (constantI S_ 32 3#32)) (broadcastInDim S1x1x8 ![2] bcast_S8_S1x1x8_2 (iotaInDim S8 32 0))))
            (broadcastInDim S3x1x8 ![0, 1, 2] bcast_S3x1x1_S3x1x8_0_1_2 (broadcastInDim S3x1x1 ![0] bcast_S3_S3x1x1_0 (iotaInDim S3 32 0)))))))) shapeCasts_S3x128x8x64_S3x128x512)) (ix3 j i l)
      = if i.val = (lane j l).val then 1 else 0 := by
  pointwise
  exact same _ _ _ (by omega) (by omega) (by omega)

theorem hi_pure (w : FVec Ideal S1024x256 .f32) (e : Fin 256) (k : Fin 1024) :
    (show FVec Ideal S256x1024 .bf16 from truncf .bf16 (transpose S256x1024 [1, 0] w transposes_S1024x256_S256x1024_1_0) bitsLt_bf16_f32) (ix2 e k) = w (ix2 k e) := by
  pointwise

theorem lo_pure (w : FVec Ideal S1024x256 .f32) (e : Fin 256) (k : Fin 1024) :
    (show FVec Ideal S256x1024 .bf16 from truncf .bf16 (subf (transpose S256x1024 [1, 0] w transposes_S1024x256_S256x1024_1_0)
      (extf .f32 (truncf .bf16 (transpose S256x1024 [1, 0] w transposes_S1024x256_S256x1024_1_0) bitsLt_bf16_f32) bitsLt_bf16_f32)) bitsLt_bf16_f32) (ix2 e k) = w (ix2 k e) - w (ix2 k e) := by
  pointwise

variable (m : (ℓ : Loc nD τ sig) → Buf (Elt Ideal) ℓ)

theorem o0 (c : Dev nD) (n : Fin 16384) (l : Fin 512) :
    (show FVec Ideal S16384x512 .bf16 from V m c main_v1) (ix2 n l) = headAt (show FVec Ideal S4x4096x2x4x64 .f32 from m ((c : Thread nD τ).loc main_arg2)) ⟨n.val / 4096, by omega⟩ ⟨n.val % 4096, by omega⟩ l := by
  simp only [V, hostOps0, hostOps0_1, hostOps0_2, List.flatten_cons, List.flatten_nil, List.append_nil, List.cons_append, List.nil_append]
  after_results
  exact heads_pure _ n l

theorem o1 (c : Dev nD) (n : Fin 16384) (l : Fin 512) :
    (show FVec Ideal S16384x512 .bf16 from V m c main_v3) (ix2 n l) = headAt (show FVec Ideal S4x4096x2x4x64 .f32 from m ((c : Thread nD τ).loc main_arg3)) ⟨n.val / 4096, by omega⟩ ⟨n.val % 4096, by omega⟩ l := by
  simp only [V, hostOps0, hostOps0_1, hostOps0_2, List.flatten_cons, List.flatten_nil, List.append_nil, List.cons_append, List.nil_append]
  after_results
  exact heads_pure _ n l

theorem o2 (c : Dev nD) (n : Fin 16384) (l : Fin 512) :
    (show FVec Ideal S16384x512 .bf16 from V m c main_v5) (ix2 n l) = headAt (show FVec Ideal S4x4096x2x4x64 .f32 from m ((c : Thread nD τ).loc main_arg4)) ⟨n.val / 4096, by omega⟩ ⟨n.val % 4096, by omega⟩ l := by
  simp only [V, hostOps0, hostOps0_1, hostOps0_2, List.flatten_cons, List.flatten_nil, List.append_nil, List.cons_append, List.nil_append]
  after_results
  exact heads_pure _ n l

theorem gates (c : Dev nD) (n : Fin 16384) (i : Fin 128) (hi : i.val < 24) :
    (show FVec Ideal S16384x128 .f32 from V m c main_v7) (ix2 n i) = (show FVec Ideal S4x4096x24 .f32 from m ((c : Thread nD τ).loc main_arg5)) (ix3 ⟨n.val / 4096, by omega⟩ ⟨n.val % 4096, by omega⟩ ⟨i.val, hi⟩) := by
  simp only [V, hostOps0, hostOps0_1, hostOps0_2, List.flatten_cons, List.flatten_nil, List.append_nil, List.cons_append, List.nil_append]
  after_results
  exact gates_pure _ _ n i hi

theorem y (c : Dev nD) (n : Fin 16384) (l : Fin 512) :
    (show FVec Ideal S16384x512 .f32 from V m c main_v8) (ix2 n l) = (show FVec Ideal S4x4096x512 .f32 from m ((c : Thread nD τ).loc main_arg6)) (ix3 ⟨n.val / 4096, by omega⟩ ⟨n.val % 4096, by omega⟩ l) := by
  simp only [V, hostOps0, hostOps0_1, hostOps0_2, List.flatten_cons, List.flatten_nil, List.append_nil, List.cons_append, List.nil_append]
  after_results
  exact rows512_pure _ n l

theorem u (c : Dev nD) (n : Fin 16384) (l : Fin 512) :
    (show FVec Ideal S16384x512 .f32 from V m c main_v9) (ix2 n l) = (show FVec Ideal S4x4096x512 .f32 from m ((c : Thread nD τ).loc main_arg7)) (ix3 ⟨n.val / 4096, by omega⟩ ⟨n.val % 4096, by omega⟩ l) := by
  simp only [V, hostOps0, hostOps0_1, hostOps0_2, List.flatten_cons, List.flatten_nil, List.append_nil, List.cons_append, List.nil_append]
  after_results
  exact rows512_pure _ n l

theorem ga (c : Dev nD) (n : Fin 16384) (k : Fin 1024) :
    (show FVec Ideal S16384x1024 .bf16 from V m c main_v11) (ix2 n k) = (show FVec Ideal S4x4096x1024 .f32 from m ((c : Thread nD τ).loc main_arg8)) (ix3 ⟨n.val / 4096, by omega⟩ ⟨n.val % 4096, by omega⟩ k) := by
  simp only [V, hostOps0, hostOps0_1, hostOps0_2, List.flatten_cons, List.flatten_nil, List.append_nil, List.cons_append, List.nil_append]
  after_results
  exact rows1024_pure _ n k

theorem gs (c : Dev nD) (n : Fin 16384) (k : Fin 1024) :
    (show FVec Ideal S16384x1024 .bf16 from V m c main_v13) (ix2 n k) = (show FVec Ideal S4x4096x1024 .f32 from m ((c : Thread nD τ).loc main_arg9)) (ix3 ⟨n.val / 4096, by omega⟩ ⟨n.val % 4096, by omega⟩ k) := by
  simp only [V, hostOps0, hostOps0_1, hostOps0_2, List.flatten_cons, List.flatten_nil, List.append_nil, List.cons_append, List.nil_append]
  after_results
  exact rows1024_pure _ n k

theorem x (c : Dev nD) (n : Fin 16384) (k : Fin 1024) :
    (show FVec Ideal S16384x1024 .f32 from V m c main_v14) (ix2 n k) = (show FVec Ideal S4x4096x1024 .f32 from m ((c : Thread nD τ).loc main_arg0)) (ix3 ⟨n.val / 4096, by omega⟩ ⟨n.val % 4096, by omega⟩ k) := by
  simp only [V, hostOps0, hostOps0_1, hostOps0_2, List.flatten_cons, List.flatten_nil, List.append_nil, List.cons_append, List.nil_append]
  after_results
  exact rows1024_pure _ n k

theorem table (c : Dev nD) (j : Fin 3) (i : Fin 128) (l : Fin 512) :
    (show FVec Ideal S3x128x512 .bf16 from V m c main_v37) (ix3 j i l) = if i.val = (lane j l).val then 1 else 0 := by
  simp only [V, hostOps0, hostOps0_1, hostOps0_2, List.flatten_cons, List.flatten_nil, List.append_nil, List.cons_append, List.nil_append]
  after_results
  exact table_pure j i l

theorem d (c : Dev nD) (l : Fin 512) :
    (show FVec Ideal S1x512 .f32 from V m c main_v38) (ix2 0 l) = (show FVec Ideal S512 .f32 from m ((c : Thread nD τ).loc main_arg10)) (ix1 l) := by
  simp only [V, hostOps0, hostOps0_1, hostOps0_2, List.flatten_cons, List.flatten_nil, List.append_nil, List.cons_append, List.nil_append]
  after_results
  exact vec512_pure _ l

theorem wg (c : Dev nD) (i l : Fin 512) :
    (show FVec Ideal S512x512 .bf16 from V m c main_v39) (ix2 i l) = (show FVec Ideal S512x512 .f32 from m ((c : Thread nD τ).loc main_arg11)) (ix2 i l) := by
  simp only [V, hostOps0, hostOps0_1, hostOps0_2, List.flatten_cons, List.flatten_nil, List.append_nil, List.cons_append, List.nil_append]
  after_results
  exact rfl

theorem bg (c : Dev nD) (l : Fin 512) :
    (show FVec Ideal S1x512 .f32 from V m c main_v40) (ix2 0 l) = (show FVec Ideal S512 .f32 from m ((c : Thread nD τ).loc main_arg12)) (ix1 l) := by
  simp only [V, hostOps0, hostOps0_1, hostOps0_2, List.flatten_cons, List.flatten_nil, List.append_nil, List.cons_append, List.nil_append]
  after_results
  exact vec512_pure _ l

theorem wa (c : Dev nD) (l : Fin 512) (k : Fin 1024) :
    (show FVec Ideal S512x1024 .bf16 from V m c main_v41) (ix2 l k) = (show FVec Ideal S512x1024 .f32 from m ((c : Thread nD τ).loc main_arg13)) (ix2 l k) := by
  simp only [V, hostOps0, hostOps0_1, hostOps0_2, List.flatten_cons, List.flatten_nil, List.append_nil, List.cons_append, List.nil_append]
  after_results
  exact rfl

theorem ws (c : Dev nD) (l : Fin 512) (k : Fin 1024) :
    (show FVec Ideal S512x1024 .bf16 from V m c main_v42) (ix2 l k) = (show FVec Ideal S512x1024 .f32 from m ((c : Thread nD τ).loc main_arg14)) (ix2 l k) := by
  simp only [V, hostOps0, hostOps0_1, hostOps0_2, List.flatten_cons, List.flatten_nil, List.append_nil, List.cons_append, List.nil_append]
  after_results
  exact rfl

theorem wo (c : Dev nD) (l k : Fin 1024) :
    (show FVec Ideal S1024x1024 .bf16 from V m c main_v43) (ix2 l k) = (show FVec Ideal S1024x1024 .f32 from m ((c : Thread nD τ).loc main_arg15)) (ix2 l k) := by
  simp only [V, hostOps0, hostOps0_1, hostOps0_2, List.flatten_cons, List.flatten_nil, List.append_nil, List.cons_append, List.nil_append]
  after_results
  exact rfl

theorem gn (c : Dev nD) (k : Fin 1024) :
    (show FVec Ideal S1x1024 .f32 from V m c main_v44) (ix2 0 k) = (show FVec Ideal S1024 .f32 from m ((c : Thread nD τ).loc main_arg16)) (ix1 k) := by
  simp only [V, hostOps0, hostOps0_1, hostOps0_2, List.flatten_cons, List.flatten_nil, List.append_nil, List.cons_append, List.nil_append]
  after_results
  exact vec1024_pure _ k

theorem hi (c : Dev nD) (e : Fin 256) (k : Fin 1024) :
    (show FVec Ideal S256x1024 .bf16 from V m c main_v33) (ix2 e k) = (show FVec Ideal S1024x256 .f32 from m ((c : Thread nD τ).loc main_arg17)) (ix2 k e) := by
  simp only [V, hostOps0, hostOps0_1, hostOps0_2, List.flatten_cons, List.flatten_nil, List.append_nil, List.cons_append, List.nil_append]
  after_results
  exact hi_pure _ e k

theorem lo (c : Dev nD) (e : Fin 256) (k : Fin 1024) :
    (show FVec Ideal S256x1024 .bf16 from V m c main_v36) (ix2 e k) = (show FVec Ideal S1024x256 .f32 from m ((c : Thread nD τ).loc main_arg17)) (ix2 k e) - (show FVec Ideal S1024x256 .f32 from m ((c : Thread nD τ).loc main_arg17)) (ix2 k e) := by
  simp only [V, hostOps0, hostOps0_1, hostOps0_2, List.flatten_cons, List.flatten_nil, List.append_nil, List.cons_append, List.nil_append]
  after_results
  exact lo_pure _ e k

theorem gate (c : Dev nD) (i : Fin 1024) (q : Fin 256) :
    (show FVec Ideal S1024x512 .bf16 from V m c main_v46) (ix2 i ⟨q.val, by omega⟩) = (show FVec Ideal S1024x256 .f32 from m ((c : Thread nD τ).loc main_arg18)) (ix2 i q) := by
  simp only [V, hostOps0, hostOps0_1, hostOps0_2, List.flatten_cons, List.flatten_nil, List.append_nil, List.cons_append, List.nil_append]
  after_results
  exact (gateup_pure _ _ i _ rfl).1 q

theorem up (c : Dev nD) (i : Fin 1024) (q : Fin 256) :
    (show FVec Ideal S1024x512 .bf16 from V m c main_v46) (ix2 i ⟨256 + q.val, by omega⟩) = (show FVec Ideal S1024x256 .f32 from m ((c : Thread nD τ).loc main_arg19)) (ix2 i q) := by
  simp only [V, hostOps0, hostOps0_1, hostOps0_2, List.flatten_cons, List.flatten_nil, List.append_nil, List.cons_append, List.nil_append]
  after_results
  exact (gateup_pure _ _ i _ rfl).2 q

theorem down (c : Dev nD) (q : Fin 256) (k : Fin 1024) :
    (show FVec Ideal S256x1024 .bf16 from V m c main_v47) (ix2 q k) = (show FVec Ideal S256x1024 .f32 from m ((c : Thread nD τ).loc main_arg20)) (ix2 q k) := by
  simp only [V, hostOps0, hostOps0_1, hostOps0_2, List.flatten_cons, List.flatten_nil, List.append_nil, List.cons_append, List.nil_append]
  after_results
  exact rfl

end Cert.MergeIdeal.Entry

end
-- ==== Proof.MBlocks.lean ====
module

public import proofs.«01_k».proof.Proof.MEntry

@[expose] public section

set_option maxRecDepth 16384

noncomputable section

/-! What each grid point's blocks hold: 512 rows of the activations, and the other operands whole. -/

namespace Cert.MergeIdeal.Blocks

open Idealize.ShloMosaic Idealize.ShloMosaic.TcCoe Idealize.SL.Sem
open Idealize.ShloMosaic.Pipeline (Dat)
open Cert.MergeIdeal Cert.MergeIdeal.Gen Cert.MergeIdeal.Body

variable (m : (ℓ : Loc nD τ sig) → Buf (Elt Ideal) ℓ)

/-- Where each operand's block sits, at each grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val / 8, 0, 0] ∧ win0_10.index t = ![0, 0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] :=
  (by decide +kernel : ∀ t : Fin grid0.N, _)

/-- Where each result's block sits. -/
theorem odx : ∀ t : Fin cfg0.N, win0_22.index t = ![t.val, 0] ∧ win0_23.index t = ![t.val, 0] ∧ win0_24.index t = ![0, t.val] :=
  (by decide +kernel : ∀ t : Fin grid0.N, _)

theorem lt (t : Fin cfg0.N) : t.val < 32 := t.isLt

theorem blk0 (c : Dev nD) (t : Fin cfg0.N) (r : Fin 512) (k : Fin 512) :
    (show FVec Ideal S512x512 .bf16 from iblk m c 0 t) (ix2 r k)
      = (show FVec Ideal S16384x512 .bf16 from V m c main_v1) (ix2 ⟨512 * t.val + r.val, by have := lt t; omega⟩ k) := by
  blk_point [iblk, idx t]

theorem blk1 (c : Dev nD) (t : Fin cfg0.N) (r : Fin 512) (k : Fin 512) :
    (show FVec Ideal S512x512 .bf16 from iblk m c 1 t) (ix2 r k)
      = (show FVec Ideal S16384x512 .bf16 from V m c main_v3) (ix2 ⟨512 * t.val + r.val, by have := lt t; omega⟩ k) := by
  blk_point [iblk, idx t]

theorem blk2 (c : Dev nD) (t : Fin cfg0.N) (r : Fin 512) (k : Fin 512) :
    (show FVec Ideal S512x512 .bf16 from iblk m c 2 t) (ix2 r k)
      = (show FVec Ideal S16384x512 .bf16 from V m c main_v5) (ix2 ⟨512 * t.val + r.val, by have := lt t; omega⟩ k) := by
  blk_point [iblk, idx t]

theorem blk3 (c : Dev nD) (t : Fin cfg0.N) (r : Fin 512) (k : Fin 128) :
    (show FVec Ideal S512x128 .f32 from iblk m c 3 t) (ix2 r k)
      = (show FVec Ideal S16384x128 .f32 from V m c main_v7) (ix2 ⟨512 * t.val + r.val, by have := lt t; omega⟩ k) := by
  blk_point [iblk, idx t]

theorem blk4 (c : Dev nD) (t : Fin cfg0.N) (r : Fin 512) (k : Fin 512) :
    (show FVec Ideal S512x512 .f32 from iblk m c 4 t) (ix2 r k)
      = (show FVec Ideal S16384x512 .f32 from V m c main_v8) (ix2 ⟨512 * t.val + r.val, by have := lt t; omega⟩ k) := by
  blk_point [iblk, idx t]

theorem blk5 (c : Dev nD) (t : Fin cfg0.N) (r : Fin 512) (k : Fin 512) :
    (show FVec Ideal S512x512 .f32 from iblk m c 5 t) (ix2 r k)
      = (show FVec Ideal S16384x512 .f32 from V m c main_v9) (ix2 ⟨512 * t.val + r.val, by have := lt t; omega⟩ k) := by
  blk_point [iblk, idx t]

theorem blk6 (c : Dev nD) (t : Fin cfg0.N) (r : Fin 512) (k : Fin 1024) :
    (show FVec Ideal S512x1024 .bf16 from iblk m c 6 t) (ix2 r k)
      = (show FVec Ideal S16384x1024 .bf16 from V m c main_v11) (ix2 ⟨512 * t.val + r.val, by have := lt t; omega⟩ k) := by
  blk_point [iblk, idx t]

theorem blk7 (c : Dev nD) (t : Fin cfg0.N) (r : Fin 512) (k : Fin 1024) :
    (show FVec Ideal S512x1024 .bf16 from iblk m c 7 t) (ix2 r k)
      = (show FVec Ideal S16384x1024 .bf16 from V m c main_v13) (ix2 ⟨512 * t.val + r.val, by have := lt t; omega⟩ k) := by
  blk_point [iblk, idx t]

theorem blk8 (c : Dev nD) (t : Fin cfg0.N) (r : Fin 512) (k : Fin 1024) :
    (show FVec Ideal S512x1024 .f32 from iblk m c 8 t) (ix2 r k)
      = (show FVec Ideal S16384x1024 .f32 from V m c main_v14) (ix2 ⟨512 * t.val + r.val, by have := lt t; omega⟩ k) := by
  blk_point [iblk, idx t]

theorem blk9 (c : Dev nD) (t : Fin cfg0.N) (p : Fin 6) (k : Fin 1024) :
    (show FVec Ideal S1x6x1024 .f32 from iblk m c 9 t) (ix3 0 p k)
      = (show FVec Ideal S8x6x1024 .f32 from V m c main_arg1) (ix3 ⟨t.val / 8, by have := lt t; omega⟩ p k) := by
  blk_point [iblk, idx t]

theorem blk10 (c : Dev nD) (t : Fin cfg0.N) (j : Fin 3) (i : Fin 128) (l : Fin 512) :
    (show FVec Ideal S3x128x512 .bf16 from iblk m c 10 t) (ix3 j i l) = (show FVec Ideal S3x128x512 .bf16 from V m c main_v37) (ix3 j i l) := by
  blk_point [iblk, idx t]

theorem blk11 (c : Dev nD) (t : Fin cfg0.N) (k : Fin 512) :
    (show FVec Ideal S1x512 .f32 from iblk m c 11 t) (ix2 0 k) = (show FVec Ideal S1x512 .f32 from V m c main_v38) (ix2 0 k) := by
  blk_point [iblk, idx t]

theorem blk12 (c : Dev nD) (t : Fin cfg0.N) (i : Fin 512) (k : Fin 512) :
    (show FVec Ideal S512x512 .bf16 from iblk m c 12 t) (ix2 i k) = (show FVec Ideal S512x512 .bf16 from V m c main_v39) (ix2 i k) := by
  blk_point [iblk, idx t]

theorem blk13 (c : Dev nD) (t : Fin cfg0.N) (k : Fin 512) :
    (show FVec Ideal S1x512 .f32 from iblk m c 13 t) (ix2 0 k) = (show FVec Ideal S1x512 .f32 from V m c main_v40) (ix2 0 k) := by
  blk_point [iblk, idx t]

theorem blk14 (c : Dev nD) (t : Fin cfg0.N) (i : Fin 512) (k : Fin 1024) :
    (show FVec Ideal S512x1024 .bf16 from iblk m c 14 t) (ix2 i k) = (show FVec Ideal S512x1024 .bf16 from V m c main_v41) (ix2 i k) := by
  blk_point [iblk, idx t]

theorem blk15 (c : Dev nD) (t : Fin cfg0.N) (i : Fin 512) (k : Fin 1024) :
    (show FVec Ideal S512x1024 .bf16 from iblk m c 15 t) (ix2 i k) = (show FVec Ideal S512x1024 .bf16 from V m c main_v42) (ix2 i k) := by
  blk_point [iblk, idx t]

theorem blk16 (c : Dev nD) (t : Fin cfg0.N) (i : Fin 1024) (k : Fin 1024) :
    (show FVec Ideal S1024x1024 .bf16 from iblk m c 16 t) (ix2 i k) = (show FVec Ideal S1024x1024 .bf16 from V m c main_v43) (ix2 i k) := by
  blk_point [iblk, idx t]

theorem blk17 (c : Dev nD) (t : Fin cfg0.N) (k : Fin 1024) :
    (show FVec Ideal S1x1024 .f32 from iblk m c 17 t) (ix2 0 k) = (show FVec Ideal S1x1024 .f32 from V m c main_v44) (ix2 0 k) := by
  blk_point [iblk, idx t]

theorem blk18 (c : Dev nD) (t : Fin cfg0.N) (i : Fin 256) (k : Fin 1024) :
    (show FVec Ideal S256x1024 .bf16 from iblk m c 18 t) (ix2 i k) = (show FVec Ideal S256x1024 .bf16 from V m c main_v33) (ix2 i k) := by
  blk_point [iblk, idx t]

theorem blk19 (c : Dev nD) (t : Fin cfg0.N) (i : Fin 256) (k : Fin 1024) :
    (show FVec Ideal S256x1024 .bf16 from iblk m c 19 t) (ix2 i k) = (show FVec Ideal S256x1024 .bf16 from V m c main_v36) (ix2 i k) := by
  blk_point [iblk, idx t]

theorem blk20 (c : Dev nD) (t : Fin cfg0.N) (i : Fin 1024) (k : Fin 512) :
    (show FVec Ideal S1024x512 .bf16 from iblk m c 20 t) (ix2 i k) = (show FVec Ideal S1024x512 .bf16 from V m c main_v46) (ix2 i k) := by
  blk_point [iblk, idx t]

theorem blk21 (c : Dev nD) (t : Fin cfg0.N) (i : Fin 256) (k : Fin 1024) :
    (show FVec Ideal S256x1024 .bf16 from iblk m c 21 t) (ix2 i k) = (show FVec Ideal S256x1024 .bf16 from V m c main_v47) (ix2 i k) := by
  blk_point [iblk, idx t]

end Cert.MergeIdeal.Blocks

end
-- ==== Proof.MPoint.lean ====
module

public import proofs.«01_k».proof.Proof.MBlocks

@[expose] public section

set_option maxRecDepth 16384

noncomputable section

/-! What one grid point of the merging call computes, in terms of the arguments of the call. -/

namespace Cert.MergeIdeal.Point

open Idealize.ShloMosaic Idealize.ShloMosaic.TcCoe Idealize.SL.Sem
open Idealize.ShloMosaic.Pipeline (Dat)
open Cert.MergeIdeal Cert.MergeIdeal.Gen Cert.MergeIdeal.Body Cert.Project Cert.Merging

variable (m : (ℓ : Loc nD τ sig) → Buf (Elt Ideal) ℓ)

/-! The arguments. -/

def a0 (c : Dev nD) : FVec Ideal S4x4096x1024 .f32 := m ((c : Thread nD τ).loc main_arg0)
def a1 (c : Dev nD) : FVec Ideal S8x6x1024 .f32 := m ((c : Thread nD τ).loc main_arg1)
def a2 (c : Dev nD) : FVec Ideal S4x4096x2x4x64 .f32 := m ((c : Thread nD τ).loc main_arg2)
def a3 (c : Dev nD) : FVec Ideal S4x4096x2x4x64 .f32 := m ((c : Thread nD τ).loc main_arg3)
def a4 (c : Dev nD) : FVec Ideal S4x4096x2x4x64 .f32 := m ((c : Thread nD τ).loc main_arg4)
def a5 (c : Dev nD) : FVec Ideal S4x4096x24 .f32 := m ((c : Thread nD τ).loc main_arg5)
def a6 (c : Dev nD) : FVec Ideal S4x4096x512 .f32 := m ((c : Thread nD τ).loc main_arg6)
def a7 (c : Dev nD) : FVec Ideal S4x4096x512 .f32 := m ((c : Thread nD τ).loc main_arg7)
def a8 (c : Dev nD) : FVec Ideal S4x4096x1024 .f32 := m ((c : Thread nD τ).loc main_arg8)
def a9 (c : Dev nD) : FVec Ideal S4x4096x1024 .f32 := m ((c : Thread nD τ).loc main_arg9)
def a10 (c : Dev nD) : FVec Ideal S512 .f32 := m ((c : Thread nD τ).loc main_arg10)
def a11 (c : Dev nD) : FVec Ideal S512x512 .f32 := m ((c : Thread nD τ).loc main_arg11)
def a12 (c : Dev nD) : FVec Ideal S512 .f32 := m ((c : Thread nD τ).loc main_arg12)
def a13 (c : Dev nD) : FVec Ideal S512x1024 .f32 := m ((c : Thread nD τ).loc main_arg13)
def a14 (c : Dev nD) : FVec Ideal S512x1024 .f32 := m ((c : Thread nD τ).loc main_arg14)
def a15 (c : Dev nD) : FVec Ideal S1024x1024 .f32 := m ((c : Thread nD τ).loc main_arg15)
def a16 (c : Dev nD) : FVec Ideal S1024 .f32 := m ((c : Thread nD τ).loc main_arg16)
def a17 (c : Dev nD) : FVec Ideal S1024x256 .f32 := m ((c : Thread nD τ).loc main_arg17)
def a18 (c : Dev nD) : FVec Ideal S1024x256 .f32 := m ((c : Thread nD τ).loc main_arg18)
def a19 (c : Dev nD) : FVec Ideal S1024x256 .f32 := m ((c : Thread nD τ).loc main_arg19)
def a20 (c : Dev nD) : FVec Ideal S256x1024 .f32 := m ((c : Thread nD τ).loc main_arg20)

/-- Token `n` of the arguments. -/
def R (c : Dev nD) (n : Fin 16384) : Row := rowAt (a0 m c) (a1 m c) (a2 m c) (a3 m c) (a4 m c) (a5 m c) (a6 m c) (a7 m c) (a8 m c) (a9 m c) (a10 m c) (a11 m c) (a12 m c) (a13 m c) (a14 m c) (a15 m c) (a16 m c) n

/-- Row `r` of grid point `t`. -/
def at_ (t : Fin cfg0.N) (r : Fin 512) : Fin 16384 := ⟨512 * t.val + r.val, by have := Blocks.lt t; omega⟩

/-- The second norm's result is real where the arguments are. -/
theorem isReal_h2 {c : Dev nD} (h0 : ∀ i, IsReal (a0 m c i)) (h1 : ∀ i, IsReal (a1 m c i)) (h2 : ∀ i, IsReal (a2 m c i)) (h3 : ∀ i, IsReal (a3 m c i)) (h4 : ∀ i, IsReal (a4 m c i)) (h5 : ∀ i, IsReal (a5 m c i)) (h6 : ∀ i, IsReal (a6 m c i)) (h7 : ∀ i, IsReal (a7 m c i)) (h8 : ∀ i, IsReal (a8 m c i)) (h9 : ∀ i, IsReal (a9 m c i)) (h10 : ∀ i, IsReal (a10 m c i)) (h11 : ∀ i, IsReal (a11 m c i)) (h12 : ∀ i, IsReal (a12 m c i)) (h13 : ∀ i, IsReal (a13 m c i)) (h14 : ∀ i, IsReal (a14 m c i)) (h15 : ∀ i, IsReal (a15 m c i)) (h16 : ∀ i, IsReal (a16 m c i))
    (n : Fin 16384) (k : Fin 1024) : IsReal ((R m c n).h2 k) := by
  unfold R
  generalize a0 m c = x0 at *
  generalize a1 m c = x1 at *
  generalize a2 m c = x2 at *
  generalize a3 m c = x3 at *
  generalize a4 m c = x4 at *
  generalize a5 m c = x5 at *
  generalize a6 m c = x6 at *
  generalize a7 m c = x7 at *
  generalize a8 m c = x8 at *
  generalize a9 m c = x9 at *
  generalize a10 m c = x10 at *
  generalize a11 m c = x11 at *
  generalize a12 m c = x12 at *
  generalize a13 m c = x13 at *
  generalize a14 m c = x14 at *
  generalize a15 m c = x15 at *
  generalize a16 m c = x16 at *
  exact Row.isReal_h2 _ (fun _ => h5 _) (fun _ => h5 _) (fun _ => h5 _) (fun _ => h2 _) (fun _ => h3 _) (fun _ => h4 _) (fun _ => h6 _) (fun _ => h7 _)
    (fun _ => h10 _) (fun _ _ => h11 _) (fun _ => h12 _) (fun _ => h8 _) (fun _ => h9 _) (fun _ => h0 _) (fun _ _ => h13 _) (fun _ _ => h14 _) (fun _ _ => h15 _)
    (fun _ _ => h1 _) (fun _ => h16 _) k

variable (c : Dev nD) (t : Fin cfg0.N) (r : Fin 512)

/-- A gate laid out over the lanes: the sum against its table picks it. -/
theorem gate_eq (j : Fin 3) (l : Fin 512) :
    (∑ i : Fin 128, (show FVec Ideal S512x128 .f32 from iblk m c 3 t) (ix2 r i) * (show FVec Ideal S3x128x512 .bf16 from iblk m c 10 t) (ix3 j i l))
      = a5 m c (ix3 ⟨(at_ t r).val / 4096, by omega⟩ ⟨(at_ t r).val % 4096, by omega⟩ (lane j l)) := by
  have hl := (lane j l).isLt
  have h := sum_pick (fun i => (show FVec Ideal S512x128 .f32 from iblk m c 3 t) (ix2 r i)) (fun i => (show FVec Ideal S3x128x512 .bf16 from iblk m c 10 t) (ix3 j i l))
    ⟨(lane j l).val, by omega⟩ (fun i => (Blocks.blk10 m c t j i l).trans (Entry.table m c j i l))
  exact h.trans ((Blocks.blk3 m c t r _).trans (Entry.gates m c (at_ t r) _ hl))

theorem mod_eq (p : Fin 6) (k : Fin 1024) :
    (show FVec Ideal S1x6x1024 .f32 from iblk m c 9 t) (ix3 0 p k) = a1 m c (ix3 ⟨(at_ t r).val / 4096, by omega⟩ p k) := by
  have hb : (⟨t.val / 8, by have := Blocks.lt t; omega⟩ : Fin 8) = ⟨(at_ t r).val / 4096, by omega⟩ := Fin.ext (by
    show t.val / 8 = (512 * t.val + r.val) / 4096
    omega)
  rw [Blocks.blk9 m c t p k, hb]
  exact congrFun (V_main_arg1 m c) _

theorem f_o0 (l : Fin 512) : (show FVec Ideal S512x512 .bf16 from iblk m c 0 t) (ix2 r l) = headAt (a2 m c) ⟨(at_ t r).val / 4096, by omega⟩ ⟨(at_ t r).val % 4096, by omega⟩ l :=
  (Blocks.blk0 m c t r l).trans (Entry.o0 m c (at_ t r) l)

theorem f_o1 (l : Fin 512) : (show FVec Ideal S512x512 .bf16 from iblk m c 1 t) (ix2 r l) = headAt (a3 m c) ⟨(at_ t r).val / 4096, by omega⟩ ⟨(at_ t r).val % 4096, by omega⟩ l :=
  (Blocks.blk1 m c t r l).trans (Entry.o1 m c (at_ t r) l)

theorem f_o2 (l : Fin 512) : (show FVec Ideal S512x512 .bf16 from iblk m c 2 t) (ix2 r l) = headAt (a4 m c) ⟨(at_ t r).val / 4096, by omega⟩ ⟨(at_ t r).val % 4096, by omega⟩ l :=
  (Blocks.blk2 m c t r l).trans (Entry.o2 m c (at_ t r) l)

theorem f_y (l : Fin 512) : (show FVec Ideal S512x512 .f32 from iblk m c 4 t) (ix2 r l) = (a6 m c) (ix3 ⟨(at_ t r).val / 4096, by omega⟩ ⟨(at_ t r).val % 4096, by omega⟩ l) :=
  (Blocks.blk4 m c t r l).trans (Entry.y m c (at_ t r) l)

theorem f_u (l : Fin 512) : (show FVec Ideal S512x512 .f32 from iblk m c 5 t) (ix2 r l) = (a7 m c) (ix3 ⟨(at_ t r).val / 4096, by omega⟩ ⟨(at_ t r).val % 4096, by omega⟩ l) :=
  (Blocks.blk5 m c t r l).trans (Entry.u m c (at_ t r) l)

theorem f_d (l : Fin 512) : (show FVec Ideal S1x512 .f32 from iblk m c 11 t) (ix2 0 l) = (a10 m c) (ix1 l) :=
  (Blocks.blk11 m c t l).trans (Entry.d m c l)

theorem f_wg (i : Fin 512) (l : Fin 512) : (show FVec Ideal S512x512 .bf16 from iblk m c 12 t) (ix2 i l) = (a11 m c) (ix2 i l) :=
  (Blocks.blk12 m c t i l).trans (Entry.wg m c i l)

theorem f_bg (l : Fin 512) : (show FVec Ideal S1x512 .f32 from iblk m c 13 t) (ix2 0 l) = (a12 m c) (ix1 l) :=
  (Blocks.blk13 m c t l).trans (Entry.bg m c l)

theorem f_ga (l : Fin 1024) : (show FVec Ideal S512x1024 .bf16 from iblk m c 6 t) (ix2 r l) = (a8 m c) (ix3 ⟨(at_ t r).val / 4096, by omega⟩ ⟨(at_ t r).val % 4096, by omega⟩ l) :=
  (Blocks.blk6 m c t r l).trans (Entry.ga m c (at_ t r) l)

theorem f_gs (l : Fin 1024) : (show FVec Ideal S512x1024 .bf16 from iblk m c 7 t) (ix2 r l) = (a9 m c) (ix3 ⟨(at_ t r).val / 4096, by omega⟩ ⟨(at_ t r).val % 4096, by omega⟩ l) :=
  (Blocks.blk7 m c t r l).trans (Entry.gs m c (at_ t r) l)

theorem f_x (l : Fin 1024) : (show FVec Ideal S512x1024 .f32 from iblk m c 8 t) (ix2 r l) = (a0 m c) (ix3 ⟨(at_ t r).val / 4096, by omega⟩ ⟨(at_ t r).val % 4096, by omega⟩ l) :=
  (Blocks.blk8 m c t r l).trans (Entry.x m c (at_ t r) l)

theorem f_wa (i : Fin 512) (l : Fin 1024) : (show FVec Ideal S512x1024 .bf16 from iblk m c 14 t) (ix2 i l) = (a13 m c) (ix2 i l) :=
  (Blocks.blk14 m c t i l).trans (Entry.wa m c i l)

theorem f_ws (i : Fin 512) (l : Fin 1024) : (show FVec Ideal S512x1024 .bf16 from iblk m c 15 t) (ix2 i l) = (a14 m c) (ix2 i l) :=
  (Blocks.blk15 m c t i l).trans (Entry.ws m c i l)

theorem f_wo (i : Fin 1024) (l : Fin 1024) : (show FVec Ideal S1024x1024 .bf16 from iblk m c 16 t) (ix2 i l) = (a15 m c) (ix2 i l) :=
  (Blocks.blk16 m c t i l).trans (Entry.wo m c i l)

theorem f_gn (l : Fin 1024) : (show FVec Ideal S1x1024 .f32 from iblk m c 17 t) (ix2 0 l) = (a16 m c) (ix1 l) :=
  (Blocks.blk17 m c t l).trans (Entry.gn m c l)

set_option maxHeartbeats 3200000 in
/-- A token's values agree where the blocks' entries are the arguments'. -/
theorem row_at (r : Fin 512) (y0 : FVec Ideal S512x512 .bf16) (y1 : FVec Ideal S512x512 .bf16) (y2 : FVec Ideal S512x512 .bf16) (y3 : FVec Ideal S512x128 .f32) (y4 : FVec Ideal S512x512 .f32) (y5 : FVec Ideal S512x512 .f32) (y6 : FVec Ideal S512x1024 .bf16) (y7 : FVec Ideal S512x1024 .bf16) (y8 : FVec Ideal S512x1024 .f32) (y9 : FVec Ideal S1x6x1024 .f32) (y10 : FVec Ideal S3x128x512 .bf16) (y11 : FVec Ideal S1x512 .f32) (y12 : FVec Ideal S512x512 .bf16) (y13 : FVec Ideal S1x512 .f32) (y14 : FVec Ideal S512x1024 .bf16) (y15 : FVec Ideal S512x1024 .bf16) (y16 : FVec Ideal S1024x1024 .bf16) (y17 : FVec Ideal S1x1024 .f32)
    (A0 : FVec Ideal S4x4096x1024 .f32) (A1 : FVec Ideal S8x6x1024 .f32) (A2 : FVec Ideal S4x4096x2x4x64 .f32) (A3 : FVec Ideal S4x4096x2x4x64 .f32) (A4 : FVec Ideal S4x4096x2x4x64 .f32) (A5 : FVec Ideal S4x4096x24 .f32) (A6 : FVec Ideal S4x4096x512 .f32) (A7 : FVec Ideal S4x4096x512 .f32) (A8 : FVec Ideal S4x4096x1024 .f32) (A9 : FVec Ideal S4x4096x1024 .f32) (A10 : FVec Ideal S512 .f32) (A11 : FVec Ideal S512x512 .f32) (A12 : FVec Ideal S512 .f32) (A13 : FVec Ideal S512x1024 .f32) (A14 : FVec Ideal S512x1024 .f32) (A15 : FVec Ideal S1024x1024 .f32) (A16 : FVec Ideal S1024 .f32) (n : Fin 16384)
    (h_g0 : ∀ l, (∑ i : Fin 128, y3 (ix2 r i) * y10 (ix3 0 i l)) = A5 (ix3 ⟨n.val / 4096, by omega⟩ ⟨n.val % 4096, by omega⟩ (lane 0 l))) (h_g1 : ∀ l, (∑ i : Fin 128, y3 (ix2 r i) * y10 (ix3 1 i l)) = A5 (ix3 ⟨n.val / 4096, by omega⟩ ⟨n.val % 4096, by omega⟩ (lane 1 l))) (h_g2 : ∀ l, (∑ i : Fin 128, y3 (ix2 r i) * y10 (ix3 2 i l)) = A5 (ix3 ⟨n.val / 4096, by omega⟩ ⟨n.val % 4096, by omega⟩ (lane 2 l)))
    (h_o0 : ∀ (l : Fin 512), y0 (ix2 r l) = headAt A2 ⟨n.val / 4096, by omega⟩ ⟨n.val % 4096, by omega⟩ l)
    (h_o1 : ∀ (l : Fin 512), y1 (ix2 r l) = headAt A3 ⟨n.val / 4096, by omega⟩ ⟨n.val % 4096, by omega⟩ l)
    (h_o2 : ∀ (l : Fin 512), y2 (ix2 r l) = headAt A4 ⟨n.val / 4096, by omega⟩ ⟨n.val % 4096, by omega⟩ l)
    (h_y : ∀ (l : Fin 512), y4 (ix2 r l) = A6 (ix3 ⟨n.val / 4096, by omega⟩ ⟨n.val % 4096, by omega⟩ l))
    (h_u : ∀ (l : Fin 512), y5 (ix2 r l) = A7 (ix3 ⟨n.val / 4096, by omega⟩ ⟨n.val % 4096, by omega⟩ l))
    (h_d : ∀ (l : Fin 512), y11 (ix2 0 l) = A10 (ix1 l))
    (h_wg : ∀ (i : Fin 512) (l : Fin 512), y12 (ix2 i l) = A11 (ix2 i l))
    (h_bg : ∀ (l : Fin 512), y13 (ix2 0 l) = A12 (ix1 l))
    (h_ga : ∀ (l : Fin 1024), y6 (ix2 r l) = A8 (ix3 ⟨n.val / 4096, by omega⟩ ⟨n.val % 4096, by omega⟩ l))
    (h_gs : ∀ (l : Fin 1024), y7 (ix2 r l) = A9 (ix3 ⟨n.val / 4096, by omega⟩ ⟨n.val % 4096, by omega⟩ l))
    (h_x : ∀ (l : Fin 1024), y8 (ix2 r l) = A0 (ix3 ⟨n.val / 4096, by omega⟩ ⟨n.val % 4096, by omega⟩ l))
    (h_wa : ∀ (i : Fin 512) (l : Fin 1024), y14 (ix2 i l) = A13 (ix2 i l))
    (h_ws : ∀ (i : Fin 512) (l : Fin 1024), y15 (ix2 i l) = A14 (ix2 i l))
    (h_wo : ∀ (i : Fin 1024) (l : Fin 1024), y16 (ix2 i l) = A15 (ix2 i l))
    (h_mod : ∀ (p : Fin 6) (l : Fin 1024), y9 (ix3 0 p l) = A1 (ix3 ⟨n.val / 4096, by omega⟩ p l))
    (h_gn : ∀ (l : Fin 1024), y17 (ix2 0 l) = A16 (ix1 l)) :
    row y0 y1 y2 y3 y4 y5 y6 y7 y8 y9 y10 y11 y12 y13 y14 y15 y16 y17 r = rowAt A0 A1 A2 A3 A4 A5 A6 A7 A8 A9 A10 A11 A12 A13 A14 A15 A16 n :=
  Row.same h_g0 h_g1 h_g2 h_o0 h_o1 h_o2 h_y h_u h_d h_wg h_bg h_ga h_gs h_x h_wa h_ws h_wo h_mod h_gn

set_option maxHeartbeats 1600000 in
theorem row_eq : row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r = R m c (at_ t r) :=
  row_at r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (a0 m c) (a1 m c) (a2 m c) (a3 m c) (a4 m c) (a5 m c) (a6 m c) (a7 m c) (a8 m c) (a9 m c) (a10 m c) (a11 m c) (a12 m c) (a13 m c) (a14 m c) (a15 m c) (a16 m c) (at_ t r)
    (gate_eq m c t r 0) (gate_eq m c t r 1) (gate_eq m c t r 2) (f_o0 m c t r) (f_o1 m c t r) (f_o2 m c t r) (f_y m c t r) (f_u m c t r) (f_d m c t) (f_wg m c t) (f_bg m c t) (f_ga m c t r) (f_gs m c t r) (f_x m c t r) (f_wa m c t) (f_ws m c t) (f_wo m c t) (mod_eq m c t r) (f_gn m c t)

theorem at_h2 (k : Fin 1024) : out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 r k) = (R m c (at_ t r)).h2 k := by
  rw [out_h2, row_eq m c t r]

/-- The residual of token `n` with the shared expert's part. -/
def resX (n : Fin 16384) (k : Fin 1024) : EReal :=
  (R m c n).xpart (fun i q => a18 m c (ix2 i q)) (fun i q => a19 m c (ix2 i q)) (fun q k => a20 m c (ix2 q k)) k

/-- An expert's logit of token `n`. -/
def resL (e : Fin 256) (n : Fin 16384) : EReal := (R m c n).logit (fun k => a17 m c (ix2 k e))

theorem at_xpart (k : Fin 1024) : out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 r k) = resX m c (at_ t r) k := by
  have hg : (fun (i : Fin 1024) (q : Fin 256) => (show FVec Ideal S1024x512 .bf16 from iblk m c 20 t) (ix2 i ⟨q.val, by omega⟩)) = fun i q => a18 m c (ix2 i q) :=
    funext fun i => funext fun q => (Blocks.blk20 m c t i _).trans (Entry.gate m c i q)
  have hu : (fun (i : Fin 1024) (q : Fin 256) => (show FVec Ideal S1024x512 .bf16 from iblk m c 20 t) (ix2 i ⟨256 + q.val, by omega⟩)) = fun i q => a19 m c (ix2 i q) :=
    funext fun i => funext fun q => (Blocks.blk20 m c t i _).trans (Entry.up m c i q)
  have hd : (fun (q : Fin 256) (k : Fin 1024) => (show FVec Ideal S256x1024 .bf16 from iblk m c 21 t) (ix2 q k)) = fun q k => a20 m c (ix2 q k) :=
    funext fun q => funext fun k => (Blocks.blk21 m c t q k).trans (Entry.down m c q k)
  rw [out_xpart, row_eq m c t r]
  unfold resX
  rw [← hg, ← hu, ← hd]

theorem at_logit (h : ∀ n k, IsReal ((R m c n).h2 k)) (hw : ∀ i, IsReal (a17 m c i)) (e : Fin 256) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 e r) = resL m c e (at_ t r) := by
  have h18 : ∀ k, (show FVec Ideal S256x1024 .bf16 from iblk m c 18 t) (ix2 e k) = a17 m c (ix2 k e) := fun k => (Blocks.blk18 m c t e k).trans (Entry.hi m c e k)
  have h19 : ∀ k, (show FVec Ideal S256x1024 .bf16 from iblk m c 19 t) (ix2 e k) = a17 m c (ix2 k e) - a17 m c (ix2 k e) := fun k => (Blocks.blk19 m c t e k).trans (Entry.lo m c e k)
  rw [out_logit, row_eq m c t r]
  refine Eq.trans ?_ (split_logit (R m c (at_ t r)).h2 (fun k => a17 m c (ix2 k e)) (h _) (fun k => hw _))
  refine congrArg₂ (fun p q : EReal => p + q) (congrArg₂ (fun p q : EReal => p + q) ?_ ?_) ?_
  · exact Finset.sum_congr rfl fun k _ => congrArg (fun q : EReal => q * _) (h18 k)
  · exact Finset.sum_congr rfl fun k _ => congrArg (fun q : EReal => q * _) (h18 k)
  · exact Finset.sum_congr rfl fun k _ => congrArg (fun q : EReal => q * _) (h19 k)

end Cert.MergeIdeal.Point

end
-- ==== Proof.MArrays.lean ====
module

public import proofs.«01_k».proof.Proof.MPoint

@[expose] public section

set_option maxRecDepth 16384

noncomputable section

/-! The merging call's three results after its run. -/

namespace Cert.MergeIdeal.Arrays

open Idealize.ShloMosaic Idealize.ShloMosaic.TcCoe Idealize.SL.Sem
open Idealize.ShloMosaic.Pipeline (Dat)
open Cert.MergeIdeal Cert.MergeIdeal.Gen Cert.MergeIdeal.Body Cert.MergeIdeal.Point Cert.Project Cert.Merging

variable (m : (ℓ : Loc nD τ sig) → Buf (Elt Ideal) ℓ) (c : Dev nD)

def resH (n : Fin 16384) (k : Fin 1024) : EReal := (R m c n).h2 k

theorem array22 :
    (dats m 0 c).arrAt 22 cfg0.N = (show FVec Ideal S16384x1024 .f32 from fun i => resX m c (i 0) (i 1)) := by
  refine (dats m 0 c).arrAt_eq_of_covers 22 _ (by decide +kernel) fun t hf y => ?_
  blk_simp
  rw [after0_22]
  have hix : ∀ y : S512x1024.Idx, (show FVec Ideal S16384x1024 .f32 from fun i => resX m c (i 0) (i 1)) ((win0_22.blk t).view.emb y)
      = resX m c (at_ t ⟨(y 0).val, (y 0).isLt⟩) ⟨(y 1).val, (y 1).isLt⟩ := by
    intro y
    show resX _ _ _ _ = _
    have e := (Blocks.odx t).1
    congr 1 <;> apply Fin.ext
    · show _ = 512 * t.val + _
      blk_simp [e]
      simp [mul_comm]
    · blk_simp [e]
  have hat : ∀ r k, out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 r k) = resX m c (at_ t r) k := fun r k => at_xpart m c t r k
  generalize out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) = o at hat ⊢
  refine Eq.trans ?_ ((hat ⟨(y 0).val, (y 0).isLt⟩ ⟨(y 1).val, (y 1).isLt⟩).trans (hix y).symm)
  exact congrArg o (funext fun a => by fin_cases a <;> rfl)

theorem array23 :
    (dats m 0 c).arrAt 23 cfg0.N = (show FVec Ideal S16384x1024 .bf16 from fun i => resH m c (i 0) (i 1)) := by
  refine (dats m 0 c).arrAt_eq_of_covers 23 _ (by decide +kernel) fun t hf y => ?_
  blk_simp
  rw [after0_23]
  have hix : ∀ y : S512x1024.Idx, (show FVec Ideal S16384x1024 .bf16 from fun i => resH m c (i 0) (i 1)) ((win0_23.blk t).view.emb y)
      = resH m c (at_ t ⟨(y 0).val, (y 0).isLt⟩) ⟨(y 1).val, (y 1).isLt⟩ := by
    intro y
    show resH _ _ _ _ = _
    have e := (Blocks.odx t).2.1
    congr 1 <;> apply Fin.ext
    · show _ = 512 * t.val + _
      blk_simp [e]
      simp [mul_comm]
    · blk_simp [e]
  have hat : ∀ r k, out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (ix2 r k) = resH m c (at_ t r) k := fun r k => at_h2 m c t r k
  generalize out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) = o at hat ⊢
  refine Eq.trans ?_ ((hat ⟨(y 0).val, (y 0).isLt⟩ ⟨(y 1).val, (y 1).isLt⟩).trans (hix y).symm)
  exact congrArg o (funext fun a => by fin_cases a <;> rfl)

theorem array24 (h : ∀ n k, IsReal ((R m c n).h2 k)) (hw : ∀ i, IsReal (a17 m c i)) :
    (dats m 0 c).arrAt 24 cfg0.N = (show FVec Ideal S256x16384 .f32 from fun i => resL m c (i 0) (i 1)) := by
  refine (dats m 0 c).arrAt_eq_of_covers 24 _ (by decide +kernel) fun t hf y => ?_
  blk_simp
  rw [after0_24]
  have hix : ∀ y : S256x512.Idx, (show FVec Ideal S256x16384 .f32 from fun i => resL m c (i 0) (i 1)) ((win0_24.blk t).view.emb y)
      = resL m c ⟨(y 0).val, (y 0).isLt⟩ (at_ t ⟨(y 1).val, (y 1).isLt⟩) := by
    intro y
    show resL _ _ _ _ = _
    have e := (Blocks.odx t).2.2
    congr 1 <;> apply Fin.ext
    · blk_simp [e]
    · show _ = 512 * t.val + _
      blk_simp [e]
      simp [mul_comm]
  have hat := fun r e => at_logit m c t r h hw e
  generalize out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) = o at hat ⊢
  refine Eq.trans ?_ ((hat ⟨(y 1).val, (y 1).isLt⟩ ⟨(y 0).val, (y 0).isLt⟩).trans (hix y).symm)
  exact congrArg o (funext fun a => by fin_cases a <;> rfl)

end Cert.MergeIdeal.Arrays

end
-- ==== Proof.MRef.lean ====
module

public import proofs.«01_k».proof.Proof.MSpec
public import proofs.«01_k».proof.Proof.Gen.MergeReferenceIdeal.Read
public import Idealize.ShloMosaic.Lib.Pipeline.ValueKit

@[expose] public section

set_option maxRecDepth 16384

noncomputable section

/-! The reference's three results of the merging call, row by row. -/

namespace Cert.MergeReferenceIdeal.Spec

open Idealize.ShloMosaic Idealize.ShloMosaic.TcCoe Idealize.SL.Sem
open Cert.MergeReferenceIdeal Cert.MergeReferenceIdeal.Gen Cert.MergeReferenceIdeal.Read Cert.Project Cert.Merging

variable (x0 : FVec Ideal S4x4096x1024 .f32) (x1 : FVec Ideal S8x6x1024 .f32) (x2 x3 x4 : FVec Ideal S4x4096x2x4x64 .f32)
  (x5 : FVec Ideal S4x4096x24 .f32) (x6 x7 : FVec Ideal S4x4096x512 .f32) (x8 x9 : FVec Ideal S4x4096x1024 .f32)
  (x10 : FVec Ideal S512 .f32) (x11 : FVec Ideal S512x512 .f32) (x12 : FVec Ideal S512 .f32) (x13 x14 : FVec Ideal S512x1024 .f32)
  (x15 : FVec Ideal S1024x1024 .f32) (x16 : FVec Ideal S1024 .f32) (x17 x18 x19 : FVec Ideal S1024x256 .f32) (x20 : FVec Ideal S256x1024 .f32)

theorem mixed (b : Fin 4) (s : Fin 4096) (l : Fin 512) :
    val_main_v22 (F := Ideal) x2 x3 x4 x5 (ix3 b s l)
      = x5 (ix3 b s (lane 0 l)) * headAt x2 b s l + x5 (ix3 b s (lane 1 l)) * headAt x3 b s l + x5 (ix3 b s (lane 2 l)) * headAt x4 b s l := by
  unfold headAt
  pointwise [val_main_v22, val_main_v21, val_main_v20, val_main_v17, val_main_v16, val_main_v13, val_main_v12, val_main_v11, val_main_v15, val_main_v14, val_main_v19, val_main_v18, val_main_v10]
  have e : ∀ (v : Nat) (hv : v < 24) (j : Fin 3), v = l.val / 256 * 12 + l.val / 64 % 4 * 3 + j.val → (⟨v, hv⟩ : Fin 24) = lane j l := fun v hv j h =>
    Fin.ext (by show v = 3 * (l.val / 64) + j.val; have := l.isLt; omega)
  exact congrArg₂ (fun p q : EReal => p + q) (congrArg₂ (fun p q : EReal => p + q) (congrArg (fun q => x5 (ix3 b s q) * x2 _) (e _ _ 0 rfl))
    (congrArg (fun q => x5 (ix3 b s q) * x3 _) (e _ _ 1 rfl))) (congrArg (fun q => x5 (ix3 b s q) * x4 _) (e _ _ 2 rfl))

theorem attn (b : Fin 4) (s : Fin 4096) (k : Fin 1024) :
    val_main_v51 (F := Ideal) x2 x3 x4 x5 x13 (ix3 b s k) = (rowOf x0 x1 x2 x3 x4 x5 x6 x7 x8 x9 x10 x11 x12 x13 x14 x15 x16 b s).attn k := by
  have h : ∀ y : FVec Ideal S4x4096x512 .f32,
      Host.dotGeneral dot_S4x4096x512_S512x1024_S4x4096x1024_2_0_01_1_n_n none y x13 (ix3 b s k) = ∑ l : Fin 512, y (ix3 b s l) * x13 (ix2 l k) := by
    intro y; pointwise
  unfold val_main_v51 Row.attn
  rw [h]
  exact Finset.sum_congr rfl fun l _ => by rw [mixed]; rfl

theorem skip (b : Fin 4) (s : Fin 4096) (l : Fin 512) :
    val_main_v39 (F := Ideal) x6 x7 x10 (ix3 b s l) = (rowOf x0 x1 x2 x3 x4 x5 x6 x7 x8 x9 x10 x11 x12 x13 x14 x15 x16 b s).z l := by
  refine Eq.trans ?_ (gelu_eq (x6 (ix3 b s l) + x10 (ix1 l) * x7 (ix3 b s l)))
  unfold cHalf cOne cScale cCubic
  pointwise [val_main_v39, val_main_v38, val_main_v37, val_main_cst_2, val_main_v36, val_main_v35, val_main_cst_1, val_main_v34, val_main_v33, val_main_v32, val_main_cst_0, val_main_v31, val_main_v30, val_main_v29, val_main_cst, val_main_v28, val_main_v27, val_main_v26, val_main_v25, val_main_v24, val_main_v23]

theorem unit (b : Fin 4) (s : Fin 4096) (l : Fin 512) :
    val_main_v50 (F := Ideal) x6 x7 x10 x11 x12 (ix3 b s l)
      = (rowOf x0 x1 x2 x3 x4 x5 x6 x7 x8 x9 x10 x11 x12 x13 x14 x15 x16 b s).z l * Ideal.logistic (∑ i, (rowOf x0 x1 x2 x3 x4 x5 x6 x7 x8 x9 x10 x11 x12 x13 x14 x15 x16 b s).z i * x11 (ix2 i l) + x12 (ix1 l)) := by
  have h : ∀ y : FVec Ideal S4x4096x512 .f32,
      Host.dotGeneral dot_S4x4096x512_S512x512_S4x4096x512_2_0_01_1_n_n none y x11 (ix3 b s l) = ∑ i : Fin 512, y (ix3 b s i) * x11 (ix2 i l) := by
    intro y; pointwise
  have h40 : val_main_v40 (F := Ideal) x6 x7 x10 x11 (ix3 b s l) = ∑ i, (rowOf x0 x1 x2 x3 x4 x5 x6 x7 x8 x9 x10 x11 x12 x13 x14 x15 x16 b s).z i * x11 (ix2 i l) := by
    unfold val_main_v40
    rw [h]
    exact Finset.sum_congr rfl fun i _ => by rw [skip x0 x1 x2 x3 x4 x5 x6 x7 x8 x9 x10 x11 x12 x13 x14 x15 x16]
  rw [← skip x0 x1 x2 x3 x4 x5 x6 x7 x8 x9 x10 x11 x12 x13 x14 x15 x16, ← h40]
  unfold Ideal.logistic
  pointwise [val_main_v50, val_main_v49, val_main_v48, val_main_cst_4, val_main_v47, val_main_v46, val_main_cst_3, val_main_v45, val_main_v44, val_main_v43, val_main_v42, val_main_v41]

theorem ssm (b : Fin 4) (s : Fin 4096) (k : Fin 1024) :
    val_main_v53 (F := Ideal) x6 x7 x10 x11 x12 x14 (ix3 b s k) = (rowOf x0 x1 x2 x3 x4 x5 x6 x7 x8 x9 x10 x11 x12 x13 x14 x15 x16 b s).ssm k := by
  have h : ∀ y : FVec Ideal S4x4096x512 .f32,
      Host.dotGeneral dot_S4x4096x512_S512x1024_S4x4096x1024_2_0_01_1_n_n none y x14 (ix3 b s k) = ∑ l : Fin 512, y (ix3 b s l) * x14 (ix2 l k) := by
    intro y; pointwise
  unfold val_main_v53 Row.ssm
  rw [h]
  exact Finset.sum_congr rfl fun l _ => by rw [unit x0 x1 x2 x3 x4 x5 x6 x7 x8 x9 x10 x11 x12 x13 x14 x15 x16]; rfl

theorem merged (b : Fin 4) (s : Fin 4096) (k : Fin 1024) :
    val_main_v55 (F := Ideal) x2 x3 x4 x5 x6 x7 x8 x9 x10 x11 x12 x13 x14 (ix3 b s k)
      = x8 (ix3 b s k) * (rowOf x0 x1 x2 x3 x4 x5 x6 x7 x8 x9 x10 x11 x12 x13 x14 x15 x16 b s).attn k + x9 (ix3 b s k) * (rowOf x0 x1 x2 x3 x4 x5 x6 x7 x8 x9 x10 x11 x12 x13 x14 x15 x16 b s).ssm k := by
  rw [← attn x0 x1 x2 x3 x4 x5 x6 x7 x8 x9 x10 x11 x12 x13 x14 x15 x16, ← ssm x0 x1 x2 x3 x4 x5 x6 x7 x8 x9 x10 x11 x12 x13 x14 x15 x16]
  rfl

theorem resid (b : Fin 4) (s : Fin 4096) (k : Fin 1024) :
    val_main_v59 (F := Ideal) x0 x1 x2 x3 x4 x5 x6 x7 x8 x9 x10 x11 x12 x13 x14 x15 (ix3 b s k) = (rowOf x0 x1 x2 x3 x4 x5 x6 x7 x8 x9 x10 x11 x12 x13 x14 x15 x16 b s).x1 k := by
  have h : ∀ y : FVec Ideal S4x4096x1024 .f32,
      Host.dotGeneral dot_S4x4096x1024_S1024x1024_S4x4096x1024_2_0_01_1_n_n none y x15 (ix3 b s k) = ∑ j : Fin 1024, y (ix3 b s j) * x15 (ix2 j k) := by
    intro y; pointwise
  have h56 : val_main_v56 (F := Ideal) x2 x3 x4 x5 x6 x7 x8 x9 x10 x11 x12 x13 x14 x15 (ix3 b s k)
      = ∑ j, (x8 (ix3 b s j) * (rowOf x0 x1 x2 x3 x4 x5 x6 x7 x8 x9 x10 x11 x12 x13 x14 x15 x16 b s).attn j + x9 (ix3 b s j) * (rowOf x0 x1 x2 x3 x4 x5 x6 x7 x8 x9 x10 x11 x12 x13 x14 x15 x16 b s).ssm j) * x15 (ix2 j k) := by
    unfold val_main_v56
    rw [h]
    exact Finset.sum_congr rfl fun j _ => by rw [merged x0 x1 x2 x3 x4 x5 x6 x7 x8 x9 x10 x11 x12 x13 x14 x15 x16]
  have h57 : val_main_v57 (F := Ideal) x1 (ix3 b s k) = x1 (ix3 ⟨b.val, by omega⟩ 2 k) := by
    pointwise [val_main_v57, val_main_v3, val_main_v2, val_main_v1, val_main_v0]
  show x0 (ix3 b s k) + val_main_v57 (F := Ideal) x1 (ix3 b s k) * val_main_v56 (F := Ideal) x2 x3 x4 x5 x6 x7 x8 x9 x10 x11 x12 x13 x14 x15 (ix3 b s k) = _
  rw [h56, h57]
  rfl

theorem hidden (b : Fin 4) (s : Fin 4096) (k : Fin 1024) :
    val_main_v78 (F := Ideal) x0 x1 x2 x3 x4 x5 x6 x7 x8 x9 x10 x11 x12 x13 x14 x15 x16 (ix3 b s k) = (rowOf x0 x1 x2 x3 x4 x5 x6 x7 x8 x9 x10 x11 x12 x13 x14 x15 x16 b s).h2 k := by
  unfold Row.h2
  rw [show (rowOf x0 x1 x2 x3 x4 x5 x6 x7 x8 x9 x10 x11 x12 x13 x14 x15 x16 b s).x1 = fun k => val_main_v59 (F := Ideal) x0 x1 x2 x3 x4 x5 x6 x7 x8 x9 x10 x11 x12 x13 x14 x15 (ix3 b s k) from funext fun k => (resid x0 x1 x2 x3 x4 x5 x6 x7 x8 x9 x10 x11 x12 x13 x14 x15 x16 b s k).symm]
  unfold hid c1024 eps cOne
  unfold val_main_v78 val_main_v76 val_main_v72 val_main_v69 val_main_v68 val_main_v67 val_main_v66 val_main_v64 val_main_v62 val_main_v61 val_main_v60
  generalize val_main_v59 (F := Ideal) x0 x1 x2 x3 x4 x5 x6 x7 x8 x9 x10 x11 x12 x13 x14 x15 = Y
  pointwise [val_main_v77, val_main_v75, val_main_v74, val_main_v73, val_main_cst_8, val_main_v71, val_main_v70, val_main_v65, val_main_cst_7, val_main_v63, val_main_cst_6, val_main_cst_5, val_main_v7, val_main_v6, val_main_v5, val_main_v4, val_main_v1, val_main_v0, rowOf]

theorem flat_pure (x : FVec Ideal S4x4096x1024 .f32) (n : Fin 16384) (k : Fin 1024) :
    shapeCast S16384x1024 x shapeCasts_S4x4096x1024_S16384x1024 (ix2 n k) = x (ix3 ⟨n.val / 4096, by omega⟩ ⟨n.val % 4096, by omega⟩ k) := by
  pointwise

theorem hidden_row (n : Fin 16384) (k : Fin 1024) :
    val_main_v79 (F := Ideal) x0 x1 x2 x3 x4 x5 x6 x7 x8 x9 x10 x11 x12 x13 x14 x15 x16 (ix2 n k) = (rowAt x0 x1 x2 x3 x4 x5 x6 x7 x8 x9 x10 x11 x12 x13 x14 x15 x16 n).h2 k :=
  (flat_pure _ n k).trans (hidden x0 x1 x2 x3 x4 x5 x6 x7 x8 x9 x10 x11 x12 x13 x14 x15 x16 _ _ k)

theorem res_h2 (n : Fin 16384) (k : Fin 1024) :
    val_main_v90 (F := Ideal) x0 x1 x2 x3 x4 x5 x6 x7 x8 x9 x10 x11 x12 x13 x14 x15 x16 (ix2 n k) = (rowAt x0 x1 x2 x3 x4 x5 x6 x7 x8 x9 x10 x11 x12 x13 x14 x15 x16 n).h2 k :=
  hidden_row x0 x1 x2 x3 x4 x5 x6 x7 x8 x9 x10 x11 x12 x13 x14 x15 x16 n k

theorem res_logit (e : Fin 256) (n : Fin 16384) :
    val_main_v92 (F := Ideal) x0 x1 x2 x3 x4 x5 x6 x7 x8 x9 x10 x11 x12 x13 x14 x15 x16 x17 (ix2 e n) = (rowAt x0 x1 x2 x3 x4 x5 x6 x7 x8 x9 x10 x11 x12 x13 x14 x15 x16 n).logit (fun k => x17 (ix2 k e)) := by
  have h : ∀ y : FVec Ideal S16384x1024 .f32,
      transpose S256x16384 [1, 0] (Host.dotGeneral dot_S16384x1024_S1024x256_S16384x256_1_0_0_1_n_n none y x17) transposes_S16384x256_S256x16384_1_0 (ix2 e n) = ∑ k : Fin 1024, y (ix2 n k) * x17 (ix2 k e) := by
    intro y; pointwise
  unfold val_main_v92 val_main_v91 Row.logit
  rw [h]
  exact Finset.sum_congr rfl fun k _ => by rw [hidden_row x0 x1 x2 x3 x4 x5 x6 x7 x8 x9 x10 x11 x12 x13 x14 x15 x16]

theorem swiglu (n : Fin 16384) (k : Fin 1024) :
    val_main_v84 (F := Ideal) x0 x1 x2 x3 x4 x5 x6 x7 x8 x9 x10 x11 x12 x13 x14 x15 x16 x18 x19 x20 (ix2 n k) = shared (rowAt x0 x1 x2 x3 x4 x5 x6 x7 x8 x9 x10 x11 x12 x13 x14 x15 x16 n).h2 (fun i c => x18 (ix2 i c)) (fun i c => x19 (ix2 i c)) (fun c k => x20 (ix2 c k)) k := by
  unfold val_main_v84 val_main_v83 val_main_v82 val_main_v81 val_main_call0_v5 val_main_call0_v3 val_main_call0_v1 val_main_call0_v0 val_main_v80
  rw [show (rowAt x0 x1 x2 x3 x4 x5 x6 x7 x8 x9 x10 x11 x12 x13 x14 x15 x16 n).h2 = fun k => val_main_v79 (F := Ideal) x0 x1 x2 x3 x4 x5 x6 x7 x8 x9 x10 x11 x12 x13 x14 x15 x16 (ix2 n k) from funext fun k => (hidden_row x0 x1 x2 x3 x4 x5 x6 x7 x8 x9 x10 x11 x12 x13 x14 x15 x16 n k).symm]
  unfold shared Ideal.logistic
  generalize val_main_v79 (F := Ideal) x0 x1 x2 x3 x4 x5 x6 x7 x8 x9 x10 x11 x12 x13 x14 x15 x16 = Y
  pointwise [val_main_call0_v4, val_main_call0_cst_0, val_main_call0_v2, val_main_call0_cst]

theorem unflat_pure (x y : FVec Ideal S4x4096x1024 .f32) (w : FVec Ideal S16384x1024 .f32) (g : FVec Ideal S4x4096x1024 .f32) (n : Fin 16384) (k : Fin 1024) :
    shapeCast S16384x1024 (addf x (mulf g (shapeCast S4x4096x1024 w shapeCasts_S16384x1024_S4x4096x1024))) shapeCasts_S4x4096x1024_S16384x1024 (ix2 n k)
      = x (ix3 ⟨n.val / 4096, by omega⟩ ⟨n.val % 4096, by omega⟩ k) + g (ix3 ⟨n.val / 4096, by omega⟩ ⟨n.val % 4096, by omega⟩ k) * w (ix2 n k) := by
  pointwise

theorem res_xpart (n : Fin 16384) (k : Fin 1024) :
    val_main_v89 (F := Ideal) x0 x1 x2 x3 x4 x5 x6 x7 x8 x9 x10 x11 x12 x13 x14 x15 x16 x18 x19 x20 (ix2 n k)
      = (rowAt x0 x1 x2 x3 x4 x5 x6 x7 x8 x9 x10 x11 x12 x13 x14 x15 x16 n).xpart (fun i c => x18 (ix2 i c)) (fun i c => x19 (ix2 i c)) (fun c k => x20 (ix2 c k)) k := by
  have h86 : ∀ (b : Fin 4) (s : Fin 4096), val_main_v86 (F := Ideal) x1 (ix3 b s k) = x1 (ix3 ⟨b.val, by omega⟩ 5 k) := by
    intro b s
    pointwise [val_main_v86, val_main_v9, val_main_v8, val_main_v1, val_main_v0]
  unfold val_main_v89 val_main_v88 val_main_v87 val_main_v85
  rw [unflat_pure _ (val_main_v59 (F := Ideal) x0 x1 x2 x3 x4 x5 x6 x7 x8 x9 x10 x11 x12 x13 x14 x15), swiglu x0 x1 x2 x3 x4 x5 x6 x7 x8 x9 x10 x11 x12 x13 x14 x15 x16, resid x0 x1 x2 x3 x4 x5 x6 x7 x8 x9 x10 x11 x12 x13 x14 x15 x16, h86]
  rfl

end Cert.MergeReferenceIdeal.Spec

end
-- ==== Proof.MSame.lean ====
module

public import proofs.«01_k».proof.Proof.MArrays
public import proofs.«01_k».proof.Proof.MRef

@[expose] public section

set_option maxRecDepth 16384

noncomputable section

/-! Each result of the merging call is the reference's, as an array. -/

namespace Cert.MergeIdeal.Same

open Idealize.ShloMosaic Idealize.ShloMosaic.TcCoe Idealize.SL.Sem
open Cert.MergeIdeal Cert.MergeIdeal.Gen Cert.MergeIdeal.Point Cert.Merging Cert.Project
open Cert.MergeReferenceIdeal.Read

variable (m : (ℓ : Loc nD τ sig) → Buf (Elt Ideal) ℓ) (c : Dev nD)

theorem same_xpart : val_main_v89 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a18 m c) (a19 m c) (a20 m c) = (dats m 0 c).arrAt 22 cfg0.N := by
  refine Eq.trans ?_ (Arrays.array22 m c).symm
  refine funext fun i => ?_
  rw [show i = ix2 (i 0) (i 1) from eq_ix2 i]
  exact Cert.MergeReferenceIdeal.Spec.res_xpart (a0 m c) (a1 m c) (a2 m c) (a3 m c) (a4 m c) (a5 m c) (a6 m c) (a7 m c) (a8 m c) (a9 m c) (a10 m c) (a11 m c) (a12 m c) (a13 m c) (a14 m c) (a15 m c) (a16 m c) (a18 m c) (a19 m c) (a20 m c) (i 0) (i 1)

theorem same_h2 : val_main_v90 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) = (dats m 0 c).arrAt 23 cfg0.N := by
  refine Eq.trans ?_ (Arrays.array23 m c).symm
  refine funext fun i => ?_
  rw [show i = ix2 (i 0) (i 1) from eq_ix2 i]
  exact Cert.MergeReferenceIdeal.Spec.res_h2 (a0 m c) (a1 m c) (a2 m c) (a3 m c) (a4 m c) (a5 m c) (a6 m c) (a7 m c) (a8 m c) (a9 m c) (a10 m c) (a11 m c) (a12 m c) (a13 m c) (a14 m c) (a15 m c) (a16 m c) (i 0) (i 1)

theorem same_logit (h : ∀ n k, IsReal ((R m c n).h2 k)) (hw : ∀ i, IsReal (a17 m c i)) : val_main_v92 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) = (dats m 0 c).arrAt 24 cfg0.N := by
  refine Eq.trans ?_ (Arrays.array24 m c h hw).symm
  refine funext fun i => ?_
  rw [show i = ix2 (i 0) (i 1) from eq_ix2 i]
  exact Cert.MergeReferenceIdeal.Spec.res_logit (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (i 0) (i 1)

end Cert.MergeIdeal.Same

end
-- ==== Proof.MPre.lean ====
module

public import proofs.«01_k».proof.Pre_finite_merge
public import proofs.«01_k».proof.Proof.PreFacts
public import proofs.«01_k».proof.Proof.MSpec

@[expose] public section

set_option maxRecDepth 16384

noncomputable section

/-! What the merging call's precondition says, entry by entry: everything but the shared expert's weights is a real
number. -/

namespace Cert.Pre_finite_merge

open Idealize.ShloMosaic Idealize.ShloMosaic.TcCoe Idealize.SL.Sem Cert.Project
open Cert.Pre_finite_and_own_block (real_of_lt)

theorem facts : Facts where
  bcast_S_S4x4096x1024 := by decide
  bcast_S_S8x6x1024 := by decide
  bcast_S_S4x4096x2x4x64 := by decide
  bcast_S_S4x4096x24 := by decide
  bcast_S_S4x4096x512 := by decide
  bcast_S_S512 := by decide
  bcast_S_S512x512 := by decide
  bcast_S_S512x1024 := by decide
  bcast_S_S1024x1024 := by decide
  bcast_S_S1024 := by decide
  bcast_S_S1024x256 := by decide

variable [Facts]
variable (a0 : FVec Ideal S4x4096x1024 .f32) (a1 : FVec Ideal S8x6x1024 .f32) (a2 : FVec Ideal S4x4096x2x4x64 .f32) (a3 : FVec Ideal S4x4096x2x4x64 .f32) (a4 : FVec Ideal S4x4096x2x4x64 .f32) (a5 : FVec Ideal S4x4096x24 .f32) (a6 : FVec Ideal S4x4096x512 .f32) (a7 : FVec Ideal S4x4096x512 .f32) (a8 : FVec Ideal S4x4096x1024 .f32) (a9 : FVec Ideal S4x4096x1024 .f32) (a10 : FVec Ideal S512 .f32) (a11 : FVec Ideal S512x512 .f32) (a12 : FVec Ideal S512 .f32) (a13 : FVec Ideal S512x1024 .f32) (a14 : FVec Ideal S512x1024 .f32) (a15 : FVec Ideal S1024x1024 .f32) (a16 : FVec Ideal S1024 .f32) (a17 : FVec Ideal S1024x256 .f32) (a18 : FVec Ideal S1024x256 .f32) (a19 : FVec Ideal S1024x256 .f32) (a20 : FVec Ideal S256x1024 .f32)

theorem real0 (h : (fn (F := Ideal) a0 a1 a2 a3 a4 a5 a6 a7 a8 a9 a10 a11 a12 a13 a14 a15 a16 a17 a18 a19 a20).1 = fun _ => 1#1) (i) : IsReal (a0 i) := ⟨_, real_of_lt _ (congrFun h i)⟩

theorem real1 (h : (fn (F := Ideal) a0 a1 a2 a3 a4 a5 a6 a7 a8 a9 a10 a11 a12 a13 a14 a15 a16 a17 a18 a19 a20).2.1 = fun _ => 1#1) (i) : IsReal (a1 i) := ⟨_, real_of_lt _ (congrFun h i)⟩

theorem real2 (h : (fn (F := Ideal) a0 a1 a2 a3 a4 a5 a6 a7 a8 a9 a10 a11 a12 a13 a14 a15 a16 a17 a18 a19 a20).2.2.1 = fun _ => 1#1) (i) : IsReal (a2 i) := ⟨_, real_of_lt _ (congrFun h i)⟩

theorem real3 (h : (fn (F := Ideal) a0 a1 a2 a3 a4 a5 a6 a7 a8 a9 a10 a11 a12 a13 a14 a15 a16 a17 a18 a19 a20).2.2.2.1 = fun _ => 1#1) (i) : IsReal (a3 i) := ⟨_, real_of_lt _ (congrFun h i)⟩

theorem real4 (h : (fn (F := Ideal) a0 a1 a2 a3 a4 a5 a6 a7 a8 a9 a10 a11 a12 a13 a14 a15 a16 a17 a18 a19 a20).2.2.2.2.1 = fun _ => 1#1) (i) : IsReal (a4 i) := ⟨_, real_of_lt _ (congrFun h i)⟩

theorem real5 (h : (fn (F := Ideal) a0 a1 a2 a3 a4 a5 a6 a7 a8 a9 a10 a11 a12 a13 a14 a15 a16 a17 a18 a19 a20).2.2.2.2.2.1 = fun _ => 1#1) (i) : IsReal (a5 i) := ⟨_, real_of_lt _ (congrFun h i)⟩

theorem real6 (h : (fn (F := Ideal) a0 a1 a2 a3 a4 a5 a6 a7 a8 a9 a10 a11 a12 a13 a14 a15 a16 a17 a18 a19 a20).2.2.2.2.2.2.1 = fun _ => 1#1) (i) : IsReal (a6 i) := ⟨_, real_of_lt _ (congrFun h i)⟩

theorem real7 (h : (fn (F := Ideal) a0 a1 a2 a3 a4 a5 a6 a7 a8 a9 a10 a11 a12 a13 a14 a15 a16 a17 a18 a19 a20).2.2.2.2.2.2.2.1 = fun _ => 1#1) (i) : IsReal (a7 i) := ⟨_, real_of_lt _ (congrFun h i)⟩

theorem real8 (h : (fn (F := Ideal) a0 a1 a2 a3 a4 a5 a6 a7 a8 a9 a10 a11 a12 a13 a14 a15 a16 a17 a18 a19 a20).2.2.2.2.2.2.2.2.1 = fun _ => 1#1) (i) : IsReal (a8 i) := ⟨_, real_of_lt _ (congrFun h i)⟩

theorem real9 (h : (fn (F := Ideal) a0 a1 a2 a3 a4 a5 a6 a7 a8 a9 a10 a11 a12 a13 a14 a15 a16 a17 a18 a19 a20).2.2.2.2.2.2.2.2.2.1 = fun _ => 1#1) (i) : IsReal (a9 i) := ⟨_, real_of_lt _ (congrFun h i)⟩

theorem real10 (h : (fn (F := Ideal) a0 a1 a2 a3 a4 a5 a6 a7 a8 a9 a10 a11 a12 a13 a14 a15 a16 a17 a18 a19 a20).2.2.2.2.2.2.2.2.2.2.1 = fun _ => 1#1) (i) : IsReal (a10 i) := ⟨_, real_of_lt _ (congrFun h i)⟩

theorem real11 (h : (fn (F := Ideal) a0 a1 a2 a3 a4 a5 a6 a7 a8 a9 a10 a11 a12 a13 a14 a15 a16 a17 a18 a19 a20).2.2.2.2.2.2.2.2.2.2.2.1 = fun _ => 1#1) (i) : IsReal (a11 i) := ⟨_, real_of_lt _ (congrFun h i)⟩

theorem real12 (h : (fn (F := Ideal) a0 a1 a2 a3 a4 a5 a6 a7 a8 a9 a10 a11 a12 a13 a14 a15 a16 a17 a18 a19 a20).2.2.2.2.2.2.2.2.2.2.2.2.1 = fun _ => 1#1) (i) : IsReal (a12 i) := ⟨_, real_of_lt _ (congrFun h i)⟩

theorem real13 (h : (fn (F := Ideal) a0 a1 a2 a3 a4 a5 a6 a7 a8 a9 a10 a11 a12 a13 a14 a15 a16 a17 a18 a19 a20).2.2.2.2.2.2.2.2.2.2.2.2.2.1 = fun _ => 1#1) (i) : IsReal (a13 i) := ⟨_, real_of_lt _ (congrFun h i)⟩

theorem real14 (h : (fn (F := Ideal) a0 a1 a2 a3 a4 a5 a6 a7 a8 a9 a10 a11 a12 a13 a14 a15 a16 a17 a18 a19 a20).2.2.2.2.2.2.2.2.2.2.2.2.2.2.1 = fun _ => 1#1) (i) : IsReal (a14 i) := ⟨_, real_of_lt _ (congrFun h i)⟩

theorem real15 (h : (fn (F := Ideal) a0 a1 a2 a3 a4 a5 a6 a7 a8 a9 a10 a11 a12 a13 a14 a15 a16 a17 a18 a19 a20).2.2.2.2.2.2.2.2.2.2.2.2.2.2.2.1 = fun _ => 1#1) (i) : IsReal (a15 i) := ⟨_, real_of_lt _ (congrFun h i)⟩

theorem real16 (h : (fn (F := Ideal) a0 a1 a2 a3 a4 a5 a6 a7 a8 a9 a10 a11 a12 a13 a14 a15 a16 a17 a18 a19 a20).2.2.2.2.2.2.2.2.2.2.2.2.2.2.2.2.1 = fun _ => 1#1) (i) : IsReal (a16 i) := ⟨_, real_of_lt _ (congrFun h i)⟩

theorem real17 (h : (fn (F := Ideal) a0 a1 a2 a3 a4 a5 a6 a7 a8 a9 a10 a11 a12 a13 a14 a15 a16 a17 a18 a19 a20).2.2.2.2.2.2.2.2.2.2.2.2.2.2.2.2.2 = fun _ => 1#1) (i) : IsReal (a17 i) := ⟨_, real_of_lt _ (congrFun h i)⟩

end Cert.Pre_finite_merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Proj
public import proofs.«01_k».proof.Proof.Gen.Proj.Frame
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.Merge
public import proofs.«01_k».proof.Proof.MFrame
public import proofs.«01_k».proof.Proof.MIdealFrame
public import proofs.«01_k».proof.Proof.MValue
public import proofs.«01_k».proof.Proof.Gen.MergeReferenceIdeal.Run
public import proofs.«01_k».proof.Proof.Gen.MergeReferenceIdeal.Read
public import proofs.«01_k».proof.Proof.Gen.ReferenceIdeal.Run
public import proofs.«01_k».proof.Proof.Gen.ReferenceIdeal.Read
public import proofs.«01_k».proof.Proof.Arrays
public import proofs.«01_k».proof.Proof.Ref
public import proofs.«01_k».proof.Proof.PreFacts
public import proofs.«01_k».proof.Proof.PSame
public import proofs.«01_k».proof.Proof.PPre
public import proofs.«01_k».proof.Proof.MSame
public import proofs.«01_k».proof.Proof.MPre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments alone. -/
theorem frame_ref : @Cert.quiescent_ReferenceIdeal Cert.ReferenceIdeal.Gen.facts := fun m ρ _ =>
  (θ_run (Cert.ReferenceIdeal.defs (F := Ideal)) _ _).mono (fun r h => And.intro (fun c => (h c).2.2) (sem_eq_zero_of_no_sems (by decide) r.2))
    (Cert.ReferenceIdeal.Value.run (F := Ideal) m ρ)

/-- The call's two results are the reference's. -/
theorem algebraic : @Cert.algebraic_KernelIdeal_ReferenceIdeal_pre_finite_and_own_block Cert.KernelIdeal.Gen.facts Cert.ReferenceIdeal.Gen.facts Cert.Pre_finite_and_own_block.facts := by
  intro m g m' g' hpre hargs
  haveI := Cert.Pre_finite_and_own_block.facts
  have hq := fun c => Cert.Pre_finite_and_own_block.real0 _ _ _ _ _ _ (hpre c).1
  have hks := fun c => Cert.Pre_finite_and_own_block.real1 _ _ _ _ _ _ (hpre c).2.1
  have hkw := fun c => Cert.Pre_finite_and_own_block.real2 _ _ _ _ _ _ (hpre c).2.2.1
  have hown := fun c => Cert.Pre_finite_and_own_block.own _ _ _ _ _ _ (hpre c).2.2.2
  refine ⟨fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, ?_⟩
  refine (θ_run (Cert.ReferenceIdeal.defs (F := Ideal)) _ _).mono (fun r h c => ?_) (Cert.ReferenceIdeal.Value.run (F := Ideal) m' g')
  obtain ⟨e0, e1, e2, e3, e4, e5⟩ := hargs c
  refine ⟨(h c).1.trans ?_, (h c).2.1.trans ?_, (h c).2.2⟩
  · rw [Cert.ReferenceIdeal.Read.val_main_v67_eq, e0, e1, e3, e5]
    refine Eq.trans ?_ (Cert.KernelIdeal.Arrays.array6 m c (hq c) (hks c) (hown c)).symm
    refine funext fun i => ?_
    rw [show i = Idealize.ShloMosaic.ix2 (i 0) (i 1) from eq_ix2 i]
    exact Cert.ReferenceIdeal.Spec.value_S _ _ _ _ (hq c) (hks c) (i 0) (i 1) ⟨⟨(i 0).val % 4096, by omega⟩, le_refl _, hown c _ _ _⟩
  · rw [Cert.ReferenceIdeal.Read.val_main_v69_eq, e0, e2, e4]
    refine Eq.trans ?_ (Cert.KernelIdeal.Arrays.array7 m c (hq c) (hkw c)).symm
    refine funext fun i => ?_
    rw [show i = Idealize.ShloMosaic.ix2 (i 0) (i 1) from eq_ix2 i]
    exact Cert.ReferenceIdeal.Spec.value_W _ _ _ (hq c) (hkw c) (i 0) (i 1) ⟨⟨(i 0).val % 4096, by omega⟩, le_refl _, by show (i 0).val % 4096 < (i 0).val % 4096 + 512; omega⟩

/-- The reference of the projection runs and leaves its arguments alone. -/
theorem frame_proj_ref : @Cert.quiescent_ProjReferenceIdeal Cert.ProjReferenceIdeal.Gen.facts := fun m ρ _ =>
  (θ_run (Cert.ProjReferenceIdeal.defs (F := Ideal)) _ _).mono (fun r h => And.intro (fun c => (h c).2.2.2.2.2.2.2.2.2.2.2) (sem_eq_zero_of_no_sems (by decide) r.2))
    (Cert.ProjReferenceIdeal.Value.run (F := Ideal) m ρ)

set_option maxHeartbeats 1600000 in
/-- The projection's eleven results are the reference's. -/
theorem algebraic_proj : @Cert.algebraic_ProjIdeal_ProjReferenceIdeal_pre_finite_inputs Cert.ProjIdeal.Gen.facts Cert.ProjReferenceIdeal.Gen.facts Cert.Pre_finite_inputs.facts := by
  intro m g m' g' hpre hargs
  haveI := Cert.Pre_finite_inputs.facts
  have hP := fun c => Cert.ProjIdeal.Point.isReal_P m (c := c) (Cert.Pre_finite_inputs.real0 _ _ _ _ _ _ _ (hpre c).1) (Cert.Pre_finite_inputs.real1 _ _ _ _ _ _ _ (hpre c).2.1)
    (Cert.Pre_finite_inputs.real2 _ _ _ _ _ _ _ (hpre c).2.2.1) (Cert.Pre_finite_inputs.real3 _ _ _ _ _ _ _ (hpre c).2.2.2)
  refine ⟨fun c => (Cert.ProjIdeal.Gen.dats m 0 c).arrAt 10 Cert.ProjIdeal.cfg0.N, fun c => (Cert.ProjIdeal.Gen.dats m 0 c).arrAt 11 Cert.ProjIdeal.cfg0.N, fun c => (Cert.ProjIdeal.Gen.dats m 0 c).arrAt 12 Cert.ProjIdeal.cfg0.N, fun c => (Cert.ProjIdeal.Gen.dats m 0 c).arrAt 13 Cert.ProjIdeal.cfg0.N, fun c => (Cert.ProjIdeal.Gen.dats m 0 c).arrAt 14 Cert.ProjIdeal.cfg0.N, fun c => (Cert.ProjIdeal.Gen.dats m 0 c).arrAt 15 Cert.ProjIdeal.cfg0.N, fun c => (Cert.ProjIdeal.Gen.dats m 0 c).arrAt 16 Cert.ProjIdeal.cfg0.N, fun c => (Cert.ProjIdeal.Gen.dats m 0 c).arrAt 17 Cert.ProjIdeal.cfg0.N, fun c => (Cert.ProjIdeal.Gen.dats m 0 c).arrAt 18 Cert.ProjIdeal.cfg0.N, fun c => (Cert.ProjIdeal.Gen.dats m 0 c).arrAt 19 Cert.ProjIdeal.cfg0.N, fun c => (Cert.ProjIdeal.Gen.dats m 0 c).arrAt 20 Cert.ProjIdeal.cfg0.N,
    Cert.ProjIdeal.Value.run_blocks m g, ?_⟩
  refine (θ_run (Cert.ProjReferenceIdeal.defs (F := Ideal)) _ _).mono (fun r h c => ?_) (Cert.ProjReferenceIdeal.Value.run (F := Ideal) m' g')
  have e0 := (hargs c).1
  have e1 := (hargs c).2.1
  have e2 := (hargs c).2.2.1
  have e3 := (hargs c).2.2.2.1
  have e4 := (hargs c).2.2.2.2.1
  have e5 := (hargs c).2.2.2.2.2.1
  have e6 := (hargs c).2.2.2.2.2.2
  have h0 := (h c).1
  have h1 := (h c).2.1
  have h2 := (h c).2.2.1
  have h3 := (h c).2.2.2.1
  have h4 := (h c).2.2.2.2.1
  have h5 := (h c).2.2.2.2.2.1
  have h6 := (h c).2.2.2.2.2.2.1
  have h7 := (h c).2.2.2.2.2.2.2.1
  have h8 := (h c).2.2.2.2.2.2.2.2.1
  have h9 := (h c).2.2.2.2.2.2.2.2.2.1
  have h10 := (h c).2.2.2.2.2.2.2.2.2.2.1
  have hrest := (h c).2.2.2.2.2.2.2.2.2.2.2
  refine ⟨?_, ?_, ?_, ?_, ?_, ?_, ?_, ?_, ?_, ?_, ?_, hrest⟩
  · rw [Cert.ProjReferenceIdeal.Read.val_main_v91_eq, e0, e1, e2, e3, e4] at h0
    exact h0.trans (Cert.ProjIdeal.Same.same_q m c (hP c))
  · have hk := h1.trans (Cert.ProjReferenceIdeal.Read.val_main_v92_eq _ _ _ _)
    rw [e0, e1, e2, e3] at hk
    exact hk.trans (Cert.ProjIdeal.Same.same_kc m c)
  · have hk := h2.trans (Cert.ProjReferenceIdeal.Read.val_main_v93_eq _ _ _ _)
    rw [e0, e1, e2, e3] at hk
    exact hk.trans (Cert.ProjIdeal.Same.same_vc m c)
  · rw [Cert.ProjReferenceIdeal.Read.val_main_v97_eq, e0, e1, e2, e3, e5] at h3
    exact h3.trans (Cert.ProjIdeal.Same.same_ks m c (hP c))
  · rw [Cert.ProjReferenceIdeal.Read.val_main_v101_eq, e0, e1, e2, e3, e6] at h4
    exact h4.trans (Cert.ProjIdeal.Same.same_kw m c (hP c))
  · have hk := h5.trans (Cert.ProjReferenceIdeal.Read.val_main_v104_eq _ _ _ _)
    rw [e0, e1, e2, e3] at hk
    exact hk.trans (Cert.ProjIdeal.Same.same_vs m c)
  · have hk := h6.trans (Cert.ProjReferenceIdeal.Read.val_main_v107_eq _ _ _ _)
    rw [e0, e1, e2, e3] at hk
    exact hk.trans (Cert.ProjIdeal.Same.same_vw m c)
  · have hk := h7.trans (Cert.ProjReferenceIdeal.Read.val_main_v108_eq _ _ _ _)
    rw [e0, e1, e2, e3] at hk
    exact hk.trans (Cert.ProjIdeal.Same.same_gates m c)
  · have hk := h8.trans (Cert.ProjReferenceIdeal.Read.val_main_v109_eq _ _ _ _)
    rw [e0, e1, e2, e3] at hk
    exact hk.trans (Cert.ProjIdeal.Same.same_u m c)
  · have hk := h9.trans (Cert.ProjReferenceIdeal.Read.val_main_v117_eq _ _ _ _)
    rw [e0, e1, e2, e3] at hk
    exact hk.trans (Cert.ProjIdeal.Same.same_ga m c)
  · have hk := h10.trans (Cert.ProjReferenceIdeal.Read.val_main_v125_eq _ _ _ _)
    rw [e0, e1, e2, e3] at hk
    exact hk.trans (Cert.ProjIdeal.Same.same_gs m c)

/-- The reference of the merging call runs and leaves its arguments alone. -/
theorem frame_merge_ref : @Cert.quiescent_MergeReferenceIdeal Cert.MergeReferenceIdeal.Gen.facts := fun m ρ _ =>
  (θ_run (Cert.MergeReferenceIdeal.defs (F := Ideal)) _ _).mono (fun r h => And.intro (fun c => (h c).2.2.2) (sem_eq_zero_of_no_sems (by decide) r.2))
    (Cert.MergeReferenceIdeal.Value.run (F := Ideal) m ρ)

set_option maxHeartbeats 3200000 in
/-- The merging call's three results are the reference's. -/
theorem algebraic_merge : @Cert.algebraic_MergeIdeal_MergeReferenceIdeal_pre_finite_merge Cert.MergeIdeal.Gen.facts Cert.MergeReferenceIdeal.Gen.facts Cert.Pre_finite_merge.facts := by
  intro m g m' g' hpre hargs
  haveI := Cert.Pre_finite_merge.facts
  have hH := fun c => Cert.MergeIdeal.Point.isReal_h2 m (c := c)
    (Cert.Pre_finite_merge.real0 _ _ _ _ _ _ _ _ _ _ _ _ _ _ _ _ _ _ _ _ _ (hpre c).1)
    (Cert.Pre_finite_merge.real1 _ _ _ _ _ _ _ _ _ _ _ _ _ _ _ _ _ _ _ _ _ (hpre c).2.1)
    (Cert.Pre_finite_merge.real2 _ _ _ _ _ _ _ _ _ _ _ _ _ _ _ _ _ _ _ _ _ (hpre c).2.2.1)
    (Cert.Pre_finite_merge.real3 _ _ _ _ _ _ _ _ _ _ _ _ _ _ _ _ _ _ _ _ _ (hpre c).2.2.2.1)
    (Cert.Pre_finite_merge.real4 _ _ _ _ _ _ _ _ _ _ _ _ _ _ _ _ _ _ _ _ _ (hpre c).2.2.2.2.1)
    (Cert.Pre_finite_merge.real5 _ _ _ _ _ _ _ _ _ _ _ _ _ _ _ _ _ _ _ _ _ (hpre c).2.2.2.2.2.1)
    (Cert.Pre_finite_merge.real6 _ _ _ _ _ _ _ _ _ _ _ _ _ _ _ _ _ _ _ _ _ (hpre c).2.2.2.2.2.2.1)
    (Cert.Pre_finite_merge.real7 _ _ _ _ _ _ _ _ _ _ _ _ _ _ _ _ _ _ _ _ _ (hpre c).2.2.2.2.2.2.2.1)
    (Cert.Pre_finite_merge.real8 _ _ _ _ _ _ _ _ _ _ _ _ _ _ _ _ _ _ _ _ _ (hpre c).2.2.2.2.2.2.2.2.1)
    (Cert.Pre_finite_merge.real9 _ _ _ _ _ _ _ _ _ _ _ _ _ _ _ _ _ _ _ _ _ (hpre c).2.2.2.2.2.2.2.2.2.1)
    (Cert.Pre_finite_merge.real10 _ _ _ _ _ _ _ _ _ _ _ _ _ _ _ _ _ _ _ _ _ (hpre c).2.2.2.2.2.2.2.2.2.2.1)
    (Cert.Pre_finite_merge.real11 _ _ _ _ _ _ _ _ _ _ _ _ _ _ _ _ _ _ _ _ _ (hpre c).2.2.2.2.2.2.2.2.2.2.2.1)
    (Cert.Pre_finite_merge.real12 _ _ _ _ _ _ _ _ _ _ _ _ _ _ _ _ _ _ _ _ _ (hpre c).2.2.2.2.2.2.2.2.2.2.2.2.1)
    (Cert.Pre_finite_merge.real13 _ _ _ _ _ _ _ _ _ _ _ _ _ _ _ _ _ _ _ _ _ (hpre c).2.2.2.2.2.2.2.2.2.2.2.2.2.1)
    (Cert.Pre_finite_merge.real14 _ _ _ _ _ _ _ _ _ _ _ _ _ _ _ _ _ _ _ _ _ (hpre c).2.2.2.2.2.2.2.2.2.2.2.2.2.2.1)
    (Cert.Pre_finite_merge.real15 _ _ _ _ _ _ _ _ _ _ _ _ _ _ _ _ _ _ _ _ _ (hpre c).2.2.2.2.2.2.2.2.2.2.2.2.2.2.2.1)
    (Cert.Pre_finite_merge.real16 _ _ _ _ _ _ _ _ _ _ _ _ _ _ _ _ _ _ _ _ _ (hpre c).2.2.2.2.2.2.2.2.2.2.2.2.2.2.2.2.1)
  have hw := fun c => Cert.Pre_finite_merge.real17 _ _ _ _ _ _ _ _ _ _ _ _ _ _ _ _ _ _ _ _ _ (hpre c).2.2.2.2.2.2.2.2.2.2.2.2.2.2.2.2.2
  refine ⟨fun c => (Cert.MergeIdeal.Gen.dats m 0 c).arrAt 22 Cert.MergeIdeal.cfg0.N, fun c => (Cert.MergeIdeal.Gen.dats m 0 c).arrAt 23 Cert.MergeIdeal.cfg0.N, fun c => (Cert.MergeIdeal.Gen.dats m 0 c).arrAt 24 Cert.MergeIdeal.cfg0.N,
    Cert.MergeIdeal.Value.run_blocks m g, ?_⟩
  refine (θ_run (Cert.MergeReferenceIdeal.defs (F := Ideal)) _ _).mono (fun r h c => ?_) (Cert.MergeReferenceIdeal.Value.run (F := Ideal) m' g')
  have e0 := (hargs c).1
  have e1 := (hargs c).2.1
  have e2 := (hargs c).2.2.1
  have e3 := (hargs c).2.2.2.1
  have e4 := (hargs c).2.2.2.2.1
  have e5 := (hargs c).2.2.2.2.2.1
  have e6 := (hargs c).2.2.2.2.2.2.1
  have e7 := (hargs c).2.2.2.2.2.2.2.1
  have e8 := (hargs c).2.2.2.2.2.2.2.2.1
  have e9 := (hargs c).2.2.2.2.2.2.2.2.2.1
  have e10 := (hargs c).2.2.2.2.2.2.2.2.2.2.1
  have e11 := (hargs c).2.2.2.2.2.2.2.2.2.2.2.1
  have e12 := (hargs c).2.2.2.2.2.2.2.2.2.2.2.2.1
  have e13 := (hargs c).2.2.2.2.2.2.2.2.2.2.2.2.2.1
  have e14 := (hargs c).2.2.2.2.2.2.2.2.2.2.2.2.2.2.1
  have e15 := (hargs c).2.2.2.2.2.2.2.2.2.2.2.2.2.2.2.1
  have e16 := (hargs c).2.2.2.2.2.2.2.2.2.2.2.2.2.2.2.2.1
  have e17 := (hargs c).2.2.2.2.2.2.2.2.2.2.2.2.2.2.2.2.2.1
  have e18 := (hargs c).2.2.2.2.2.2.2.2.2.2.2.2.2.2.2.2.2.2.1
  have e19 := (hargs c).2.2.2.2.2.2.2.2.2.2.2.2.2.2.2.2.2.2.2.1
  have e20 := (hargs c).2.2.2.2.2.2.2.2.2.2.2.2.2.2.2.2.2.2.2.2
  have h0 := (h c).1
  have h1 := (h c).2.1
  have h2 := (h c).2.2.1
  have hrest := (h c).2.2.2
  refine ⟨?_, ?_, ?_, hrest⟩
  · rw [Cert.MergeReferenceIdeal.Read.val_main_v89_eq, e0, e1, e2, e3, e4, e5, e6, e7, e8, e9, e10, e11, e12, e13, e14, e15, e16, e18, e19, e20] at h0
    exact h0.trans (Cert.MergeIdeal.Same.same_xpart m c)
  · rw [Cert.MergeReferenceIdeal.Read.val_main_v90_eq, e0, e1, e2, e3, e4, e5, e6, e7, e8, e9, e10, e11, e12, e13, e14, e15, e16] at h1
    exact h1.trans (Cert.MergeIdeal.Same.same_h2 m c)
  · rw [Cert.MergeReferenceIdeal.Read.val_main_v92_eq, e0, e1, e2, e3, e4, e5, e6, e7, e8, e9, e10, e11, e12, e13, e14, e15, e16, e17] at h2
    exact h2.trans (Cert.MergeIdeal.Same.same_logit m c (hH c) (hw c))

theorem claim : Cert.Claim :=
  ⟨Cert.Kernel.Gen.facts, Cert.KernelIdeal.Gen.facts, Cert.ReferenceIdeal.Gen.facts, Cert.Proj.Gen.facts, Cert.ProjIdeal.Gen.facts, Cert.ProjReferenceIdeal.Gen.facts,
    Cert.Merge.Gen.facts, Cert.MergeIdeal.Gen.facts, Cert.MergeReferenceIdeal.Gen.facts,
    Cert.Pre_finite_and_own_block.facts, Cert.Pre_finite_inputs.facts, Cert.Pre_finite_merge.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Proj.Gen.frame m ρ, fun m ρ _ => Cert.ProjIdeal.Gen.frame m ρ, fun m ρ _ => Cert.ProjIdeal.Gen.frame m ρ,
    frame_proj_ref, fun m ρ _ => frame_proj_ref m ρ trivial,
    fun m ρ _ => Cert.Merge.Gen.frame m ρ, fun m ρ _ => Cert.MergeIdeal.Gen.frame m ρ, fun m ρ _ => Cert.MergeIdeal.Gen.frame m ρ,
    frame_merge_ref, fun m ρ _ => frame_merge_ref m ρ trivial,
    IdealRules.named_const.statement Cert.KernelIdeal.κ "mask" .f32 0xF149F2CA#32 ⊥ rfl, algebraic,
    IdealRules.named_const.statement Cert.ProjIdeal.κ "scale" .f32 0x3E38AA3B#32 (((Real.log 256)⁻¹ : ℝ) : EReal) rfl, algebraic_proj,
    trivial, algebraic_merge⟩

end Cert.Proof

end
